-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v56) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v3)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v3) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v55) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v41) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v66) = v0 c
          ∧ r.2.mem ((c.tc : Thread Cert.QkvRefIdeal.nD Cert.QkvRefIdeal.τ).loc Cert.QkvRefIdeal.main_v68) = v1 c
          ∧ r.2.mem ((c.tc : Thread Cert.QkvRefIdeal.nD Cert.QkvRefIdeal.τ).loc Cert.QkvRefIdeal.main_v70) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v54_0)) (v1 : (c : Dev Cert.EvenInIdeal.nD) → Buf (Elt Ideal) ((c.tc : Thread Cert.EvenInIdeal.nD Cert.EvenInIdeal.τ).loc Cert.EvenInIdeal.main_v54_1)) (v2 : (c : Dev Cert.EvenInIdeal.nD) → Buf (Elt Ideal) ((c.tc : Thread Cert.EvenInIdeal.nD Cert.EvenInIdeal.τ).loc Cert.EvenInIdeal.main_v54_2)) (v3 : (c : Dev Cert.EvenInIdeal.nD) → Buf (Elt Ideal) ((c.tc : Thread Cert.EvenInIdeal.nD Cert.EvenInIdeal.τ).loc Cert.EvenInIdeal.main_v54_3)) (v4 : (c : Dev Cert.EvenInIdeal.nD) → Buf (Elt Ideal) ((c.tc : Thread Cert.EvenInIdeal.nD Cert.EvenInIdeal.τ).loc Cert.EvenInIdeal.main_v54_4)) (v5 : (c : Dev Cert.EvenInIdeal.nD) → Buf (Elt Ideal) ((c.tc : Thread Cert.EvenInIdeal.nD Cert.EvenInIdeal.τ).loc Cert.EvenInIdeal.main_v54_5)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v54_0) = v0 c
          ∧ r.2.mem ((c.tc : Thread Cert.EvenInIdeal.nD Cert.EvenInIdeal.τ).loc Cert.EvenInIdeal.main_v54_1) = v1 c
          ∧ r.2.mem ((c.tc : Thread Cert.EvenInIdeal.nD Cert.EvenInIdeal.τ).loc Cert.EvenInIdeal.main_v54_2) = v2 c
          ∧ r.2.mem ((c.tc : Thread Cert.EvenInIdeal.nD Cert.EvenInIdeal.τ).loc Cert.EvenInIdeal.main_v54_3) = v3 c
          ∧ r.2.mem ((c.tc : Thread Cert.EvenInIdeal.nD Cert.EvenInIdeal.τ).loc Cert.EvenInIdeal.main_v54_4) = v4 c
          ∧ r.2.mem ((c.tc : Thread Cert.EvenInIdeal.nD Cert.EvenInIdeal.τ).loc Cert.EvenInIdeal.main_v54_5) = v5 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v121) = v0 c
          ∧ r.2.mem ((c.tc : Thread Cert.EvenInRefIdeal.nD Cert.EvenInRefIdeal.τ).loc Cert.EvenInRefIdeal.main_v197) = v1 c
          ∧ r.2.mem ((c.tc : Thread Cert.EvenInRefIdeal.nD Cert.EvenInRefIdeal.τ).loc Cert.EvenInRefIdeal.main_v199) = v2 c
          ∧ r.2.mem ((c.tc : Thread Cert.EvenInRefIdeal.nD Cert.EvenInRefIdeal.τ).loc Cert.EvenInRefIdeal.main_v207) = v3 c
          ∧ r.2.mem ((c.tc : Thread Cert.EvenInRefIdeal.nD Cert.EvenInRefIdeal.τ).loc Cert.EvenInRefIdeal.main_v208) = v4 c
          ∧ r.2.mem ((c.tc : Thread Cert.EvenInRefIdeal.nD Cert.EvenInRefIdeal.τ).loc Cert.EvenInRefIdeal.main_v209) = v5 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v56_0)) (v1 : (c : Dev Cert.FirstIdeal.nD) → Buf (Elt Ideal) ((c.tc : Thread Cert.FirstIdeal.nD Cert.FirstIdeal.τ).loc Cert.FirstIdeal.main_v56_1)) (v2 : (c : Dev Cert.FirstIdeal.nD) → Buf (Elt Ideal) ((c.tc : Thread Cert.FirstIdeal.nD Cert.FirstIdeal.τ).loc Cert.FirstIdeal.main_v56_2)) (v3 : (c : Dev Cert.FirstIdeal.nD) → Buf (Elt Ideal) ((c.tc : Thread Cert.FirstIdeal.nD Cert.FirstIdeal.τ).loc Cert.FirstIdeal.main_v56_3)) (v4 : (c : Dev Cert.FirstIdeal.nD) → Buf (Elt Ideal) ((c.tc : Thread Cert.FirstIdeal.nD Cert.FirstIdeal.τ).loc Cert.FirstIdeal.main_v56_4)) (v5 : (c : Dev Cert.FirstIdeal.nD) → Buf (Elt Ideal) ((c.tc : Thread Cert.FirstIdeal.nD Cert.FirstIdeal.τ).loc Cert.FirstIdeal.main_v56_5)) (v6 : (c : Dev Cert.FirstIdeal.nD) → Buf (Elt Ideal) ((c.tc : Thread Cert.FirstIdeal.nD Cert.FirstIdeal.τ).loc Cert.FirstIdeal.main_v56_6)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v56_0) = v0 c
          ∧ r.2.mem ((c.tc : Thread Cert.FirstIdeal.nD Cert.FirstIdeal.τ).loc Cert.FirstIdeal.main_v56_1) = v1 c
          ∧ r.2.mem ((c.tc : Thread Cert.FirstIdeal.nD Cert.FirstIdeal.τ).loc Cert.FirstIdeal.main_v56_2) = v2 c
          ∧ r.2.mem ((c.tc : Thread Cert.FirstIdeal.nD Cert.FirstIdeal.τ).loc Cert.FirstIdeal.main_v56_3) = v3 c
          ∧ r.2.mem ((c.tc : Thread Cert.FirstIdeal.nD Cert.FirstIdeal.τ).loc Cert.FirstIdeal.main_v56_4) = v4 c
          ∧ r.2.mem ((c.tc : Thread Cert.FirstIdeal.nD Cert.FirstIdeal.τ).loc Cert.FirstIdeal.main_v56_5) = v5 c
          ∧ r.2.mem ((c.tc : Thread Cert.FirstIdeal.nD Cert.FirstIdeal.τ).loc Cert.FirstIdeal.main_v56_6) = v6 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v121) = v0 c
          ∧ r.2.mem ((c.tc : Thread Cert.FirstRefIdeal.nD Cert.FirstRefIdeal.τ).loc Cert.FirstRefIdeal.main_v197) = v1 c
          ∧ r.2.mem ((c.tc : Thread Cert.FirstRefIdeal.nD Cert.FirstRefIdeal.τ).loc Cert.FirstRefIdeal.main_v199) = v2 c
          ∧ r.2.mem ((c.tc : Thread Cert.FirstRefIdeal.nD Cert.FirstRefIdeal.τ).loc Cert.FirstRefIdeal.main_v207) = v3 c
          ∧ r.2.mem ((c.tc : Thread Cert.FirstRefIdeal.nD Cert.FirstRefIdeal.τ).loc Cert.FirstRefIdeal.main_v208) = v4 c
          ∧ r.2.mem ((c.tc : Thread Cert.FirstRefIdeal.nD Cert.FirstRefIdeal.τ).loc Cert.FirstRefIdeal.main_v209) = v5 c
          ∧ r.2.mem ((c.tc : Thread Cert.FirstRefIdeal.nD Cert.FirstRefIdeal.τ).loc Cert.FirstRefIdeal.main_v210) = v6 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hOdd : Cert.Odd.Facts) (hOddIdeal : Cert.OddIdeal.Facts) (hOddRefIdeal : Cert.OddRefIdeal.Facts) (hLast : Cert.Last.Facts) (hLastIdeal : Cert.LastIdeal.Facts) (hLastRefIdeal : Cert.LastRefIdeal.Facts) (hQkv : Cert.Qkv.Facts) (hQkvIdeal : Cert.QkvIdeal.Facts) (hQkvRefIdeal : Cert.QkvRefIdeal.Facts) (hEvenIn : Cert.EvenIn.Facts) (hEvenInIdeal : Cert.EvenInIdeal.Facts) (hEvenInRefIdeal : Cert.EvenInRefIdeal.Facts) (hFirst : Cert.First.Facts) (hFirstIdeal : Cert.FirstIdeal.Facts) (hFirstRefIdeal : Cert.FirstRefIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Mlp (hMlp := hMlp)
    ∧ quiescent_MlpIdeal (hMlpIdeal := hMlpIdeal)
    ∧ quiescent_MlpRefIdeal (hMlpRefIdeal := hMlpRefIdeal)
    ∧ quiescent_Odd (hOdd := hOdd)
    ∧ quiescent_OddIdeal (hOddIdeal := hOddIdeal)
    ∧ quiescent_OddRefIdeal (hOddRefIdeal := hOddRefIdeal)
    ∧ quiescent_Last (hLast := hLast)
    ∧ quiescent_LastIdeal (hLastIdeal := hLastIdeal)
    ∧ quiescent_LastRefIdeal (hLastRefIdeal := hLastRefIdeal)
    ∧ quiescent_Qkv (hQkv := hQkv)
    ∧ quiescent_QkvIdeal (hQkvIdeal := hQkvIdeal)
    ∧ quiescent_QkvRefIdeal (hQkvRefIdeal := hQkvRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_First (hFirst := hFirst)
    ∧ quiescent_FirstIdeal (hFirstIdeal := hFirstIdeal)
    ∧ quiescent_FirstRefIdeal (hFirstRefIdeal := hFirstRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Mlp_MlpIdeal
    ∧ algebraic_MlpIdeal_MlpRefIdeal (hMlpIdeal := hMlpIdeal) (hMlpRefIdeal := hMlpRefIdeal)
    ∧ preserves_Odd_OddIdeal
    ∧ algebraic_OddIdeal_OddRefIdeal (hOddIdeal := hOddIdeal) (hOddRefIdeal := hOddRefIdeal)
    ∧ preserves_Last_LastIdeal
    ∧ algebraic_LastIdeal_LastRefIdeal (hLastIdeal := hLastIdeal) (hLastRefIdeal := hLastRefIdeal)
    ∧ preserves_Qkv_QkvIdeal
    ∧ algebraic_QkvIdeal_QkvRefIdeal (hQkvIdeal := hQkvIdeal) (hQkvRefIdeal := hQkvRefIdeal)
    ∧ preserves_EvenIn_EvenInIdeal
    ∧ algebraic_EvenInIdeal_EvenInRefIdeal (hEvenInIdeal := hEvenInIdeal) (hEvenInRefIdeal := hEvenInRefIdeal)
    ∧ preserves_First_FirstIdeal
    ∧ algebraic_FirstIdeal_FirstRefIdeal (hFirstIdeal := hFirstIdeal) (hFirstRefIdeal := hFirstRefIdeal)
-- ==== Pre_scores_finite.lean ====
abbrev S16x2304x1024 : Shape := ⟨3, ![16, 2304, 1024]⟩
abbrev S16x15x31 : Shape := ⟨3, ![16, 15, 31]⟩
abbrev S_ : Shape := ⟨0, ![]⟩

class Facts : Prop where
  bcast_S_S16x2304x1024 : S_.BroadcastsInDim S16x2304x1024 (![] : Fin 0 → Fin S16x2304x1024.rank)
  bcast_S_S16x15x31 : S_.BroadcastsInDim S16x15x31 (![] : Fin 0 → Fin S16x15x31.rank)

variable [Facts]

def fn {F : FTy → Type} [FloatOps F] (main_arg0 : FVec F S16x2304x1024 .f32) (main_arg1 : FVec F S16x2304x1024 .f32) (main_arg2 : FVec F S16x2304x1024 .f32) (main_arg3 : FVec F S16x15x31 .f32) : IVec S16x2304x1024 1 × IVec S16x15x31 1 :=
  let main_v0 : FVec F S16x2304x1024 .f32 := Host.absf main_arg0
  let main_cst : FVec F S_ .f32 := constant S_ .f32 0x7F800000#32
  let main_v1 : FVec F S16x2304x1024 .f32 := broadcastInDim S16x2304x1024 ![] bcast_S_S16x2304x1024 main_cst
  let main_v2 : IVec S16x2304x1024 1 := cmpf .olt main_v0 main_v1
  let main_v3 : FVec F S16x2304x1024 .f32 := Host.absf main_arg1
  let main_cst_0 : FVec F S_ .f32 := constant S_ .f32 0x7F800000#32
  let main_v4 : FVec F S16x2304x1024 .f32 := broadcastInDim S16x2304x1024 ![] bcast_S_S16x2304x1024 main_cst_0
  let main_v5 : IVec S16x2304x1024 1 := cmpf .olt main_v3 main_v4
  let main_v6 : IVec S16x2304x1024 1 := andi main_v2 main_v5
  let main_v7 : FVec F S16x15x31 .f32 := Host.absf main_arg3
  let main_cst_1 : FVec F S_ .f32 := constant S_ .f32 0x7F800000#32
  let main_v8 : FVec F S16x15x31 .f32 := broadcastInDim S16x15x31 ![] bcast_S_S16x15x31 main_cst_1
  let main_v9 : IVec S16x15x31 1 := cmpf .olt main_v7 main_v8
  (main_v6, main_v9)
-- ==== Kernel.lean ====
abbrev S16x2304x1024 : Shape := ⟨3, ![16, 2304, 1024]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S1x1x64x64 : Shape := ⟨4, ![1, 1, 64, 64]⟩
abbrev S8x2x15x64x64 : Shape := ⟨5, ![8, 2, 15, 64, 64]⟩
abbrev S8x2x64x15x64 : Shape := ⟨5, ![8, 2, 64, 15, 64]⟩
abbrev S8x128x960 : Shape := ⟨3, ![8, 128, 960]⟩
abbrev S8x128x1088 : Shape := ⟨3, ![8, 128, 1088]⟩
abbrev S8x128x1024 : Shape := ⟨3, ![8, 128, 1024]⟩
abbrev S8x1x128x1024 : Shape := ⟨4, ![8, 1, 128, 1024]⟩
abbrev S8x2x128x1024 : Shape := ⟨4, ![8, 2, 128, 1024]⟩
abbrev S1x2304x128 : Shape := ⟨3, ![1, 2304, 128]⟩
abbrev S1x2x128x1024 : Shape := ⟨4, ![1, 2, 128, 1024]⟩
abbrev S2304x256 : Shape := ⟨2, ![2304, 256]⟩
abbrev S2304x128 : Shape := ⟨2, ![2304, 128]⟩
abbrev S1x256x128 : Shape := ⟨3, ![1, 256, 128]⟩
abbrev S256x128 : Shape := ⟨2, ![256, 128]⟩
abbrev S256x256 : Shape := ⟨2, ![256, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x64x128 : Shape := ⟨3, ![1, 64, 128]⟩
abbrev S64x128 : Shape := ⟨2, ![64, 128]⟩
abbrev S128x128 : Shape := ⟨2, ![128, 128]⟩
abbrev S1x1x128x512 : Shape := ⟨4, ![1, 1, 128, 512]⟩
abbrev S128x512 : Shape := ⟨2, ![128, 512]⟩
abbrev S1x512x128 : Shape := ⟨3, ![1, 512, 128]⟩
abbrev S128x256 : Shape := ⟨2, ![128, 256]⟩
abbrev S128 : Shape := ⟨1, ![128]⟩
abbrev S128x1 : Shape := ⟨2, ![128, 1]⟩

abbrev nBuf : Space → Nat
  | .hbm => 96
  | .vmem => 11
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .f32⟩
  | .hbm, ⟨2, _⟩ => ⟨S16x2304x1024, .f32⟩
  | .hbm, ⟨3, _⟩ => ⟨S16x15x31, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S1x64x64, .i32⟩
  | .hbm, ⟨50, _⟩ => ⟨S31, .i32⟩
  | .hbm, ⟨51, _⟩ => ⟨S31x1x1, .i32⟩
  | .hbm, ⟨52, _⟩ => ⟨S31x64x64, .i32⟩
  | .hbm, ⟨53, _⟩ => ⟨S31x64x64, .i32⟩
  | .hbm, ⟨54, _⟩ => ⟨S31x64x64, .i1⟩
  | .hbm, ⟨55, _⟩ => ⟨S1x64x64, .i1⟩
  | .hbm, ⟨56, _⟩ => ⟨S31x64x64, .i1⟩
  | .hbm, ⟨57, _⟩ => ⟨S31x64x64, .i1⟩
  | .hbm, ⟨58, _⟩ => ⟨S31x64x64, .f32⟩
  | .hbm, ⟨59, _⟩ => ⟨S16x15x64x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16x15x64x64, .f32⟩
  | .hbm, ⟨65, _⟩ => ⟨S16x15x64x64, .f32⟩
  | .hbm, ⟨66, _⟩ => ⟨S_, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S1x1x64x64, .f32⟩
  | .hbm, ⟨73, _⟩ => ⟨S16x15x64x64, .f32⟩
  | .hbm, ⟨74, _⟩ => ⟨S16x15x64x64, .f32⟩
  | .hbm, ⟨75, _⟩ => ⟨S8x2x15x64x64, .f32⟩
  | .hbm, ⟨76, _⟩ => ⟨S8x2x64x15x64, .f32⟩
  | .hbm, ⟨77, _⟩ => ⟨S8x128x960, .f32⟩
  | .hbm, ⟨78, _⟩ => ⟨S_, .i32⟩
  | .hbm, ⟨79, _⟩ => ⟨S_, .f32⟩
  | .hbm, ⟨80, _⟩ => ⟨S8x128x1088, .f32⟩
  | .hbm, ⟨81, _⟩ => ⟨S8x128x1024, .f32⟩
  | .hbm, ⟨82, _⟩ => ⟨S8x128x1024, .f32⟩
  | .hbm, ⟨83, _⟩ => ⟨S8x1x128x1024, .f32⟩
  | .hbm, ⟨84, _⟩ => ⟨S8x1x128x1024, .f32⟩
  | .hbm, ⟨85, _⟩ => ⟨S8x2x128x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16x2304x1024, .f32⟩
  | .hbm, ⟨91, _⟩ => ⟨S16x2304x1024, .f32⟩
  | .hbm, ⟨92, _⟩ => ⟨S16x2304x1024, .bf16⟩
  | .hbm, ⟨93, _⟩ => ⟨S16x2304x1024, .bf16⟩
  | .hbm, ⟨94, _⟩ => ⟨S16x2304x1024, .bf16⟩
  | .hbm, ⟨95, _⟩ => ⟨S16x2304x1024, .bf16⟩
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2x128x1024, .f32⟩
  | .local _ .vmem, ⟨7, _⟩ => ⟨S1x2x128x1024, .f32⟩
  | .local _ .vmem, ⟨8, _⟩ => ⟨S1x2304x128, .bf16⟩
  | .local _ .vmem, ⟨9, _⟩ => ⟨S1x2304x128, .bf16⟩
  | .local _ .vmem, ⟨10, _⟩ => ⟨S2304x256, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_call3_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 : BitVec 32 :=
  let c256_i32 : BitVec 32 := 256#32
  let c0_i32 : BitVec 32 := 0#32
  let c64_i32_24 : BitVec 32 := 64#32
  let v52 : BitVec 32 := Scalar.muli c0_i32 c64_i32_24
  let v53 : BitVec 32 := Scalar.addi c256_i32 v52
  v53
def k0_mult2 : BitVec 32 :=
  let c256_i32_26 : BitVec 32 := 256#32
  let c24_i32 : BitVec 32 := 24#32
  let c0_i32_23 : BitVec 32 := 0#32
  let c0_i32 : BitVec 32 := 0#32
  let c4_i32 : BitVec 32 := 4#32
  let v46 : BitVec 32 := Scalar.subi c0_i32 c4_i32
  let v47 : BitVec 32 := Scalar.maxsi c0_i32_23 v46
  let v48 : BitVec 32 := Scalar.minsi c24_i32 v47
  let c64_i32_25 : BitVec 32 := 64#32
  let v55 : BitVec 32 := Scalar.muli v48 c64_i32_25
  let v56 : BitVec 32 := Scalar.addi c256_i32_26 v55
  v56
def k0_off1 (c0_i32 : BitVec 32) : Fin 3 → Nat :=
  let c0_27 : Index := 0#32
  let c256_i32 : BitVec 32 := 256#32
  let c64_i32_24 : BitVec 32 := 64#32
  let v52 : BitVec 32 := Scalar.muli c0_i32 c64_i32_24
  let v53 : BitVec 32 := Scalar.addi c256_i32 v52
  let v54 : BitVec 32 := v53
  let v58 : Index := Scalar.indexCast v54
  let c0_28 : Index := 0#32
  ![0, v58.toNat, 0]
def k0_mult3 : BitVec 32 :=
  let c24_i32 : BitVec 32 := 24#32
  let c0_i32_23 : BitVec 32 := 0#32
  let c0_i32 : BitVec 32 := 0#32
  let c4_i32 : BitVec 32 := 4#32
  let v46 : BitVec 32 := Scalar.subi c0_i32 c4_i32
  let v47 : BitVec 32 := Scalar.maxsi c0_i32_23 v46
  let v48 : BitVec 32 := Scalar.minsi c24_i32 v47
  let v49 : BitVec 32 := Scalar.subi v48 c0_i32
  let c8_i32 : BitVec 32 := 8#32
  let v50 : BitVec 32 := Scalar.addi v49 c8_i32
  let c1_i32 : BitVec 32 := 1#32
  let v51 : BitVec 32 := Scalar.subi v50 c1_i32
  let c1_i32_33 : BitVec 32 := 1#32
  let v71 : BitVec 32 := Scalar.shrsi v51 c1_i32_33
  let c128_i32 : BitVec 32 := 128#32
  let v72 : BitVec 32 := Scalar.muli v71 c128_i32
  v72
def k0_off2 (c0_i32 : BitVec 32) : Fin 4 → Nat :=
  let c0_34 : Index := 0#32
  let c24_i32 : BitVec 32 := 24#32
  let c0_i32_23 : BitVec 32 := 0#32
  let c4_i32 : BitVec 32 := 4#32
  let v46 : BitVec 32 := Scalar.subi c0_i32 c4_i32
  let v47 : BitVec 32 := Scalar.maxsi c0_i32_23 v46
  let v48 : BitVec 32 := Scalar.minsi c24_i32 v47
  let v49 : BitVec 32 := Scalar.subi v48 c0_i32
  let c8_i32 : BitVec 32 := 8#32
  let v50 : BitVec 32 := Scalar.addi v49 c8_i32
  let c1_i32 : BitVec 32 := 1#32
  let v51 : BitVec 32 := Scalar.subi v50 c1_i32
  let c1_i32_32 : BitVec 32 := 1#32
  let v70 : BitVec 32 := Scalar.andi v51 c1_i32_32
  let v74 : Index := Scalar.indexCast v70
  let c0_35 : Index := 0#32
  let c1_i32_33 : BitVec 32 := 1#32
  let v71 : BitVec 32 := Scalar.shrsi v51 c1_i32_33
  let c128_i32 : BitVec 32 := 128#32
  let v72 : BitVec 32 := Scalar.muli v71 c128_i32
  let v73 : BitVec 32 := v72
  let v75 : Index := Scalar.indexCast v73
  ![0, v74.toNat, 0, v75.toNat]
def k0_off3 (c0_i32 : BitVec 32) : Fin 3 → Nat :=
  let c0_36 : Index := 0#32
  let c256_i32_26 : BitVec 32 := 256#32
  let c24_i32 : BitVec 32 := 24#32
  let c0_i32_23 : BitVec 32 := 0#32
  let c4_i32 : BitVec 32 := 4#32
  let v46 : BitVec 32 := Scalar.subi c0_i32 c4_i32
  let v47 : BitVec 32 := Scalar.maxsi c0_i32_23 v46
  let v48 : BitVec 32 := Scalar.minsi c24_i32 v47
  let c64_i32_25 : BitVec 32 := 64#32
  let v55 : BitVec 32 := Scalar.muli v48 c64_i32_25
  let v56 : BitVec 32 := Scalar.addi c256_i32_26 v55
  let v57 : BitVec 32 := v56
  let v78 : Index := Scalar.indexCast v57
  let c0_37 : Index := 0#32
  ![0, v78.toNat, 0]
def k0_off4 (c0_i32 : BitVec 32) : Fin 2 → Nat :=
  let c256_i32_26 : BitVec 32 := 256#32
  let c24_i32 : BitVec 32 := 24#32
  let c0_i32_23 : BitVec 32 := 0#32
  let c4_i32 : BitVec 32 := 4#32
  let v46 : BitVec 32 := Scalar.subi c0_i32 c4_i32
  let v47 : BitVec 32 := Scalar.maxsi c0_i32_23 v46
  let v48 : BitVec 32 := Scalar.minsi c24_i32 v47
  let c64_i32_25 : BitVec 32 := 64#32
  let v55 : BitVec 32 := Scalar.muli v48 c64_i32_25
  let v56 : BitVec 32 := Scalar.addi c256_i32_26 v55
  let v57 : BitVec 32 := v56
  let v84 : Index := Scalar.indexCast v57
  let c0_40 : Index := 0#32
  ![v84.toNat, 0]
def k0_mult4 : BitVec 32 :=
  let c256_i32_56 : BitVec 32 := 256#32
  let c1_i32_49 : BitVec 32 := 1#32
  let c64_i32_55 : BitVec 32 := 64#32
  let v124 : BitVec 32 := Scalar.muli c1_i32_49 c64_i32_55
  let v125 : BitVec 32 := Scalar.addi c256_i32_56 v124
  v125
def k0_mult5 : BitVec 32 :=
  let c256_i32_58 : BitVec 32 := 256#32
  let c24_i32_52 : BitVec 32 := 24#32
  let c0_i32_51 : BitVec 32 := 0#32
  let c1_i32_49 : BitVec 32 := 1#32
  let c4_i32_50 : BitVec 32 := 4#32
  let v118 : BitVec 32 := Scalar.subi c1_i32_49 c4_i32_50
  let v119 : BitVec 32 := Scalar.maxsi c0_i32_51 v118
  let v120 : BitVec 32 := Scalar.minsi c24_i32_52 v119
  let c64_i32_57 : BitVec 32 := 64#32
  let v127 : BitVec 32 := Scalar.muli v120 c64_i32_57
  let v128 : BitVec 32 := Scalar.addi c256_i32_58 v127
  v128
def k0_mult6 : BitVec 32 :=
  let c24_i32_52 : BitVec 32 := 24#32
  let c0_i32_51 : BitVec 32 := 0#32
  let c1_i32_49 : BitVec 32 := 1#32
  let c4_i32_50 : BitVec 32 := 4#32
  let v118 : BitVec 32 := Scalar.subi c1_i32_49 c4_i32_50
  let v119 : BitVec 32 := Scalar.maxsi c0_i32_51 v118
  let v120 : BitVec 32 := Scalar.minsi c24_i32_52 v119
  let v121 : BitVec 32 := Scalar.subi v120 c1_i32_49
  let c8_i32_53 : BitVec 32 := 8#32
  let v122 : BitVec 32 := Scalar.addi v121 c8_i32_53
  let c1_i32_54 : BitVec 32 := 1#32
  let v123 : BitVec 32 := Scalar.subi v122 c1_i32_54
  let c1_i32_65 : BitVec 32 := 1#32
  let v143 : BitVec 32 := Scalar.shrsi v123 c1_i32_65
  let c128_i32_66 : BitVec 32 := 128#32
  let v144 : BitVec 32 := Scalar.muli v143 c128_i32_66
  v144
def k0_mult7 : BitVec 32 :=
  let c256_i32_88 : BitVec 32 := 256#32
  let c2_i32 : BitVec 32 := 2#32
  let c64_i32_87 : BitVec 32 := 64#32
  let v196 : BitVec 32 := Scalar.muli c2_i32 c64_i32_87
  let v197 : BitVec 32 := Scalar.addi c256_i32_88 v196
  v197
def k0_mult8 : BitVec 32 :=
  let c256_i32_90 : BitVec 32 := 256#32
  let c24_i32_84 : BitVec 32 := 24#32
  let c0_i32_83 : BitVec 32 := 0#32
  let c2_i32 : BitVec 32 := 2#32
  let c4_i32_82 : BitVec 32 := 4#32
  let v190 : BitVec 32 := Scalar.subi c2_i32 c4_i32_82
  let v191 : BitVec 32 := Scalar.maxsi c0_i32_83 v190
  let v192 : BitVec 32 := Scalar.minsi c24_i32_84 v191
  let c64_i32_89 : BitVec 32 := 64#32
  let v199 : BitVec 32 := Scalar.muli v192 c64_i32_89
  let v200 : BitVec 32 := Scalar.addi c256_i32_90 v199
  v200
def k0_mult9 : BitVec 32 :=
  let c24_i32_84 : BitVec 32 := 24#32
  let c0_i32_83 : BitVec 32 := 0#32
  let c2_i32 : BitVec 32 := 2#32
  let c4_i32_82 : BitVec 32 := 4#32
  let v190 : BitVec 32 := Scalar.subi c2_i32 c4_i32_82
  let v191 : BitVec 32 := Scalar.maxsi c0_i32_83 v190
  let v192 : BitVec 32 := Scalar.minsi c24_i32_84 v191
  let v193 : BitVec 32 := Scalar.subi v192 c2_i32
  let c8_i32_85 : BitVec 32 := 8#32
  let v194 : BitVec 32 := Scalar.addi v193 c8_i32_85
  let c1_i32_86 : BitVec 32 := 1#32
  let v195 : BitVec 32 := Scalar.subi v194 c1_i32_86
  let c1_i32_97 : BitVec 32 := 1#32
  let v215 : BitVec 32 := Scalar.shrsi v195 c1_i32_97
  let c128_i32_98 : BitVec 32 := 128#32
  let v216 : BitVec 32 := Scalar.muli v215 c128_i32_98
  v216
def k0_mult10 : BitVec 32 :=
  let c256_i32_120 : BitVec 32 := 256#32
  let c3_i32 : BitVec 32 := 3#32
  let c64_i32_119 : BitVec 32 := 64#32
  let v268 : BitVec 32 := Scalar.muli c3_i32 c64_i32_119
  let v269 : BitVec 32 := Scalar.addi c256_i32_120 v268
  v269
def k0_mult11 : BitVec 32 :=
  let c256_i32_122 : BitVec 32 := 256#32
  let c24_i32_116 : BitVec 32 := 24#32
  let c0_i32_115 : BitVec 32 := 0#32
  let c3_i32 : BitVec 32 := 3#32
  let c4_i32_114 : BitVec 32 := 4#32
  let v262 : BitVec 32 := Scalar.subi c3_i32 c4_i32_114
  let v263 : BitVec 32 := Scalar.maxsi c0_i32_115 v262
  let v264 : BitVec 32 := Scalar.minsi c24_i32_116 v263
  let c64_i32_121 : BitVec 32 := 64#32
  let v271 : BitVec 32 := Scalar.muli v264 c64_i32_121
  let v272 : BitVec 32 := Scalar.addi c256_i32_122 v271
  v272
def k0_mult12 : BitVec 32 :=
  let c24_i32_116 : BitVec 32 := 24#32
  let c0_i32_115 : BitVec 32 := 0#32
  let c3_i32 : BitVec 32 := 3#32
  let c4_i32_114 : BitVec 32 := 4#32
  let v262 : BitVec 32 := Scalar.subi c3_i32 c4_i32_114
  let v263 : BitVec 32 := Scalar.maxsi c0_i32_115 v262
  let v264 : BitVec 32 := Scalar.minsi c24_i32_116 v263
  let v265 : BitVec 32 := Scalar.subi v264 c3_i32
  let c8_i32_117 : BitVec 32 := 8#32
  let v266 : BitVec 32 := Scalar.addi v265 c8_i32_117
  let c1_i32_118 : BitVec 32 := 1#32
  let v267 : BitVec 32 := Scalar.subi v266 c1_i32_118
  let c1_i32_129 : BitVec 32 := 1#32
  let v287 : BitVec 32 := Scalar.shrsi v267 c1_i32_129
  let c128_i32_130 : BitVec 32 := 128#32
  let v288 : BitVec 32 := Scalar.muli v287 c128_i32_130
  v288
def k0_mult13 : BitVec 32 :=
  let c256_i32_153 : BitVec 32 := 256#32
  let c4_i32_146 : BitVec 32 := 4#32
  let c64_i32_152 : BitVec 32 := 64#32
  let v340 : BitVec 32 := Scalar.muli c4_i32_146 c64_i32_152
  let v341 : BitVec 32 := Scalar.addi c256_i32_153 v340
  v341
def k0_mult14 : BitVec 32 :=
  let c256_i32_155 : BitVec 32 := 256#32
  let c24_i32_149 : BitVec 32 := 24#32
  let c0_i32_148 : BitVec 32 := 0#32
  let c4_i32_146 : BitVec 32 := 4#32
  let c4_i32_147 : BitVec 32 := 4#32
  let v334 : BitVec 32 := Scalar.subi c4_i32_146 c4_i32_147
  let v335 : BitVec 32 := Scalar.maxsi c0_i32_148 v334
  let v336 : BitVec 32 := Scalar.minsi c24_i32_149 v335
  let c64_i32_154 : BitVec 32 := 64#32
  let v343 : BitVec 32 := Scalar.muli v336 c64_i32_154
  let v344 : BitVec 32 := Scalar.addi c256_i32_155 v343
  v344
def k0_mult15 : BitVec 32 :=
  let c24_i32_149 : BitVec 32 := 24#32
  let c0_i32_148 : BitVec 32 := 0#32
  let c4_i32_146 : BitVec 32 := 4#32
  let c4_i32_147 : BitVec 32 := 4#32
  let v334 : BitVec 32 := Scalar.subi c4_i32_146 c4_i32_147
  let v335 : BitVec 32 := Scalar.maxsi c0_i32_148 v334
  let v336 : BitVec 32 := Scalar.minsi c24_i32_149 v335
  let v337 : BitVec 32 := Scalar.subi v336 c4_i32_146
  let c8_i32_150 : BitVec 32 := 8#32
  let v338 : BitVec 32 := Scalar.addi v337 c8_i32_150
  let c1_i32_151 : BitVec 32 := 1#32
  let v339 : BitVec 32 := Scalar.subi v338 c1_i32_151
  let c1_i32_162 : BitVec 32 := 1#32
  let v359 : BitVec 32 := Scalar.shrsi v339 c1_i32_162
  let c128_i32_163 : BitVec 32 := 128#32
  let v360 : BitVec 32 := Scalar.muli v359 c128_i32_163
  v360
def k0_mult16 : BitVec 32 :=
  let c256_i32_185 : BitVec 32 := 256#32
  let c5_i32 : BitVec 32 := 5#32
  let c64_i32_184 : BitVec 32 := 64#32
  let v412 : BitVec 32 := Scalar.muli c5_i32 c64_i32_184
  let v413 : BitVec 32 := Scalar.addi c256_i32_185 v412
  v413
def k0_mult17 : BitVec 32 :=
  let c256_i32_187 : BitVec 32 := 256#32
  let c24_i32_181 : BitVec 32 := 24#32
  let c0_i32_180 : BitVec 32 := 0#32
  let c5_i32 : BitVec 32 := 5#32
  let c4_i32_179 : BitVec 32 := 4#32
  let v406 : BitVec 32 := Scalar.subi c5_i32 c4_i32_179
  let v407 : BitVec 32 := Scalar.maxsi c0_i32_180 v406
  let v408 : BitVec 32 := Scalar.minsi c24_i32_181 v407
  let c64_i32_186 : BitVec 32 := 64#32
  let v415 : BitVec 32 := Scalar.muli v408 c64_i32_186
  let v416 : BitVec 32 := Scalar.addi c256_i32_187 v415
  v416
def k0_mult18 : BitVec 32 :=
  let c24_i32_181 : BitVec 32 := 24#32
  let c0_i32_180 : BitVec 32 := 0#32
  let c5_i32 : BitVec 32 := 5#32
  let c4_i32_179 : BitVec 32 := 4#32
  let v406 : BitVec 32 := Scalar.subi c5_i32 c4_i32_179
  let v407 : BitVec 32 := Scalar.maxsi c0_i32_180 v406
  let v408 : BitVec 32 := Scalar.minsi c24_i32_181 v407
  let v409 : BitVec 32 := Scalar.subi v408 c5_i32
  let c8_i32_182 : BitVec 32 := 8#32
  let v410 : BitVec 32 := Scalar.addi v409 c8_i32_182
  let c1_i32_183 : BitVec 32 := 1#32
  let v411 : BitVec 32 := Scalar.subi v410 c1_i32_183
  let c1_i32_194 : BitVec 32 := 1#32
  let v431 : BitVec 32 := Scalar.shrsi v411 c1_i32_194
  let c128_i32_195 : BitVec 32 := 128#32
  let v432 : BitVec 32 := Scalar.muli v431 c128_i32_195
  v432
def k0_mult19 : BitVec 32 :=
  let c256_i32_217 : BitVec 32 := 256#32
  let c6_i32 : BitVec 32 := 6#32
  let c64_i32_216 : BitVec 32 := 64#32
  let v484 : BitVec 32 := Scalar.muli c6_i32 c64_i32_216
  let v485 : BitVec 32 := Scalar.addi c256_i32_217 v484
  v485
def k0_mult20 : BitVec 32 :=
  let c256_i32_219 : BitVec 32 := 256#32
  let c24_i32_213 : BitVec 32 := 24#32
  let c0_i32_212 : BitVec 32 := 0#32
  let c6_i32 : BitVec 32 := 6#32
  let c4_i32_211 : BitVec 32 := 4#32
  let v478 : BitVec 32 := Scalar.subi c6_i32 c4_i32_211
  let v479 : BitVec 32 := Scalar.maxsi c0_i32_212 v478
  let v480 : BitVec 32 := Scalar.minsi c24_i32_213 v479
  let c64_i32_218 : BitVec 32 := 64#32
  let v487 : BitVec 32 := Scalar.muli v480 c64_i32_218
  let v488 : BitVec 32 := Scalar.addi c256_i32_219 v487
  v488
def k0_mult21 : BitVec 32 :=
  let c24_i32_213 : BitVec 32 := 24#32
  let c0_i32_212 : BitVec 32 := 0#32
  let c6_i32 : BitVec 32 := 6#32
  let c4_i32_211 : BitVec 32 := 4#32
  let v478 : BitVec 32 := Scalar.subi c6_i32 c4_i32_211
  let v479 : BitVec 32 := Scalar.maxsi c0_i32_212 v478
  let v480 : BitVec 32 := Scalar.minsi c24_i32_213 v479
  let v481 : BitVec 32 := Scalar.subi v480 c6_i32
  let c8_i32_214 : BitVec 32 := 8#32
  let v482 : BitVec 32 := Scalar.addi v481 c8_i32_214
  let c1_i32_215 : BitVec 32 := 1#32
  let v483 : BitVec 32 := Scalar.subi v482 c1_i32_215
  let c1_i32_226 : BitVec 32 := 1#32
  let v503 : BitVec 32 := Scalar.shrsi v483 c1_i32_226
  let c128_i32_227 : BitVec 32 := 128#32
  let v504 : BitVec 32 := Scalar.muli v503 c128_i32_227
  v504
def k0_mult22 : BitVec 32 :=
  let c256_i32_249 : BitVec 32 := 256#32
  let c7_i32 : BitVec 32 := 7#32
  let c64_i32_248 : BitVec 32 := 64#32
  let v556 : BitVec 32 := Scalar.muli c7_i32 c64_i32_248
  let v557 : BitVec 32 := Scalar.addi c256_i32_249 v556
  v557
def k0_mult23 : BitVec 32 :=
  let c256_i32_251 : BitVec 32 := 256#32
  let c24_i32_245 : BitVec 32 := 24#32
  let c0_i32_244 : BitVec 32 := 0#32
  let c7_i32 : BitVec 32 := 7#32
  let c4_i32_243 : BitVec 32 := 4#32
  let v550 : BitVec 32 := Scalar.subi c7_i32 c4_i32_243
  let v551 : BitVec 32 := Scalar.maxsi c0_i32_244 v550
  let v552 : BitVec 32 := Scalar.minsi c24_i32_245 v551
  let c64_i32_250 : BitVec 32 := 64#32
  let v559 : BitVec 32 := Scalar.muli v552 c64_i32_250
  let v560 : BitVec 32 := Scalar.addi c256_i32_251 v559
  v560
def k0_mult24 : BitVec 32 :=
  let c24_i32_245 : BitVec 32 := 24#32
  let c0_i32_244 : BitVec 32 := 0#32
  let c7_i32 : BitVec 32 := 7#32
  let c4_i32_243 : BitVec 32 := 4#32
  let v550 : BitVec 32 := Scalar.subi c7_i32 c4_i32_243
  let v551 : BitVec 32 := Scalar.maxsi c0_i32_244 v550
  let v552 : BitVec 32 := Scalar.minsi c24_i32_245 v551
  let v553 : BitVec 32 := Scalar.subi v552 c7_i32
  let c8_i32_246 : BitVec 32 := 8#32
  let v554 : BitVec 32 := Scalar.addi v553 c8_i32_246
  let c1_i32_247 : BitVec 32 := 1#32
  let v555 : BitVec 32 := Scalar.subi v554 c1_i32_247
  let c1_i32_258 : BitVec 32 := 1#32
  let v575 : BitVec 32 := Scalar.shrsi v555 c1_i32_258
  let c128_i32_259 : BitVec 32 := 128#32
  let v576 : BitVec 32 := Scalar.muli v575 c128_i32_259
  v576
def k0_mult25 : BitVec 32 :=
  let c256_i32_282 : BitVec 32 := 256#32
  let c8_i32_275 : BitVec 32 := 8#32
  let c64_i32_281 : BitVec 32 := 64#32
  let v628 : BitVec 32 := Scalar.muli c8_i32_275 c64_i32_281
  let v629 : BitVec 32 := Scalar.addi c256_i32_282 v628
  v629
def k0_mult26 : BitVec 32 :=
  let c256_i32_284 : BitVec 32 := 256#32
  let c24_i32_278 : BitVec 32 := 24#32
  let c0_i32_277 : BitVec 32 := 0#32
  let c8_i32_275 : BitVec 32 := 8#32
  let c4_i32_276 : BitVec 32 := 4#32
  let v622 : BitVec 32 := Scalar.subi c8_i32_275 c4_i32_276
  let v623 : BitVec 32 := Scalar.maxsi c0_i32_277 v622
  let v624 : BitVec 32 := Scalar.minsi c24_i32_278 v623
  let c64_i32_283 : BitVec 32 := 64#32
  let v631 : BitVec 32 := Scalar.muli v624 c64_i32_283
  let v632 : BitVec 32 := Scalar.addi c256_i32_284 v631
  v632
def k0_mult27 : BitVec 32 :=
  let c24_i32_278 : BitVec 32 := 24#32
  let c0_i32_277 : BitVec 32 := 0#32
  let c8_i32_275 : BitVec 32 := 8#32
  let c4_i32_276 : BitVec 32 := 4#32
  let v622 : BitVec 32 := Scalar.subi c8_i32_275 c4_i32_276
  let v623 : BitVec 32 := Scalar.maxsi c0_i32_277 v622
  let v624 : BitVec 32 := Scalar.minsi c24_i32_278 v623
  let v625 : BitVec 32 := Scalar.subi v624 c8_i32_275
  let c8_i32_279 : BitVec 32 := 8#32
  let v626 : BitVec 32 := Scalar.addi v625 c8_i32_279
  let c1_i32_280 : BitVec 32 := 1#32
  let v627 : BitVec 32 := Scalar.subi v626 c1_i32_280
  let c1_i32_291 : BitVec 32 := 1#32
  let v647 : BitVec 32 := Scalar.shrsi v627 c1_i32_291
  let c128_i32_292 : BitVec 32 := 128#32
  let v648 : BitVec 32 := Scalar.muli v647 c128_i32_292
  v648
def k0_mult28 : BitVec 32 :=
  let c256_i32_314 : BitVec 32 := 256#32
  let c9_i32 : BitVec 32 := 9#32
  let c64_i32_313 : BitVec 32 := 64#32
  let v700 : BitVec 32 := Scalar.muli c9_i32 c64_i32_313
  let v701 : BitVec 32 := Scalar.addi c256_i32_314 v700
  v701
def k0_mult29 : BitVec 32 :=
  let c256_i32_316 : BitVec 32 := 256#32
  let c24_i32_310 : BitVec 32 := 24#32
  let c0_i32_309 : BitVec 32 := 0#32
  let c9_i32 : BitVec 32 := 9#32
  let c4_i32_308 : BitVec 32 := 4#32
  let v694 : BitVec 32 := Scalar.subi c9_i32 c4_i32_308
  let v695 : BitVec 32 := Scalar.maxsi c0_i32_309 v694
  let v696 : BitVec 32 := Scalar.minsi c24_i32_310 v695
  let c64_i32_315 : BitVec 32 := 64#32
  let v703 : BitVec 32 := Scalar.muli v696 c64_i32_315
  let v704 : BitVec 32 := Scalar.addi c256_i32_316 v703
  v704
def k0_mult30 : BitVec 32 :=
  let c24_i32_310 : BitVec 32 := 24#32
  let c0_i32_309 : BitVec 32 := 0#32
  let c9_i32 : BitVec 32 := 9#32
  let c4_i32_308 : BitVec 32 := 4#32
  let v694 : BitVec 32 := Scalar.subi c9_i32 c4_i32_308
  let v695 : BitVec 32 := Scalar.maxsi c0_i32_309 v694
  let v696 : BitVec 32 := Scalar.minsi c24_i32_310 v695
  let v697 : BitVec 32 := Scalar.subi v696 c9_i32
  let c8_i32_311 : BitVec 32 := 8#32
  let v698 : BitVec 32 := Scalar.addi v697 c8_i32_311
  let c1_i32_312 : BitVec 32 := 1#32
  let v699 : BitVec 32 := Scalar.subi v698 c1_i32_312
  let c1_i32_323 : BitVec 32 := 1#32
  let v719 : BitVec 32 := Scalar.shrsi v699 c1_i32_323
  let c128_i32_324 : BitVec 32 := 128#32
  let v720 : BitVec 32 := Scalar.muli v719 c128_i32_324
  v720
def k0_mult31 : BitVec 32 :=
  let c256_i32_346 : BitVec 32 := 256#32
  let c10_i32 : BitVec 32 := 10#32
  let c64_i32_345 : BitVec 32 := 64#32
  let v772 : BitVec 32 := Scalar.muli c10_i32 c64_i32_345
  let v773 : BitVec 32 := Scalar.addi c256_i32_346 v772
  v773
def k0_mult32 : BitVec 32 :=
  let c256_i32_348 : BitVec 32 := 256#32
  let c24_i32_342 : BitVec 32 := 24#32
  let c0_i32_341 : BitVec 32 := 0#32
  let c10_i32 : BitVec 32 := 10#32
  let c4_i32_340 : BitVec 32 := 4#32
  let v766 : BitVec 32 := Scalar.subi c10_i32 c4_i32_340
  let v767 : BitVec 32 := Scalar.maxsi c0_i32_341 v766
  let v768 : BitVec 32 := Scalar.minsi c24_i32_342 v767
  let c64_i32_347 : BitVec 32 := 64#32
  let v775 : BitVec 32 := Scalar.muli v768 c64_i32_347
  let v776 : BitVec 32 := Scalar.addi c256_i32_348 v775
  v776
def k0_mult33 : BitVec 32 :=
  let c24_i32_342 : BitVec 32 := 24#32
  let c0_i32_341 : BitVec 32 := 0#32
  let c10_i32 : BitVec 32 := 10#32
  let c4_i32_340 : BitVec 32 := 4#32
  let v766 : BitVec 32 := Scalar.subi c10_i32 c4_i32_340
  let v767 : BitVec 32 := Scalar.maxsi c0_i32_341 v766
  let v768 : BitVec 32 := Scalar.minsi c24_i32_342 v767
  let v769 : BitVec 32 := Scalar.subi v768 c10_i32
  let c8_i32_343 : BitVec 32 := 8#32
  let v770 : BitVec 32 := Scalar.addi v769 c8_i32_343
  let c1_i32_344 : BitVec 32 := 1#32
  let v771 : BitVec 32 := Scalar.subi v770 c1_i32_344
  let c1_i32_355 : BitVec 32 := 1#32
  let v791 : BitVec 32 := Scalar.shrsi v771 c1_i32_355
  let c128_i32_356 : BitVec 32 := 128#32
  let v792 : BitVec 32 := Scalar.muli v791 c128_i32_356
  v792
def k0_mult34 : BitVec 32 :=
  let c256_i32_378 : BitVec 32 := 256#32
  let c11_i32 : BitVec 32 := 11#32
  let c64_i32_377 : BitVec 32 := 64#32
  let v844 : BitVec 32 := Scalar.muli c11_i32 c64_i32_377
  let v845 : BitVec 32 := Scalar.addi c256_i32_378 v844
  v845
def k0_mult35 : BitVec 32 :=
  let c256_i32_380 : BitVec 32 := 256#32
  let c24_i32_374 : BitVec 32 := 24#32
  let c0_i32_373 : BitVec 32 := 0#32
  let c11_i32 : BitVec 32 := 11#32
  let c4_i32_372 : BitVec 32 := 4#32
  let v838 : BitVec 32 := Scalar.subi c11_i32 c4_i32_372
  let v839 : BitVec 32 := Scalar.maxsi c0_i32_373 v838
  let v840 : BitVec 32 := Scalar.minsi c24_i32_374 v839
  let c64_i32_379 : BitVec 32 := 64#32
  let v847 : BitVec 32 := Scalar.muli v840 c64_i32_379
  let v848 : BitVec 32 := Scalar.addi c256_i32_380 v847
  v848
def k0_mult36 : BitVec 32 :=
  let c24_i32_374 : BitVec 32 := 24#32
  let c0_i32_373 : BitVec 32 := 0#32
  let c11_i32 : BitVec 32 := 11#32
  let c4_i32_372 : BitVec 32 := 4#32
  let v838 : BitVec 32 := Scalar.subi c11_i32 c4_i32_372
  let v839 : BitVec 32 := Scalar.maxsi c0_i32_373 v838
  let v840 : BitVec 32 := Scalar.minsi c24_i32_374 v839
  let v841 : BitVec 32 := Scalar.subi v840 c11_i32
  let c8_i32_375 : BitVec 32 := 8#32
  let v842 : BitVec 32 := Scalar.addi v841 c8_i32_375
  let c1_i32_376 : BitVec 32 := 1#32
  let v843 : BitVec 32 := Scalar.subi v842 c1_i32_376
  let c1_i32_387 : BitVec 32 := 1#32
  let v863 : BitVec 32 := Scalar.shrsi v843 c1_i32_387
  let c128_i32_388 : BitVec 32 := 128#32
  let v864 : BitVec 32 := Scalar.muli v863 c128_i32_388
  v864
def k0_mult37 : BitVec 32 :=
  let c256_i32_410 : BitVec 32 := 256#32
  let c12_i32 : BitVec 32 := 12#32
  let c64_i32_409 : BitVec 32 := 64#32
  let v916 : BitVec 32 := Scalar.muli c12_i32 c64_i32_409
  let v917 : BitVec 32 := Scalar.addi c256_i32_410 v916
  v917
def k0_mult38 : BitVec 32 :=
  let c256_i32_412 : BitVec 32 := 256#32
  let c24_i32_406 : BitVec 32 := 24#32
  let c0_i32_405 : BitVec 32 := 0#32
  let c12_i32 : BitVec 32 := 12#32
  let c4_i32_404 : BitVec 32 := 4#32
  let v910 : BitVec 32 := Scalar.subi c12_i32 c4_i32_404
  let v911 : BitVec 32 := Scalar.maxsi c0_i32_405 v910
  let v912 : BitVec 32 := Scalar.minsi c24_i32_406 v911
  let c64_i32_411 : BitVec 32 := 64#32
  let v919 : BitVec 32 := Scalar.muli v912 c64_i32_411
  let v920 : BitVec 32 := Scalar.addi c256_i32_412 v919
  v920
def k0_mult39 : BitVec 32 :=
  let c24_i32_406 : BitVec 32 := 24#32
  let c0_i32_405 : BitVec 32 := 0#32
  let c12_i32 : BitVec 32 := 12#32
  let c4_i32_404 : BitVec 32 := 4#32
  let v910 : BitVec 32 := Scalar.subi c12_i32 c4_i32_404
  let v911 : BitVec 32 := Scalar.maxsi c0_i32_405 v910
  let v912 : BitVec 32 := Scalar.minsi c24_i32_406 v911
  let v913 : BitVec 32 := Scalar.subi v912 c12_i32
  let c8_i32_407 : BitVec 32 := 8#32
  let v914 : BitVec 32 := Scalar.addi v913 c8_i32_407
  let c1_i32_408 : BitVec 32 := 1#32
  let v915 : BitVec 32 := Scalar.subi v914 c1_i32_408
  let c1_i32_419 : BitVec 32 := 1#32
  let v935 : BitVec 32 := Scalar.shrsi v915 c1_i32_419
  let c128_i32_420 : BitVec 32 := 128#32
  let v936 : BitVec 32 := Scalar.muli v935 c128_i32_420
  v936
def k0_mult40 : BitVec 32 :=
  let c256_i32_442 : BitVec 32 := 256#32
  let c13_i32 : BitVec 32 := 13#32
  let c64_i32_441 : BitVec 32 := 64#32
  let v988 : BitVec 32 := Scalar.muli c13_i32 c64_i32_441
  let v989 : BitVec 32 := Scalar.addi c256_i32_442 v988
  v989
def k0_mult41 : BitVec 32 :=
  let c256_i32_444 : BitVec 32 := 256#32
  let c24_i32_438 : BitVec 32 := 24#32
  let c0_i32_437 : BitVec 32 := 0#32
  let c13_i32 : BitVec 32 := 13#32
  let c4_i32_436 : BitVec 32 := 4#32
  let v982 : BitVec 32 := Scalar.subi c13_i32 c4_i32_436
  let v983 : BitVec 32 := Scalar.maxsi c0_i32_437 v982
  let v984 : BitVec 32 := Scalar.minsi c24_i32_438 v983
  let c64_i32_443 : BitVec 32 := 64#32
  let v991 : BitVec 32 := Scalar.muli v984 c64_i32_443
  let v992 : BitVec 32 := Scalar.addi c256_i32_444 v991
  v992
def k0_mult42 : BitVec 32 :=
  let c24_i32_438 : BitVec 32 := 24#32
  let c0_i32_437 : BitVec 32 := 0#32
  let c13_i32 : BitVec 32 := 13#32
  let c4_i32_436 : BitVec 32 := 4#32
  let v982 : BitVec 32 := Scalar.subi c13_i32 c4_i32_436
  let v983 : BitVec 32 := Scalar.maxsi c0_i32_437 v982
  let v984 : BitVec 32 := Scalar.minsi c24_i32_438 v983
  let v985 : BitVec 32 := Scalar.subi v984 c13_i32
  let c8_i32_439 : BitVec 32 := 8#32
  let v986 : BitVec 32 := Scalar.addi v985 c8_i32_439
  let c1_i32_440 : BitVec 32 := 1#32
  let v987 : BitVec 32 := Scalar.subi v986 c1_i32_440
  let c1_i32_451 : BitVec 32 := 1#32
  let v1007 : BitVec 32 := Scalar.shrsi v987 c1_i32_451
  let c128_i32_452 : BitVec 32 := 128#32
  let v1008 : BitVec 32 := Scalar.muli v1007 c128_i32_452
  v1008
def k0_mult43 : BitVec 32 :=
  let c256_i32_474 : BitVec 32 := 256#32
  let c14_i32 : BitVec 32 := 14#32
  let c64_i32_473 : BitVec 32 := 64#32
  let v1060 : BitVec 32 := Scalar.muli c14_i32 c64_i32_473
  let v1061 : BitVec 32 := Scalar.addi c256_i32_474 v1060
  v1061
def k0_mult44 : BitVec 32 :=
  let c256_i32_476 : BitVec 32 := 256#32
  let c24_i32_470 : BitVec 32 := 24#32
  let c0_i32_469 : BitVec 32 := 0#32
  let c14_i32 : BitVec 32 := 14#32
  let c4_i32_468 : BitVec 32 := 4#32
  let v1054 : BitVec 32 := Scalar.subi c14_i32 c4_i32_468
  let v1055 : BitVec 32 := Scalar.maxsi c0_i32_469 v1054
  let v1056 : BitVec 32 := Scalar.minsi c24_i32_470 v1055
  let c64_i32_475 : BitVec 32 := 64#32
  let v1063 : BitVec 32 := Scalar.muli v1056 c64_i32_475
  let v1064 : BitVec 32 := Scalar.addi c256_i32_476 v1063
  v1064
def k0_mult45 : BitVec 32 :=
  let c24_i32_470 : BitVec 32 := 24#32
  let c0_i32_469 : BitVec 32 := 0#32
  let c14_i32 : BitVec 32 := 14#32
  let c4_i32_468 : BitVec 32 := 4#32
  let v1054 : BitVec 32 := Scalar.subi c14_i32 c4_i32_468
  let v1055 : BitVec 32 := Scalar.maxsi c0_i32_469 v1054
  let v1056 : BitVec 32 := Scalar.minsi c24_i32_470 v1055
  let v1057 : BitVec 32 := Scalar.subi v1056 c14_i32
  let c8_i32_471 : BitVec 32 := 8#32
  let v1058 : BitVec 32 := Scalar.addi v1057 c8_i32_471
  let c1_i32_472 : BitVec 32 := 1#32
  let v1059 : BitVec 32 := Scalar.subi v1058 c1_i32_472
  let c1_i32_483 : BitVec 32 := 1#32
  let v1079 : BitVec 32 := Scalar.shrsi v1059 c1_i32_483
  let c128_i32_484 : BitVec 32 := 128#32
  let v1080 : BitVec 32 := Scalar.muli v1079 c128_i32_484
  v1080
def k0_mult46 : BitVec 32 :=
  let c256_i32_506 : BitVec 32 := 256#32
  let c15_i32 : BitVec 32 := 15#32
  let c64_i32_505 : BitVec 32 := 64#32
  let v1132 : BitVec 32 := Scalar.muli c15_i32 c64_i32_505
  let v1133 : BitVec 32 := Scalar.addi c256_i32_506 v1132
  v1133
def k0_mult47 : BitVec 32 :=
  let c256_i32_508 : BitVec 32 := 256#32
  let c24_i32_502 : BitVec 32 := 24#32
  let c0_i32_501 : BitVec 32 := 0#32
  let c15_i32 : BitVec 32 := 15#32
  let c4_i32_500 : BitVec 32 := 4#32
  let v1126 : BitVec 32 := Scalar.subi c15_i32 c4_i32_500
  let v1127 : BitVec 32 := Scalar.maxsi c0_i32_501 v1126
  let v1128 : BitVec 32 := Scalar.minsi c24_i32_502 v1127
  let c64_i32_507 : BitVec 32 := 64#32
  let v1135 : BitVec 32 := Scalar.muli v1128 c64_i32_507
  let v1136 : BitVec 32 := Scalar.addi c256_i32_508 v1135
  v1136
def k0_mult48 : BitVec 32 :=
  let c24_i32_502 : BitVec 32 := 24#32
  let c0_i32_501 : BitVec 32 := 0#32
  let c15_i32 : BitVec 32 := 15#32
  let c4_i32_500 : BitVec 32 := 4#32
  let v1126 : BitVec 32 := Scalar.subi c15_i32 c4_i32_500
  let v1127 : BitVec 32 := Scalar.maxsi c0_i32_501 v1126
  let v1128 : BitVec 32 := Scalar.minsi c24_i32_502 v1127
  let v1129 : BitVec 32 := Scalar.subi v1128 c15_i32
  let c8_i32_503 : BitVec 32 := 8#32
  let v1130 : BitVec 32 := Scalar.addi v1129 c8_i32_503
  let c1_i32_504 : BitVec 32 := 1#32
  let v1131 : BitVec 32 := Scalar.subi v1130 c1_i32_504
  let c1_i32_515 : BitVec 32 := 1#32
  let v1151 : BitVec 32 := Scalar.shrsi v1131 c1_i32_515
  let c128_i32_516 : BitVec 32 := 128#32
  let v1152 : BitVec 32 := Scalar.muli v1151 c128_i32_516
  v1152
def k0_mult49 : BitVec 32 :=
  let c256_i32_538 : BitVec 32 := 256#32
  let c16_i32 : BitVec 32 := 16#32
  let c64_i32_537 : BitVec 32 := 64#32
  let v1204 : BitVec 32 := Scalar.muli c16_i32 c64_i32_537
  let v1205 : BitVec 32 := Scalar.addi c256_i32_538 v1204
  v1205
def k0_mult50 : BitVec 32 :=
  let c256_i32_540 : BitVec 32 := 256#32
  let c24_i32_534 : BitVec 32 := 24#32
  let c0_i32_533 : BitVec 32 := 0#32
  let c16_i32 : BitVec 32 := 16#32
  let c4_i32_532 : BitVec 32 := 4#32
  let v1198 : BitVec 32 := Scalar.subi c16_i32 c4_i32_532
  let v1199 : BitVec 32 := Scalar.maxsi c0_i32_533 v1198
  let v1200 : BitVec 32 := Scalar.minsi c24_i32_534 v1199
  let c64_i32_539 : BitVec 32 := 64#32
  let v1207 : BitVec 32 := Scalar.muli v1200 c64_i32_539
  let v1208 : BitVec 32 := Scalar.addi c256_i32_540 v1207
  v1208
def k0_mult51 : BitVec 32 :=
  let c24_i32_534 : BitVec 32 := 24#32
  let c0_i32_533 : BitVec 32 := 0#32
  let c16_i32 : BitVec 32 := 16#32
  let c4_i32_532 : BitVec 32 := 4#32
  let v1198 : BitVec 32 := Scalar.subi c16_i32 c4_i32_532
  let v1199 : BitVec 32 := Scalar.maxsi c0_i32_533 v1198
  let v1200 : BitVec 32 := Scalar.minsi c24_i32_534 v1199
  let v1201 : BitVec 32 := Scalar.subi v1200 c16_i32
  let c8_i32_535 : BitVec 32 := 8#32
  let v1202 : BitVec 32 := Scalar.addi v1201 c8_i32_535
  let c1_i32_536 : BitVec 32 := 1#32
  let v1203 : BitVec 32 := Scalar.subi v1202 c1_i32_536
  let c1_i32_547 : BitVec 32 := 1#32
  let v1223 : BitVec 32 := Scalar.shrsi v1203 c1_i32_547
  let c128_i32_548 : BitVec 32 := 128#32
  let v1224 : BitVec 32 := Scalar.muli v1223 c128_i32_548
  v1224
def k0_mult52 : BitVec 32 :=
  let c256_i32_570 : BitVec 32 := 256#32
  let c17_i32 : BitVec 32 := 17#32
  let c64_i32_569 : BitVec 32 := 64#32
  let v1276 : BitVec 32 := Scalar.muli c17_i32 c64_i32_569
  let v1277 : BitVec 32 := Scalar.addi c256_i32_570 v1276
  v1277
def k0_mult53 : BitVec 32 :=
  let c256_i32_572 : BitVec 32 := 256#32
  let c24_i32_566 : BitVec 32 := 24#32
  let c0_i32_565 : BitVec 32 := 0#32
  let c17_i32 : BitVec 32 := 17#32
  let c4_i32_564 : BitVec 32 := 4#32
  let v1270 : BitVec 32 := Scalar.subi c17_i32 c4_i32_564
  let v1271 : BitVec 32 := Scalar.maxsi c0_i32_565 v1270
  let v1272 : BitVec 32 := Scalar.minsi c24_i32_566 v1271
  let c64_i32_571 : BitVec 32 := 64#32
  let v1279 : BitVec 32 := Scalar.muli v1272 c64_i32_571
  let v1280 : BitVec 32 := Scalar.addi c256_i32_572 v1279
  v1280
def k0_mult54 : BitVec 32 :=
  let c24_i32_566 : BitVec 32 := 24#32
  let c0_i32_565 : BitVec 32 := 0#32
  let c17_i32 : BitVec 32 := 17#32
  let c4_i32_564 : BitVec 32 := 4#32
  let v1270 : BitVec 32 := Scalar.subi c17_i32 c4_i32_564
  let v1271 : BitVec 32 := Scalar.maxsi c0_i32_565 v1270
  let v1272 : BitVec 32 := Scalar.minsi c24_i32_566 v1271
  let v1273 : BitVec 32 := Scalar.subi v1272 c17_i32
  let c8_i32_567 : BitVec 32 := 8#32
  let v1274 : BitVec 32 := Scalar.addi v1273 c8_i32_567
  let c1_i32_568 : BitVec 32 := 1#32
  let v1275 : BitVec 32 := Scalar.subi v1274 c1_i32_568
  let c1_i32_579 : BitVec 32 := 1#32
  let v1295 : BitVec 32 := Scalar.shrsi v1275 c1_i32_579
  let c128_i32_580 : BitVec 32 := 128#32
  let v1296 : BitVec 32 := Scalar.muli v1295 c128_i32_580
  v1296
def k0_mult55 : BitVec 32 :=
  let c256_i32_602 : BitVec 32 := 256#32
  let c18_i32 : BitVec 32 := 18#32
  let c64_i32_601 : BitVec 32 := 64#32
  let v1348 : BitVec 32 := Scalar.muli c18_i32 c64_i32_601
  let v1349 : BitVec 32 := Scalar.addi c256_i32_602 v1348
  v1349
def k0_mult56 : BitVec 32 :=
  let c256_i32_604 : BitVec 32 := 256#32
  let c24_i32_598 : BitVec 32 := 24#32
  let c0_i32_597 : BitVec 32 := 0#32
  let c18_i32 : BitVec 32 := 18#32
  let c4_i32_596 : BitVec 32 := 4#32
  let v1342 : BitVec 32 := Scalar.subi c18_i32 c4_i32_596
  let v1343 : BitVec 32 := Scalar.maxsi c0_i32_597 v1342
  let v1344 : BitVec 32 := Scalar.minsi c24_i32_598 v1343
  let c64_i32_603 : BitVec 32 := 64#32
  let v1351 : BitVec 32 := Scalar.muli v1344 c64_i32_603
  let v1352 : BitVec 32 := Scalar.addi c256_i32_604 v1351
  v1352
def k0_mult57 : BitVec 32 :=
  let c24_i32_598 : BitVec 32 := 24#32
  let c0_i32_597 : BitVec 32 := 0#32
  let c18_i32 : BitVec 32 := 18#32
  let c4_i32_596 : BitVec 32 := 4#32
  let v1342 : BitVec 32 := Scalar.subi c18_i32 c4_i32_596
  let v1343 : BitVec 32 := Scalar.maxsi c0_i32_597 v1342
  let v1344 : BitVec 32 := Scalar.minsi c24_i32_598 v1343
  let v1345 : BitVec 32 := Scalar.subi v1344 c18_i32
  let c8_i32_599 : BitVec 32 := 8#32
  let v1346 : BitVec 32 := Scalar.addi v1345 c8_i32_599
  let c1_i32_600 : BitVec 32 := 1#32
  let v1347 : BitVec 32 := Scalar.subi v1346 c1_i32_600
  let c1_i32_611 : BitVec 32 := 1#32
  let v1367 : BitVec 32 := Scalar.shrsi v1347 c1_i32_611
  let c128_i32_612 : BitVec 32 := 128#32
  let v1368 : BitVec 32 := Scalar.muli v1367 c128_i32_612
  v1368
def k0_mult58 : BitVec 32 :=
  let c256_i32_634 : BitVec 32 := 256#32
  let c19_i32 : BitVec 32 := 19#32
  let c64_i32_633 : BitVec 32 := 64#32
  let v1420 : BitVec 32 := Scalar.muli c19_i32 c64_i32_633
  let v1421 : BitVec 32 := Scalar.addi c256_i32_634 v1420
  v1421
def k0_mult59 : BitVec 32 :=
  let c256_i32_636 : BitVec 32 := 256#32
  let c24_i32_630 : BitVec 32 := 24#32
  let c0_i32_629 : BitVec 32 := 0#32
  let c19_i32 : BitVec 32 := 19#32
  let c4_i32_628 : BitVec 32 := 4#32
  let v1414 : BitVec 32 := Scalar.subi c19_i32 c4_i32_628
  let v1415 : BitVec 32 := Scalar.maxsi c0_i32_629 v1414
  let v1416 : BitVec 32 := Scalar.minsi c24_i32_630 v1415
  let c64_i32_635 : BitVec 32 := 64#32
  let v1423 : BitVec 32 := Scalar.muli v1416 c64_i32_635
  let v1424 : BitVec 32 := Scalar.addi c256_i32_636 v1423
  v1424
def k0_mult60 : BitVec 32 :=
  let c24_i32_630 : BitVec 32 := 24#32
  let c0_i32_629 : BitVec 32 := 0#32
  let c19_i32 : BitVec 32 := 19#32
  let c4_i32_628 : BitVec 32 := 4#32
  let v1414 : BitVec 32 := Scalar.subi c19_i32 c4_i32_628
  let v1415 : BitVec 32 := Scalar.maxsi c0_i32_629 v1414
  let v1416 : BitVec 32 := Scalar.minsi c24_i32_630 v1415
  let v1417 : BitVec 32 := Scalar.subi v1416 c19_i32
  let c8_i32_631 : BitVec 32 := 8#32
  let v1418 : BitVec 32 := Scalar.addi v1417 c8_i32_631
  let c1_i32_632 : BitVec 32 := 1#32
  let v1419 : BitVec 32 := Scalar.subi v1418 c1_i32_632
  let c1_i32_643 : BitVec 32 := 1#32
  let v1439 : BitVec 32 := Scalar.shrsi v1419 c1_i32_643
  let c128_i32_644 : BitVec 32 := 128#32
  let v1440 : BitVec 32 := Scalar.muli v1439 c128_i32_644
  v1440
def k0_mult61 : BitVec 32 :=
  let c256_i32_666 : BitVec 32 := 256#32
  let c20_i32 : BitVec 32 := 20#32
  let c64_i32_665 : BitVec 32 := 64#32
  let v1492 : BitVec 32 := Scalar.muli c20_i32 c64_i32_665
  let v1493 : BitVec 32 := Scalar.addi c256_i32_666 v1492
  v1493
def k0_mult62 : BitVec 32 :=
  let c256_i32_668 : BitVec 32 := 256#32
  let c24_i32_662 : BitVec 32 := 24#32
  let c0_i32_661 : BitVec 32 := 0#32
  let c20_i32 : BitVec 32 := 20#32
  let c4_i32_660 : BitVec 32 := 4#32
  let v1486 : BitVec 32 := Scalar.subi c20_i32 c4_i32_660
  let v1487 : BitVec 32 := Scalar.maxsi c0_i32_661 v1486
  let v1488 : BitVec 32 := Scalar.minsi c24_i32_662 v1487
  let c64_i32_667 : BitVec 32 := 64#32
  let v1495 : BitVec 32 := Scalar.muli v1488 c64_i32_667
  let v1496 : BitVec 32 := Scalar.addi c256_i32_668 v1495
  v1496
def k0_mult63 : BitVec 32 :=
  let c24_i32_662 : BitVec 32 := 24#32
  let c0_i32_661 : BitVec 32 := 0#32
  let c20_i32 : BitVec 32 := 20#32
  let c4_i32_660 : BitVec 32 := 4#32
  let v1486 : BitVec 32 := Scalar.subi c20_i32 c4_i32_660
  let v1487 : BitVec 32 := Scalar.maxsi c0_i32_661 v1486
  let v1488 : BitVec 32 := Scalar.minsi c24_i32_662 v1487
  let v1489 : BitVec 32 := Scalar.subi v1488 c20_i32
  let c8_i32_663 : BitVec 32 := 8#32
  let v1490 : BitVec 32 := Scalar.addi v1489 c8_i32_663
  let c1_i32_664 : BitVec 32 := 1#32
  let v1491 : BitVec 32 := Scalar.subi v1490 c1_i32_664
  let c1_i32_675 : BitVec 32 := 1#32
  let v1511 : BitVec 32 := Scalar.shrsi v1491 c1_i32_675
  let c128_i32_676 : BitVec 32 := 128#32
  let v1512 : BitVec 32 := Scalar.muli v1511 c128_i32_676
  v1512
def k0_mult64 : BitVec 32 :=
  let c256_i32_698 : BitVec 32 := 256#32
  let c21_i32 : BitVec 32 := 21#32
  let c64_i32_697 : BitVec 32 := 64#32
  let v1564 : BitVec 32 := Scalar.muli c21_i32 c64_i32_697
  let v1565 : BitVec 32 := Scalar.addi c256_i32_698 v1564
  v1565
def k0_mult65 : BitVec 32 :=
  let c256_i32_700 : BitVec 32 := 256#32
  let c24_i32_694 : BitVec 32 := 24#32
  let c0_i32_693 : BitVec 32 := 0#32
  let c21_i32 : BitVec 32 := 21#32
  let c4_i32_692 : BitVec 32 := 4#32
  let v1558 : BitVec 32 := Scalar.subi c21_i32 c4_i32_692
  let v1559 : BitVec 32 := Scalar.maxsi c0_i32_693 v1558
  let v1560 : BitVec 32 := Scalar.minsi c24_i32_694 v1559
  let c64_i32_699 : BitVec 32 := 64#32
  let v1567 : BitVec 32 := Scalar.muli v1560 c64_i32_699
  let v1568 : BitVec 32 := Scalar.addi c256_i32_700 v1567
  v1568
def k0_mult66 : BitVec 32 :=
  let c24_i32_694 : BitVec 32 := 24#32
  let c0_i32_693 : BitVec 32 := 0#32
  let c21_i32 : BitVec 32 := 21#32
  let c4_i32_692 : BitVec 32 := 4#32
  let v1558 : BitVec 32 := Scalar.subi c21_i32 c4_i32_692
  let v1559 : BitVec 32 := Scalar.maxsi c0_i32_693 v1558
  let v1560 : BitVec 32 := Scalar.minsi c24_i32_694 v1559
  let v1561 : BitVec 32 := Scalar.subi v1560 c21_i32
  let c8_i32_695 : BitVec 32 := 8#32
  let v1562 : BitVec 32 := Scalar.addi v1561 c8_i32_695
  let c1_i32_696 : BitVec 32 := 1#32
  let v1563 : BitVec 32 := Scalar.subi v1562 c1_i32_696
  let c1_i32_707 : BitVec 32 := 1#32
  let v1583 : BitVec 32 := Scalar.shrsi v1563 c1_i32_707
  let c128_i32_708 : BitVec 32 := 128#32
  let v1584 : BitVec 32 := Scalar.muli v1583 c128_i32_708
  v1584
def k0_mult67 : BitVec 32 :=
  let c256_i32_730 : BitVec 32 := 256#32
  let c22_i32 : BitVec 32 := 22#32
  let c64_i32_729 : BitVec 32 := 64#32
  let v1636 : BitVec 32 := Scalar.muli c22_i32 c64_i32_729
  let v1637 : BitVec 32 := Scalar.addi c256_i32_730 v1636
  v1637
def k0_mult68 : BitVec 32 :=
  let c256_i32_732 : BitVec 32 := 256#32
  let c24_i32_726 : BitVec 32 := 24#32
  let c0_i32_725 : BitVec 32 := 0#32
  let c22_i32 : BitVec 32 := 22#32
  let c4_i32_724 : BitVec 32 := 4#32
  let v1630 : BitVec 32 := Scalar.subi c22_i32 c4_i32_724
  let v1631 : BitVec 32 := Scalar.maxsi c0_i32_725 v1630
  let v1632 : BitVec 32 := Scalar.minsi c24_i32_726 v1631
  let c64_i32_731 : BitVec 32 := 64#32
  let v1639 : BitVec 32 := Scalar.muli v1632 c64_i32_731
  let v1640 : BitVec 32 := Scalar.addi c256_i32_732 v1639
  v1640
def k0_mult69 : BitVec 32 :=
  let c24_i32_726 : BitVec 32 := 24#32
  let c0_i32_725 : BitVec 32 := 0#32
  let c22_i32 : BitVec 32 := 22#32
  let c4_i32_724 : BitVec 32 := 4#32
  let v1630 : BitVec 32 := Scalar.subi c22_i32 c4_i32_724
  let v1631 : BitVec 32 := Scalar.maxsi c0_i32_725 v1630
  let v1632 : BitVec 32 := Scalar.minsi c24_i32_726 v1631
  let v1633 : BitVec 32 := Scalar.subi v1632 c22_i32
  let c8_i32_727 : BitVec 32 := 8#32
  let v1634 : BitVec 32 := Scalar.addi v1633 c8_i32_727
  let c1_i32_728 : BitVec 32 := 1#32
  let v1635 : BitVec 32 := Scalar.subi v1634 c1_i32_728
  let c1_i32_739 : BitVec 32 := 1#32
  let v1655 : BitVec 32 := Scalar.shrsi v1635 c1_i32_739
  let c128_i32_740 : BitVec 32 := 128#32
  let v1656 : BitVec 32 := Scalar.muli v1655 c128_i32_740
  v1656
def k0_mult70 : BitVec 32 :=
  let c256_i32_762 : BitVec 32 := 256#32
  let c23_i32 : BitVec 32 := 23#32
  let c64_i32_761 : BitVec 32 := 64#32
  let v1708 : BitVec 32 := Scalar.muli c23_i32 c64_i32_761
  let v1709 : BitVec 32 := Scalar.addi c256_i32_762 v1708
  v1709
def k0_mult71 : BitVec 32 :=
  let c256_i32_764 : BitVec 32 := 256#32
  let c24_i32_758 : BitVec 32 := 24#32
  let c0_i32_757 : BitVec 32 := 0#32
  let c23_i32 : BitVec 32 := 23#32
  let c4_i32_756 : BitVec 32 := 4#32
  let v1702 : BitVec 32 := Scalar.subi c23_i32 c4_i32_756
  let v1703 : BitVec 32 := Scalar.maxsi c0_i32_757 v1702
  let v1704 : BitVec 32 := Scalar.minsi c24_i32_758 v1703
  let c64_i32_763 : BitVec 32 := 64#32
  let v1711 : BitVec 32 := Scalar.muli v1704 c64_i32_763
  let v1712 : BitVec 32 := Scalar.addi c256_i32_764 v1711
  v1712
def k0_mult72 : BitVec 32 :=
  let c24_i32_758 : BitVec 32 := 24#32
  let c0_i32_757 : BitVec 32 := 0#32
  let c23_i32 : BitVec 32 := 23#32
  let c4_i32_756 : BitVec 32 := 4#32
  let v1702 : BitVec 32 := Scalar.subi c23_i32 c4_i32_756
  let v1703 : BitVec 32 := Scalar.maxsi c0_i32_757 v1702
  let v1704 : BitVec 32 := Scalar.minsi c24_i32_758 v1703
  let v1705 : BitVec 32 := Scalar.subi v1704 c23_i32
  let c8_i32_759 : BitVec 32 := 8#32
  let v1706 : BitVec 32 := Scalar.addi v1705 c8_i32_759
  let c1_i32_760 : BitVec 32 := 1#32
  let v1707 : BitVec 32 := Scalar.subi v1706 c1_i32_760
  let c1_i32_771 : BitVec 32 := 1#32
  let v1727 : BitVec 32 := Scalar.shrsi v1707 c1_i32_771
  let c128_i32_772 : BitVec 32 := 128#32
  let v1728 : BitVec 32 := Scalar.muli v1727 c128_i32_772
  v1728
def k0_mult73 : BitVec 32 :=
  let c256_i32_795 : BitVec 32 := 256#32
  let c24_i32_788 : BitVec 32 := 24#32
  let c64_i32_794 : BitVec 32 := 64#32
  let v1780 : BitVec 32 := Scalar.muli c24_i32_788 c64_i32_794
  let v1781 : BitVec 32 := Scalar.addi c256_i32_795 v1780
  v1781
def k0_mult74 : BitVec 32 :=
  let c256_i32_797 : BitVec 32 := 256#32
  let c24_i32_791 : BitVec 32 := 24#32
  let c0_i32_790 : BitVec 32 := 0#32
  let c24_i32_788 : BitVec 32 := 24#32
  let c4_i32_789 : BitVec 32 := 4#32
  let v1774 : BitVec 32 := Scalar.subi c24_i32_788 c4_i32_789
  let v1775 : BitVec 32 := Scalar.maxsi c0_i32_790 v1774
  let v1776 : BitVec 32 := Scalar.minsi c24_i32_791 v1775
  let c64_i32_796 : BitVec 32 := 64#32
  let v1783 : BitVec 32 := Scalar.muli v1776 c64_i32_796
  let v1784 : BitVec 32 := Scalar.addi c256_i32_797 v1783
  v1784
def k0_mult75 : BitVec 32 :=
  let c24_i32_791 : BitVec 32 := 24#32
  let c0_i32_790 : BitVec 32 := 0#32
  let c24_i32_788 : BitVec 32 := 24#32
  let c4_i32_789 : BitVec 32 := 4#32
  let v1774 : BitVec 32 := Scalar.subi c24_i32_788 c4_i32_789
  let v1775 : BitVec 32 := Scalar.maxsi c0_i32_790 v1774
  let v1776 : BitVec 32 := Scalar.minsi c24_i32_791 v1775
  let v1777 : BitVec 32 := Scalar.subi v1776 c24_i32_788
  let c8_i32_792 : BitVec 32 := 8#32
  let v1778 : BitVec 32 := Scalar.addi v1777 c8_i32_792
  let c1_i32_793 : BitVec 32 := 1#32
  let v1779 : BitVec 32 := Scalar.subi v1778 c1_i32_793
  let c1_i32_804 : BitVec 32 := 1#32
  let v1799 : BitVec 32 := Scalar.shrsi v1779 c1_i32_804
  let c128_i32_805 : BitVec 32 := 128#32
  let v1800 : BitVec 32 := Scalar.muli v1799 c128_i32_805
  v1800
def k0_mult76 : BitVec 32 :=
  let c256_i32_827 : BitVec 32 := 256#32
  let c25_i32 : BitVec 32 := 25#32
  let c64_i32_826 : BitVec 32 := 64#32
  let v1852 : BitVec 32 := Scalar.muli c25_i32 c64_i32_826
  let v1853 : BitVec 32 := Scalar.addi c256_i32_827 v1852
  v1853
def k0_mult77 : BitVec 32 :=
  let c256_i32_829 : BitVec 32 := 256#32
  let c24_i32_823 : BitVec 32 := 24#32
  let c0_i32_822 : BitVec 32 := 0#32
  let c25_i32 : BitVec 32 := 25#32
  let c4_i32_821 : BitVec 32 := 4#32
  let v1846 : BitVec 32 := Scalar.subi c25_i32 c4_i32_821
  let v1847 : BitVec 32 := Scalar.maxsi c0_i32_822 v1846
  let v1848 : BitVec 32 := Scalar.minsi c24_i32_823 v1847
  let c64_i32_828 : BitVec 32 := 64#32
  let v1855 : BitVec 32 := Scalar.muli v1848 c64_i32_828
  let v1856 : BitVec 32 := Scalar.addi c256_i32_829 v1855
  v1856
def k0_mult78 : BitVec 32 :=
  let c24_i32_823 : BitVec 32 := 24#32
  let c0_i32_822 : BitVec 32 := 0#32
  let c25_i32 : BitVec 32 := 25#32
  let c4_i32_821 : BitVec 32 := 4#32
  let v1846 : BitVec 32 := Scalar.subi c25_i32 c4_i32_821
  let v1847 : BitVec 32 := Scalar.maxsi c0_i32_822 v1846
  let v1848 : BitVec 32 := Scalar.minsi c24_i32_823 v1847
  let v1849 : BitVec 32 := Scalar.subi v1848 c25_i32
  let c8_i32_824 : BitVec 32 := 8#32
  let v1850 : BitVec 32 := Scalar.addi v1849 c8_i32_824
  let c1_i32_825 : BitVec 32 := 1#32
  let v1851 : BitVec 32 := Scalar.subi v1850 c1_i32_825
  let c1_i32_836 : BitVec 32 := 1#32
  let v1871 : BitVec 32 := Scalar.shrsi v1851 c1_i32_836
  let c128_i32_837 : BitVec 32 := 128#32
  let v1872 : BitVec 32 := Scalar.muli v1871 c128_i32_837
  v1872
def k0_mult79 : BitVec 32 :=
  let c256_i32_859 : BitVec 32 := 256#32
  let c26_i32 : BitVec 32 := 26#32
  let c64_i32_858 : BitVec 32 := 64#32
  let v1924 : BitVec 32 := Scalar.muli c26_i32 c64_i32_858
  let v1925 : BitVec 32 := Scalar.addi c256_i32_859 v1924
  v1925
def k0_mult80 : BitVec 32 :=
  let c256_i32_861 : BitVec 32 := 256#32
  let c24_i32_855 : BitVec 32 := 24#32
  let c0_i32_854 : BitVec 32 := 0#32
  let c26_i32 : BitVec 32 := 26#32
  let c4_i32_853 : BitVec 32 := 4#32
  let v1918 : BitVec 32 := Scalar.subi c26_i32 c4_i32_853
  let v1919 : BitVec 32 := Scalar.maxsi c0_i32_854 v1918
  let v1920 : BitVec 32 := Scalar.minsi c24_i32_855 v1919
  let c64_i32_860 : BitVec 32 := 64#32
  let v1927 : BitVec 32 := Scalar.muli v1920 c64_i32_860
  let v1928 : BitVec 32 := Scalar.addi c256_i32_861 v1927
  v1928
def k0_mult81 : BitVec 32 :=
  let c24_i32_855 : BitVec 32 := 24#32
  let c0_i32_854 : BitVec 32 := 0#32
  let c26_i32 : BitVec 32 := 26#32
  let c4_i32_853 : BitVec 32 := 4#32
  let v1918 : BitVec 32 := Scalar.subi c26_i32 c4_i32_853
  let v1919 : BitVec 32 := Scalar.maxsi c0_i32_854 v1918
  let v1920 : BitVec 32 := Scalar.minsi c24_i32_855 v1919
  let v1921 : BitVec 32 := Scalar.subi v1920 c26_i32
  let c8_i32_856 : BitVec 32 := 8#32
  let v1922 : BitVec 32 := Scalar.addi v1921 c8_i32_856
  let c1_i32_857 : BitVec 32 := 1#32
  let v1923 : BitVec 32 := Scalar.subi v1922 c1_i32_857
  let c1_i32_868 : BitVec 32 := 1#32
  let v1943 : BitVec 32 := Scalar.shrsi v1923 c1_i32_868
  let c128_i32_869 : BitVec 32 := 128#32
  let v1944 : BitVec 32 := Scalar.muli v1943 c128_i32_869
  v1944
def k0_mult82 : BitVec 32 :=
  let c256_i32_891 : BitVec 32 := 256#32
  let c27_i32 : BitVec 32 := 27#32
  let c64_i32_890 : BitVec 32 := 64#32
  let v1996 : BitVec 32 := Scalar.muli c27_i32 c64_i32_890
  let v1997 : BitVec 32 := Scalar.addi c256_i32_891 v1996
  v1997
def k0_mult83 : BitVec 32 :=
  let c256_i32_893 : BitVec 32 := 256#32
  let c24_i32_887 : BitVec 32 := 24#32
  let c0_i32_886 : BitVec 32 := 0#32
  let c27_i32 : BitVec 32 := 27#32
  let c4_i32_885 : BitVec 32 := 4#32
  let v1990 : BitVec 32 := Scalar.subi c27_i32 c4_i32_885
  let v1991 : BitVec 32 := Scalar.maxsi c0_i32_886 v1990
  let v1992 : BitVec 32 := Scalar.minsi c24_i32_887 v1991
  let c64_i32_892 : BitVec 32 := 64#32
  let v1999 : BitVec 32 := Scalar.muli v1992 c64_i32_892
  let v2000 : BitVec 32 := Scalar.addi c256_i32_893 v1999
  v2000
def k0_mult84 : BitVec 32 :=
  let c24_i32_887 : BitVec 32 := 24#32
  let c0_i32_886 : BitVec 32 := 0#32
  let c27_i32 : BitVec 32 := 27#32
  let c4_i32_885 : BitVec 32 := 4#32
  let v1990 : BitVec 32 := Scalar.subi c27_i32 c4_i32_885
  let v1991 : BitVec 32 := Scalar.maxsi c0_i32_886 v1990
  let v1992 : BitVec 32 := Scalar.minsi c24_i32_887 v1991
  let v1993 : BitVec 32 := Scalar.subi v1992 c27_i32
  let c8_i32_888 : BitVec 32 := 8#32
  let v1994 : BitVec 32 := Scalar.addi v1993 c8_i32_888
  let c1_i32_889 : BitVec 32 := 1#32
  let v1995 : BitVec 32 := Scalar.subi v1994 c1_i32_889
  let c1_i32_900 : BitVec 32 := 1#32
  let v2015 : BitVec 32 := Scalar.shrsi v1995 c1_i32_900
  let c128_i32_901 : BitVec 32 := 128#32
  let v2016 : BitVec 32 := Scalar.muli v2015 c128_i32_901
  v2016
def k0_mult85 : BitVec 32 :=
  let c256_i32_923 : BitVec 32 := 256#32
  let c28_i32 : BitVec 32 := 28#32
  let c64_i32_922 : BitVec 32 := 64#32
  let v2068 : BitVec 32 := Scalar.muli c28_i32 c64_i32_922
  let v2069 : BitVec 32 := Scalar.addi c256_i32_923 v2068
  v2069
def k0_mult86 : BitVec 32 :=
  let c256_i32_925 : BitVec 32 := 256#32
  let c24_i32_919 : BitVec 32 := 24#32
  let c0_i32_918 : BitVec 32 := 0#32
  let c28_i32 : BitVec 32 := 28#32
  let c4_i32_917 : BitVec 32 := 4#32
  let v2062 : BitVec 32 := Scalar.subi c28_i32 c4_i32_917
  let v2063 : BitVec 32 := Scalar.maxsi c0_i32_918 v2062
  let v2064 : BitVec 32 := Scalar.minsi c24_i32_919 v2063
  let c64_i32_924 : BitVec 32 := 64#32
  let v2071 : BitVec 32 := Scalar.muli v2064 c64_i32_924
  let v2072 : BitVec 32 := Scalar.addi c256_i32_925 v2071
  v2072
def k0_mult87 : BitVec 32 :=
  let c24_i32_919 : BitVec 32 := 24#32
  let c0_i32_918 : BitVec 32 := 0#32
  let c28_i32 : BitVec 32 := 28#32
  let c4_i32_917 : BitVec 32 := 4#32
  let v2062 : BitVec 32 := Scalar.subi c28_i32 c4_i32_917
  let v2063 : BitVec 32 := Scalar.maxsi c0_i32_918 v2062
  let v2064 : BitVec 32 := Scalar.minsi c24_i32_919 v2063
  let v2065 : BitVec 32 := Scalar.subi v2064 c28_i32
  let c8_i32_920 : BitVec 32 := 8#32
  let v2066 : BitVec 32 := Scalar.addi v2065 c8_i32_920
  let c1_i32_921 : BitVec 32 := 1#32
  let v2067 : BitVec 32 := Scalar.subi v2066 c1_i32_921
  let c1_i32_932 : BitVec 32 := 1#32
  let v2087 : BitVec 32 := Scalar.shrsi v2067 c1_i32_932
  let c128_i32_933 : BitVec 32 := 128#32
  let v2088 : BitVec 32 := Scalar.muli v2087 c128_i32_933
  v2088
def k0_mult88 : BitVec 32 :=
  let c256_i32_955 : BitVec 32 := 256#32
  let c29_i32 : BitVec 32 := 29#32
  let c64_i32_954 : BitVec 32 := 64#32
  let v2140 : BitVec 32 := Scalar.muli c29_i32 c64_i32_954
  let v2141 : BitVec 32 := Scalar.addi c256_i32_955 v2140
  v2141
def k0_mult89 : BitVec 32 :=
  let c256_i32_957 : BitVec 32 := 256#32
  let c24_i32_951 : BitVec 32 := 24#32
  let c0_i32_950 : BitVec 32 := 0#32
  let c29_i32 : BitVec 32 := 29#32
  let c4_i32_949 : BitVec 32 := 4#32
  let v2134 : BitVec 32 := Scalar.subi c29_i32 c4_i32_949
  let v2135 : BitVec 32 := Scalar.maxsi c0_i32_950 v2134
  let v2136 : BitVec 32 := Scalar.minsi c24_i32_951 v2135
  let c64_i32_956 : BitVec 32 := 64#32
  let v2143 : BitVec 32 := Scalar.muli v2136 c64_i32_956
  let v2144 : BitVec 32 := Scalar.addi c256_i32_957 v2143
  v2144
def k0_mult90 : BitVec 32 :=
  let c24_i32_951 : BitVec 32 := 24#32
  let c0_i32_950 : BitVec 32 := 0#32
  let c29_i32 : BitVec 32 := 29#32
  let c4_i32_949 : BitVec 32 := 4#32
  let v2134 : BitVec 32 := Scalar.subi c29_i32 c4_i32_949
  let v2135 : BitVec 32 := Scalar.maxsi c0_i32_950 v2134
  let v2136 : BitVec 32 := Scalar.minsi c24_i32_951 v2135
  let v2137 : BitVec 32 := Scalar.subi v2136 c29_i32
  let c8_i32_952 : BitVec 32 := 8#32
  let v2138 : BitVec 32 := Scalar.addi v2137 c8_i32_952
  let c1_i32_953 : BitVec 32 := 1#32
  let v2139 : BitVec 32 := Scalar.subi v2138 c1_i32_953
  let c1_i32_964 : BitVec 32 := 1#32
  let v2159 : BitVec 32 := Scalar.shrsi v2139 c1_i32_964
  let c128_i32_965 : BitVec 32 := 128#32
  let v2160 : BitVec 32 := Scalar.muli v2159 c128_i32_965
  v2160
def k0_mult91 : BitVec 32 :=
  let c256_i32_987 : BitVec 32 := 256#32
  let c30_i32 : BitVec 32 := 30#32
  let c64_i32_986 : BitVec 32 := 64#32
  let v2212 : BitVec 32 := Scalar.muli c30_i32 c64_i32_986
  let v2213 : BitVec 32 := Scalar.addi c256_i32_987 v2212
  v2213
def k0_mult92 : BitVec 32 :=
  let c256_i32_989 : BitVec 32 := 256#32
  let c24_i32_983 : BitVec 32 := 24#32
  let c0_i32_982 : BitVec 32 := 0#32
  let c30_i32 : BitVec 32 := 30#32
  let c4_i32_981 : BitVec 32 := 4#32
  let v2206 : BitVec 32 := Scalar.subi c30_i32 c4_i32_981
  let v2207 : BitVec 32 := Scalar.maxsi c0_i32_982 v2206
  let v2208 : BitVec 32 := Scalar.minsi c24_i32_983 v2207
  let c64_i32_988 : BitVec 32 := 64#32
  let v2215 : BitVec 32 := Scalar.muli v2208 c64_i32_988
  let v2216 : BitVec 32 := Scalar.addi c256_i32_989 v2215
  v2216
def k0_mult93 : BitVec 32 :=
  let c24_i32_983 : BitVec 32 := 24#32
  let c0_i32_982 : BitVec 32 := 0#32
  let c30_i32 : BitVec 32 := 30#32
  let c4_i32_981 : BitVec 32 := 4#32
  let v2206 : BitVec 32 := Scalar.subi c30_i32 c4_i32_981
  let v2207 : BitVec 32 := Scalar.maxsi c0_i32_982 v2206
  let v2208 : BitVec 32 := Scalar.minsi c24_i32_983 v2207
  let v2209 : BitVec 32 := Scalar.subi v2208 c30_i32
  let c8_i32_984 : BitVec 32 := 8#32
  let v2210 : BitVec 32 := Scalar.addi v2209 c8_i32_984
  let c1_i32_985 : BitVec 32 := 1#32
  let v2211 : BitVec 32 := Scalar.subi v2210 c1_i32_985
  let c1_i32_996 : BitVec 32 := 1#32
  let v2231 : BitVec 32 := Scalar.shrsi v2211 c1_i32_996
  let c128_i32_997 : BitVec 32 := 128#32
  let v2232 : BitVec 32 := Scalar.muli v2231 c128_i32_997
  v2232
def k0_mult94 : BitVec 32 :=
  let c256_i32_1019 : BitVec 32 := 256#32
  let c31_i32 : BitVec 32 := 31#32
  let c64_i32_1018 : BitVec 32 := 64#32
  let v2284 : BitVec 32 := Scalar.muli c31_i32 c64_i32_1018
  let v2285 : BitVec 32 := Scalar.addi c256_i32_1019 v2284
  v2285
def k0_mult95 : BitVec 32 :=
  let c256_i32_1021 : BitVec 32 := 256#32
  let c24_i32_1015 : BitVec 32 := 24#32
  let c0_i32_1014 : BitVec 32 := 0#32
  let c31_i32 : BitVec 32 := 31#32
  let c4_i32_1013 : BitVec 32 := 4#32
  let v2278 : BitVec 32 := Scalar.subi c31_i32 c4_i32_1013
  let v2279 : BitVec 32 := Scalar.maxsi c0_i32_1014 v2278
  let v2280 : BitVec 32 := Scalar.minsi c24_i32_1015 v2279
  let c64_i32_1020 : BitVec 32 := 64#32
  let v2287 : BitVec 32 := Scalar.muli v2280 c64_i32_1020
  let v2288 : BitVec 32 := Scalar.addi c256_i32_1021 v2287
  v2288
def k0_mult96 : BitVec 32 :=
  let c24_i32_1015 : BitVec 32 := 24#32
  let c0_i32_1014 : BitVec 32 := 0#32
  let c31_i32 : BitVec 32 := 31#32
  let c4_i32_1013 : BitVec 32 := 4#32
  let v2278 : BitVec 32 := Scalar.subi c31_i32 c4_i32_1013
  let v2279 : BitVec 32 := Scalar.maxsi c0_i32_1014 v2278
  let v2280 : BitVec 32 := Scalar.minsi c24_i32_1015 v2279
  let v2281 : BitVec 32 := Scalar.subi v2280 c31_i32
  let c8_i32_1016 : BitVec 32 := 8#32
  let v2282 : BitVec 32 := Scalar.addi v2281 c8_i32_1016
  let c1_i32_1017 : BitVec 32 := 1#32
  let v2283 : BitVec 32 := Scalar.subi v2282 c1_i32_1017
  let c1_i32_1028 : BitVec 32 := 1#32
  let v2303 : BitVec 32 := Scalar.shrsi v2283 c1_i32_1028
  let c128_i32_1029 : BitVec 32 := 128#32
  let v2304 : BitVec 32 := Scalar.muli v2303 c128_i32_1029
  v2304
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2304x1024 : Shape := ⟨3, ![16, 2304, 1024]⟩
abbrev S16x15x31 : Shape := ⟨3, ![16, 15, 31]⟩
abbrev S16x256x1024 : Shape := ⟨3, ![16, 256, 1024]⟩
abbrev S16x256x16x64 : Shape := ⟨4, ![16, 256, 16, 64]⟩
abbrev S16x16x256x64 : Shape := ⟨4, ![16, 16, 256, 64]⟩
abbrev S16x2048x1024 : Shape := ⟨3, ![16, 2048, 1024]⟩
abbrev S16x2048x16x64 : Shape := ⟨4, ![16, 2048, 16, 64]⟩
abbrev S16x16x2048x64 : Shape := ⟨4, ![16, 16, 2048, 64]⟩
abbrev S16x16x32x64x64 : Shape := ⟨5, ![16, 16, 32, 64, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x1x64 : Shape := ⟨3, ![64, 1, 64]⟩
abbrev S64x8x64 : Shape := ⟨3, ![64, 8, 64]⟩
abbrev S64x512 : Shape := ⟨2, ![64, 512]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x16x32x8x64x64 : Shape := ⟨6, ![16, 16, 32, 8, 64, 64]⟩
abbrev S16x16x32x512x64 : Shape := ⟨5, ![16, 16, 32, 512, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S16x32x64x8x64 : Shape := ⟨5, ![16, 32, 64, 8, 64]⟩
abbrev S16x32x64x512 : Shape := ⟨4, ![16, 32, 64, 512]⟩
abbrev S16x16x32x64x512 : Shape := ⟨5, ![16, 16, 32, 64, 512]⟩
abbrev S1x16x32x64x512 : Shape := ⟨5, ![1, 16, 32, 64, 512]⟩
abbrev S16x16x32x64x256 : Shape := ⟨5, ![16, 16, 32, 64, 256]⟩
abbrev S16x16x32x64x768 : Shape := ⟨5, ![16, 16, 32, 64, 768]⟩
abbrev S16x16x32x64 : Shape := ⟨4, ![16, 16, 32, 64]⟩
abbrev S16x16x32x64x1 : Shape := ⟨5, ![16, 16, 32, 64, 1]⟩
abbrev S16x32x64x16x64 : Shape := ⟨5, ![16, 32, 64, 16, 64]⟩
abbrev S16x16x256x256 : Shape := ⟨4, ![16, 16, 256, 256]⟩
abbrev S16x16x256 : Shape := ⟨3, ![16, 16, 256]⟩
abbrev S16x16x256x1 : Shape := ⟨4, ![16, 16, 256, 1]⟩

abbrev nBuf : Space → Nat
  | .hbm => 195
  | .vmem => 0
  | .smem => 0
  | _ => 0

abbrev hbmTy0_0 (i : Nat) : BufTy := match i % 128 with
  | 0 => ⟨S16x2304x1024, .f32⟩
  | 1 => ⟨S16x2304x1024, .f32⟩
  | 2 => ⟨S16x2304x1024, .f32⟩
  | 3 => ⟨S16x15x31, .f32⟩
  | 4 => ⟨S16x256x1024, .f32⟩
  | 5 => ⟨S16x256x16x64, .f32⟩
  | 6 => ⟨S16x16x256x64, .f32⟩
  | 7 => ⟨S16x256x1024, .f32⟩
  | 8 => ⟨S16x256x16x64, .f32⟩
  | 9 => ⟨S16x16x256x64, .f32⟩
  | 10 => ⟨S16x256x1024, .f32⟩
  | 11 => ⟨S16x256x16x64, .f32⟩
  | 12 => ⟨S16x16x256x64, .f32⟩
  | 13 => ⟨S16x2048x1024, .f32⟩
  | 14 => ⟨S16x2048x16x64, .f32⟩
  | 15 => ⟨S16x16x2048x64, .f32⟩
  | 16 => ⟨S16x2048x1024, .f32⟩
  | 17 => ⟨S16x2048x16x64, .f32⟩
  | 18 => ⟨S16x16x2048x64, .f32⟩
  | 19 => ⟨S16x2048x1024, .f32⟩
  | 20 => ⟨S16x2048x16x64, .f32⟩
  | 21 => ⟨S16x16x2048x64, .f32⟩
  | 22 => ⟨S16x16x32x64x64, .f32⟩
  | 23 => ⟨S16x16x32x64x64, .f32⟩
  | 24 => ⟨S16x16x32x64x64, .f32⟩
  | 25 => ⟨S64, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S1x64, .i32⟩
  | 38 => ⟨S64x1, .i32⟩
  | 39 => ⟨S64x64, .i32⟩
  | 40 => ⟨S64x64, .i32⟩
  | 41 => ⟨S64x64, .i1⟩
  | 42 => ⟨S1x64, .i32⟩
  | 43 => ⟨S64x1, .i32⟩
  | 44 => ⟨S_, .i32⟩
  | 45 => ⟨S64x1, .i32⟩
  | 46 => ⟨S64x1, .i32⟩
  | 47 => ⟨S64x64, .i32⟩
  | 48 => ⟨S64x64, .i32⟩
  | 49 => ⟨S64x64, .i1⟩
  | 50 => ⟨S64x64, .i1⟩
  | 51 => ⟨S64x1x64, .i1⟩
  | 52 => ⟨S64x8x64, .i1⟩
  | 53 => ⟨S64x512, .i1⟩
  | 54 => ⟨S1x64, .i32⟩
  | 55 => ⟨S64x1, .i32⟩
  | 56 => ⟨S64x64, .i32⟩
  | 57 => ⟨S64x64, .i32⟩
  | 58 => ⟨S64x64, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i32⟩
  | 65 => ⟨S_, .i32⟩
  | 66 => ⟨S_, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S32, .i32⟩
  | 74 => ⟨S_, .i32⟩
  | 75 => ⟨S32, .i32⟩
  | 76 => ⟨S32, .i32⟩
  | 77 => ⟨S_, .i32⟩
  | 78 => ⟨S_, .i32⟩
  | 79 => ⟨S_, .i32⟩
  | 80 => ⟨S32, .i32⟩
  | 81 => ⟨S32, .i32⟩
  | 82 => ⟨S_, .i32⟩
  | 83 => ⟨S32, .i32⟩
  | 84 => ⟨S32, .i32⟩
  | 85 => ⟨S32x1, .i32⟩
  | 86 => ⟨S8, .i32⟩
  | 87 => ⟨S1x8, .i32⟩
  | 88 => ⟨S32x8, .i32⟩
  | 89 => ⟨S32x8, .i32⟩
  | 90 => ⟨S32x8, .i32⟩
  | 91 => ⟨S_, .i32⟩
  | 92 => ⟨S32x8, .i32⟩
  | 93 => ⟨S32x8, .i1⟩
  | 94 => ⟨S_, .i32⟩
  | 95 => ⟨S32x8, .i32⟩
  | 96 => ⟨S32x8, .i32⟩
  | 97 => ⟨S32x8, .i32⟩
  | 98 => ⟨S32x8x1, .i32⟩
  | 99 => ⟨S16x16x32x8x64x64, .f32⟩
  | 100 => ⟨S16x16x32x512x64, .f32⟩
  | 101 => ⟨S_, .i32⟩
  | 102 => ⟨S32x8, .i32⟩
  | 103 => ⟨S32x8, .i1⟩
  | 104 => ⟨S_, .i32⟩
  | 105 => ⟨S32x8, .i32⟩
  | 106 => ⟨S32x8, .i32⟩
  | 107 => ⟨S32x8, .i32⟩
  | 108 => ⟨S32x8x1, .i32⟩
  | 109 => ⟨S16x16x32x8x64x64, .f32⟩
  | 110 => ⟨S16x16x32x512x64, .f32⟩
  | 111 => ⟨S32x1, .i32⟩
  | 112 => ⟨S32x8, .i32⟩
  | 113 => ⟨S32x8, .i32⟩
  | 114 => ⟨S_, .i32⟩
  | 115 => ⟨S32x8, .i32⟩
  | 116 => ⟨S32x8, .i32⟩
  | 117 => ⟨S_, .i32⟩
  | 118 => ⟨S32x8, .i32⟩
  | 119 => ⟨S32x8, .i32⟩
  | 120 => ⟨S32x1x8x1, .i32⟩
  | 121 => ⟨S1x64x1x64, .i32⟩
  | 122 => ⟨S_, .i32⟩
  | 123 => ⟨S32x1x8x1, .i32⟩
  | 124 => ⟨S32x1x8x1, .i1⟩
  | 125 => ⟨S_, .i32⟩
  | 126 => ⟨S32x1x8x1, .i32⟩
  | 127 => ⟨S32x1x8x1, .i32⟩
  | _ => ⟨S16x2304x1024, .f32⟩

abbrev hbmTy0_1 (i : Nat) : BufTy := match i % 128 with
  | 0 => ⟨S32x1x8x1, .i32⟩
  | 1 => ⟨S_, .i32⟩
  | 2 => ⟨S1x64x1x64, .i32⟩
  | 3 => ⟨S1x64x1x64, .i1⟩
  | 4 => ⟨S_, .i32⟩
  | 5 => ⟨S1x64x1x64, .i32⟩
  | 6 => ⟨S1x64x1x64, .i32⟩
  | 7 => ⟨S1x64x1x64, .i32⟩
  | 8 => ⟨S32x64x8x64, .i32⟩
  | 9 => ⟨S32x64x8x64, .i32⟩
  | 10 => ⟨S32x64x8x64x1, .i32⟩
  | 11 => ⟨S32x64x8x64x1, .i32⟩
  | 12 => ⟨S32x64x8x64x2, .i32⟩
  | 13 => ⟨S16x32x64x8x64, .f32⟩
  | 14 => ⟨S16x32x64x512, .f32⟩
  | 15 => ⟨S16x16x32x64x512, .f32⟩
  | 16 => ⟨S1x16x32x64x512, .f32⟩
  | 17 => ⟨S16x16x32x64x512, .f32⟩
  | 18 => ⟨S16x16x32x64x512, .f32⟩
  | 19 => ⟨S_, .f32⟩
  | 20 => ⟨S_, .f32⟩
  | 21 => ⟨S16x16x32x64x512, .i1⟩
  | 22 => ⟨S16x16x32x64x512, .f32⟩
  | 23 => ⟨S16x16x32x64x512, .f32⟩
  | 24 => ⟨S16x16x32x64x256, .f32⟩
  | 25 => ⟨S16x16x32x64x768, .f32⟩
  | 26 => ⟨S_, .f32⟩
  | 27 => ⟨S16x16x32x64, .f32⟩
  | 28 => ⟨S_, .f32⟩
  | 29 => ⟨S16x16x32x64, .f32⟩
  | 30 => ⟨S16x16x32x64, .f32⟩
  | 31 => ⟨S16x16x32x64x1, .f32⟩
  | 32 => ⟨S16x16x32x64x768, .f32⟩
  | 33 => ⟨S16x16x32x64x768, .f32⟩
  | 34 => ⟨S16x16x32x64x768, .f32⟩
  | 35 => ⟨S_, .f32⟩
  | 36 => ⟨S16x16x32x64, .f32⟩
  | 37 => ⟨S16x16x32x64x1, .f32⟩
  | 38 => ⟨S16x16x32x64x768, .f32⟩
  | 39 => ⟨S16x16x32x64x768, .f32⟩
  | 40 => ⟨S16x16x32x64x512, .f32⟩
  | 41 => ⟨S16x16x32x64x64, .f32⟩
  | 42 => ⟨S16x16x32x64x256, .f32⟩
  | 43 => ⟨S16x16x32x64x64, .f32⟩
  | 44 => ⟨S16x16x32x64x64, .f32⟩
  | 45 => ⟨S16x32x64x16x64, .f32⟩
  | 46 => ⟨S16x2048x1024, .f32⟩
  | 47 => ⟨S16x16x256x256, .f32⟩
  | 48 => ⟨S_, .f32⟩
  | 49 => ⟨S16x16x256, .f32⟩
  | 50 => ⟨S_, .f32⟩
  | 51 => ⟨S16x16x256, .f32⟩
  | 52 => ⟨S16x16x256, .f32⟩
  | 53 => ⟨S16x16x256x1, .f32⟩
  | 54 => ⟨S16x16x256x256, .f32⟩
  | 55 => ⟨S16x16x256x256, .f32⟩
  | 56 => ⟨S16x16x256x256, .f32⟩
  | 57 => ⟨S_, .f32⟩
  | 58 => ⟨S16x16x256, .f32⟩
  | 59 => ⟨S16x16x256x1, .f32⟩
  | 60 => ⟨S16x16x256x256, .f32⟩
  | 61 => ⟨S16x16x256x256, .f32⟩
  | 62 => ⟨S16x16x256x64, .f32⟩
  | 63 => ⟨S16x256x16x64, .f32⟩
  | 64 => ⟨S16x256x1024, .f32⟩
  | 65 => ⟨S16x2304x1024, .f32⟩
  | 66 => ⟨S16x2304x1024, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_3 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_c_5 : Ref sig .tc := ⟨.hbm, 65, rfl⟩
abbrev main_c_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_c_9 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_14 : Ref sig .tc := ⟨.hbm, 114, rfl⟩
abbrev main_v80 : Ref sig .tc := ⟨.hbm, 115, rfl⟩
abbrev main_v81 : Ref sig .tc := ⟨.hbm, 116, rfl⟩
abbrev main_c_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_16 : Ref sig .tc := ⟨.hbm, 122, rfl⟩
abbrev main_v86 : Ref sig .tc := ⟨.hbm, 123, rfl⟩
abbrev main_v87 : Ref sig .tc := ⟨.hbm, 124, rfl⟩
abbrev main_c_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_18 : Ref sig .tc := ⟨.hbm, 129, rfl⟩
abbrev main_v91 : Ref sig .tc := ⟨.hbm, 130, rfl⟩
abbrev main_v92 : Ref sig .tc := ⟨.hbm, 131, rfl⟩
abbrev main_c_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_cst_21 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_23 : Ref sig .tc := ⟨.hbm, 176, rfl⟩
abbrev main_v129 : Ref sig .tc := ⟨.hbm, 177, rfl⟩
abbrev main_cst_24 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_25 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩

abbrev nD : Nat := 1
abbrev τ : Topo := Topo.v7x

variable {F : FTy → Type} [FloatOps F]
-- ==== Mlp.lean ====
abbrev S36864x1024 : Shape := ⟨2, ![36864, 1024]⟩
abbrev S4x24x6x1x1024 : Shape := ⟨5, ![4, 24, 6, 1, 1024]⟩
abbrev S36864x512 : Shape := ⟨2, ![36864, 512]⟩
abbrev S1024x1024 : Shape := ⟨2, ![1024, 1024]⟩
abbrev S1024x4096 : Shape := ⟨2, ![1024, 4096]⟩
abbrev S4096x1024 : Shape := ⟨2, ![4096, 1024]⟩
abbrev S768x1024 : Shape := ⟨2, ![768, 1024]⟩
abbrev S1x1x1x1x1024 : Shape := ⟨5, ![1, 1, 1, 1, 1024]⟩
abbrev S768x512 : Shape := ⟨2, ![768, 512]⟩
abbrev S256x512 : Shape := ⟨2, ![256, 512]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 11
  | .vmem => 23
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S36864x512, .bf16⟩
  | .hbm, ⟨3, _⟩ => ⟨S36864x512, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S36864x1024, .f32⟩
  | .local _ .vmem, ⟨0, _⟩ => ⟨S768x1024, .f32⟩
  | .local _ .vmem, ⟨1, _⟩ => ⟨S768x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S768x512, .bf16⟩
  | .local _ .vmem, ⟨15, _⟩ => ⟨S768x512, .bf16⟩
  | .local _ .vmem, ⟨16, _⟩ => ⟨S768x512, .f32⟩
  | .local _ .vmem, ⟨17, _⟩ => ⟨S768x512, .f32⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S768x1024, .f32⟩
  | .local _ .vmem, ⟨22, _⟩ => ⟨S768x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c16_i32 : BitVec 32 := 16#32
  let c2_i32 : BitVec 32 := 2#32
  let c0_i32_0 : BitVec 32 := 0#32
  let c0_i32_1 : BitVec 32 := 0#32
  let c0_i32_2 : BitVec 32 := 0#32
  ![c0_i32.toNat, c16_i32.toNat, c2_i32.toNat, c0_i32_0.toNat, c0_i32_1.toNat]

def cc0_transform_2 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_3 (i : grid0.Coords) : Fin 5 → Nat :=
  let arg0 : BitVec 32 := BitVec.ofNat 32 (i 0).val
  let c0_i32 : BitVec 32 := 0#32
  let c16_i32 : BitVec 32 := 16#32
  let c3_i32 : BitVec 32 := 3#32
  let c0_i32_0 : BitVec 32 := 0#32
  let c0_i32_1 : BitVec 32 := 0#32
  let c0_i32_2 : BitVec 32 := 0#32
  ![c0_i32.toNat, c16_i32.toNat, c3_i32.toNat, c0_i32_0.toNat, c0_i32_1.toNat]

def cc0_transform_4 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32_5 : BitVec 32 := 3#32
  let c0_i32_6 : BitVec 32 := 0#32
  let c0_i32_7 : BitVec 32 := 0#32
  let c0_i32_8 : BitVec 32 := 0#32
  ![c0_i32_4.toNat, v16.toNat, c3_i32_5.toNat, c0_i32_6.toNat, c0_i32_7.toNat]

def cc0_transform_5 (i : grid0.Coords) : Fin 5 → Nat :=
  let arg0 : BitVec 32 := BitVec.ofNat 32 (i 0).val
  let c0_i32 : BitVec 32 := 0#32
  let c16_i32 : BitVec 32 := 16#32
  let c4_i32 : BitVec 32 := 4#32
  let c0_i32_0 : BitVec 32 := 0#32
  let c0_i32_1 : BitVec 32 := 0#32
  let c0_i32_2 : BitVec 32 := 0#32
  ![c0_i32.toNat, c16_i32.toNat, c4_i32.toNat, c0_i32_0.toNat, c0_i32_1.toNat]

def cc0_transform_6 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  let c0_i32_6 : BitVec 32 := 0#32
  let c0_i32_7 : BitVec 32 := 0#32
  ![c0_i32_4.toNat, v16.toNat, c4_i32.toNat, c0_i32_5.toNat, c0_i32_6.toNat]

def cc0_transform_7 (i : grid0.Coords) : Fin 5 → Nat :=
  let arg0 : BitVec 32 := BitVec.ofNat 32 (i 0).val
  let c0_i32 : BitVec 32 := 0#32
  let c16_i32 : BitVec 32 := 16#32
  let c5_i32 : BitVec 32 := 5#32
  let c0_i32_0 : BitVec 32 := 0#32
  let c0_i32_1 : BitVec 32 := 0#32
  let c0_i32_2 : BitVec 32 := 0#32
  ![c0_i32.toNat, c16_i32.toNat, c5_i32.toNat, c0_i32_0.toNat, c0_i32_1.toNat]

def cc0_transform_8 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, v16.toNat, c5_i32.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S768x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlpRefIdeal.lean ====
abbrev S36864x1024 : Shape := ⟨2, ![36864, 1024]⟩
abbrev S4x24x6x1x1024 : Shape := ⟨5, ![4, 24, 6, 1, 1024]⟩
abbrev S36864x512 : Shape := ⟨2, ![36864, 512]⟩
abbrev S1024x1024 : Shape := ⟨2, ![1024, 1024]⟩
abbrev S1024x4096 : Shape := ⟨2, ![1024, 4096]⟩
abbrev S4096x1024 : Shape := ⟨2, ![4096, 1024]⟩
abbrev S1x16x1x1x1024 : Shape := ⟨5, ![1, 16, 1, 1, 1024]⟩
abbrev S16x1x1024 : Shape := ⟨3, ![16, 1, 1024]⟩
abbrev S1x1x1x1x1024 : Shape := ⟨5, ![1, 1, 1, 1, 1024]⟩
abbrev S1x1024 : Shape := ⟨2, ![1, 1024]⟩
abbrev S16x256x1024 : Shape := ⟨3, ![16, 256, 1024]⟩
abbrev S16x2048x1024 : Shape := ⟨3, ![16, 2048, 1024]⟩
abbrev S16x2304x1024 : Shape := ⟨3, ![16, 2304, 1024]⟩
abbrev S_ : Shape := ⟨0, ![]⟩
abbrev S16x2304 : Shape := ⟨2, ![16, 2304]⟩
abbrev S16x2304x1 : Shape := ⟨3, ![16, 2304, 1]⟩
abbrev S16x2304x4096 : Shape := ⟨3, ![16, 2304, 4096]⟩

abbrev nBuf : Space → Nat
  | .hbm => 69
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S36864x512, .bf16⟩
  | .hbm, ⟨3, _⟩ => ⟨S36864x512, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1x16x1x1x1024, .f32⟩
  | .hbm, ⟨8, _⟩ => ⟨S16x1x1024, .f32⟩
  | .hbm, ⟨9, _⟩ => ⟨S1x1x1x1x1024, .f32⟩
  | .hbm, ⟨10, _⟩ => ⟨S1x1024, .f32⟩
  | .hbm, ⟨11, _⟩ => ⟨S16x256x1024, .f32⟩
  | .hbm, ⟨12, _⟩ => ⟨S16x2048x1024, .f32⟩
  | .hbm, ⟨13, _⟩ => ⟨S16x2304x1024, .f32⟩
  | .hbm, ⟨14, _⟩ => ⟨S1x16x1x1x1024, .f32⟩
  | .hbm, ⟨15, _⟩ => ⟨S16x1x1024, .f32⟩
  | .hbm, ⟨16, _⟩ => ⟨S1x1x1x1x1024, .f32⟩
  | .hbm, ⟨17, _⟩ => ⟨S1x1024, .f32⟩
  | .hbm, ⟨18, _⟩ => ⟨S16x256x1024, .f32⟩
  | .hbm, ⟨19, _⟩ => ⟨S16x2048x1024, .f32⟩
  | .hbm, ⟨20, _⟩ => ⟨S16x2304x1024, .f32⟩
  | .hbm, ⟨21, _⟩ => ⟨S1x16x1x1x1024, .f32⟩
  | .hbm, ⟨22, _⟩ => ⟨S16x1x1024, .f32⟩
  | .hbm, ⟨23, _⟩ => ⟨S1x1x1x1x1024, .f32⟩
  | .hbm, ⟨24, _⟩ => ⟨S1x1024, .f32⟩
  | .hbm, ⟨25, _⟩ => ⟨S16x256x1024, .f32⟩
  | .hbm, ⟨26, _⟩ => ⟨S16x2048x1024, .f32⟩
  | .hbm, ⟨27, _⟩ => ⟨S16x2304x1024, .f32⟩
  | .hbm, ⟨28, _⟩ => ⟨S1x16x1x1x1024, .f32⟩
  | .hbm, ⟨29, _⟩ => ⟨S16x1x1024, .f32⟩
  | .hbm, ⟨30, _⟩ => ⟨S1x1x1x1x1024, .f32⟩
  | .hbm, ⟨31, _⟩ => ⟨S1x1024, .f32⟩
  | .hbm, ⟨32, _⟩ => ⟨S16x256x1024, .f32⟩
  | .hbm, ⟨33, _⟩ => ⟨S16x2048x1024, .f32⟩
  | .hbm, ⟨34, _⟩ => ⟨S16x2304x1024, .f32⟩
  | .hbm, ⟨35, _⟩ => ⟨S16x2304x1024, .f32⟩
  | .hbm, ⟨36, _⟩ => ⟨S36864x512, .f32⟩
  | .hbm, ⟨37, _⟩ => ⟨S36864x1024, .f32⟩
  | .hbm, ⟨38, _⟩ => ⟨S16x2304x1024, .f32⟩
  | .hbm, ⟨39, _⟩ => ⟨S16x2304x1024, .f32⟩
  | .hbm, ⟨40, _⟩ => ⟨S16x2304x1024, .f32⟩
  | .hbm, ⟨41, _⟩ => ⟨S16x2304x1024, .f32⟩
  | .hbm, ⟨42, _⟩ => ⟨S16x2304x1024, .f32⟩
  | .hbm, ⟨43, _⟩ => ⟨S_, .f32⟩
  | .hbm, ⟨44, _⟩ => ⟨S16x2304, .f32⟩
  | .hbm, ⟨45, _⟩ => ⟨S16x2304x1, .f32⟩
  | .hbm, ⟨46, _⟩ => ⟨S_, .f32⟩
  | .hbm, ⟨47, _⟩ => ⟨S16x2304x1, .f32⟩
  | .hbm, ⟨48, _⟩ => ⟨S16x2304x1, .f32⟩
  | .hbm, ⟨49, _⟩ => ⟨S_, .f32⟩
  | .hbm, ⟨50, _⟩ => ⟨S16x2304x1, .f32⟩
  | .hbm, ⟨51, _⟩ => ⟨S16x2304x1, .f32⟩
  | .hbm, ⟨52, _⟩ => ⟨S16x2304x1, .f32⟩
  | .hbm, ⟨53, _⟩ => ⟨S16x2304x1024, .f32⟩
  | .hbm, ⟨54, _⟩ => ⟨S16x2304x1024, .f32⟩
  | .hbm, ⟨55, _⟩ => ⟨S_, .f32⟩
  | .hbm, ⟨56, _⟩ => ⟨S16x2304x1024, .f32⟩
  | .hbm, ⟨57, _⟩ => ⟨S16x2304x1024, .f32⟩
  | .hbm, ⟨58, _⟩ => ⟨S16x2304x1024, .f32⟩
  | .hbm, ⟨59, _⟩ => ⟨S16x2304x1024, .f32⟩
  | .hbm, ⟨60, _⟩ => ⟨S16x2304x4096, .f32⟩
  | .hbm, ⟨61, _⟩ => ⟨S_, .f32⟩
  | .hbm, ⟨62, _⟩ => ⟨S16x2304x4096, .f32⟩
  | .hbm, ⟨63, _⟩ => ⟨S16x2304x4096, .f32⟩
  | .hbm, ⟨64, _⟩ => ⟨S16x2304x4096, .f32⟩
  | .hbm, ⟨65, _⟩ => ⟨S16x2304x1024, .f32⟩
  | .hbm, ⟨66, _⟩ => ⟨S16x2304x1024, .f32⟩
  | .hbm, ⟨67, _⟩ => ⟨S16x2304x1024, .f32⟩
  | .hbm, ⟨68, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_2 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Odd.lean ====
abbrev S36864x1024 : Shape := ⟨2, ![36864, 1024]⟩
abbrev S4x24x6x1x1024 : Shape := ⟨5, ![4, 24, 6, 1, 1024]⟩
abbrev S1024x1024 : Shape := ⟨2, ![1024, 1024]⟩
abbrev S1024x4096 : Shape := ⟨2, ![1024, 4096]⟩
abbrev S4096x1024 : Shape := ⟨2, ![4096, 1024]⟩
abbrev S768x1024 : Shape := ⟨2, ![768, 1024]⟩
abbrev S1x1x1x1x1024 : Shape := ⟨5, ![1, 1, 1, 1, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 21
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S36864x1024, .bf16⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S36864x1024, .f32⟩
  | .local _ .vmem, ⟨0, _⟩ => ⟨S768x1024, .f32⟩
  | .local _ .vmem, ⟨1, _⟩ => ⟨S768x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S768x1024, .bf16⟩
  | .local _ .vmem, ⟨15, _⟩ => ⟨S768x1024, .bf16⟩
  | .local _ .vmem, ⟨16, _⟩ => ⟨S1024x1024, .bf16⟩
  | .local _ .vmem, ⟨17, _⟩ => ⟨S1024x4096, .bf16⟩
  | .local _ .vmem, ⟨18, _⟩ => ⟨S4096x1024, .bf16⟩
  | .local _ .vmem, ⟨19, _⟩ => ⟨S768x1024, .f32⟩
  | .local _ .vmem, ⟨20, _⟩ => ⟨S768x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1_i32 : BitVec 32 := 1#32
  let c16_i32 : BitVec 32 := 16#32
  let c2_i32 : BitVec 32 := 2#32
  let c0_i32 : BitVec 32 := 0#32
  let c0_i32_0 : BitVec 32 := 0#32
  let c0_i32_1 : BitVec 32 := 0#32
  ![c1_i32.toNat, c16_i32.toNat, c2_i32.toNat, c0_i32.toNat, c0_i32_0.toNat]

def cc0_transform_2 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c2_i32 : BitVec 32 := 2#32
  let c0_i32_5 : BitVec 32 := 0#32
  let c0_i32_6 : BitVec 32 := 0#32
  let c0_i32_7 : BitVec 32 := 0#32
  ![c1_i32_4.toNat, v16.toNat, c2_i32.toNat, c0_i32_5.toNat, c0_i32_6.toNat]

def cc0_transform_3 (i : grid0.Coords) : Fin 5 → Nat :=
  let arg0 : BitVec 32 := BitVec.ofNat 32 (i 0).val
  let c1_i32 : BitVec 32 := 1#32
  let c16_i32 : BitVec 32 := 16#32
  let c3_i32 : BitVec 32 := 3#32
  let c0_i32 : BitVec 32 := 0#32
  let c0_i32_0 : BitVec 32 := 0#32
  let c0_i32_1 : BitVec 32 := 0#32
  ![c1_i32.toNat, c16_i32.toNat, c3_i32.toNat, c0_i32.toNat, c0_i32_0.toNat]

def cc0_transform_4 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c3_i32_5 : BitVec 32 := 3#32
  let c0_i32_6 : BitVec 32 := 0#32
  let c0_i32_7 : BitVec 32 := 0#32
  let c0_i32_8 : BitVec 32 := 0#32
  ![c1_i32_4.toNat, v16.toNat, c3_i32_5.toNat, c0_i32_6.toNat, c0_i32_7.toNat]

def cc0_transform_5 (i : grid0.Coords) : Fin 5 → Nat :=
  let arg0 : BitVec 32 := BitVec.ofNat 32 (i 0).val
  let c1_i32 : BitVec 32 := 1#32
  let c16_i32 : BitVec 32 := 16#32
  let c4_i32 : BitVec 32 := 4#32
  let c0_i32 : BitVec 32 := 0#32
  let c0_i32_0 : BitVec 32 := 0#32
  let c0_i32_1 : BitVec 32 := 0#32
  ![c1_i32.toNat, c16_i32.toNat, c4_i32.toNat, c0_i32.toNat, c0_i32_0.toNat]

def cc0_transform_6 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c4_i32 : BitVec 32 := 4#32
  let c0_i32_5 : BitVec 32 := 0#32
  let c0_i32_6 : BitVec 32 := 0#32
  let c0_i32_7 : BitVec 32 := 0#32
  ![c1_i32_4.toNat, v16.toNat, c4_i32.toNat, c0_i32_5.toNat, c0_i32_6.toNat]

def cc0_transform_7 (i : grid0.Coords) : Fin 5 → Nat :=
  let arg0 : BitVec 32 := BitVec.ofNat 32 (i 0).val
  let c1_i32 : BitVec 32 := 1#32
  let c16_i32 : BitVec 32 := 16#32
  let c5_i32 : BitVec 32 := 5#32
  let c0_i32 : BitVec 32 := 0#32
  let c0_i32_0 : BitVec 32 := 0#32
  let c0_i32_1 : BitVec 32 := 0#32
  ![c1_i32.toNat, c16_i32.toNat, c5_i32.toNat, c0_i32.toNat, c0_i32_0.toNat]

def cc0_transform_8 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c5_i32 : BitVec 32 := 5#32
  let c0_i32_5 : BitVec 32 := 0#32
  let c0_i32_6 : BitVec 32 := 0#32
  let c0_i32_7 : BitVec 32 := 0#32
  ![c1_i32_4.toNat, v16.toNat, c5_i32.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S768x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OddRefIdeal.lean ====
abbrev S36864x1024 : Shape := ⟨2, ![36864, 1024]⟩
abbrev S4x24x6x1x1024 : Shape := ⟨5, ![4, 24, 6, 1, 1024]⟩
abbrev S1024x1024 : Shape := ⟨2, ![1024, 1024]⟩
abbrev S1024x4096 : Shape := ⟨2, ![1024, 4096]⟩
abbrev S4096x1024 : Shape := ⟨2, ![4096, 1024]⟩
abbrev S1x16x1x1x1024 : Shape := ⟨5, ![1, 16, 1, 1, 1024]⟩
abbrev S16x1x1024 : Shape := ⟨3, ![16, 1, 1024]⟩
abbrev S1x1x1x1x1024 : Shape := ⟨5, ![1, 1, 1, 1, 1024]⟩
abbrev S1x1024 : Shape := ⟨2, ![1, 1024]⟩
abbrev S16x256x1024 : Shape := ⟨3, ![16, 256, 1024]⟩
abbrev S16x2048x1024 : Shape := ⟨3, ![16, 2048, 1024]⟩
abbrev S16x2304x1024 : Shape := ⟨3, ![16, 2304, 1024]⟩
abbrev S_ : Shape := ⟨0, ![]⟩
abbrev S16x2304 : Shape := ⟨2, ![16, 2304]⟩
abbrev S16x2304x1 : Shape := ⟨3, ![16, 2304, 1]⟩
abbrev S16x2304x4096 : Shape := ⟨3, ![16, 2304, 4096]⟩

abbrev nBuf : Space → Nat
  | .hbm => 67
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S36864x1024, .bf16⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1x16x1x1x1024, .f32⟩
  | .hbm, ⟨7, _⟩ => ⟨S16x1x1024, .f32⟩
  | .hbm, ⟨8, _⟩ => ⟨S1x1x1x1x1024, .f32⟩
  | .hbm, ⟨9, _⟩ => ⟨S1x1024, .f32⟩
  | .hbm, ⟨10, _⟩ => ⟨S16x256x1024, .f32⟩
  | .hbm, ⟨11, _⟩ => ⟨S16x2048x1024, .f32⟩
  | .hbm, ⟨12, _⟩ => ⟨S16x2304x1024, .f32⟩
  | .hbm, ⟨13, _⟩ => ⟨S1x16x1x1x1024, .f32⟩
  | .hbm, ⟨14, _⟩ => ⟨S16x1x1024, .f32⟩
  | .hbm, ⟨15, _⟩ => ⟨S1x1x1x1x1024, .f32⟩
  | .hbm, ⟨16, _⟩ => ⟨S1x1024, .f32⟩
  | .hbm, ⟨17, _⟩ => ⟨S16x256x1024, .f32⟩
  | .hbm, ⟨18, _⟩ => ⟨S16x2048x1024, .f32⟩
  | .hbm, ⟨19, _⟩ => ⟨S16x2304x1024, .f32⟩
  | .hbm, ⟨20, _⟩ => ⟨S1x16x1x1x1024, .f32⟩
  | .hbm, ⟨21, _⟩ => ⟨S16x1x1024, .f32⟩
  | .hbm, ⟨22, _⟩ => ⟨S1x1x1x1x1024, .f32⟩
  | .hbm, ⟨23, _⟩ => ⟨S1x1024, .f32⟩
  | .hbm, ⟨24, _⟩ => ⟨S16x256x1024, .f32⟩
  | .hbm, ⟨25, _⟩ => ⟨S16x2048x1024, .f32⟩
  | .hbm, ⟨26, _⟩ => ⟨S16x2304x1024, .f32⟩
  | .hbm, ⟨27, _⟩ => ⟨S1x16x1x1x1024, .f32⟩
  | .hbm, ⟨28, _⟩ => ⟨S16x1x1024, .f32⟩
  | .hbm, ⟨29, _⟩ => ⟨S1x1x1x1x1024, .f32⟩
  | .hbm, ⟨30, _⟩ => ⟨S1x1024, .f32⟩
  | .hbm, ⟨31, _⟩ => ⟨S16x256x1024, .f32⟩
  | .hbm, ⟨32, _⟩ => ⟨S16x2048x1024, .f32⟩
  | .hbm, ⟨33, _⟩ => ⟨S16x2304x1024, .f32⟩
  | .hbm, ⟨34, _⟩ => ⟨S16x2304x1024, .f32⟩
  | .hbm, ⟨35, _⟩ => ⟨S36864x1024, .f32⟩
  | .hbm, ⟨36, _⟩ => ⟨S16x2304x1024, .f32⟩
  | .hbm, ⟨37, _⟩ => ⟨S16x2304x1024, .f32⟩
  | .hbm, ⟨38, _⟩ => ⟨S16x2304x1024, .f32⟩
  | .hbm, ⟨39, _⟩ => ⟨S16x2304x1024, .f32⟩
  | .hbm, ⟨40, _⟩ => ⟨S16x2304x1024, .f32⟩
  | .hbm, ⟨41, _⟩ => ⟨S_, .f32⟩
  | .hbm, ⟨42, _⟩ => ⟨S16x2304, .f32⟩
  | .hbm, ⟨43, _⟩ => ⟨S16x2304x1, .f32⟩
  | .hbm, ⟨44, _⟩ => ⟨S_, .f32⟩
  | .hbm, ⟨45, _⟩ => ⟨S16x2304x1, .f32⟩
  | .hbm, ⟨46, _⟩ => ⟨S16x2304x1, .f32⟩
  | .hbm, ⟨47, _⟩ => ⟨S_, .f32⟩
  | .hbm, ⟨48, _⟩ => ⟨S16x2304x1, .f32⟩
  | .hbm, ⟨49, _⟩ => ⟨S16x2304x1, .f32⟩
  | .hbm, ⟨50, _⟩ => ⟨S16x2304x1, .f32⟩
  | .hbm, ⟨51, _⟩ => ⟨S16x2304x1024, .f32⟩
  | .hbm, ⟨52, _⟩ => ⟨S16x2304x1024, .f32⟩
  | .hbm, ⟨53, _⟩ => ⟨S_, .f32⟩
  | .hbm, ⟨54, _⟩ => ⟨S16x2304x1024, .f32⟩
  | .hbm, ⟨55, _⟩ => ⟨S16x2304x1024, .f32⟩
  | .hbm, ⟨56, _⟩ => ⟨S16x2304x1024, .f32⟩
  | .hbm, ⟨57, _⟩ => ⟨S16x2304x1024, .f32⟩
  | .hbm, ⟨58, _⟩ => ⟨S16x2304x4096, .f32⟩
  | .hbm, ⟨59, _⟩ => ⟨S_, .f32⟩
  | .hbm, ⟨60, _⟩ => ⟨S16x2304x4096, .f32⟩
  | .hbm, ⟨61, _⟩ => ⟨S16x2304x4096, .f32⟩
  | .hbm, ⟨62, _⟩ => ⟨S16x2304x4096, .f32⟩
  | .hbm, ⟨63, _⟩ => ⟨S16x2304x1024, .f32⟩
  | .hbm, ⟨64, _⟩ => ⟨S16x2304x1024, .f32⟩
  | .hbm, ⟨65, _⟩ => ⟨S16x2304x1024, .f32⟩
  | .hbm, ⟨66, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst : Ref sig .tc := ⟨.hbm, 41, rfl⟩
abbrev main_v35 : Ref sig .tc := ⟨.hbm, 42, rfl⟩
abbrev main_v36 : Ref sig .tc := ⟨.hbm, 43, rfl⟩
abbrev main_cst_0 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Last.lean ====
abbrev S36864x1024 : Shape := ⟨2, ![36864, 1024]⟩
abbrev S4x24x6x1x1024 : Shape := ⟨5, ![4, 24, 6, 1, 1024]⟩
abbrev S1024x1024 : Shape := ⟨2, ![1024, 1024]⟩
abbrev S1024x4096 : Shape := ⟨2, ![1024, 4096]⟩
abbrev S4096x1024 : Shape := ⟨2, ![4096, 1024]⟩
abbrev S32768x1024 : Shape := ⟨2, ![32768, 1024]⟩
abbrev S256x1024 : Shape := ⟨2, ![256, 1024]⟩
abbrev S1x1x1x1x1024 : Shape := ⟨5, ![1, 1, 1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 21
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S36864x1024, .bf16⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1024x4096, .bf16⟩
  | .local _ .vmem, ⟨18, _⟩ => ⟨S4096x1024, .bf16⟩
  | .local _ .vmem, ⟨19, _⟩ => ⟨S256x1024, .f32⟩
  | .local _ .vmem, ⟨20, _⟩ => ⟨S256x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![144], ![false]⟩

def k0_cond1 (i : grid0.Coords) : BitVec 1 :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .ne v9 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c3_i32 : BitVec 32 := 3#32
  let c16_i32 : BitVec 32 := 16#32
  let c2_i32 : BitVec 32 := 2#32
  let c0_i32 : BitVec 32 := 0#32
  let c0_i32_0 : BitVec 32 := 0#32
  let c0_i32_1 : BitVec 32 := 0#32
  ![c3_i32.toNat, c16_i32.toNat, c2_i32.toNat, c0_i32.toNat, c0_i32_0.toNat]

def cc0_transform_2 (i : grid0.Coords) : Fin 5 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c2_i32 : BitVec 32 := 2#32
  let c0_i32_4 : BitVec 32 := 0#32
  let c0_i32_5 : BitVec 32 := 0#32
  let c0_i32_6 : BitVec 32 := 0#32
  ![c3_i32.toNat, v16.toNat, c2_i32.toNat, c0_i32_4.toNat, c0_i32_5.toNat]

def cc0_transform_3 (i : grid0.Coords) : Fin 5 → Nat :=
  let arg0 : BitVec 32 := BitVec.ofNat 32 (i 0).val
  let c3_i32 : BitVec 32 := 3#32
  let c16_i32 : BitVec 32 := 16#32
  let c3_i32_0 : BitVec 32 := 3#32
  let c0_i32 : BitVec 32 := 0#32
  let c0_i32_1 : BitVec 32 := 0#32
  let c0_i32_2 : BitVec 32 := 0#32
  ![c3_i32.toNat, c16_i32.toNat, c3_i32_0.toNat, c0_i32.toNat, c0_i32_1.toNat]

def cc0_transform_4 (i : grid0.Coords) : Fin 5 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c3_i32_4 : BitVec 32 := 3#32
  let c0_i32_5 : BitVec 32 := 0#32
  let c0_i32_6 : BitVec 32 := 0#32
  let c0_i32_7 : BitVec 32 := 0#32
  ![c3_i32.toNat, v16.toNat, c3_i32_4.toNat, c0_i32_5.toNat, c0_i32_6.toNat]

def cc0_transform_5 (i : grid0.Coords) : Fin 5 → Nat :=
  let arg0 : BitVec 32 := BitVec.ofNat 32 (i 0).val
  let c3_i32 : BitVec 32 := 3#32
  let c16_i32 : BitVec 32 := 16#32
  let c4_i32 : BitVec 32 := 4#32
  let c0_i32 : BitVec 32 := 0#32
  let c0_i32_0 : BitVec 32 := 0#32
  let c0_i32_1 : BitVec 32 := 0#32
  ![c3_i32.toNat, c16_i32.toNat, c4_i32.toNat, c0_i32.toNat, c0_i32_0.toNat]

def cc0_transform_6 (i : grid0.Coords) : Fin 5 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c4_i32 : BitVec 32 := 4#32
  let c0_i32_4 : BitVec 32 := 0#32
  let c0_i32_5 : BitVec 32 := 0#32
  let c0_i32_6 : BitVec 32 := 0#32
  ![c3_i32.toNat, v16.toNat, c4_i32.toNat, c0_i32_4.toNat, c0_i32_5.toNat]

def cc0_transform_7 (i : grid0.Coords) : Fin 5 → Nat :=
  let arg0 : BitVec 32 := BitVec.ofNat 32 (i 0).val
  let c3_i32 : BitVec 32 := 3#32
  let c16_i32 : BitVec 32 := 16#32
  let c5_i32 : BitVec 32 := 5#32
  let c0_i32 : BitVec 32 := 0#32
  let c0_i32_0 : BitVec 32 := 0#32
  let c0_i32_1 : BitVec 32 := 0#32
  ![c3_i32.toNat, c16_i32.toNat, c5_i32.toNat, c0_i32.toNat, c0_i32_0.toNat]

def cc0_transform_8 (i : grid0.Coords) : Fin 5 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c5_i32 : BitVec 32 := 5#32
  let c0_i32_4 : BitVec 32 := 0#32
  let c0_i32_5 : BitVec 32 := 0#32
  let c0_i32_6 : BitVec 32 := 0#32
  ![c3_i32.toNat, v16.toNat, c5_i32.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.subi arg0 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c0_i32_11 : BitVec 32 := 0#32
  let c1_i32_12 : BitVec 32 := 1#32
  let v29 : BitVec 32 := Scalar.select v28 c0_i32_11 c1_i32_12
  let v30 : BitVec 32 := Scalar.subi v17 v29
  let c0_i32_13 : BitVec 32 := 0#32
  let c0_i32_14 : BitVec 32 := 0#32
  ![v30.toNat, c0_i32_13.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LastRefIdeal.lean ====
abbrev S36864x1024 : Shape := ⟨2, ![36864, 1024]⟩
abbrev S4x24x6x1x1024 : Shape := ⟨5, ![4, 24, 6, 1, 1024]⟩
abbrev S1024x1024 : Shape := ⟨2, ![1024, 1024]⟩
abbrev S1024x4096 : Shape := ⟨2, ![1024, 4096]⟩
abbrev S4096x1024 : Shape := ⟨2, ![4096, 1024]⟩
abbrev S1x16x1x1x1024 : Shape := ⟨5, ![1, 16, 1, 1, 1024]⟩
abbrev S16x1x1024 : Shape := ⟨3, ![16, 1, 1024]⟩
abbrev S16x2304x1024 : Shape := ⟨3, ![16, 2304, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S16x2048x4096 : Shape := ⟨3, ![16, 2048, 4096]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S36864x1024, .bf16⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1x16x1x1x1024, .f32⟩
  | .hbm, ⟨7, _⟩ => ⟨S16x1x1024, .f32⟩
  | .hbm, ⟨8, _⟩ => ⟨S1x16x1x1x1024, .f32⟩
  | .hbm, ⟨9, _⟩ => ⟨S16x1x1024, .f32⟩
  | .hbm, ⟨10, _⟩ => ⟨S1x16x1x1x1024, .f32⟩
  | .hbm, ⟨11, _⟩ => ⟨S16x1x1024, .f32⟩
  | .hbm, ⟨12, _⟩ => ⟨S1x16x1x1x1024, .f32⟩
  | .hbm, ⟨13, _⟩ => ⟨S16x1x1024, .f32⟩
  | .hbm, ⟨14, _⟩ => ⟨S16x2304x1024, .f32⟩
  | .hbm, ⟨15, _⟩ => ⟨S16x2048x1024, .f32⟩
  | .hbm, ⟨16, _⟩ => ⟨S36864x1024, .f32⟩
  | .hbm, ⟨17, _⟩ => ⟨S16x2304x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x4096, .f32⟩
  | .hbm, ⟨44, _⟩ => ⟨S_, .f32⟩
  | .hbm, ⟨45, _⟩ => ⟨S16x2048x4096, .f32⟩
  | .hbm, ⟨46, _⟩ => ⟨S16x2048x4096, .f32⟩
  | .hbm, ⟨47, _⟩ => ⟨S16x2048x4096, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S32768x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Qkv.lean ====
abbrev S36864x1024 : Shape := ⟨2, ![36864, 1024]⟩
abbrev S4x24x6x1x1024 : Shape := ⟨5, ![4, 24, 6, 1, 1024]⟩
abbrev S1024x3072 : Shape := ⟨2, ![1024, 3072]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S768x1024 : Shape := ⟨2, ![768, 1024]⟩
abbrev S1x1x1x1x1024 : Shape := ⟨5, ![1, 1, 1, 1, 1024]⟩
abbrev S256x128 : Shape := ⟨2, ![256, 128]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 17
  | .vmem => 17
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x3072, .bf16⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S36864x1024, .bf16⟩
  | .hbm, ⟨15, _⟩ => ⟨S36864x1024, .bf16⟩
  | .hbm, ⟨16, _⟩ => ⟨S36864x1024, .bf16⟩
  | .local _ .vmem, ⟨0, _⟩ => ⟨S768x1024, .f32⟩
  | .local _ .vmem, ⟨1, _⟩ => ⟨S768x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1024x3072, .bf16⟩
  | .local _ .vmem, ⟨9, _⟩ => ⟨S1x128, .f32⟩
  | .local _ .vmem, ⟨10, _⟩ => ⟨S1x128, .f32⟩
  | .local _ .vmem, ⟨11, _⟩ => ⟨S768x1024, .bf16⟩
  | .local _ .vmem, ⟨12, _⟩ => ⟨S768x1024, .bf16⟩
  | .local _ .vmem, ⟨13, _⟩ => ⟨S768x1024, .bf16⟩
  | .local _ .vmem, ⟨14, _⟩ => ⟨S768x1024, .bf16⟩
  | .local _ .vmem, ⟨15, _⟩ => ⟨S768x1024, .bf16⟩
  | .local _ .vmem, ⟨16, _⟩ => ⟨S768x1024, .bf16⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c1_i32 : BitVec 32 := 1#32
  let c16_i32 : BitVec 32 := 16#32
  let c0_i32 : BitVec 32 := 0#32
  let c0_i32_0 : BitVec 32 := 0#32
  let c0_i32_1 : BitVec 32 := 0#32
  let c0_i32_2 : BitVec 32 := 0#32
  ![c1_i32.toNat, c16_i32.toNat, c0_i32.toNat, c0_i32_0.toNat, c0_i32_1.toNat]

def cc0_transform_2 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v16.toNat, c0_i32_5.toNat, c0_i32_6.toNat, c0_i32_7.toNat]

def cc0_transform_3 (i : grid0.Coords) : Fin 5 → Nat :=
  let arg0 : BitVec 32 := BitVec.ofNat 32 (i 0).val
  let c1_i32 : BitVec 32 := 1#32
  let c16_i32 : BitVec 32 := 16#32
  let c1_i32_0 : BitVec 32 := 1#32
  let c0_i32 : BitVec 32 := 0#32
  let c0_i32_1 : BitVec 32 := 0#32
  let c0_i32_2 : BitVec 32 := 0#32
  ![c1_i32.toNat, c16_i32.toNat, c1_i32_0.toNat, c0_i32.toNat, c0_i32_1.toNat]

def cc0_transform_4 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S36864x1024 : Shape := ⟨2, ![36864, 1024]⟩
abbrev S4x24x6x1x1024 : Shape := ⟨5, ![4, 24, 6, 1, 1024]⟩
abbrev S1024x3072 : Shape := ⟨2, ![1024, 3072]⟩
abbrev S64 : Shape := ⟨1, ![64]⟩
abbrev S16x2304x1024 : Shape := ⟨3, ![16, 2304, 1024]⟩
abbrev S_ : Shape := ⟨0, ![]⟩
abbrev S16x2304 : Shape := ⟨2, ![16, 2304]⟩
abbrev S16x2304x1 : Shape := ⟨3, ![16, 2304, 1]⟩
abbrev S1x1x1x1x1024 : Shape := ⟨5, ![1, 1, 1, 1, 1024]⟩
abbrev S1x1024 : Shape := ⟨2, ![1, 1024]⟩
abbrev S16x256x1024 : Shape := ⟨3, ![16, 256, 1024]⟩
abbrev S1x16x1x1x1024 : Shape := ⟨5, ![1, 16, 1, 1, 1024]⟩
abbrev S16x1x1024 : Shape := ⟨3, ![16, 1, 1024]⟩
abbrev S16x2048x1024 : Shape := ⟨3, ![16, 2048, 1024]⟩
abbrev S16x2304x3072 : Shape := ⟨3, ![16, 2304, 3072]⟩
abbrev S16x2304x3x16x64 : Shape := ⟨5, ![16, 2304, 3, 16, 64]⟩
abbrev S16x2304x1x16x64 : Shape := ⟨5, ![16, 2304, 1, 16, 64]⟩
abbrev S16x2304x16x64 : Shape := ⟨4, ![16, 2304, 16, 64]⟩
abbrev S16x2304x16 : Shape := ⟨3, ![16, 2304, 16]⟩
abbrev S16x2304x16x1 : Shape := ⟨4, ![16, 2304, 16, 1]⟩
abbrev S1x1x1x64 : Shape := ⟨4, ![1, 1, 1, 64]⟩

abbrev nBuf : Space → Nat
  | .hbm => 87
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16x2304x1024, .f32⟩
  | .hbm, ⟨6, _⟩ => ⟨S16x2304x1024, .f32⟩
  | .hbm, ⟨7, _⟩ => ⟨S_, .f32⟩
  | .hbm, ⟨8, _⟩ => ⟨S16x2304, .f32⟩
  | .hbm, ⟨9, _⟩ => ⟨S16x2304x1, .f32⟩
  | .hbm, ⟨10, _⟩ => ⟨S_, .f32⟩
  | .hbm, ⟨11, _⟩ => ⟨S16x2304x1, .f32⟩
  | .hbm, ⟨12, _⟩ => ⟨S16x2304x1, .f32⟩
  | .hbm, ⟨13, _⟩ => ⟨S_, .f32⟩
  | .hbm, ⟨14, _⟩ => ⟨S16x2304x1, .f32⟩
  | .hbm, ⟨15, _⟩ => ⟨S16x2304x1, .f32⟩
  | .hbm, ⟨16, _⟩ => ⟨S16x2304x1, .f32⟩
  | .hbm, ⟨17, _⟩ => ⟨S16x2304x1024, .f32⟩
  | .hbm, ⟨18, _⟩ => ⟨S16x2304x1024, .f32⟩
  | .hbm, ⟨19, _⟩ => ⟨S1x1x1x1x1024, .f32⟩
  | .hbm, ⟨20, _⟩ => ⟨S1x1024, .f32⟩
  | .hbm, ⟨21, _⟩ => ⟨S16x256x1024, .f32⟩
  | .hbm, ⟨22, _⟩ => ⟨S1x16x1x1x1024, .f32⟩
  | .hbm, ⟨23, _⟩ => ⟨S16x1x1024, .f32⟩
  | .hbm, ⟨24, _⟩ => ⟨S16x2048x1024, .f32⟩
  | .hbm, ⟨25, _⟩ => ⟨S16x2304x1024, .f32⟩
  | .hbm, ⟨26, _⟩ => ⟨S_, .f32⟩
  | .hbm, ⟨27, _⟩ => ⟨S16x2304x1024, .f32⟩
  | .hbm, ⟨28, _⟩ => ⟨S16x2304x1024, .f32⟩
  | .hbm, ⟨29, _⟩ => ⟨S16x2304x1024, .f32⟩
  | .hbm, ⟨30, _⟩ => ⟨S1x1x1x1x1024, .f32⟩
  | .hbm, ⟨31, _⟩ => ⟨S1x1024, .f32⟩
  | .hbm, ⟨32, _⟩ => ⟨S16x256x1024, .f32⟩
  | .hbm, ⟨33, _⟩ => ⟨S1x16x1x1x1024, .f32⟩
  | .hbm, ⟨34, _⟩ => ⟨S16x1x1024, .f32⟩
  | .hbm, ⟨35, _⟩ => ⟨S16x2048x1024, .f32⟩
  | .hbm, ⟨36, _⟩ => ⟨S16x2304x1024, .f32⟩
  | .hbm, ⟨37, _⟩ => ⟨S16x2304x1024, .f32⟩
  | .hbm, ⟨38, _⟩ => ⟨S16x2304x3072, .f32⟩
  | .hbm, ⟨39, _⟩ => ⟨S16x2304x3x16x64, .f32⟩
  | .hbm, ⟨40, _⟩ => ⟨S16x2304x1x16x64, .f32⟩
  | .hbm, ⟨41, _⟩ => ⟨S16x2304x16x64, .f32⟩
  | .hbm, ⟨42, _⟩ => ⟨S16x2304x16x64, .f32⟩
  | .hbm, ⟨43, _⟩ => ⟨S_, .f32⟩
  | .hbm, ⟨44, _⟩ => ⟨S16x2304x16, .f32⟩
  | .hbm, ⟨45, _⟩ => ⟨S16x2304x16x1, .f32⟩
  | .hbm, ⟨46, _⟩ => ⟨S_, .f32⟩
  | .hbm, ⟨47, _⟩ => ⟨S16x2304x16x1, .f32⟩
  | .hbm, ⟨48, _⟩ => ⟨S16x2304x16x1, .f32⟩
  | .hbm, ⟨49, _⟩ => ⟨S_, .f32⟩
  | .hbm, ⟨50, _⟩ => ⟨S16x2304x16x1, .f32⟩
  | .hbm, ⟨51, _⟩ => ⟨S16x2304x16x1, .f32⟩
  | .hbm, ⟨52, _⟩ => ⟨S16x2304x16x1, .f32⟩
  | .hbm, ⟨53, _⟩ => ⟨S16x2304x16x64, .f32⟩
  | .hbm, ⟨54, _⟩ => ⟨S16x2304x16x64, .f32⟩
  | .hbm, ⟨55, _⟩ => ⟨S1x1x1x64, .f32⟩
  | .hbm, ⟨56, _⟩ => ⟨S16x2304x16x64, .f32⟩
  | .hbm, ⟨57, _⟩ => ⟨S16x2304x16x64, .f32⟩
  | .hbm, ⟨58, _⟩ => ⟨S_, .f32⟩
  | .hbm, ⟨59, _⟩ => ⟨S16x2304x16x64, .f32⟩
  | .hbm, ⟨60, _⟩ => ⟨S16x2304x16x64, .f32⟩
  | .hbm, ⟨61, _⟩ => ⟨S16x2304x1x16x64, .f32⟩
  | .hbm, ⟨62, _⟩ => ⟨S16x2304x16x64, .f32⟩
  | .hbm, ⟨63, _⟩ => ⟨S16x2304x16x64, .f32⟩
  | .hbm, ⟨64, _⟩ => ⟨S_, .f32⟩
  | .hbm, ⟨65, _⟩ => ⟨S16x2304x16, .f32⟩
  | .hbm, ⟨66, _⟩ => ⟨S16x2304x16x1, .f32⟩
  | .hbm, ⟨67, _⟩ => ⟨S_, .f32⟩
  | .hbm, ⟨68, _⟩ => ⟨S16x2304x16x1, .f32⟩
  | .hbm, ⟨69, _⟩ => ⟨S16x2304x16x1, .f32⟩
  | .hbm, ⟨70, _⟩ => ⟨S_, .f32⟩
  | .hbm, ⟨71, _⟩ => ⟨S16x2304x16x1, .f32⟩
  | .hbm, ⟨72, _⟩ => ⟨S16x2304x16x1, .f32⟩
  | .hbm, ⟨73, _⟩ => ⟨S16x2304x16x1, .f32⟩
  | .hbm, ⟨74, _⟩ => ⟨S16x2304x16x64, .f32⟩
  | .hbm, ⟨75, _⟩ => ⟨S16x2304x16x64, .f32⟩
  | .hbm, ⟨76, _⟩ => ⟨S1x1x1x64, .f32⟩
  | .hbm, ⟨77, _⟩ => ⟨S16x2304x16x64, .f32⟩
  | .hbm, ⟨78, _⟩ => ⟨S16x2304x16x64, .f32⟩
  | .hbm, ⟨79, _⟩ => ⟨S16x2304x1x16x64, .f32⟩
  | .hbm, ⟨80, _⟩ => ⟨S16x2304x16x64, .f32⟩
  | .hbm, ⟨81, _⟩ => ⟨S36864x1024, .f32⟩
  | .hbm, ⟨82, _⟩ => ⟨S36864x1024, .bf16⟩
  | .hbm, ⟨83, _⟩ => ⟨S36864x1024, .f32⟩
  | .hbm, ⟨84, _⟩ => ⟨S36864x1024, .bf16⟩
  | .hbm, ⟨85, _⟩ => ⟨S36864x1024, .f32⟩
  | .hbm, ⟨86, _⟩ => ⟨S36864x1024, .bf16⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== EvenIn.lean ====
abbrev S36864x1024 : Shape := ⟨2, ![36864, 1024]⟩
abbrev S4x24x6x1x1024 : Shape := ⟨5, ![4, 24, 6, 1, 1024]⟩
abbrev S1024x3600 : Shape := ⟨2, ![1024, 3600]⟩
abbrev S16 : Shape := ⟨1, ![16]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x1536 : Shape := ⟨2, ![1024, 1536]⟩
abbrev S1024x3712 : Shape := ⟨2, ![1024, 3712]⟩
abbrev S1x16 : Shape := ⟨2, ![1, 16]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S36864x512 : Shape := ⟨2, ![36864, 512]⟩
abbrev S512x36864 : Shape := ⟨2, ![512, 36864]⟩
abbrev S128x36864 : Shape := ⟨2, ![128, 36864]⟩
abbrev S36864x1536 : Shape := ⟨2, ![36864, 1536]⟩
abbrev S768x1024 : Shape := ⟨2, ![768, 1024]⟩
abbrev S1x1x1x1x1024 : Shape := ⟨5, ![1, 1, 1, 1, 1024]⟩
abbrev S768x128 : Shape := ⟨2, ![768, 128]⟩
abbrev S768x512 : Shape := ⟨2, ![768, 512]⟩
abbrev S512x768 : Shape := ⟨2, ![512, 768]⟩
abbrev S128x768 : Shape := ⟨2, ![128, 768]⟩
abbrev S768x1536 : Shape := ⟨2, ![768, 1536]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x256 : Shape := ⟨2, ![128, 256]⟩

abbrev nBuf : Space → Nat
  | .hbm => 72
  | .vmem => 26
  | .smem => 0
  | _ => 0

abbrev bufTy : (tb : Table) → Fin (tcTables nBuf tb) → BufTy
  | .hbm, ⟨0, _⟩ => ⟨S36864x1024, .f32⟩
  | .hbm, ⟨1, _⟩ => ⟨S4x24x6x1x1024, .f32⟩
  | .hbm, ⟨2, _⟩ => ⟨S1024x3600, .f32⟩
  | .hbm, ⟨3, _⟩ => ⟨S16, .f32⟩
  | .hbm, ⟨4, _⟩ => ⟨S1024x2048, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x1536, .f32⟩
  | .hbm, ⟨10, _⟩ => ⟨S1024x3712, .f32⟩
  | .hbm, ⟨11, _⟩ => ⟨S1024x3712, .bf16⟩
  | .hbm, ⟨12, _⟩ => ⟨S1x16, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .i32⟩
  | .hbm, ⟨25, _⟩ => ⟨S32x1, .i32⟩
  | .hbm, ⟨26, _⟩ => ⟨S32x64, .i32⟩
  | .hbm, ⟨27, _⟩ => ⟨S2048, .i32⟩
  | .hbm, ⟨28, _⟩ => ⟨S64, .i32⟩
  | .hbm, ⟨29, _⟩ => ⟨S1x64, .i32⟩
  | .hbm, ⟨30, _⟩ => ⟨S32x64, .i32⟩
  | .hbm, ⟨31, _⟩ => ⟨S2048, .i32⟩
  | .hbm, ⟨32, _⟩ => ⟨S2048x1, .i32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x64, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x64, .f32⟩
  | .hbm, ⟨45, _⟩ => ⟨S2048x1, .i32⟩
  | .hbm, ⟨46, _⟩ => ⟨S2048x1, .f32⟩
  | .hbm, ⟨47, _⟩ => ⟨S1x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x64, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x64, .f32⟩
  | .hbm, ⟨58, _⟩ => ⟨S2048x128, .f32⟩
  | .hbm, ⟨59, _⟩ => ⟨S2048x128, .f32⟩
  | .hbm, ⟨60, _⟩ => ⟨S_, .f32⟩
  | .hbm, ⟨61, _⟩ => ⟨S256x128, .f32⟩
  | .hbm, ⟨62, _⟩ => ⟨S2304x128, .f32⟩
  | .hbm, ⟨63, _⟩ => ⟨S_, .f32⟩
  | .hbm, ⟨64, _⟩ => ⟨S256x128, .f32⟩
  | .hbm, ⟨65, _⟩ => ⟨S2304x128, .f32⟩
  | .hbm, ⟨66, _⟩ => ⟨S36864x512, .bf16⟩
  | .hbm, ⟨67, _⟩ => ⟨S512x36864, .bf16⟩
  | .hbm, ⟨68, _⟩ => ⟨S36864x512, .bf16⟩
  | .hbm, ⟨69, _⟩ => ⟨S36864x512, .bf16⟩
  | .hbm, ⟨70, _⟩ => ⟨S128x36864, .f32⟩
  | .hbm, ⟨71, _⟩ => ⟨S36864x1536, .f32⟩
  | .local _ .vmem, ⟨0, _⟩ => ⟨S768x1024, .f32⟩
  | .local _ .vmem, ⟨1, _⟩ => ⟨S768x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1024x3712, .bf16⟩
  | .local _ .vmem, ⟨9, _⟩ => ⟨S1x128, .f32⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x128, .f32⟩
  | .local _ .vmem, ⟨14, _⟩ => ⟨S768x512, .bf16⟩
  | .local _ .vmem, ⟨15, _⟩ => ⟨S768x512, .bf16⟩
  | .local _ .vmem, ⟨16, _⟩ => ⟨S512x768, .bf16⟩
  | .local _ .vmem, ⟨17, _⟩ => ⟨S512x768, .bf16⟩
  | .local _ .vmem, ⟨18, _⟩ => ⟨S768x512, .bf16⟩
  | .local _ .vmem, ⟨19, _⟩ => ⟨S768x512, .bf16⟩
  | .local _ .vmem, ⟨20, _⟩ => ⟨S768x512, .bf16⟩
  | .local _ .vmem, ⟨21, _⟩ => ⟨S768x512, .bf16⟩
  | .local _ .vmem, ⟨22, _⟩ => ⟨S128x768, .f32⟩
  | .local _ .vmem, ⟨23, _⟩ => ⟨S128x768, .f32⟩
  | .local _ .vmem, ⟨24, _⟩ => ⟨S768x1536, .f32⟩
  | .local _ .vmem, ⟨25, _⟩ => ⟨S768x1536, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54_0 : Ref sig .tc := ⟨.hbm, 66, rfl⟩
abbrev main_v54_1 : Ref sig .tc := ⟨.hbm, 67, rfl⟩
abbrev main_v54_2 : Ref sig .tc := ⟨.hbm, 68, rfl⟩
abbrev main_v54_3 : Ref sig .tc := ⟨.hbm, 69, rfl⟩
abbrev main_v54_4 : Ref sig .tc := ⟨.hbm, 70, rfl⟩
abbrev main_v54_5 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c2_i32 : BitVec 32 := 2#32
  let c16_i32 : BitVec 32 := 16#32
  let c0_i32 : BitVec 32 := 0#32
  let c0_i32_0 : BitVec 32 := 0#32
  let c0_i32_1 : BitVec 32 := 0#32
  let c0_i32_2 : BitVec 32 := 0#32
  ![c2_i32.toNat, c16_i32.toNat, c0_i32.toNat, c0_i32_0.toNat, c0_i32_1.toNat]

def cc0_transform_2 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  let c0_i32_7 : BitVec 32 := 0#32
  ![c2_i32.toNat, v16.toNat, c0_i32_4.toNat, c0_i32_5.toNat, c0_i32_6.toNat]

def cc0_transform_3 (i : grid0.Coords) : Fin 5 → Nat :=
  let arg0 : BitVec 32 := BitVec.ofNat 32 (i 0).val
  let c2_i32 : BitVec 32 := 2#32
  let c16_i32 : BitVec 32 := 16#32
  let c1_i32 : BitVec 32 := 1#32
  let c0_i32 : BitVec 32 := 0#32
  let c0_i32_0 : BitVec 32 := 0#32
  let c0_i32_1 : BitVec 32 := 0#32
  ![c2_i32.toNat, c16_i32.toNat, c1_i32.toNat, c0_i32.toNat, c0_i32_0.toNat]

def cc0_transform_4 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c1_i32_4 : BitVec 32 := 1#32
  let c0_i32_5 : BitVec 32 := 0#32
  let c0_i32_6 : BitVec 32 := 0#32
  let c0_i32_7 : BitVec 32 := 0#32
  ![c2_i32.toNat, v16.toNat, c1_i32_4.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3712 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S768x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== EvenInRefIdeal.lean ====
abbrev S36864x1024 : Shape := ⟨2, ![36864, 1024]⟩
abbrev S4x24x6x1x1024 : Shape := ⟨5, ![4, 24, 6, 1, 1024]⟩
abbrev S1024x3600 : Shape := ⟨2, ![1024, 3600]⟩
abbrev S16 : Shape := ⟨1, ![16]⟩
abbrev S16x2304x1024 : Shape := ⟨3, ![16, 2304, 1024]⟩
abbrev S_ : Shape := ⟨0, ![]⟩
abbrev S16x2304 : Shape := ⟨2, ![16, 2304]⟩
abbrev S16x2304x1 : Shape := ⟨3, ![16, 2304, 1]⟩
abbrev S1x1x1x1x1024 : Shape := ⟨5, ![1, 1, 1, 1, 1024]⟩
abbrev S1x1024 : Shape := ⟨2, ![1, 1024]⟩
abbrev S16x256x1024 : Shape := ⟨3, ![16, 256, 1024]⟩
abbrev S1x16x1x1x1024 : Shape := ⟨5, ![1, 16, 1, 1, 1024]⟩
abbrev S16x1x1024 : Shape := ⟨3, ![16, 1, 1024]⟩
abbrev S16x2048x1024 : Shape := ⟨3, ![16, 2048, 1024]⟩
abbrev S16x2304x3600 : Shape := ⟨3, ![16, 2304, 3600]⟩
abbrev S16x2304x512 : Shape := ⟨3, ![16, 2304, 512]⟩
abbrev S16x2304x16 : Shape := ⟨3, ![16, 2304, 16]⟩
abbrev S16x2304x1536 : Shape := ⟨3, ![16, 2304, 1536]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S1x1x16 : Shape := ⟨3, ![1, 1, 16]⟩
abbrev S36864x16 : Shape := ⟨2, ![36864, 16]⟩
abbrev S16x36864 : Shape := ⟨2, ![16, 36864]⟩
abbrev S16x2304x4x128 : Shape := ⟨4, ![16, 2304, 4, 128]⟩
abbrev S16x4x2304x128 : Shape := ⟨4, ![16, 4, 2304, 128]⟩
abbrev S16x4x256x128 : Shape := ⟨4, ![16, 4, 256, 128]⟩
abbrev S16x4x2048x128 : Shape := ⟨4, ![16, 4, 2048, 128]⟩
abbrev S16x4x2048x64 : Shape := ⟨4, ![16, 4, 2048, 64]⟩
abbrev S2048x1 : Shape := ⟨2, ![2048, 1]⟩
abbrev S1x32 : Shape := ⟨2, ![1, 32]⟩
abbrev S2048x32 : Shape := ⟨2, ![2048, 32]⟩
abbrev S16x4x2048x32 : Shape := ⟨4, ![16, 4, 2048, 32]⟩
abbrev S1x1x2048x32 : Shape := ⟨4, ![1, 1, 2048, 32]⟩
abbrev S36864x512 : Shape := ⟨2, ![36864, 512]⟩
abbrev S512x36864 : Shape := ⟨2, ![512, 36864]⟩
abbrev S128x36864 : Shape := ⟨2, ![128, 36864]⟩
abbrev S36864x1536 : Shape := ⟨2, ![36864, 1536]⟩

abbrev nBuf : Space → Nat
  | .hbm => 231
  | .vmem => 0
  | .smem => 0
  | _ => 0

abbrev hbmTy0_0 (i : Nat) : BufTy := match i % 128 with
  | 0 => ⟨S36864x1024, .f32⟩
  | 1 => ⟨S4x24x6x1x1024, .f32⟩
  | 2 => ⟨S1024x3600, .f32⟩
  | 3 => ⟨S16, .f32⟩
  | 4 => ⟨S16x2304x1024, .f32⟩
  | 5 => ⟨S16x2304x1024, .f32⟩
  | 6 => ⟨S_, .f32⟩
  | 7 => ⟨S16x2304, .f32⟩
  | 8 => ⟨S16x2304x1, .f32⟩
  | 9 => ⟨S_, .f32⟩
  | 10 => ⟨S16x2304x1, .f32⟩
  | 11 => ⟨S16x2304x1, .f32⟩
  | 12 => ⟨S_, .f32⟩
  | 13 => ⟨S16x2304x1, .f32⟩
  | 14 => ⟨S16x2304x1, .f32⟩
  | 15 => ⟨S16x2304x1, .f32⟩
  | 16 => ⟨S16x2304x1024, .f32⟩
  | 17 => ⟨S16x2304x1024, .f32⟩
  | 18 => ⟨S1x1x1x1x1024, .f32⟩
  | 19 => ⟨S1x1024, .f32⟩
  | 20 => ⟨S16x256x1024, .f32⟩
  | 21 => ⟨S1x16x1x1x1024, .f32⟩
  | 22 => ⟨S16x1x1024, .f32⟩
  | 23 => ⟨S16x2048x1024, .f32⟩
  | 24 => ⟨S16x2304x1024, .f32⟩
  | 25 => ⟨S_, .f32⟩
  | 26 => ⟨S16x2304x1024, .f32⟩
  | 27 => ⟨S16x2304x1024, .f32⟩
  | 28 => ⟨S16x2304x1024, .f32⟩
  | 29 => ⟨S1x1x1x1x1024, .f32⟩
  | 30 => ⟨S1x1024, .f32⟩
  | 31 => ⟨S16x256x1024, .f32⟩
  | 32 => ⟨S1x16x1x1x1024, .f32⟩
  | 33 => ⟨S16x1x1024, .f32⟩
  | 34 => ⟨S16x2048x1024, .f32⟩
  | 35 => ⟨S16x2304x1024, .f32⟩
  | 36 => ⟨S16x2304x1024, .f32⟩
  | 37 => ⟨S16x2304x3600, .f32⟩
  | 38 => ⟨S16x2304x512, .f32⟩
  | 39 => ⟨S16x2304x512, .f32⟩
  | 40 => ⟨S16x2304x512, .f32⟩
  | 41 => ⟨S16x2304x512, .f32⟩
  | 42 => ⟨S16x2304x16, .f32⟩
  | 43 => ⟨S16x2304x1536, .f32⟩
  | 44 => ⟨S32, .i32⟩
  | 45 => ⟨S32x1, .i32⟩
  | 46 => ⟨S32x64, .i32⟩
  | 47 => ⟨S2048, .i32⟩
  | 48 => ⟨S64, .i32⟩
  | 49 => ⟨S1x64, .i32⟩
  | 50 => ⟨S32x64, .i32⟩
  | 51 => ⟨S2048, .i32⟩
  | 52 => ⟨S1x1x16, .f32⟩
  | 53 => ⟨S16x2304x16, .f32⟩
  | 54 => ⟨S16x2304x16, .f32⟩
  | 55 => ⟨S36864x16, .f32⟩
  | 56 => ⟨S16x36864, .f32⟩
  | 57 => ⟨S16x2304x4x128, .f32⟩
  | 58 => ⟨S16x4x2304x128, .f32⟩
  | 59 => ⟨S16x4x256x128, .f32⟩
  | 60 => ⟨S16x4x2048x128, .f32⟩
  | 61 => ⟨S16x4x2048x64, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S2048, .f32⟩
  | 71 => ⟨S2048x1, .f32⟩
  | 72 => ⟨S1x32, .f32⟩
  | 73 => ⟨S2048x32, .f32⟩
  | 74 => ⟨S2048x32, .f32⟩
  | 75 => ⟨S2048x32, .f32⟩
  | 76 => ⟨S2048x32, .f32⟩
  | 77 => ⟨S2048x32, .f32⟩
  | 78 => ⟨S16x4x2048x32, .f32⟩
  | 79 => ⟨S16x4x2048x32, .f32⟩
  | 80 => ⟨S1x1x2048x32, .f32⟩
  | 81 => ⟨S16x4x2048x32, .f32⟩
  | 82 => ⟨S16x4x2048x32, .f32⟩
  | 83 => ⟨S1x1x2048x32, .f32⟩
  | 84 => ⟨S16x4x2048x32, .f32⟩
  | 85 => ⟨S16x4x2048x32, .f32⟩
  | 86 => ⟨S16x4x2048x32, .f32⟩
  | 87 => ⟨S1x1x2048x32, .f32⟩
  | 88 => ⟨S16x4x2048x32, .f32⟩
  | 89 => ⟨S16x4x2048x32, .f32⟩
  | 90 => ⟨S1x1x2048x32, .f32⟩
  | 91 => ⟨S16x4x2048x32, .f32⟩
  | 92 => ⟨S16x4x2048x32, .f32⟩
  | 93 => ⟨S16x4x2048x32, .f32⟩
  | 94 => ⟨S16x4x2048x64, .f32⟩
  | 95 => ⟨S16x4x2048x64, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S2048, .f32⟩
  | 105 => ⟨S2048x1, .f32⟩
  | 106 => ⟨S1x32, .f32⟩
  | 107 => ⟨S2048x32, .f32⟩
  | 108 => ⟨S2048x32, .f32⟩
  | 109 => ⟨S2048x32, .f32⟩
  | 110 => ⟨S2048x32, .f32⟩
  | 111 => ⟨S2048x32, .f32⟩
  | 112 => ⟨S16x4x2048x32, .f32⟩
  | 113 => ⟨S16x4x2048x32, .f32⟩
  | 114 => ⟨S1x1x2048x32, .f32⟩
  | 115 => ⟨S16x4x2048x32, .f32⟩
  | 116 => ⟨S16x4x2048x32, .f32⟩
  | 117 => ⟨S1x1x2048x32, .f32⟩
  | 118 => ⟨S16x4x2048x32, .f32⟩
  | 119 => ⟨S16x4x2048x32, .f32⟩
  | 120 => ⟨S16x4x2048x32, .f32⟩
  | 121 => ⟨S1x1x2048x32, .f32⟩
  | 122 => ⟨S16x4x2048x32, .f32⟩
  | 123 => ⟨S16x4x2048x32, .f32⟩
  | 124 => ⟨S1x1x2048x32, .f32⟩
  | 125 => ⟨S16x4x2048x32, .f32⟩
  | 126 => ⟨S16x4x2048x32, .f32⟩
  | 127 => ⟨S16x4x2048x32, .f32⟩
  | _ => ⟨S36864x1024, .f32⟩

abbrev hbmTy0_1 (i : Nat) : BufTy := match i % 128 with
  | 0 => ⟨S16x4x2048x64, .f32⟩
  | 1 => ⟨S16x4x2048x128, .f32⟩
  | 2 => ⟨S16x4x2304x128, .f32⟩
  | 3 => ⟨S16x2304x4x128, .f32⟩
  | 4 => ⟨S36864x512, .f32⟩
  | 5 => ⟨S36864x512, .bf16⟩
  | 6 => ⟨S_, .f32⟩
  | 7 => ⟨S16x2304x512, .f32⟩
  | 8 => ⟨S16x2304x512, .f32⟩
  | 9 => ⟨S16x2304x4x128, .f32⟩
  | 10 => ⟨S16x4x2304x128, .f32⟩
  | 11 => ⟨S16x4x256x128, .f32⟩
  | 12 => ⟨S16x4x2048x128, .f32⟩
  | 13 => ⟨S16x4x2048x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S16x4x2048x32, .f32⟩
  | 31 => ⟨S16x4x2048x32, .f32⟩
  | 32 => ⟨S1x1x2048x32, .f32⟩
  | 33 => ⟨S16x4x2048x32, .f32⟩
  | 34 => ⟨S16x4x2048x32, .f32⟩
  | 35 => ⟨S1x1x2048x32, .f32⟩
  | 36 => ⟨S16x4x2048x32, .f32⟩
  | 37 => ⟨S16x4x2048x32, .f32⟩
  | 38 => ⟨S16x4x2048x32, .f32⟩
  | 39 => ⟨S1x1x2048x32, .f32⟩
  | 40 => ⟨S16x4x2048x32, .f32⟩
  | 41 => ⟨S16x4x2048x32, .f32⟩
  | 42 => ⟨S1x1x2048x32, .f32⟩
  | 43 => ⟨S16x4x2048x32, .f32⟩
  | 44 => ⟨S16x4x2048x32, .f32⟩
  | 45 => ⟨S16x4x2048x32, .f32⟩
  | 46 => ⟨S16x4x2048x64, .f32⟩
  | 47 => ⟨S16x4x2048x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2048, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S2048x32, .f32⟩
  | 64 => ⟨S16x4x2048x32, .f32⟩
  | 65 => ⟨S16x4x2048x32, .f32⟩
  | 66 => ⟨S1x1x2048x32, .f32⟩
  | 67 => ⟨S16x4x2048x32, .f32⟩
  | 68 => ⟨S16x4x2048x32, .f32⟩
  | 69 => ⟨S1x1x2048x32, .f32⟩
  | 70 => ⟨S16x4x2048x32, .f32⟩
  | 71 => ⟨S16x4x2048x32, .f32⟩
  | 72 => ⟨S16x4x2048x32, .f32⟩
  | 73 => ⟨S1x1x2048x32, .f32⟩
  | 74 => ⟨S16x4x2048x32, .f32⟩
  | 75 => ⟨S16x4x2048x32, .f32⟩
  | 76 => ⟨S1x1x2048x32, .f32⟩
  | 77 => ⟨S16x4x2048x32, .f32⟩
  | 78 => ⟨S16x4x2048x32, .f32⟩
  | 79 => ⟨S16x4x2048x32, .f32⟩
  | 80 => ⟨S16x4x2048x64, .f32⟩
  | 81 => ⟨S16x4x2048x128, .f32⟩
  | 82 => ⟨S16x4x2304x128, .f32⟩
  | 83 => ⟨S16x2304x4x128, .f32⟩
  | 84 => ⟨S36864x512, .f32⟩
  | 85 => ⟨S512x36864, .f32⟩
  | 86 => ⟨S512x36864, .bf16⟩
  | 87 => ⟨S36864x512, .f32⟩
  | 88 => ⟨S36864x512, .bf16⟩
  | 89 => ⟨S16x2304x512, .f32⟩
  | 90 => ⟨S16x2304x512, .f32⟩
  | 91 => ⟨S_, .f32⟩
  | 92 => ⟨S16x2304x512, .f32⟩
  | 93 => ⟨S16x2304x512, .f32⟩
  | 94 => ⟨S_, .f32⟩
  | 95 => ⟨S16x2304x512, .f32⟩
  | 96 => ⟨S16x2304x512, .f32⟩
  | 97 => ⟨S36864x512, .f32⟩
  | 98 => ⟨S36864x512, .bf16⟩
  | 99 => ⟨S_, .i32⟩
  | 100 => ⟨S_, .f32⟩
  | 101 => ⟨S128x36864, .f32⟩
  | 102 => ⟨S36864x1536, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_3 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_5 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_cst_7 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_8 : Ref sig .tc := ⟨.hbm, 144, rfl⟩
abbrev main_v131 : Ref sig .tc := ⟨.hbm, 145, rfl⟩
abbrev main_v132 : Ref sig .tc := ⟨.hbm, 146, rfl⟩
abbrev main_cst_9 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_cst_10 : Ref sig .tc := ⟨.hbm, 178, rfl⟩
abbrev main_v163 : Ref sig .tc := ⟨.hbm, 179, rfl⟩
abbrev main_v164 : Ref sig .tc := ⟨.hbm, 180, rfl⟩
abbrev main_cst_11 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_cst_12 : Ref sig .tc := ⟨.hbm, 219, rfl⟩
abbrev main_v202 : Ref sig .tc := ⟨.hbm, 220, rfl⟩
abbrev main_v203 : Ref sig .tc := ⟨.hbm, 221, rfl⟩
abbrev main_cst_13 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_c : Ref sig .tc := ⟨.hbm, 227, rfl⟩
abbrev main_call0_v0 : Ref sig .tc := ⟨.hbm, 228, rfl⟩
abbrev main_v208 : Ref sig .tc := ⟨.hbm, 229, rfl⟩
abbrev main_v209 : Ref sig .tc := ⟨.hbm, 230, rfl⟩

abbrev nD : Nat := 1
abbrev τ : Topo := Topo.v7x

variable {F : FTy → Type} [FloatOps F]
-- ==== First.lean ====
abbrev S16x256x1024 : Shape := ⟨3, ![16, 256, 1024]⟩
abbrev S16x2048x1024 : Shape := ⟨3, ![16, 2048, 1024]⟩
abbrev S4x24x6x1x1024 : Shape := ⟨5, ![4, 24, 6, 1, 1024]⟩
abbrev S1024x3600 : Shape := ⟨2, ![1024, 3600]⟩
abbrev S16 : Shape := ⟨1, ![16]⟩
abbrev S4096x1024 : Shape := ⟨2, ![4096, 1024]⟩
abbrev S32768x1024 : Shape := ⟨2, ![32768, 1024]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x1536 : Shape := ⟨2, ![1024, 1536]⟩
abbrev S1024x3712 : Shape := ⟨2, ![1024, 3712]⟩
abbrev S1x16 : Shape := ⟨2, ![1, 16]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S36864x512 : Shape := ⟨2, ![36864, 512]⟩
abbrev S512x36864 : Shape := ⟨2, ![512, 36864]⟩
abbrev S128x36864 : Shape := ⟨2, ![128, 36864]⟩
abbrev S36864x1536 : Shape := ⟨2, ![36864, 1536]⟩
abbrev S36864x1024 : Shape := ⟨2, ![36864, 1024]⟩
abbrev S256x1024 : Shape := ⟨2, ![256, 1024]⟩
abbrev S1x1x1x1x1024 : Shape := ⟨5, ![1, 1, 1, 1, 1024]⟩
abbrev S768x128 : Shape := ⟨2, ![768, 128]⟩
abbrev S768x512 : Shape := ⟨2, ![768, 512]⟩
abbrev S512x768 : Shape := ⟨2, ![512, 768]⟩
abbrev S128x768 : Shape := ⟨2, ![128, 768]⟩
abbrev S768x1536 : Shape := ⟨2, ![768, 1536]⟩
abbrev S768x1024 : Shape := ⟨2, ![768, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x256 : Shape := ⟨2, ![128, 256]⟩

abbrev nBuf : Space → Nat
  | .hbm => 76
  | .vmem => 34
  | .smem => 0
  | _ => 0

abbrev bufTy : (tb : Table) → Fin (tcTables nBuf tb) → BufTy
  | .hbm, ⟨0, _⟩ => ⟨S16x256x1024, .f32⟩
  | .hbm, ⟨1, _⟩ => ⟨S16x2048x1024, .f32⟩
  | .hbm, ⟨2, _⟩ => ⟨S4x24x6x1x1024, .f32⟩
  | .hbm, ⟨3, _⟩ => ⟨S1024x3600, .f32⟩
  | .hbm, ⟨4, _⟩ => ⟨S16, .f32⟩
  | .hbm, ⟨5, _⟩ => ⟨S4096x1024, .f32⟩
  | .hbm, ⟨6, _⟩ => ⟨S32768x1024, .f32⟩
  | .hbm, ⟨7, _⟩ => ⟨S1024x2048, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x1536, .f32⟩
  | .hbm, ⟨13, _⟩ => ⟨S1024x3712, .f32⟩
  | .hbm, ⟨14, _⟩ => ⟨S1024x3712, .bf16⟩
  | .hbm, ⟨15, _⟩ => ⟨S1x16, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .i32⟩
  | .hbm, ⟨28, _⟩ => ⟨S32x1, .i32⟩
  | .hbm, ⟨29, _⟩ => ⟨S32x64, .i32⟩
  | .hbm, ⟨30, _⟩ => ⟨S2048, .i32⟩
  | .hbm, ⟨31, _⟩ => ⟨S64, .i32⟩
  | .hbm, ⟨32, _⟩ => ⟨S1x64, .i32⟩
  | .hbm, ⟨33, _⟩ => ⟨S32x64, .i32⟩
  | .hbm, ⟨34, _⟩ => ⟨S2048, .i32⟩
  | .hbm, ⟨35, _⟩ => ⟨S2048x1, .i32⟩
  | .hbm, ⟨36, _⟩ => ⟨S2048x1, .f32⟩
  | .hbm, ⟨37, _⟩ => ⟨S1x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x64, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x64, .f32⟩
  | .hbm, ⟨48, _⟩ => ⟨S2048x1, .i32⟩
  | .hbm, ⟨49, _⟩ => ⟨S2048x1, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x64, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x64, .f32⟩
  | .hbm, ⟨61, _⟩ => ⟨S2048x128, .f32⟩
  | .hbm, ⟨62, _⟩ => ⟨S2048x128, .f32⟩
  | .hbm, ⟨63, _⟩ => ⟨S_, .f32⟩
  | .hbm, ⟨64, _⟩ => ⟨S256x128, .f32⟩
  | .hbm, ⟨65, _⟩ => ⟨S2304x128, .f32⟩
  | .hbm, ⟨66, _⟩ => ⟨S_, .f32⟩
  | .hbm, ⟨67, _⟩ => ⟨S256x128, .f32⟩
  | .hbm, ⟨68, _⟩ => ⟨S2304x128, .f32⟩
  | .hbm, ⟨69, _⟩ => ⟨S36864x512, .bf16⟩
  | .hbm, ⟨70, _⟩ => ⟨S512x36864, .bf16⟩
  | .hbm, ⟨71, _⟩ => ⟨S36864x512, .bf16⟩
  | .hbm, ⟨72, _⟩ => ⟨S36864x512, .bf16⟩
  | .hbm, ⟨73, _⟩ => ⟨S128x36864, .f32⟩
  | .hbm, ⟨74, _⟩ => ⟨S36864x1536, .f32⟩
  | .hbm, ⟨75, _⟩ => ⟨S36864x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1024x3712, .bf16⟩
  | .local _ .vmem, ⟨15, _⟩ => ⟨S1x128, .f32⟩
  | .local _ .vmem, ⟨16, _⟩ => ⟨S768x128, .f32⟩
  | .local _ .vmem, ⟨17, _⟩ => ⟨S768x128, .f32⟩
  | .local _ .vmem, ⟨18, _⟩ => ⟨S768x128, .f32⟩
  | .local _ .vmem, ⟨19, _⟩ => ⟨S768x128, .f32⟩
  | .local _ .vmem, ⟨20, _⟩ => ⟨S768x512, .bf16⟩
  | .local _ .vmem, ⟨21, _⟩ => ⟨S768x512, .bf16⟩
  | .local _ .vmem, ⟨22, _⟩ => ⟨S512x768, .bf16⟩
  | .local _ .vmem, ⟨23, _⟩ => ⟨S512x768, .bf16⟩
  | .local _ .vmem, ⟨24, _⟩ => ⟨S768x512, .bf16⟩
  | .local _ .vmem, ⟨25, _⟩ => ⟨S768x512, .bf16⟩
  | .local _ .vmem, ⟨26, _⟩ => ⟨S768x512, .bf16⟩
  | .local _ .vmem, ⟨27, _⟩ => ⟨S768x512, .bf16⟩
  | .local _ .vmem, ⟨28, _⟩ => ⟨S128x768, .f32⟩
  | .local _ .vmem, ⟨29, _⟩ => ⟨S128x768, .f32⟩
  | .local _ .vmem, ⟨30, _⟩ => ⟨S768x1536, .f32⟩
  | .local _ .vmem, ⟨31, _⟩ => ⟨S768x1536, .f32⟩
  | .local _ .vmem, ⟨32, _⟩ => ⟨S768x1024, .f32⟩
  | .local _ .vmem, ⟨33, _⟩ => ⟨S768x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_v56_0 : Ref sig .tc := ⟨.hbm, 69, rfl⟩
abbrev main_v56_1 : Ref sig .tc := ⟨.hbm, 70, rfl⟩
abbrev main_v56_2 : Ref sig .tc := ⟨.hbm, 71, rfl⟩
abbrev main_v56_3 : Ref sig .tc := ⟨.hbm, 72, rfl⟩
abbrev main_v56_4 : Ref sig .tc := ⟨.hbm, 73, rfl⟩
abbrev main_v56_5 : Ref sig .tc := ⟨.hbm, 74, rfl⟩
abbrev main_v56_6 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c3_i32_10 : BitVec 32 := 3#32
  let v28 : BitVec 32 := Scalar.muli v27 c3_i32_10
  let c0_i32_11 : BitVec 32 := 0#32
  let v29 : BitVec 32 := Scalar.addi v28 c0_i32_11
  let c1_i32_12 : BitVec 32 := 1#32
  let v30 : BitVec 32 := Scalar.subi v29 c1_i32_12
  let c0_i32_13 : BitVec 32 := 0#32
  let v31 : BitVec 32 := Scalar.maxsi v30 c0_i32_13
  let v32 : BitVec 32 := Scalar.addi v17 v31
  let c0_i32_14 : BitVec 32 := 0#32
  let c0_i32_15 : BitVec 32 := 0#32
  ![v32.toNat, c0_i32_14.toNat]

def cc0_transform_2 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c3_i32_10 : BitVec 32 := 3#32
  let v28 : BitVec 32 := Scalar.muli v27 c3_i32_10
  let c1_i32_11 : BitVec 32 := 1#32
  let v29 : BitVec 32 := Scalar.addi v28 c1_i32_11
  let c1_i32_12 : BitVec 32 := 1#32
  let v30 : BitVec 32 := Scalar.subi v29 c1_i32_12
  let c0_i32_13 : BitVec 32 := 0#32
  let v31 : BitVec 32 := Scalar.maxsi v30 c0_i32_13
  let v32 : BitVec 32 := Scalar.addi v17 v31
  let c0_i32_14 : BitVec 32 := 0#32
  let c0_i32_15 : BitVec 32 := 0#32
  ![v32.toNat, c0_i32_14.toNat]

def cc0_transform_3 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c3_i32_4 : BitVec 32 := 3#32
  let c0_i32_5 : BitVec 32 := 0#32
  let v18 : BitVec 1 := Scalar.cmpi .eq c3_i32_4 c0_i32_5
  let c1_i32_6 : BitVec 32 := 1#32
  let v19 : BitVec 32 := Scalar.select v18 c1_i32_6 c3_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c3_i32_10 : BitVec 32 := 3#32
  let v28 : BitVec 32 := Scalar.muli v27 c3_i32_10
  let c2_i32 : BitVec 32 := 2#32
  let v29 : BitVec 32 := Scalar.addi v28 c2_i32
  let c1_i32_11 : BitVec 32 := 1#32
  let v30 : BitVec 32 := Scalar.subi v29 c1_i32_11
  let c0_i32_12 : BitVec 32 := 0#32
  let v31 : BitVec 32 := Scalar.maxsi v30 c0_i32_12
  let v32 : BitVec 32 := Scalar.addi v17 v31
  let c0_i32_13 : BitVec 32 := 0#32
  let c0_i32_14 : BitVec 32 := 0#32
  ![v32.toNat, c0_i32_13.toNat]

def cc0_transform_4 (i : grid0.Coords) : Fin 5 → Nat :=
  let arg0 : BitVec 32 := BitVec.ofNat 32 (i 0).val
  let c0_i32 : BitVec 32 := 0#32
  let c16_i32 : BitVec 32 := 16#32
  let c0_i32_0 : BitVec 32 := 0#32
  let c0_i32_1 : BitVec 32 := 0#32
  let c0_i32_2 : BitVec 32 := 0#32
  let c0_i32_3 : BitVec 32 := 0#32
  ![c0_i32.toNat, c16_i32.toNat, c0_i32_0.toNat, c0_i32_1.toNat, c0_i32_2.toNat]

def cc0_transform_5 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_6 (i : grid0.Coords) : Fin 5 → Nat :=
  let arg0 : BitVec 32 := BitVec.ofNat 32 (i 0).val
  let c0_i32 : BitVec 32 := 0#32
  let c16_i32 : BitVec 32 := 16#32
  let c1_i32 : BitVec 32 := 1#32
  let c0_i32_0 : BitVec 32 := 0#32
  let c0_i32_1 : BitVec 32 := 0#32
  let c0_i32_2 : BitVec 32 := 0#32
  ![c0_i32.toNat, c16_i32.toNat, c1_i32.toNat, c0_i32_0.toNat, c0_i32_1.toNat]

def cc0_transform_7 (i : grid0.Coords) : Fin 5 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3712 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S768x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S768x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S768x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S768x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S768x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== FirstRefIdeal.lean ====
abbrev S16x256x1024 : Shape := ⟨3, ![16, 256, 1024]⟩
abbrev S16x2048x1024 : Shape := ⟨3, ![16, 2048, 1024]⟩
abbrev S4x24x6x1x1024 : Shape := ⟨5, ![4, 24, 6, 1, 1024]⟩
abbrev S1024x3600 : Shape := ⟨2, ![1024, 3600]⟩
abbrev S16 : Shape := ⟨1, ![16]⟩
abbrev S16x2304x1024 : Shape := ⟨3, ![16, 2304, 1024]⟩
abbrev S_ : Shape := ⟨0, ![]⟩
abbrev S16x2304 : Shape := ⟨2, ![16, 2304]⟩
abbrev S16x2304x1 : Shape := ⟨3, ![16, 2304, 1]⟩
abbrev S1x1x1x1x1024 : Shape := ⟨5, ![1, 1, 1, 1, 1024]⟩
abbrev S1x1024 : Shape := ⟨2, ![1, 1024]⟩
abbrev S1x16x1x1x1024 : Shape := ⟨5, ![1, 16, 1, 1, 1024]⟩
abbrev S16x1x1024 : Shape := ⟨3, ![16, 1, 1024]⟩
abbrev S16x2304x3600 : Shape := ⟨3, ![16, 2304, 3600]⟩
abbrev S16x2304x512 : Shape := ⟨3, ![16, 2304, 512]⟩
abbrev S16x2304x16 : Shape := ⟨3, ![16, 2304, 16]⟩
abbrev S16x2304x1536 : Shape := ⟨3, ![16, 2304, 1536]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S1x1x16 : Shape := ⟨3, ![1, 1, 16]⟩
abbrev S36864x16 : Shape := ⟨2, ![36864, 16]⟩
abbrev S16x36864 : Shape := ⟨2, ![16, 36864]⟩
abbrev S16x2304x4x128 : Shape := ⟨4, ![16, 2304, 4, 128]⟩
abbrev S16x4x2304x128 : Shape := ⟨4, ![16, 4, 2304, 128]⟩
abbrev S16x4x256x128 : Shape := ⟨4, ![16, 4, 256, 128]⟩
abbrev S16x4x2048x128 : Shape := ⟨4, ![16, 4, 2048, 128]⟩
abbrev S16x4x2048x64 : Shape := ⟨4, ![16, 4, 2048, 64]⟩
abbrev S2048x1 : Shape := ⟨2, ![2048, 1]⟩
abbrev S1x32 : Shape := ⟨2, ![1, 32]⟩
abbrev S2048x32 : Shape := ⟨2, ![2048, 32]⟩
abbrev S16x4x2048x32 : Shape := ⟨4, ![16, 4, 2048, 32]⟩
abbrev S1x1x2048x32 : Shape := ⟨4, ![1, 1, 2048, 32]⟩
abbrev S36864x512 : Shape := ⟨2, ![36864, 512]⟩
abbrev S512x36864 : Shape := ⟨2, ![512, 36864]⟩
abbrev S128x36864 : Shape := ⟨2, ![128, 36864]⟩
abbrev S36864x1536 : Shape := ⟨2, ![36864, 1536]⟩
abbrev S36864x1024 : Shape := ⟨2, ![36864, 1024]⟩

abbrev nBuf : Space → Nat
  | .hbm => 233
  | .vmem => 0
  | .smem => 0
  | _ => 0

abbrev hbmTy0_0 (i : Nat) : BufTy := match i % 128 with
  | 0 => ⟨S16x256x1024, .f32⟩
  | 1 => ⟨S16x2048x1024, .f32⟩
  | 2 => ⟨S4x24x6x1x1024, .f32⟩
  | 3 => ⟨S1024x3600, .f32⟩
  | 4 => ⟨S16, .f32⟩
  | 5 => ⟨S16x2304x1024, .f32⟩
  | 6 => ⟨S16x2304x1024, .f32⟩
  | 7 => ⟨S_, .f32⟩
  | 8 => ⟨S16x2304, .f32⟩
  | 9 => ⟨S16x2304x1, .f32⟩
  | 10 => ⟨S_, .f32⟩
  | 11 => ⟨S16x2304x1, .f32⟩
  | 12 => ⟨S16x2304x1, .f32⟩
  | 13 => ⟨S_, .f32⟩
  | 14 => ⟨S16x2304x1, .f32⟩
  | 15 => ⟨S16x2304x1, .f32⟩
  | 16 => ⟨S16x2304x1, .f32⟩
  | 17 => ⟨S16x2304x1024, .f32⟩
  | 18 => ⟨S16x2304x1024, .f32⟩
  | 19 => ⟨S1x1x1x1x1024, .f32⟩
  | 20 => ⟨S1x1024, .f32⟩
  | 21 => ⟨S16x256x1024, .f32⟩
  | 22 => ⟨S1x16x1x1x1024, .f32⟩
  | 23 => ⟨S16x1x1024, .f32⟩
  | 24 => ⟨S16x2048x1024, .f32⟩
  | 25 => ⟨S16x2304x1024, .f32⟩
  | 26 => ⟨S_, .f32⟩
  | 27 => ⟨S16x2304x1024, .f32⟩
  | 28 => ⟨S16x2304x1024, .f32⟩
  | 29 => ⟨S16x2304x1024, .f32⟩
  | 30 => ⟨S1x1x1x1x1024, .f32⟩
  | 31 => ⟨S1x1024, .f32⟩
  | 32 => ⟨S16x256x1024, .f32⟩
  | 33 => ⟨S1x16x1x1x1024, .f32⟩
  | 34 => ⟨S16x1x1024, .f32⟩
  | 35 => ⟨S16x2048x1024, .f32⟩
  | 36 => ⟨S16x2304x1024, .f32⟩
  | 37 => ⟨S16x2304x1024, .f32⟩
  | 38 => ⟨S16x2304x3600, .f32⟩
  | 39 => ⟨S16x2304x512, .f32⟩
  | 40 => ⟨S16x2304x512, .f32⟩
  | 41 => ⟨S16x2304x512, .f32⟩
  | 42 => ⟨S16x2304x512, .f32⟩
  | 43 => ⟨S16x2304x16, .f32⟩
  | 44 => ⟨S16x2304x1536, .f32⟩
  | 45 => ⟨S32, .i32⟩
  | 46 => ⟨S32x1, .i32⟩
  | 47 => ⟨S32x64, .i32⟩
  | 48 => ⟨S2048, .i32⟩
  | 49 => ⟨S64, .i32⟩
  | 50 => ⟨S1x64, .i32⟩
  | 51 => ⟨S32x64, .i32⟩
  | 52 => ⟨S2048, .i32⟩
  | 53 => ⟨S1x1x16, .f32⟩
  | 54 => ⟨S16x2304x16, .f32⟩
  | 55 => ⟨S16x2304x16, .f32⟩
  | 56 => ⟨S36864x16, .f32⟩
  | 57 => ⟨S16x36864, .f32⟩
  | 58 => ⟨S16x2304x4x128, .f32⟩
  | 59 => ⟨S16x4x2304x128, .f32⟩
  | 60 => ⟨S16x4x256x128, .f32⟩
  | 61 => ⟨S16x4x2048x128, .f32⟩
  | 62 => ⟨S16x4x2048x64, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S2048, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S16x4x2048x32, .f32⟩
  | 80 => ⟨S16x4x2048x32, .f32⟩
  | 81 => ⟨S1x1x2048x32, .f32⟩
  | 82 => ⟨S16x4x2048x32, .f32⟩
  | 83 => ⟨S16x4x2048x32, .f32⟩
  | 84 => ⟨S1x1x2048x32, .f32⟩
  | 85 => ⟨S16x4x2048x32, .f32⟩
  | 86 => ⟨S16x4x2048x32, .f32⟩
  | 87 => ⟨S16x4x2048x32, .f32⟩
  | 88 => ⟨S1x1x2048x32, .f32⟩
  | 89 => ⟨S16x4x2048x32, .f32⟩
  | 90 => ⟨S16x4x2048x32, .f32⟩
  | 91 => ⟨S1x1x2048x32, .f32⟩
  | 92 => ⟨S16x4x2048x32, .f32⟩
  | 93 => ⟨S16x4x2048x32, .f32⟩
  | 94 => ⟨S16x4x2048x32, .f32⟩
  | 95 => ⟨S16x4x2048x64, .f32⟩
  | 96 => ⟨S16x4x2048x64, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S2048, .f32⟩
  | 106 => ⟨S2048x1, .f32⟩
  | 107 => ⟨S1x32, .f32⟩
  | 108 => ⟨S2048x32, .f32⟩
  | 109 => ⟨S2048x32, .f32⟩
  | 110 => ⟨S2048x32, .f32⟩
  | 111 => ⟨S2048x32, .f32⟩
  | 112 => ⟨S2048x32, .f32⟩
  | 113 => ⟨S16x4x2048x32, .f32⟩
  | 114 => ⟨S16x4x2048x32, .f32⟩
  | 115 => ⟨S1x1x2048x32, .f32⟩
  | 116 => ⟨S16x4x2048x32, .f32⟩
  | 117 => ⟨S16x4x2048x32, .f32⟩
  | 118 => ⟨S1x1x2048x32, .f32⟩
  | 119 => ⟨S16x4x2048x32, .f32⟩
  | 120 => ⟨S16x4x2048x32, .f32⟩
  | 121 => ⟨S16x4x2048x32, .f32⟩
  | 122 => ⟨S1x1x2048x32, .f32⟩
  | 123 => ⟨S16x4x2048x32, .f32⟩
  | 124 => ⟨S16x4x2048x32, .f32⟩
  | 125 => ⟨S1x1x2048x32, .f32⟩
  | 126 => ⟨S16x4x2048x32, .f32⟩
  | 127 => ⟨S16x4x2048x32, .f32⟩
  | _ => ⟨S16x256x1024, .f32⟩

abbrev hbmTy0_1 (i : Nat) : BufTy := match i % 128 with
  | 0 => ⟨S16x4x2048x32, .f32⟩
  | 1 => ⟨S16x4x2048x64, .f32⟩
  | 2 => ⟨S16x4x2048x128, .f32⟩
  | 3 => ⟨S16x4x2304x128, .f32⟩
  | 4 => ⟨S16x2304x4x128, .f32⟩
  | 5 => ⟨S36864x512, .f32⟩
  | 6 => ⟨S36864x512, .bf16⟩
  | 7 => ⟨S_, .f32⟩
  | 8 => ⟨S16x2304x512, .f32⟩
  | 9 => ⟨S16x2304x512, .f32⟩
  | 10 => ⟨S16x2304x4x128, .f32⟩
  | 11 => ⟨S16x4x2304x128, .f32⟩
  | 12 => ⟨S16x4x256x128, .f32⟩
  | 13 => ⟨S16x4x2048x128, .f32⟩
  | 14 => ⟨S16x4x2048x64, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S2048x32, .f32⟩
  | 31 => ⟨S16x4x2048x32, .f32⟩
  | 32 => ⟨S16x4x2048x32, .f32⟩
  | 33 => ⟨S1x1x2048x32, .f32⟩
  | 34 => ⟨S16x4x2048x32, .f32⟩
  | 35 => ⟨S16x4x2048x32, .f32⟩
  | 36 => ⟨S1x1x2048x32, .f32⟩
  | 37 => ⟨S16x4x2048x32, .f32⟩
  | 38 => ⟨S16x4x2048x32, .f32⟩
  | 39 => ⟨S16x4x2048x32, .f32⟩
  | 40 => ⟨S1x1x2048x32, .f32⟩
  | 41 => ⟨S16x4x2048x32, .f32⟩
  | 42 => ⟨S16x4x2048x32, .f32⟩
  | 43 => ⟨S1x1x2048x32, .f32⟩
  | 44 => ⟨S16x4x2048x32, .f32⟩
  | 45 => ⟨S16x4x2048x32, .f32⟩
  | 46 => ⟨S16x4x2048x32, .f32⟩
  | 47 => ⟨S16x4x2048x64, .f32⟩
  | 48 => ⟨S16x4x2048x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S2048x32, .f32⟩
  | 65 => ⟨S16x4x2048x32, .f32⟩
  | 66 => ⟨S16x4x2048x32, .f32⟩
  | 67 => ⟨S1x1x2048x32, .f32⟩
  | 68 => ⟨S16x4x2048x32, .f32⟩
  | 69 => ⟨S16x4x2048x32, .f32⟩
  | 70 => ⟨S1x1x2048x32, .f32⟩
  | 71 => ⟨S16x4x2048x32, .f32⟩
  | 72 => ⟨S16x4x2048x32, .f32⟩
  | 73 => ⟨S16x4x2048x32, .f32⟩
  | 74 => ⟨S1x1x2048x32, .f32⟩
  | 75 => ⟨S16x4x2048x32, .f32⟩
  | 76 => ⟨S16x4x2048x32, .f32⟩
  | 77 => ⟨S1x1x2048x32, .f32⟩
  | 78 => ⟨S16x4x2048x32, .f32⟩
  | 79 => ⟨S16x4x2048x32, .f32⟩
  | 80 => ⟨S16x4x2048x32, .f32⟩
  | 81 => ⟨S16x4x2048x64, .f32⟩
  | 82 => ⟨S16x4x2048x128, .f32⟩
  | 83 => ⟨S16x4x2304x128, .f32⟩
  | 84 => ⟨S16x2304x4x128, .f32⟩
  | 85 => ⟨S36864x512, .f32⟩
  | 86 => ⟨S512x36864, .f32⟩
  | 87 => ⟨S512x36864, .bf16⟩
  | 88 => ⟨S36864x512, .f32⟩
  | 89 => ⟨S36864x512, .bf16⟩
  | 90 => ⟨S16x2304x512, .f32⟩
  | 91 => ⟨S16x2304x512, .f32⟩
  | 92 => ⟨S_, .f32⟩
  | 93 => ⟨S16x2304x512, .f32⟩
  | 94 => ⟨S16x2304x512, .f32⟩
  | 95 => ⟨S_, .f32⟩
  | 96 => ⟨S16x2304x512, .f32⟩
  | 97 => ⟨S16x2304x512, .f32⟩
  | 98 => ⟨S36864x512, .f32⟩
  | 99 => ⟨S36864x512, .bf16⟩
  | 100 => ⟨S_, .i32⟩
  | 101 => ⟨S_, .f32⟩
  | 102 => ⟨S128x36864, .f32⟩
  | 103 => ⟨S36864x1536, .f32⟩
  | 104 => ⟨S36864x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_3 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_5 : Ref sig .tc := ⟨.hbm, 99, rfl⟩
abbrev main_v88 : Ref sig .tc := ⟨.hbm, 100, rfl⟩
abbrev main_v89 : Ref sig .tc := ⟨.hbm, 101, rfl⟩
abbrev main_cst_6 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_cst_7 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_cst_8 : Ref sig .tc := ⟨.hbm, 145, rfl⟩
abbrev main_v131 : Ref sig .tc := ⟨.hbm, 146, rfl⟩
abbrev main_v132 : Ref sig .tc := ⟨.hbm, 147, rfl⟩
abbrev main_cst_9 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_cst_10 : Ref sig .tc := ⟨.hbm, 179, rfl⟩
abbrev main_v163 : Ref sig .tc := ⟨.hbm, 180, rfl⟩
abbrev main_v164 : Ref sig .tc := ⟨.hbm, 181, rfl⟩
abbrev main_cst_11 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_cst_12 : Ref sig .tc := ⟨.hbm, 220, rfl⟩
abbrev main_v202 : Ref sig .tc := ⟨.hbm, 221, rfl⟩
abbrev main_v203 : Ref sig .tc := ⟨.hbm, 222, rfl⟩
abbrev main_cst_13 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_c : Ref sig .tc := ⟨.hbm, 228, rfl⟩
abbrev main_call0_v0 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩

abbrev nD : Nat := 1
abbrev τ : Topo := Topo.v7x

variable {F : FTy → Type} [FloatOps F]
-- ==== Proof.Mlp.Rows.lean ====
/-
  The rows of the mixing and feed-forward block, as plain formulas over the extended reals.

  A row of 1024 numbers gains a gated output projection of two joined halves, is normalized and modulated, and gains a
  gated feed-forward part with squared rectified units. The kernel adds the hidden units in four groups of 1024; the
  reference adds all 4096 at once: `sum_groups` says these agree.
-/
module

public import Idealize.ShloMosaic.Lib.Pointwise
public import Idealize.ShloMosaic.PureOps.Ideal.Laws

@[expose] public section

noncomputable section

namespace Cert.MlpMath

open Idealize.ShloMosaic

/-- The row after the gated output projection: the projection's matrix is met in two halves of 512 rows. -/
def mixed (x : Fin 1024 → EReal) (a z : Fin 512 → EReal) (wo : Fin 1024 → Fin 1024 → EReal) (g1 : Fin 1024 → EReal)
    (j : Fin 1024) : EReal :=
  x j + g1 j * ((∑ k : Fin 512, a k * wo ⟨k.val, by omega⟩ j) + ∑ k : Fin 512, z k * wo ⟨512 + k.val, by omega⟩ j)

/-- The normalized and modulated row. -/
def normed (r sc sh : Fin 1024 → EReal) (j : Fin 1024) : EReal :=
  r j * Ideal.rsqrt (Ideal.div (∑ k : Fin 1024, r k * r k) (Ideal.ofBits .f32 0x44800000#32)
      + Ideal.ofBits .f32 0x358637BD#32) * (1 + sc j) + sh j

/-- One squared rectified hidden unit. -/
def unit (h : Fin 1024 → EReal) (w : Fin 1024 → EReal) : EReal :=
  max (∑ k : Fin 1024, h k * w k) 0 * max (∑ k : Fin 1024, h k * w k) 0

/-- The row after the feed-forward part, from the mixed row. -/
def rest (r sh sc g2 : Fin 1024 → EReal) (w1 : Fin 1024 → Fin 4096 → EReal) (w2 : Fin 4096 → Fin 1024 → EReal) (j : Fin 1024) : EReal :=
  r j + g2 j * ∑ n : Fin 4096, unit (normed r sc sh) (fun k => w1 k n) * w2 n j

/-- The row of an even layer's result. -/
def row (x : Fin 1024 → EReal) (a z : Fin 512 → EReal) (wo : Fin 1024 → Fin 1024 → EReal) (g1 sh sc g2 : Fin 1024 → EReal)
    (w1 : Fin 1024 → Fin 4096 → EReal) (w2 : Fin 4096 → Fin 1024 → EReal) (j : Fin 1024) : EReal :=
  rest (mixed x a z wo g1) sh sc g2 w1 w2 j

/-- The row after an odd layer's gated output projection. -/
def mixed1 (x a : Fin 1024 → EReal) (wo : Fin 1024 → Fin 1024 → EReal) (g1 : Fin 1024 → EReal) (j : Fin 1024) : EReal :=
  x j + g1 j * ∑ k : Fin 1024, a k * wo k j

/-- The row of an odd layer's result. -/
def row1 (x a : Fin 1024 → EReal) (wo : Fin 1024 → Fin 1024 → EReal) (g1 sh sc g2 : Fin 1024 → EReal)
    (w1 : Fin 1024 → Fin 4096 → EReal) (w2 : Fin 4096 → Fin 1024 → EReal) (j : Fin 1024) : EReal :=
  rest (mixed1 x a wo g1) sh sc g2 w1 w2 j

/-- A sum over 4096 terms, group by group. -/
theorem sum_groups (f : Fin 4096 → EReal) :
    (∑ n, f n) = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) (fun k : Fin 3072 => f (Fin.castAdd 1024 k))
  have h3 := Fin.sum_univ_add (a := 1024) (b := 1024) (fun k : Fin 2048 => f (Fin.castAdd 1024 (Fin.castAdd 1024 k)))
  exact h1.trans (congrArg (· + _) (h2.trans (congrArg (· + _) h3)))

/-- A sum over 1024 terms, half by half. -/
theorem sum_halves (f : Fin 1024 → EReal) :
    (∑ n, f n) = (∑ k : Fin 512, f ⟨k.val, by omega⟩) + ∑ k : Fin 512, f ⟨512 + k.val, by omega⟩ :=
  Fin.sum_univ_add (a := 512) (b := 512) f

/-! ## The modulation of a row -/

/-- The modulation a row takes: the context's (number 16) for the first 256 of a batch's 2304 rows, its batch's for the others. -/
def modOf (r : Fin 36864) : Fin 24 := if r.val % 2304 < 256 then 16 else ⟨r.val / 2304, by omega⟩

/-- The row of a batch's token among all rows. -/
abbrev at2 (b : Fin 16) (p : Fin 2304) : Fin 36864 := ⟨b.val * 2304 + p.val, by omega⟩

theorem modOf_at2 (b : Fin 16) (p : Fin 2304) : modOf (at2 b p) = if p.val < 256 then 16 else ⟨b.val, by omega⟩ := by
  have hp := p.isLt
  have hb := b.isLt
  unfold modOf
  by_cases h : p.val < 256
  · rw [if_pos h, if_pos (by show (b.val * 2304 + p.val) % 2304 < 256; omega)]
  · rw [if_neg h, if_neg (by show ¬(b.val * 2304 + p.val) % 2304 < 256; omega)]
    exact Fin.ext (by show (b.val * 2304 + p.val) / 2304 = b.val; omega)

/-- A row past a batch's first 256 takes its batch's modulations: the row stands in block `t` of 768 rows, from row `o` on. -/
theorem modOf_lat (t o : ℕ) (p : Fin 256) (ht : t < 48) (hR : 768 * t + (o + p.val) < 36864) (ho : o + 256 ≤ 768)
    (h : ¬(t % 3 = 0 ∧ o < 256)) (ho' : o % 256 = 0) :
    modOf ⟨768 * t + (o + p.val), hR⟩ = ⟨t / 3, by omega⟩ := by
  have hp := p.isLt
  unfold modOf
  rw [if_neg (by show ¬((768 * t + (o + p.val)) % 2304 < 256); omega)]
  apply Fin.ext
  show (768 * t + (o + p.val)) / 2304 = t / 3
  omega

/-- A context row takes the context's. -/
theorem modOf_ctx (t : ℕ) (p : Fin 256) (hR : 768 * t + (0 + p.val) < 36864) (h : t % 3 = 0) :
    modOf ⟨768 * t + (0 + p.val), hR⟩ = 16 := by
  have hp := p.isLt
  unfold modOf
  rw [if_pos (by show (768 * t + (0 + p.val)) % 2304 < 256; omega)]

/-! ## Indices by their coordinates -/

theorem ix2_of {a b : ℕ} (e : (⟨2, ![a, b]⟩ : Shape).Idx) (p : Fin a) (q : Fin b) (h0 : (e 0).val = p.val) (h1 : (e 1).val = q.val) :
    e = ix2 p q := by
  funext x
  apply Fin.ext
  match x with
  | ⟨0, _⟩ => exact h0
  | ⟨1, _⟩ => exact h1

/-- An index of the modulations which stands in a block of one vector of 1024 numbers. -/
theorem ix5_of (e : (⟨5, ![4, 24, 6, 1, 1024]⟩ : Shape).Idx) (i : Fin 5 → ℕ) (l : Fin 4) (b : Fin 24) (w : Fin 6) (k : Fin 1024)
    (he : ∀ a, (e a).val = i a * (![1, 1, 1, 1, 1024] : Fin 5 → ℕ) a + 1 * ((ix5 0 0 0 0 k : (⟨5, ![1, 1, 1, 1, 1024]⟩ : Shape).Idx) a).val)
    (hi : i 0 = l.val ∧ i 1 = b.val ∧ i 2 = w.val ∧ i 3 = 0 ∧ i 4 = 0) : e = ix5 l b w 0 k := by
  obtain ⟨h0, h1, h2, h3, h4⟩ := hi
  funext x
  apply Fin.ext
  rw [he x]
  match x with
  | ⟨0, _⟩ => show i 0 * 1 + 1 * 0 = l.val; omega
  | ⟨1, _⟩ => show i 1 * 1 + 1 * 0 = b.val; omega
  | ⟨2, _⟩ => show i 2 * 1 + 1 * 0 = w.val; omega
  | ⟨3, _⟩ => show i 3 * 1 + 1 * 0 = 0; omega
  | ⟨4, _⟩ => show i 4 * 1024 + 1 * k.val = k.val; omega

end Cert.MlpMath

end
-- ==== Proof.Qkv.Rows.lean ====
/-
  The rows of the query, key and value projection of an odd layer, as plain formulas over the extended reals: a normalized
  and modulated row meets the columns of one matrix; a head's 64 numbers are normalized again for the queries and the keys.
-/
module

public import proofs.«01_k».proof.Proof.Mlp.Rows

@[expose] public section

noncomputable section

namespace Cert.ProjMath

open Idealize.ShloMosaic
open Cert.MlpMath (modOf)

/-- One number of a projected row. -/
def proj (h w : Fin 1024 → EReal) : EReal := ∑ k : Fin 1024, h k * w k

/-- A head's 64 numbers, normalized and multiplied by the head's gains. -/
def headed (y g : Fin 64 → EReal) (d : Fin 64) : EReal :=
  y d * Ideal.rsqrt (Ideal.div (∑ e : Fin 64, y e * y e) (Ideal.ofBits .f32 0x42800000#32) + Ideal.ofBits .f32 0x358637BD#32) * g d

/-- Row `r`, normalized and modulated as layer `l` does it before its projection. -/
def hrow (l : Fin 4) (x0 : (⟨2, ![36864, 1024]⟩ : Shape).Idx → EReal) (x1 : (⟨5, ![4, 24, 6, 1, 1024]⟩ : Shape).Idx → EReal)
    (r : Fin 36864) (k : Fin 1024) : EReal :=
  Cert.MlpMath.normed (fun k => x0 (ix2 r k)) (fun k => x1 (ix5 l (modOf r) 1 0 k)) (fun k => x1 (ix5 l (modOf r) 0 0 k)) k

/-- Number `e` of head `g`. -/
abbrev headCol (g : Fin 16) (e : Fin 64) : Fin 1024 := ⟨64 * g.val + e.val, by omega⟩
/-- Its column of the whole projection: the queries' stand first, the keys' next, the values' last. -/
abbrev partCol (a : Fin 3) (q : Fin 1024) : Fin 3072 := ⟨1024 * a.val + q.val, by omega⟩

theorem headCol_cases (q : Fin 1024) : ∃ g e, q = headCol g e :=
  ⟨⟨q.val / 64, by omega⟩, ⟨q.val % 64, by omega⟩, Fin.ext (by show q.val = 64 * (q.val / 64) + q.val % 64; omega)⟩

/-- Head `g` of part `a` of a row. -/
def headAt (h : Fin 1024 → EReal) (w : (⟨2, ![1024, 3072]⟩ : Shape).Idx → EReal) (gain : (⟨1, ![64]⟩ : Shape).Idx → EReal) (a : Fin 3)
    (g : Fin 16) (d : Fin 64) : EReal :=
  headed (fun e => proj h (fun k => w (ix2 k (partCol a (headCol g e))))) (fun e => gain (ix1 e)) d

/-- Dividing by 64 is multiplying by its inverse, which is a float. -/
theorem mul_inv64 (x : EReal) : x * Ideal.ofBits .f32 0x3C800000#32 = Ideal.div x (Ideal.ofBits .f32 0x42800000#32) := by
  have h1 : Ideal.ofBits .f32 0x3C800000#32 = (((64 : ℝ)⁻¹ : ℝ) : EReal) := by
    simp [Ideal.ofBits, Ideal.ieee, -EReal.coe_mul]
    norm_num
  have h2 : Ideal.ofBits .f32 0x42800000#32 = ((64 : ℝ) : EReal) := by
    simp [Ideal.ofBits, Ideal.ieee, -EReal.coe_mul]
    norm_num
  rw [h1, h2]
  unfold Ideal.div
  rw [if_neg (by rw [EReal.coe_eq_zero]; norm_num), ← EReal.coe_inv]

end Cert.ProjMath

end
-- ==== Proof.EvenIn.Rows.lean ====
/-
  The rows of an even layer's first projection, as plain formulas over the extended reals: a normalized and modulated row
  meets the columns of one matrix; the queries and the keys of the latent rows are rotated by the angles of their place on the
  grid, half of a head's numbers by the place's row and half by its column.
-/
module

public import proofs.«01_k».proof.Proof.Qkv.Rows

@[expose] public section

noncomputable section

namespace Cert.EvenMath

open Idealize.ShloMosaic
open Cert.ProjMath (proj hrow)

/-- One number of row `r`'s projection in layer `l`. -/
def pr (l : Fin 4) (x0 : (⟨2, ![36864, 1024]⟩ : Shape).Idx → EReal) (x1 : (⟨5, ![4, 24, 6, 1, 1024]⟩ : Shape).Idx → EReal)
    (w : (⟨2, ![1024, 3600]⟩ : Shape).Idx → EReal) (r : Fin 36864) (n : Fin 3600) : EReal :=
  proj (hrow l x0 x1 r) (fun k => w (ix2 k n))

/-- Lane `32 s + d` of half `h` of a head of 128 numbers. -/
abbrev lane3 (h s : Fin 2) (d : Fin 32) : Fin 128 := ⟨64 * h.val + 32 * s.val + d.val, by omega⟩
/-- The same lane of head `g` among 512 columns. -/
abbrev col4 (g : Fin 4) (h s : Fin 2) (d : Fin 32) : Fin 512 := ⟨128 * g.val + (64 * h.val + 32 * s.val + d.val), by omega⟩

theorem lane3_cases (l : Fin 128) : ∃ h s d, l = lane3 h s d :=
  ⟨⟨l.val / 64, by omega⟩, ⟨l.val / 32 % 2, by omega⟩, ⟨l.val % 32, by omega⟩,
    Fin.ext (by show l.val = 64 * (l.val / 64) + 32 * (l.val / 32 % 2) + l.val % 32; omega)⟩

theorem col4_cases (q : Fin 512) : ∃ g h s d, q = col4 g h s d :=
  ⟨⟨q.val / 128, by omega⟩, ⟨q.val / 64 % 2, by omega⟩, ⟨q.val / 32 % 2, by omega⟩, ⟨q.val % 32, by omega⟩,
    Fin.ext (by show q.val = 128 * (q.val / 128) + (64 * (q.val / 64 % 2) + 32 * (q.val / 32 % 2) + q.val % 32); omega)⟩

/-- A token's place on the grid: its row for the first half of a head, its column for the second. -/
def place (h : Fin 2) (n : ℕ) : ℕ := if h.val = 0 then n / 64 else n % 64

/-- The angle of token `n` at frequency `d`. -/
def angle (h : Fin 2) (n : ℕ) (d : Fin 32) : EReal :=
  FloatOps.sitofp (F := Ideal) (w := 32) .f32 (BitVec.ofNat 32 (place h n)) * Ideal.pow (Ideal.ofBits .f32 0x461C4000#32)
    (Ideal.div (-(FloatOps.sitofp (F := Ideal) (w := 32) .f32 (BitVec.ofNat 32 d.val) : EReal)) (Ideal.ofBits .f32 0x42000000#32))

/-- A head's numbers at position `p` of a batch, rotated where the position is a latent token's. -/
def rotated (y : Fin 2 → Fin 2 → Fin 32 → EReal) (p : Fin 2304) (h s : Fin 2) (d : Fin 32) : EReal :=
  if p.val < 256 then y h s d
  else if s.val = 0 then y h 0 d * Ideal.cos (angle h (p.val - 256) d) - y h 1 d * Ideal.sin (angle h (p.val - 256) d)
  else y h 0 d * Ideal.sin (angle h (p.val - 256) d) + y h 1 d * Ideal.cos (angle h (p.val - 256) d)

/-- The tables of the cosines and the signed sines. -/
def cosAt (p : Fin 2304) (h : Fin 2) (d : Fin 32) : EReal := if p.val < 256 then 1 else Ideal.cos (angle h (p.val - 256) d)
def sinAt (p : Fin 2304) (h s : Fin 2) (d : Fin 32) : EReal :=
  if p.val < 256 then 0 else if s.val = 0 then -Ideal.sin (angle h (p.val - 256) d) else Ideal.sin (angle h (p.val - 256) d)

/-- The other of the two lanes which turn into each other. -/
abbrev other (s : Fin 2) : Fin 2 := ⟨1 - s.val, by omega⟩

/-- The rotation by the tables. -/
theorem rotated_tables (y : Fin 2 → Fin 2 → Fin 32 → EReal) (p : Fin 2304) (h s : Fin 2) (d : Fin 32) :
    y h s d * cosAt p h d + y h (other s) d * sinAt p h s d = rotated y p h s d := by
  unfold rotated cosAt sinAt
  by_cases hp : p.val < 256
  · rw [if_pos hp, if_pos hp, if_pos hp, mul_one, mul_zero, add_zero]
  · rw [if_neg hp, if_neg hp, if_neg hp]
    match s with
    | ⟨0, _⟩ =>
      rw [if_pos rfl, if_pos rfl, mul_neg, ← sub_eq_add_neg]
      rfl
    | ⟨1, _⟩ =>
      rw [if_neg Nat.one_ne_zero, if_neg Nat.one_ne_zero, add_comm]
      rfl

/-- The number the gates' rows are filled up with. -/
theorem sitofp_zero : (FloatOps.sitofp (F := Ideal) (w := 32) .f32 0#32 : EReal) = 0 := by
  show (((0#32 : BitVec 32).toInt : ℝ) : EReal) = 0
  norm_num

end Cert.EvenMath

end
-- ==== Proof.EvenIn.Ref.lean ====
/-
  The reference's first projection of an even layer, read at a row and a column: it is the row formulas of `EvenIn/Rows.lean`.
-/
module

public import proofs.«01_k».proof.Proof.Gen.EvenInRefIdeal.Read
public import proofs.«01_k».proof.Proof.EvenIn.Rows

@[expose] public section

set_option maxRecDepth 16384

noncomputable section

namespace Cert.EvenInRefIdeal.Hand

open Cert.MlpMath (at2 modOf_at2)
open Cert.ProjMath (proj hrow)
open Cert.EvenMath
open Cert.EvenInRefIdeal Cert.EvenInRefIdeal.Gen Cert.EvenInRefIdeal.Read Idealize.ShloMosaic Idealize.ShloMosaic.TcCoe

section
variable {F : FTy → Type} [FloatOps F]

/-- The angles of the tokens at places `pos`. -/
def angV (pos : IVec S2048 32) : FVec F S2048x32 .f32 :=
  mulf (broadcastInDim S2048x32 ![0, 1] bcast_S2048x1_S2048x32_0_1 (broadcastInDim S2048x1 ![0] bcast_S2048_S2048x1_0 (sitofp .f32 pos)))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table for every batch and head. -/
def wideV (t : FVec F S2048x32 .f32) : FVec F S16x4x2048x32 .f32 :=
  broadcastInDim S16x4x2048x32 ![0, 1, 2, 3] bcast_S1x1x2048x32_S16x4x2048x32_0_1_2_3
    (broadcastInDim S1x1x2048x32 ![2, 3] bcast_S2048x32_S1x1x2048x32_2_3 t)

/-- Half of every head, rotated by the places `pos`. -/
def turnV (a : FVec F S16x4x2048x64 .f32) (pos : IVec S2048 32) : FVec F S16x4x2048x64 .f32 :=
  concatenate S16x4x2048x64 3
    [⟨S16x4x2048x32, subf
        (mulf (extractStridedSlice S16x4x2048x32 ![0, 0, 0, 0] a slices_S16x4x2048x64_S16x4x2048x32_0_0_0_0) (wideV (Host.cos (angV pos))))
        (mulf (extractStridedSlice S16x4x2048x32 ![0, 0, 0, 32] a slices_S16x4x2048x64_S16x4x2048x32_0_0_0_32) (wideV (Host.sin (angV pos))))⟩,
     ⟨S16x4x2048x32, addf
        (mulf (extractStridedSlice S16x4x2048x32 ![0, 0, 0, 0] a slices_S16x4x2048x64_S16x4x2048x32_0_0_0_0) (wideV (Host.sin (angV pos))))
        (mulf (extractStridedSlice S16x4x2048x32 ![0, 0, 0, 32] a slices_S16x4x2048x64_S16x4x2048x32_0_0_0_32) (wideV (Host.cos (angV pos))))⟩]
    concatenates_S16x4x2048x32_S16x4x2048x32_S16x4x2048x64_d3

/-- Every head by itself. -/
def splitV (a : FVec F S16x2304x512 .f32) : FVec F S16x4x2304x128 .f32 :=
  transpose S16x4x2304x128 [0, 2, 1, 3] (shapeCast S16x2304x4x128 a shapeCasts_S16x2304x512_S16x2304x4x128)
    transposes_S16x2304x4x128_S16x4x2304x128_0_2_1_3

/-- The latent tokens of every head. -/
def latV (a : FVec F S16x4x2304x128 .f32) : FVec F S16x4x2048x128 .f32 :=
  extractStridedSlice S16x4x2048x128 ![0, 0, 256, 0] a slices_S16x4x2304x128_S16x4x2048x128_0_0_256_0

/-- All heads, rotated. -/
def rotV (a : FVec F S16x4x2304x128 .f32) : FVec F S16x4x2304x128 .f32 :=
  concatenate S16x4x2304x128 2
    [⟨S16x4x256x128, extractStridedSlice S16x4x256x128 ![0, 0, 0, 0] a slices_S16x4x2304x128_S16x4x256x128_0_0_0_0⟩,
     ⟨S16x4x2048x128, concatenate S16x4x2048x128 3
        [⟨S16x4x2048x64, turnV (extractStridedSlice S16x4x2048x64 ![0, 0, 0, 0] (latV a) slices_S16x4x2048x128_S16x4x2048x64_0_0_0_0) (val_main_v39 (F := F))⟩,
         ⟨S16x4x2048x64, turnV (extractStridedSlice S16x4x2048x64 ![0, 0, 0, 64] (latV a) slices_S16x4x2048x128_S16x4x2048x64_0_0_0_64) (val_main_v43 (F := F))⟩]
        concatenates_S16x4x2048x64_S16x4x2048x64_S16x4x2048x128_d3⟩]
    concatenates_S16x4x256x128_S16x4x2048x128_S16x4x2304x128_d2

/-- The heads beside each other again. -/
def flatV (a : FVec F S16x4x2304x128 .f32) : FVec F S36864x512 .f32 :=
  shapeCast S36864x512 (transpose S16x2304x4x128 [0, 2, 1, 3] a transposes_S16x4x2304x128_S16x2304x4x128_0_2_1_3) shapeCasts_S16x2304x4x128_S36864x512

/-- The rows, normalized and modulated, against the matrix. -/
def projF (r sc sh : FVec F S16x2304x1024 .f32) (w : FVec F S1024x3600 .f32) : FVec F S16x2304x3600 .f32 :=
  Host.dotGeneral dot_S16x2304x1024_S1024x3600_S16x2304x3600_2_0_01_1_n_n none
    (addf (mulf (mulf r (broadcastInDim S16x2304x1024 ![0, 1, 2] bcast_S16x2304x1_S16x2304x1024_0_1_2 (Host.rsqrt (addf
        (Host.divf (broadcastInDim S16x2304x1 ![0, 1] bcast_S16x2304_S16x2304x1_0_1
            (Host.reduceAdd (mulf r r) (constant S_ .f32 0x00000000#32) reducesTo_S16x2304x1024_S16x2304_d2 h_S_))
          (broadcastInDim S16x2304x1 ![] bcast_S_S16x2304x1 (constant S_ .f32 0x44800000#32)))
        (broadcastInDim S16x2304x1 ![] bcast_S_S16x2304x1 (constant S_ .f32 0x358637BD#32))))))
      (addf (broadcastInDim S16x2304x1024 ![] bcast_S_S16x2304x1024 (constant S_ .f32 0x3F800000#32)) sc)) sh) w

/-- The six results, from the projected rows `y`. -/
def qF (y : FVec F S16x2304x3600 .f32) : FVec F S36864x512 .bf16 :=
  truncf .bf16 (flatV (rotV (splitV (extractStridedSlice S16x2304x512 ![0, 0, 0] y slices_S16x2304x3600_S16x2304x512_0_0_0)))) bitsLt_bf16_f32
def kF (y : FVec F S16x2304x3600 .f32) : FVec F S512x36864 .bf16 :=
  truncf .bf16 (transpose S512x36864 [1, 0] (flatV (rotV (splitV
    (mulf (extractStridedSlice S16x2304x512 ![0, 0, 512] y slices_S16x2304x3600_S16x2304x512_0_0_512)
      (broadcastInDim S16x2304x512 ![] bcast_S_S16x2304x512 (constant S_ .f32 0x3DB504F3#32))))))
    transposes_S36864x512_S512x36864_1_0) bitsLt_bf16_f32
def vF (y : FVec F S16x2304x3600 .f32) : FVec F S36864x512 .bf16 :=
  truncf .bf16 (shapeCast S36864x512 (extractStridedSlice S16x2304x512 ![0, 0, 1024] y slices_S16x2304x3600_S16x2304x512_0_0_1024)
    shapeCasts_S16x2304x512_S36864x512) bitsLt_bf16_f32
def oF (y : FVec F S16x2304x3600 .f32) : FVec F S36864x512 .bf16 :=
  truncf .bf16 (shapeCast S36864x512 (Host.divf (broadcastInDim S16x2304x512 ![] bcast_S_S16x2304x512 (constant S_ .f32 0x3F800000#32))
    (addf (broadcastInDim S16x2304x512 ![] bcast_S_S16x2304x512 (constant S_ .f32 0x3F800000#32))
      (Host.exp (Host.negf (extractStridedSlice S16x2304x512 ![0, 0, 1536] y slices_S16x2304x3600_S16x2304x512_0_0_1536)))))
    shapeCasts_S16x2304x512_S36864x512) bitsLt_bf16_f32
def gF (y : FVec F S16x2304x3600 .f32) (b : FVec F S16 .f32) : FVec F S128x36864 .f32 :=
  pad S128x36864 ![0, 0] ![112, 0] ![0, 0] (transpose S16x36864 [1, 0] (shapeCast S36864x16
      (addf (extractStridedSlice S16x2304x16 ![0, 0, 2048] y slices_S16x2304x3600_S16x2304x16_0_0_2048)
        (broadcastInDim S16x2304x16 ![0, 1, 2] bcast_S1x1x16_S16x2304x16_0_1_2 (broadcastInDim S1x1x16 ![2] bcast_S16_S1x1x16_2 b)))
      shapeCasts_S16x2304x16_S36864x16) transposes_S36864x16_S16x36864_1_0) (sitofp .f32 (constantI S_ 32 0#32))
    pads_S16x36864_S128x36864_01120_000 h_S_
def hyF (y : FVec F S16x2304x3600 .f32) : FVec F S36864x1536 .f32 :=
  shapeCast S36864x1536 (extractStridedSlice S16x2304x1536 ![0, 0, 2064] y slices_S16x2304x3600_S16x2304x1536_0_0_2064) shapeCasts_S16x2304x1536_S36864x1536

end

variable (x0 : (⟨S36864x1024, .f32⟩ : BufTy).Contents (Elt Ideal)) (x1 : (⟨S4x24x6x1x1024, .f32⟩ : BufTy).Contents (Elt Ideal))
  (x2 : (⟨S1024x3600, .f32⟩ : BufTy).Contents (Elt Ideal)) (x3 : (⟨S16, .f32⟩ : BufTy).Contents (Elt Ideal))

theorem v29_eq : val_main_v29 (F := Ideal) x0 x1 x2
    = projF (F := Ideal) (val_main_v0 (F := Ideal) x0) (val_main_v17 (F := Ideal) x1) (val_main_v27 (F := Ideal) x1) x2 := rfl
theorem v121_eq : val_main_v121 (F := Ideal) x0 x1 x2 = qF (F := Ideal) (val_main_v29 (F := Ideal) x0 x1 x2) := rfl
theorem v197_eq : val_main_v197 (F := Ideal) x0 x1 x2 = kF (F := Ideal) (val_main_v29 (F := Ideal) x0 x1 x2) := rfl
theorem v199_eq : val_main_v199 (F := Ideal) x0 x1 x2 = vF (F := Ideal) (val_main_v29 (F := Ideal) x0 x1 x2) := rfl
theorem v207_eq : val_main_v207 (F := Ideal) x0 x1 x2 = oF (F := Ideal) (val_main_v29 (F := Ideal) x0 x1 x2) := rfl
theorem v208_eq : val_main_v208 (F := Ideal) x0 x1 x2 x3 = gF (F := Ideal) (val_main_v29 (F := Ideal) x0 x1 x2) x3 := rfl
theorem v209_eq : val_main_v209 (F := Ideal) x0 x1 x2 = hyF (F := Ideal) (val_main_v29 (F := Ideal) x0 x1 x2) := rfl

/-! ## The rotation, read at a batch, a head, a position and a lane -/

theorem v39_at (n : Fin 2048) : val_main_v39 (F := Ideal) (ix1 n) = BitVec.ofNat 32 (place 0 n.val) := by
  pointwise [val_main_v39, val_main_v38, val_main_v37, val_main_v36, place]

theorem v43_at (n : Fin 2048) : val_main_v43 (F := Ideal) (ix1 n) = BitVec.ofNat 32 (place 1 n.val) := by
  pointwise [val_main_v43, val_main_v42, val_main_v41, val_main_v40, place]

theorem angV_apply (h : Fin 2) (pos : IVec S2048 32) (hpos : ∀ n, pos (ix1 n) = BitVec.ofNat 32 (place h n.val)) (n : Fin 2048) (d : Fin 32) :
    angV (F := Ideal) pos (ix2 n d) = angle h n.val d := by
  unfold angle
  rw [← hpos]
  pointwise [angV]

theorem turnV_lo (a : FVec Ideal S16x4x2048x64 .f32) (h : Fin 2) (pos : IVec S2048 32)
    (hpos : ∀ n, pos (ix1 n) = BitVec.ofNat 32 (place h n.val)) (b : Fin 16) (g : Fin 4) (n : Fin 2048) (d : Fin 32) :
    turnV a pos (ix4 b g n ⟨d.val, by omega⟩) = a (ix4 b g n ⟨d.val, by omega⟩) * Ideal.cos (angle h n.val d)
      - a (ix4 b g n ⟨32 + d.val, by omega⟩) * Ideal.sin (angle h n.val d) := by
  rw [← angV_apply h pos hpos]
  unfold turnV wideV
  generalize angV (F := Ideal) pos = t
  have hd := d.isLt
  pointwise []

theorem turnV_hi (a : FVec Ideal S16x4x2048x64 .f32) (h : Fin 2) (pos : IVec S2048 32)
    (hpos : ∀ n, pos (ix1 n) = BitVec.ofNat 32 (place h n.val)) (b : Fin 16) (g : Fin 4) (n : Fin 2048) (d : Fin 32) :
    turnV a pos (ix4 b g n ⟨32 + d.val, by omega⟩) = a (ix4 b g n ⟨d.val, by omega⟩) * Ideal.sin (angle h n.val d)
      + a (ix4 b g n ⟨32 + d.val, by omega⟩) * Ideal.cos (angle h n.val d) := by
  rw [← angV_apply h pos hpos]
  unfold turnV wideV
  generalize angV (F := Ideal) pos = t
  have hd := d.isLt
  pointwise []

theorem turnV_apply (a : FVec Ideal S16x4x2048x64 .f32) (h : Fin 2) (pos : IVec S2048 32)
    (hpos : ∀ n, pos (ix1 n) = BitVec.ofNat 32 (place h n.val)) (b : Fin 16) (g : Fin 4) (n : Fin 2048) (s : Fin 2) (d : Fin 32) :
    turnV a pos (ix4 b g n ⟨32 * s.val + d.val, by omega⟩) =
      if s.val = 0 then a (ix4 b g n ⟨d.val, by omega⟩) * Ideal.cos (angle h n.val d) - a (ix4 b g n ⟨32 + d.val, by omega⟩) * Ideal.sin (angle h n.val d)
      else a (ix4 b g n ⟨d.val, by omega⟩) * Ideal.sin (angle h n.val d) + a (ix4 b g n ⟨32 + d.val, by omega⟩) * Ideal.cos (angle h n.val d) := by
  match s with
  | ⟨0, _⟩ =>
    rw [if_pos rfl, ← turnV_lo a h pos hpos]
    exact congrArg (fun v => turnV a pos (ix4 b g n v)) (Fin.ext (by show 32 * 0 + d.val = d.val; omega))
  | ⟨1, _⟩ =>
    rw [if_neg Nat.one_ne_zero, ← turnV_hi a h pos hpos]
    rfl

/-- Context rows first, latent rows next. -/
theorem join_rows (x : FVec Ideal S16x4x256x128 .f32) (y : FVec Ideal S16x4x2048x128 .f32) (b : Fin 16) (g : Fin 4) (p : Fin 2304) (l : Fin 128) :
    concatenate S16x4x2304x128 2 [⟨S16x4x256x128, x⟩, ⟨S16x4x2048x128, y⟩] concatenates_S16x4x256x128_S16x4x2048x128_S16x4x2304x128_d2 (ix4 b g p l)
      = if hp : p.val < 256 then x (ix4 b g ⟨p.val, hp⟩ l) else y (ix4 b g ⟨p.val - 256, by omega⟩ l) := by
  pointwise []

/-- The two halves of a head beside each other. -/
theorem join_halves (x y : FVec Ideal S16x4x2048x64 .f32) (b : Fin 16) (g : Fin 4) (n : Fin 2048) (h : Fin 2) (r : Fin 64) :
    concatenate S16x4x2048x128 3 [⟨S16x4x2048x64, x⟩, ⟨S16x4x2048x64, y⟩] concatenates_S16x4x2048x64_S16x4x2048x64_S16x4x2048x128_d3
        (ix4 b g n ⟨64 * h.val + r.val, by omega⟩)
      = if h.val = 0 then x (ix4 b g n r) else y (ix4 b g n r) := by
  have hr := r.isLt
  match h with
  | ⟨0, _⟩ => pointwise []
  | ⟨1, _⟩ => pointwise []

theorem rotV_apply (a : FVec Ideal S16x4x2304x128 .f32) (b : Fin 16) (g : Fin 4) (p : Fin 2304) (h s : Fin 2) (d : Fin 32) :
    rotV a (ix4 b g p (lane3 h s d)) = rotated (fun h s d => a (ix4 b g p (lane3 h s d))) p h s d := by
  unfold rotV rotated
  rw [join_rows]
  by_cases hp : p.val < 256
  · rw [dif_pos hp, if_pos hp]
    show _ = a (ix4 b g p (lane3 h s d))
    generalize lane3 h s d = l
    pointwise []
  · rw [dif_neg hp, if_neg hp]
    have hl : lane3 h s d = ⟨64 * h.val + (⟨32 * s.val + d.val, by omega⟩ : Fin 64).val, by have := h.isLt; have := s.isLt; have := d.isLt; show 64 * h.val + (32 * s.val + d.val) < 128; omega⟩ :=
      Fin.ext (by show 64 * h.val + 32 * s.val + d.val = 64 * h.val + (32 * s.val + d.val); omega)
    rw [hl, join_halves]
    have hlat : ∀ (r : Fin 64), extractStridedSlice S16x4x2048x64 ![0, 0, 0, 0] (latV a) slices_S16x4x2048x128_S16x4x2048x64_0_0_0_0
        (ix4 b g ⟨p.val - 256, by omega⟩ r) = a (ix4 b g p ⟨r.val, by omega⟩) := by
      intro r
      pointwise [latV]
      refine congrArg (fun v => a (ix4 b g v _)) (Fin.ext ?_)
      show 256 + (p.val - 256) = p.val; omega
    have hlat' : ∀ (r : Fin 64), extractStridedSlice S16x4x2048x64 ![0, 0, 0, 64] (latV a) slices_S16x4x2048x128_S16x4x2048x64_0_0_0_64
        (ix4 b g ⟨p.val - 256, by omega⟩ r) = a (ix4 b g p ⟨64 + r.val, by omega⟩) := by
      intro r
      pointwise [latV]
      refine congrArg (fun v => a (ix4 b g v _)) (Fin.ext ?_)
      show 256 + (p.val - 256) = p.val; omega
    have e : ∀ (u v : Fin 128), u.val = v.val → a (ix4 b g p u) = a (ix4 b g p v) := by
      intro u v huv; rw [Fin.ext huv]
    match h with
    | ⟨0, _⟩ =>
      rw [if_pos rfl, turnV_apply _ 0 _ v39_at, hlat, hlat]
      refine if_congr Iff.rfl (congrArg₂ (fun x y : EReal => x * Ideal.cos _ - y * Ideal.sin _) (e _ _ ?_) (e _ _ ?_))
        (congrArg₂ (fun x y : EReal => x * Ideal.sin _ + y * Ideal.cos _) (e _ _ ?_) (e _ _ ?_))
      · show d.val = 64 * 0 + 32 * 0 + d.val; omega
      · show 32 + d.val = 64 * 0 + 32 * 1 + d.val; omega
      · show d.val = 64 * 0 + 32 * 0 + d.val; omega
      · show 32 + d.val = 64 * 0 + 32 * 1 + d.val; omega
    | ⟨1, _⟩ =>
      rw [if_neg Nat.one_ne_zero, turnV_apply _ 1 _ v43_at, hlat', hlat']
      refine if_congr Iff.rfl (congrArg₂ (fun x y : EReal => x * Ideal.cos _ - y * Ideal.sin _) (e _ _ ?_) (e _ _ ?_))
        (congrArg₂ (fun x y : EReal => x * Ideal.sin _ + y * Ideal.cos _) (e _ _ ?_) (e _ _ ?_))
      · show 64 + d.val = 64 * 1 + 32 * 0 + d.val; omega
      · show 64 + (32 + d.val) = 64 * 1 + 32 * 1 + d.val; omega
      · show 64 + d.val = 64 * 1 + 32 * 0 + d.val; omega
      · show 64 + (32 + d.val) = 64 * 1 + 32 * 1 + d.val; omega

theorem splitV_apply (a : FVec Ideal S16x2304x512 .f32) (b : Fin 16) (g : Fin 4) (p : Fin 2304) (h s : Fin 2) (d : Fin 32) :
    splitV a (ix4 b g p (lane3 h s d)) = a (ix3 b p (col4 g h s d)) := by
  have hg := g.isLt
  have hl : 64 * h.val + 32 * s.val + d.val < 128 := by omega
  unfold col4
  generalize hq : lane3 h s d = l
  have hv : l.val = 64 * h.val + 32 * s.val + d.val := by rw [← hq]
  pointwise [splitV]
  refine congrArg (fun v : Fin 512 => a (ix3 b p v)) (Fin.ext ?_)
  show g.val * 128 + l.val = 128 * g.val + (64 * h.val + 32 * s.val + d.val)
  omega

theorem flatV_apply (a : FVec Ideal S16x4x2304x128 .f32) (b : Fin 16) (g : Fin 4) (p : Fin 2304) (h s : Fin 2) (d : Fin 32) :
    flatV a (ix2 (at2 b p) (col4 g h s d)) = a (ix4 b g p (lane3 h s d)) := by
  have hb := b.isLt
  have hp := p.isLt
  have hg := g.isLt
  have hl : 64 * h.val + 32 * s.val + d.val < 128 := by omega
  pointwise [flatV]
  have e : ∀ (u : Fin 16) (v : Fin 4) (w : Fin 2304) (z : Fin 128), u = b → v = g → w = p → z = lane3 h s d → a (ix4 u v w z) = a (ix4 b g p (lane3 h s d)) := by
    rintro _ _ _ _ rfl rfl rfl rfl; rfl
  refine e _ _ _ _ (Fin.ext ?_) (Fin.ext ?_) (Fin.ext ?_) (Fin.ext ?_)
  · show (b.val * 2304 + p.val) / 2304 = b.val; omega
  · show (128 * g.val + (64 * h.val + 32 * s.val + d.val)) / 128 = g.val; omega
  · show (b.val * 2304 + p.val) % 2304 = p.val; omega
  · show (128 * g.val + (64 * h.val + 32 * s.val + d.val)) % 128 = 64 * h.val + 32 * s.val + d.val; omega

/-! ## The rows and their projections -/

theorem v17_at (b : Fin 16) (p : Fin 2304) (k : Fin 1024) :
    val_main_v17 (F := Ideal) x1 (ix3 b p k) = x1 (ix5 2 (Cert.MlpMath.modOf (at2 b p)) 1 0 k) := by
  rw [modOf_at2]
  pointwise [val_main_v17, val_main_v16, val_main_v15, val_main_v14, val_main_v13, val_main_v12, val_main_v11]
  split <;> rfl

theorem v27_at (b : Fin 16) (p : Fin 2304) (k : Fin 1024) :
    val_main_v27 (F := Ideal) x1 (ix3 b p k) = x1 (ix5 2 (Cert.MlpMath.modOf (at2 b p)) 0 0 k) := by
  rw [modOf_at2]
  pointwise [val_main_v27, val_main_v26, val_main_v25, val_main_v24, val_main_v23, val_main_v22, val_main_v21]
  split <;> rfl

theorem v0_at (b : Fin 16) (p : Fin 2304) (k : Fin 1024) : val_main_v0 (F := Ideal) x0 (ix3 b p k) = x0 (ix2 (at2 b p) k) := by
  pointwise [val_main_v0]

/-- The projection of rows which are those of an array of rows, with vectors which are a layer's. -/
theorem projF_at (l : Fin 4) (X0 : S36864x1024.Idx → EReal) (X1 : S4x24x6x1x1024.Idx → EReal) (r sc sh : FVec Ideal S16x2304x1024 .f32)
    (w : FVec Ideal S1024x3600 .f32) (b : Fin 16) (p : Fin 2304) (hr : ∀ k, r (ix3 b p k) = X0 (ix2 (at2 b p) k))
    (hsc : ∀ k, sc (ix3 b p k) = X1 (ix5 l (Cert.MlpMath.modOf (at2 b p)) 1 0 k))
    (hsh : ∀ k, sh (ix3 b p k) = X1 (ix5 l (Cert.MlpMath.modOf (at2 b p)) 0 0 k)) (n : Fin 3600) :
    projF r sc sh w (ix3 b p n) = pr l X0 X1 w (at2 b p) n := by
  unfold pr proj hrow
  simp only [← hr, ← hsc, ← hsh]
  pointwise [projF, Cert.MlpMath.normed]

theorem v29_at (b : Fin 16) (p : Fin 2304) (n : Fin 3600) :
    val_main_v29 (F := Ideal) x0 x1 x2 (ix3 b p n) = pr 2 x0 x1 x2 (at2 b p) n := by
  rw [v29_eq]
  exact projF_at 2 x0 x1 _ _ _ x2 b p (v0_at x0 b p) (v17_at x1 b p) (v27_at x1 b p) n

theorem batch_of (b : Fin 16) (p : Fin 2304) (h : (b.val * 2304 + p.val) / 2304 < 16) : (⟨(b.val * 2304 + p.val) / 2304, h⟩ : Fin 16) = b :=
  Fin.ext (by have := p.isLt; show (b.val * 2304 + p.val) / 2304 = b.val; omega)
theorem pos_of (b : Fin 16) (p : Fin 2304) (h : (b.val * 2304 + p.val) % 2304 < 2304) : (⟨(b.val * 2304 + p.val) % 2304, h⟩ : Fin 2304) = p :=
  Fin.ext (by have := p.isLt; show (b.val * 2304 + p.val) % 2304 = p.val; omega)

/-! ## The six results -/

theorem q_at (y : FVec Ideal S16x2304x3600 .f32) (b : Fin 16) (p : Fin 2304) (g : Fin 4) (h s : Fin 2) (d : Fin 32) :
    qF y (ix2 (at2 b p) (col4 g h s d)) = rotated (fun h s d => y (ix3 b p ⟨(col4 g h s d).val, by omega⟩)) p h s d := by
  show (flatV (F := Ideal) (rotV (splitV (extractStridedSlice S16x2304x512 ![0, 0, 0] y slices_S16x2304x3600_S16x2304x512_0_0_0)))
    (ix2 (at2 b p) (col4 g h s d)) : EReal) = _
  rw [flatV_apply, rotV_apply]
  refine congrArg (fun f => rotated f p h s d) (funext fun h => funext fun s => funext fun d => ?_)
  rw [splitV_apply]
  pointwise []

theorem k_at (y : FVec Ideal S16x2304x3600 .f32) (b : Fin 16) (p : Fin 2304) (g : Fin 4) (h s : Fin 2) (d : Fin 32) :
    kF y (ix2 (col4 g h s d) (at2 b p))
      = rotated (fun h s d => y (ix3 b p ⟨512 + (col4 g h s d).val, by omega⟩) * Ideal.ofBits .f32 0x3DB504F3#32) p h s d := by
  have ht : ∀ (a : FVec Ideal S36864x512 .f32) (q : Fin 512) (r : Fin 36864),
      transpose S512x36864 [1, 0] a transposes_S36864x512_S512x36864_1_0 (ix2 q r) = a (ix2 r q) := by
    intro a q r; pointwise []
  show (transpose S512x36864 [1, 0] (flatV (F := Ideal) (rotV (splitV
    (mulf (extractStridedSlice S16x2304x512 ![0, 0, 512] y slices_S16x2304x3600_S16x2304x512_0_0_512)
      (broadcastInDim S16x2304x512 ![] bcast_S_S16x2304x512 (constant S_ .f32 0x3DB504F3#32))))))
    transposes_S36864x512_S512x36864_1_0 (ix2 (col4 g h s d) (at2 b p)) : EReal) = _
  rw [ht, flatV_apply, rotV_apply]
  refine congrArg (fun f => rotated f p h s d) (funext fun h => funext fun s => funext fun d => ?_)
  rw [splitV_apply]
  pointwise []

theorem v_at (y : FVec Ideal S16x2304x3600 .f32) (b : Fin 16) (p : Fin 2304) (q : Fin 512) :
    vF y (ix2 (at2 b p) q) = y (ix3 b p ⟨1024 + q.val, by omega⟩) := by
  have hb := b.isLt
  have hp := p.isLt
  have hq := q.isLt
  pointwise [vF]
  rw [batch_of, pos_of]

theorem o_at (y : FVec Ideal S16x2304x3600 .f32) (b : Fin 16) (p : Fin 2304) (q : Fin 512) :
    oF y (ix2 (at2 b p) q) = Ideal.div 1 (1 + Ideal.exp (-y (ix3 b p ⟨1536 + q.val, by omega⟩))) := by
  have hb := b.isLt
  have hp := p.isLt
  have hq := q.isLt
  pointwise [oF]
  rw [batch_of, pos_of]

theorem g_at (y : FVec Ideal S16x2304x3600 .f32) (x3 : FVec Ideal S16 .f32) (b : Fin 16) (p : Fin 2304) (q : Fin 128) :
    gF y x3 (ix2 q (at2 b p)) = if hq : q.val < 16 then y (ix3 b p ⟨2048 + q.val, by omega⟩) + x3 (ix1 ⟨q.val, hq⟩) else 0 := by
  have hb := b.isLt
  have hp := p.isLt
  have hq := q.isLt
  pointwise [gF]
  by_cases h : q.val < 16
  · rw [dif_pos h, dif_pos ⟨h, by omega⟩]
  · rw [dif_neg h, dif_neg (fun h' => h h'.1)]
    exact sitofp_zero

theorem hy_at (y : FVec Ideal S16x2304x3600 .f32) (b : Fin 16) (p : Fin 2304) (q : Fin 1536) :
    hyF y (ix2 (at2 b p) q) = y (ix3 b p ⟨2064 + q.val, by omega⟩) := by
  have hb := b.isLt
  have hp := p.isLt
  have hq := q.isLt
  pointwise [hyF]
  rw [batch_of, pos_of]

/-- A row of the whole array, by batch and position. -/
theorem at2_cases (r : Fin 36864) : ∃ (b : Fin 16) (p : Fin 2304), r = at2 b p :=
  ⟨⟨r.val / 2304, by omega⟩, ⟨r.val % 2304, by omega⟩, Fin.ext (by show r.val = r.val / 2304 * 2304 + r.val % 2304; omega)⟩

end Cert.EvenInRefIdeal.Hand

end
-- ==== Proof.Mlp.Block.lean ====
/-
  What one grid point of the mixing and feed-forward kernel leaves in its block of 768 rows: three groups of 256 rows, each
  the same function of its operands (`rowsV`), and that function read at a row and a column.
-/
module

public import proofs.«01_k».proof.Proof.Gen.MlpIdeal.Frame
public import proofs.«01_k».proof.Proof.Mlp.Rows

@[expose] public section

set_option maxRecDepth 16384

noncomputable section

namespace Cert.MlpIdeal.Hand

open Cert.MlpIdeal Cert.MlpIdeal.Gen Idealize.ShloMosaic Idealize.ShloMosaic.TcCoe

section
variable {F : FTy → Type} [FloatOps F]

/-- A vector of modulations as one row of 1024. -/
abbrev modV (v : Vec F S1x1x1x1x1024 .f32) : FVec F S1x1024 .f32 := shapeCast S1x1024 v shapeCasts_S1x1x1x1x1024_S1x1024

/-- The rows after the gated output projection. -/
def mixV (x : Vec F S256x1024 .f32) (a : Vec F S256x512 .bf16) (z : Vec F S256x512 .f32) (wa wb : Vec F S512x1024 .bf16)
    (g1 : FVec F S1x1024 .f32) : FVec F S256x1024 .f32 :=
  addf x (mulf (broadcastTo S256x1024 g1 broadcasts_S1x1024_S256x1024)
    (addf (matmul dot_S256x512_S512x1024_S256x1024_1_0_0_1_n_n none a
        (shapeCast S512x1024 wa shapeCasts_S512x1024_S512x1024) (constant S256x1024 .f32 0x00000000#32))
      (matmul dot_S256x512_S512x1024_S256x1024_1_0_0_1_n_n none (truncf .bf16 z bitsLt_bf16_f32)
        (shapeCast S512x1024 wb shapeCasts_S512x1024_S512x1024) (constant S256x1024 .f32 0x00000000#32))))

/-- The normalized and modulated rows. -/
def normV (r : FVec F S256x1024 .f32) (sc sh : FVec F S1x1024 .f32) : FVec F S256x1024 .bf16 :=
  truncf .bf16 (addf (mulf (mulf r (broadcastTo S256x1024 (rsqrt (addf (divf
      (shapeCast S256x1 (multiReduction .add [1] S256 (mulf r r) 0x00000000#32 reduces_S256x1024_S256 (.inl rfl) rfl)
        shapeCasts_S256_S256x1)
      (broadcast S256x1 (Scalar.ofBits .f32 0x44800000#32))) (broadcast S256x1 (Scalar.ofBits .f32 0x358637BD#32))))
      broadcasts_S256x1_S256x1024))
    (broadcastTo S256x1024 (addf (broadcast S1x1024 (Scalar.ofBits .f32 0x3F800000#32)) sc) broadcasts_S1x1024_S256x1024))
    (broadcastTo S256x1024 sh broadcasts_S1x1024_S256x1024)) bitsLt_bf16_f32

/-- One group of 1024 hidden units, brought back to the width of a row. -/
def groupV (h : FVec F S256x1024 .bf16) (w1 w2 : Vec F S1024x1024 .bf16) : FVec F S256x1024 .f32 :=
  matmul dot_S256x1024_S1024x1024_S256x1024_1_0_0_1_n_n none
    (truncf .bf16 (mulf
      (maximumf (matmul dot_S256x1024_S1024x1024_S256x1024_1_0_0_1_n_n none h
        (shapeCast S1024x1024 w1 shapeCasts_S1024x1024_S1024x1024) (constant S256x1024 .f32 0x00000000#32))
        (broadcast S256x1024 (Scalar.ofBits .f32 0x00000000#32)))
      (maximumf (matmul dot_S256x1024_S1024x1024_S256x1024_1_0_0_1_n_n none h
        (shapeCast S1024x1024 w1 shapeCasts_S1024x1024_S1024x1024) (constant S256x1024 .f32 0x00000000#32))
        (broadcast S256x1024 (Scalar.ofBits .f32 0x00000000#32)))) bitsLt_bf16_f32)
    (shapeCast S1024x1024 w2 shapeCasts_S1024x1024_S1024x1024) (constant S256x1024 .f32 0x00000000#32)

/-- The rows of the result, from the mixed rows. -/
def restV (r : FVec F S256x1024 .f32) (sh sc g2 : FVec F S1x1024 .f32) (w1 : Vec F S1024x4096 .bf16) (w2 : Vec F S4096x1024 .bf16) :
    FVec F S256x1024 .f32 :=
  addf r (mulf (broadcastTo S256x1024 g2 broadcasts_S1x1024_S256x1024)
    (addf (addf (addf (groupV (normV r sc sh) (View.ld w1 r0_5) (View.ld w2 r0_6))
      (groupV (normV r sc sh) (View.ld w1 r0_7) (View.ld w2 r0_8)))
      (groupV (normV r sc sh) (View.ld w1 r0_9) (View.ld w2 r0_10)))
      (groupV (normV r sc sh) (View.ld w1 r0_11) (View.ld w2 r0_12))))

/-- A group of 256 rows of the result. -/
def rowsV (x : Vec F S256x1024 .f32) (a : Vec F S256x512 .bf16) (z : Vec F S256x512 .f32) (wo : Vec F S1024x1024 .bf16)
    (g1 sh sc g2 : FVec F S1x1024 .f32) (w1 : Vec F S1024x4096 .bf16) (w2 : Vec F S4096x1024 .bf16) : FVec F S256x1024 .f32 :=
  restV (mixV x a z (View.ld wo r0_1) (View.ld wo r0_2) g1) sh sc g2 w1 w2

/-- Whether the point's first 256 rows are context rows: its number is a multiple of three. -/
def isCtx (i : grid0.Coords) : BitVec 1 :=
  let n : BitVec 32 := Scalar.select (Scalar.cmpi .eq 3#32 0#32) 1#32 3#32
  let q : BitVec 32 := Scalar.remsi (BitVec.ofNat 32 (i 0).val) n
  Scalar.cmpi .eq (Scalar.select (Scalar.andi (Scalar.xori (Scalar.cmpi .slt q 0#32) (Scalar.cmpi .slt n 0#32))
    (Scalar.cmpi .ne q 0#32)) (Scalar.addi q n) q) 0#32

/-- The block is its three groups of rows. -/
theorem out_eq (i : grid0.Coords) (x0 : Vec F S768x1024 .f32) (x1 x2 x3 x4 x5 x6 x7 x8 : Vec F S1x1x1x1x1024 .f32)
    (x9 : Vec F S768x512 .bf16) (x10 : Vec F S768x512 .f32) (x11 : Vec F S1024x1024 .bf16) (x12 : Vec F S1024x4096 .bf16)
    (x13 : Vec F S4096x1024 .bf16) :
    out0_14 i x0 x1 x2 x3 x4 x5 x6 x7 x8 x9 x10 x11 x12 x13 = View.canon (Val := Elt F) (s := S768x1024) (e := .f32)
      [⟨r0_16, rowsV (View.ld x0 r0_16) (View.ld x9 r0_15) (View.ld x10 r0_15) x11
          (modV (View.ld x2 r0_4)) (modV (View.ld x4 r0_4)) (modV (View.ld x6 r0_4)) (modV (View.ld x8 r0_4)) x12 x13⟩,
       ⟨r0_14, rowsV (View.ld x0 r0_14) (View.ld x9 r0_13) (View.ld x10 r0_13) x11
          (modV (View.ld x2 r0_4)) (modV (View.ld x4 r0_4)) (modV (View.ld x6 r0_4)) (modV (View.ld x8 r0_4)) x12 x13⟩,
       ⟨r0_3, rowsV (View.ld x0 r0_3) (View.ld x9 r0_0) (View.ld x10 r0_0) x11
          (Scalar.select (isCtx i) (modV (View.ld x1 r0_4)) (modV (View.ld x2 r0_4)))
          (Scalar.select (isCtx i) (modV (View.ld x3 r0_4)) (modV (View.ld x4 r0_4)))
          (Scalar.select (isCtx i) (modV (View.ld x5 r0_4)) (modV (View.ld x6 r0_4)))
          (Scalar.select (isCtx i) (modV (View.ld x7 r0_4)) (modV (View.ld x8 r0_4))) x12 x13⟩] := rfl

end

/-! ## The groups read at a row and a column -/

theorem mixV_apply (x : Vec Ideal S256x1024 .f32) (a : Vec Ideal S256x512 .bf16) (z : Vec Ideal S256x512 .f32)
    (wa wb : Vec Ideal S512x1024 .bf16) (g1 : FVec Ideal S1x1024 .f32) (p : Fin 256) (q : Fin 1024) :
    mixV x a z wa wb g1 (ix2 p q) = x (ix2 p q) + g1 (ix2 0 q)
      * ((∑ k : Fin 512, a (ix2 p k) * wa (ix2 k q)) + ∑ k : Fin 512, z (ix2 p k) * wb (ix2 k q)) := by
  pointwise [mixV]

theorem normV_apply (r : FVec Ideal S256x1024 .f32) (sc sh : FVec Ideal S1x1024 .f32) (p : Fin 256) (q : Fin 1024) :
    normV r sc sh (ix2 p q) = Cert.MlpMath.normed (fun k => r (ix2 p k)) (fun k => sc (ix2 0 k)) (fun k => sh (ix2 0 k)) q := by
  pointwise [normV, Cert.MlpMath.normed]

theorem groupV_apply (h : FVec Ideal S256x1024 .bf16) (w1 w2 : Vec Ideal S1024x1024 .bf16) (p : Fin 256) (q : Fin 1024) :
    groupV h w1 w2 (ix2 p q) = ∑ n : Fin 1024, Cert.MlpMath.unit (fun k => h (ix2 p k)) (fun k => w1 (ix2 k n)) * w2 (ix2 n q) := by
  pointwise [groupV, Cert.MlpMath.unit]

theorem modV_apply (v : Vec Ideal S1x1x1x1x1024 .f32) (q : Fin 1024) : modV v (ix2 0 q) = v (ix5 0 0 0 0 q) := by
  pointwise [modV]

theorem ld_mod (x : Vec Ideal S1x1x1x1x1024 .f32) (k : Fin 1024) : modV (View.ld x r0_4) (ix2 0 k) = x (ix5 0 0 0 0 k) := by
  pointwise [modV]

/-- The feed-forward part of a group of rows, read at a row and a column. -/
theorem restV_apply (r : FVec Ideal S256x1024 .f32) (sh sc g2 : FVec Ideal S1x1024 .f32) (w1 : Vec Ideal S1024x4096 .bf16)
    (w2 : Vec Ideal S4096x1024 .bf16) (p : Fin 256) (q : Fin 1024) :
    restV r sh sc g2 w1 w2 (ix2 p q) = Cert.MlpMath.rest (fun k => r (ix2 p k)) (fun k => sh (ix2 0 k)) (fun k => sc (ix2 0 k))
      (fun k => g2 (ix2 0 k)) (fun k n => w1 (ix2 k n)) (fun n k => w2 (ix2 n k)) q := by
  unfold restV Cert.MlpMath.rest
  rw [Cert.MlpMath.sum_groups]
  have hn : ∀ k, normV r sc sh (ix2 p k) = Cert.MlpMath.normed (fun k => r (ix2 p k)) (fun k => sc (ix2 0 k)) (fun k => sh (ix2 0 k)) k :=
    normV_apply r sc sh p
  rw [← funext hn]
  generalize normV r sc sh = h
  have hc : ∀ c : FVec Ideal S256x1024 .f32, addf r (mulf (broadcastTo S256x1024 g2 broadcasts_S1x1024_S256x1024) c) (ix2 p q)
      = r (ix2 p q) + g2 (ix2 0 q) * c (ix2 p q) := by
    intro c; pointwise []
  rw [hc]
  have ha : ∀ c c' : FVec Ideal S256x1024 .f32, addf c c' (ix2 p q) = c (ix2 p q) + c' (ix2 p q) := fun _ _ => rfl
  rw [ha, ha, ha, groupV_apply, groupV_apply, groupV_apply, groupV_apply]
  pointwise []

/-- A group of rows of the result, read at a row and a column. -/
theorem rowsV_apply (x : Vec Ideal S256x1024 .f32) (a : Vec Ideal S256x512 .bf16) (z : Vec Ideal S256x512 .f32)
    (wo : Vec Ideal S1024x1024 .bf16) (g1 sh sc g2 : FVec Ideal S1x1024 .f32) (w1 : Vec Ideal S1024x4096 .bf16)
    (w2 : Vec Ideal S4096x1024 .bf16) (p : Fin 256) (q : Fin 1024) :
    rowsV x a z wo g1 sh sc g2 w1 w2 (ix2 p q) = Cert.MlpMath.row (fun k => x (ix2 p k)) (fun k => a (ix2 p k)) (fun k => z (ix2 p k))
      (fun k j => wo (ix2 k j)) (fun k => g1 (ix2 0 k)) (fun k => sh (ix2 0 k)) (fun k => sc (ix2 0 k)) (fun k => g2 (ix2 0 k))
      (fun k n => w1 (ix2 k n)) (fun n k => w2 (ix2 n k)) q := by
  have hm : ∀ k : Fin 1024, mixV x a z (View.ld wo r0_1) (View.ld wo r0_2) g1 (ix2 p k)
      = Cert.MlpMath.mixed (fun k => x (ix2 p k)) (fun k => a (ix2 p k)) (fun k => z (ix2 p k))
        (fun k j => wo (ix2 k j)) (fun k => g1 (ix2 0 k)) k := by
    intro k
    rw [mixV_apply]
    pointwise [Cert.MlpMath.mixed]
  unfold rowsV Cert.MlpMath.row
  rw [restV_apply, funext hm]

/-! ## A block of three groups -/

theorem split_at (o : ℕ) (p : Fin 768) (h : o ≤ p.val) (h' : p.val < o + 256) :
    ∃ (p' : Fin 256) (hp : o + p'.val < 768), p = ⟨o + p'.val, hp⟩ :=
  ⟨⟨p.val - o, by omega⟩, by show o + (p.val - o) < 768; omega, Fin.ext (by show p.val = o + (p.val - o); omega)⟩

/-- Three groups of 256 rows, each the rows of `f` from its place on, are the 768 rows of `f`. -/
theorem thirds (R2 R1 R0 : FVec Ideal S256x1024 .f32) (f : Fin 768 → Fin 1024 → EReal)
    (h2 : ∀ (p : Fin 256) (q : Fin 1024), R2 (ix2 p q) = f ⟨512 + p.val, by omega⟩ q)
    (h1 : ∀ (p : Fin 256) (q : Fin 1024), R1 (ix2 p q) = f ⟨256 + p.val, by omega⟩ q)
    (h0 : ∀ (p : Fin 256) (q : Fin 1024), R0 (ix2 p q) = f ⟨0 + p.val, by omega⟩ q) (p : Fin 768) (q : Fin 1024) :
    View.canon (Val := Elt Ideal) (s := S768x1024) (e := .f32) [⟨r0_16, R2⟩, ⟨r0_14, R1⟩, ⟨r0_3, R0⟩] (ix2 p q) = f p q := by
  have hp := p.isLt
  by_cases c2 : 512 ≤ p.val
  · obtain ⟨p', hp', rfl⟩ := split_at 512 p (by omega) (by omega)
    have e : (ix2 ⟨512 + p'.val, by omega⟩ q : S768x1024.Idx) = r0_16.emb (ix2 p' q) :=
      (Cert.MlpMath.ix2_of _ _ _ (by show 512 + 1 * p'.val = 512 + p'.val; omega) (by show 0 + 1 * q.val = q.val; omega)).symm
    rw [e, View.canon_cons_emb]
    exact h2 p' q
  rw [View.canon_cons_of_not_mem _ _ (by
    show _ ∉ r0_16.set
    rw [Rect.mem_set_unit]; intro h; have h' : 512 ≤ p.val := (h 0).1; omega)]
  by_cases c1 : 256 ≤ p.val
  · obtain ⟨p', hp', rfl⟩ := split_at 256 p (by omega) (by omega)
    have e : (ix2 ⟨256 + p'.val, by omega⟩ q : S768x1024.Idx) = r0_14.emb (ix2 p' q) :=
      (Cert.MlpMath.ix2_of _ _ _ (by show 256 + 1 * p'.val = 256 + p'.val; omega) (by show 0 + 1 * q.val = q.val; omega)).symm
    rw [e, View.canon_cons_emb]
    exact h1 p' q
  rw [View.canon_cons_of_not_mem _ _ (by
    show _ ∉ r0_14.set
    rw [Rect.mem_set_unit]; intro h; have h' : 256 ≤ p.val := (h 0).1; omega)]
  obtain ⟨p', hp', rfl⟩ := split_at 0 p (by omega) (by omega)
  have e : (ix2 ⟨0 + p'.val, by omega⟩ q : S768x1024.Idx) = r0_3.emb (ix2 p' q) :=
    (Cert.MlpMath.ix2_of _ _ _ (by show 0 + 1 * p'.val = 0 + p'.val; omega) (by show 0 + 1 * q.val = q.val; omega)).symm
  rw [e, View.canon_cons_emb]
  exact h0 p' q

end Cert.MlpIdeal.Hand

end
-- ==== Proof.Natten.Soft.lean ====
/-
  A softmax over two lists of scores, in two orders of computing it: normalized weights first and then the weighted sum of
  the values, or the weighted sum and the sum of the weights together and one division last, with powers of two in place of
  powers of e. They agree where no score is plus infinity and some score of the second list is finite.
-/
module

public import Idealize.ShloMosaic.PureOps.Ideal
public import Idealize.ShloMosaic.Lib.IdealHost
public import Mathlib.Analysis.SpecialFunctions.Pow.Real
public import Mathlib.Data.EReal.Operations
public import Mathlib.Data.EReal.Inv

@[expose] public section

noncomputable section

namespace Cert.Soft

open Idealize.ShloMosaic

variable {a b : ℕ}

/-- The largest of the scores of both lists. -/
def peak (s : Fin a → EReal) (t : Fin b → EReal) : EReal := max (Finset.univ.sup s) (Finset.univ.sup t)

/-- The sum of values with weights two to the scores less the largest. -/
def power (s : Fin a → EReal) (t : Fin b → EReal) (v : Fin a → EReal) (vc : Fin b → EReal) : EReal :=
  (∑ n, Ideal.exp2 (s n - peak s t) * v n) + ∑ n, Ideal.exp2 (t n - peak s t) * vc n

/-- The weighted sum of the values times the inverse of the sum of the weights. -/
def late (s : Fin a → EReal) (t : Fin b → EReal) (v : Fin a → EReal) (vc : Fin b → EReal) : EReal :=
  power s t v vc * Ideal.div 1 (power s t (fun _ => 1) (fun _ => 1))

/-- The sum of the weights e to the scores less the largest. -/
def total (s : Fin a → EReal) (t : Fin b → EReal) : EReal :=
  (∑ n, Ideal.exp (s n - peak s t)) + ∑ n, Ideal.exp (t n - peak s t)

/-- The sum of the values, each times its normalized weight. -/
def early (s : Fin a → EReal) (t : Fin b → EReal) (v : Fin a → EReal) (vc : Fin b → EReal) : EReal :=
  (∑ n, Ideal.div (Ideal.exp (s n - peak s t)) (total s t) * v n) + ∑ n, Ideal.div (Ideal.exp (t n - peak s t)) (total s t) * vc n

/-- The binary logarithm of e. -/
def log2e : ℝ := 1 / Real.log 2

theorem log2e_pos : 0 < log2e := by
  unfold log2e
  exact div_pos one_pos (Real.log_pos (by norm_num))

theorem scale_sup (s : Fin a → EReal) : Finset.univ.sup (fun n => (log2e : EReal) * s n) = (log2e : EReal) * Finset.univ.sup s := by
  symm
  refine Finset.comp_sup_eq_sup_comp_of_is_total (fun x : EReal => (log2e : EReal) * x) ?_ (EReal.coe_mul_bot_of_pos log2e_pos)
  intro x y h
  exact mul_le_mul_of_nonneg_left h (EReal.coe_nonneg.mpr log2e_pos.le)

theorem scale_peak (s : Fin a → EReal) (t : Fin b → EReal) :
    peak (fun n => (log2e : EReal) * s n) (fun n => (log2e : EReal) * t n) = (log2e : EReal) * peak s t := by
  unfold peak
  rw [scale_sup, scale_sup]
  have hm : Monotone (fun x : EReal => (log2e : EReal) * x) := fun x y h =>
    mul_le_mul_of_nonneg_left h (EReal.coe_nonneg.mpr log2e_pos.le)
  exact (hm.map_max).symm

/-- A power of two of a scaled difference is a power of e, and it is a nonnegative real. -/
theorem exp2_scaled (x : EReal) (hx : x ≠ ⊤) (m : ℝ) :
    ∃ r : ℝ, 0 ≤ r ∧ (x ≠ ⊥ → 0 < r) ∧ Ideal.exp (x - m) = r ∧ Ideal.exp2 ((log2e : EReal) * x - (log2e : EReal) * m) = r := by
  induction x with
  | bot =>
    refine ⟨0, le_refl _, fun h => absurd rfl h, ?_, ?_⟩
    · rw [EReal.bot_sub]; rfl
    · rw [EReal.coe_mul_bot_of_pos log2e_pos, EReal.bot_sub]; rfl
  | top => exact absurd rfl hx
  | coe x =>
    refine ⟨Real.exp (x - m), (Real.exp_pos _).le, fun _ => Real.exp_pos _, ?_, ?_⟩
    · rw [← EReal.coe_sub]; rfl
    · rw [← EReal.coe_mul, ← EReal.coe_mul, ← EReal.coe_sub]
      show ((Real.rpow 2 (log2e * x - log2e * m) : ℝ) : EReal) = _
      congr 1
      show (2 : ℝ) ^ (log2e * x - log2e * m) = _
      rw [Real.rpow_def_of_pos (by norm_num)]
      congr 1
      have h : Real.log 2 ≠ 0 := (Real.log_pos (by norm_num)).ne'
      unfold log2e
      field_simp

theorem sum_coe {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem sum_mul_coe {n : ℕ} (f : Fin n → EReal) (c : ℝ) (hc : 0 ≤ c) : (∑ i, f i) * (c : EReal) = ∑ i, f i * (c : EReal) := by
  induction n with
  | zero => simp
  | succ n ih =>
    rw [Fin.sum_univ_succ, Fin.sum_univ_succ, ← ih, EReal.right_distrib_of_nonneg_of_ne_top (EReal.coe_nonneg.mpr hc) (EReal.coe_ne_top c)]

/-- The two orders agree. -/
theorem late_eq_early (s : Fin a → EReal) (t : Fin b → EReal) (v : Fin a → EReal) (vc : Fin b → EReal)
    (hs : ∀ n, s n ≠ ⊤) (ht : ∀ n, t n ≠ ⊤) (n₀ : Fin b) (h₀ : t n₀ ≠ ⊥) :
    late (fun n => (log2e : EReal) * s n) (fun n => (log2e : EReal) * t n) v vc = early s t v vc := by
  obtain ⟨m, hm⟩ : ∃ m : ℝ, peak s t = m := by
    have h1 : peak s t ≠ ⊤ := by
      unfold peak
      refine (max_lt ?_ ?_).ne
      · exact (Finset.sup_lt_iff bot_lt_top).mpr fun n _ => lt_top_iff_ne_top.mpr (hs n)
      · exact (Finset.sup_lt_iff bot_lt_top).mpr fun n _ => lt_top_iff_ne_top.mpr (ht n)
    have h2 : peak s t ≠ ⊥ := by
      have : t n₀ ≤ peak s t := (Finset.le_sup (f := t) (Finset.mem_univ n₀)).trans (le_max_right _ _)
      intro h
      rw [h] at this
      exact h₀ (le_bot_iff.mp this)
    exact ⟨(peak s t).toReal, (EReal.coe_toReal h1 h2).symm⟩
  choose e he _ hE hE2 using fun n => exp2_scaled (s n) (hs n) m
  choose f hf hf' hF hF2 using fun n => exp2_scaled (t n) (ht n) m
  have hS : ((∑ n, e n) + ∑ n, f n : ℝ) = (((∑ n, (e n : EReal)) + ∑ n, (f n : EReal)) : EReal) := by
    rw [EReal.coe_add, sum_coe, sum_coe]
  have hpos : 0 < (∑ n, e n) + ∑ n, f n := by
    refine add_pos_of_nonneg_of_pos (Finset.sum_nonneg fun n _ => he n) ?_
    exact Finset.sum_pos' (fun n _ => hf n) ⟨n₀, Finset.mem_univ _, hf' n₀ h₀⟩
  have hdiv : ∀ x : EReal, Ideal.div x (((∑ n, e n) + ∑ n, f n : ℝ) : EReal) = x * ((((∑ n, e n) + ∑ n, f n)⁻¹ : ℝ) : EReal) := by
    intro x
    unfold Ideal.div
    rw [if_neg (by rw [EReal.coe_eq_zero]; exact hpos.ne'), EReal.coe_inv]
  unfold late early power total
  rw [scale_peak, hm]
  simp only [hE, hE2, hF, hF2, mul_one]
  rw [← hS]
  simp only [hdiv, one_mul]
  rw [EReal.right_distrib_of_nonneg_of_ne_top (EReal.coe_nonneg.mpr (inv_nonneg.mpr hpos.le)) (EReal.coe_ne_top _),
    sum_mul_coe _ _ (inv_nonneg.mpr hpos.le), sum_mul_coe _ _ (inv_nonneg.mpr hpos.le)]
  congr 1
  · exact Finset.sum_congr rfl fun n _ => mul_right_comm _ _ _
  · exact Finset.sum_congr rfl fun n _ => mul_right_comm _ _ _

/-- A scale on the first factors of a sum of products of finite numbers comes out of it. -/
theorem sum_scaled {n : ℕ} (q k : Fin n → EReal) (hq : ∀ i, q i ≠ ⊤ ∧ q i ≠ ⊥) (hk : ∀ i, k i ≠ ⊤ ∧ k i ≠ ⊥) (c : ℝ) :
    ∃ r : ℝ, ∑ i, q i * k i = r ∧ ∑ i, q i * (c : EReal) * k i = ((c * r : ℝ) : EReal) := by
  have hq' : ∀ i, q i = ((q i).toReal : EReal) := fun i => (EReal.coe_toReal (hq i).1 (hq i).2).symm
  have hk' : ∀ i, k i = ((k i).toReal : EReal) := fun i => (EReal.coe_toReal (hk i).1 (hk i).2).symm
  refine ⟨∑ i, (q i).toReal * (k i).toReal, ?_, ?_⟩
  · rw [sum_coe]
    refine Finset.sum_congr rfl fun i _ => ?_
    rw [EReal.coe_mul, ← hq', ← hk']
  · rw [Finset.mul_sum, sum_coe]
    refine Finset.sum_congr rfl fun i _ => ?_
    rw [EReal.coe_mul, EReal.coe_mul, ← hq', ← hk', ← mul_assoc, mul_comm (c : EReal)]

end Cert.Soft

end
-- ==== Proof.Natten.Words.lean ====
/-
  The float words of the attention programs as extended reals.
-/
module

public import Idealize.ShloMosaic.Lib.IdealHost
public import proofs.«01_k».proof.Proof.Natten.Soft

@[expose] public section

noncomputable section

namespace Cert.Soft

open Idealize.ShloMosaic

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

theorem word_one : Ideal.ofBits .bf16 0x3F80#16 = 1 := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

/-- One over the logarithm of two is the binary logarithm of e. -/
theorem one_div_log : Ideal.div 1 (Ideal.log ((2 : ℝ) : EReal)) = (log2e : EReal) := by
  have h : 0 < Real.log 2 := Real.log_pos (by norm_num)
  have e : Ideal.log ((2 : ℝ) : EReal) = ((Real.log 2 : ℝ) : EReal) := by
    show (if (2 : ℝ) ≤ 0 then (⊥ : EReal) else (Real.log 2 : EReal)) = _
    rw [if_neg (by norm_num)]
  rw [e]
  unfold Ideal.div log2e
  rw [if_neg (by rw [EReal.coe_eq_zero]; exact h.ne'), one_mul, ← EReal.coe_inv, one_div]

end Cert.Soft

end
-- ==== Proof.Natten.Whole.lean ====
/-
  The attention's result, index by index. The first 256 of a batch's 2304 rows are the context, which attends to itself. The
  others are a grid of 32 rows and 64 columns; a grid point attends to the context and, in the eight grid rows of its
  window, to the sixteen columns near its own, with a bias for each head, row distance and column distance.
-/
module

public import proofs.«01_k».proof.Proof.Natten.Words
public import Idealize.ShloMosaic.Lib.Pointwise

@[expose] public section

noncomputable section

namespace Cert.Soft

open Idealize.ShloMosaic

/-- The first key column of the window of query column `a`. -/
def colStart (a : ℕ) : ℕ := min 48 (a - 8)

/-- Whether key column `k` is in the window of query column `a`. -/
def near (a k : Fin 64) : Prop := colStart a.val ≤ k.val ∧ k.val < colStart a.val + 16

instance (a k : Fin 64) : Decidable (near a k) := by unfold near; infer_instance

/-- The bias table's column for query column `a` and key column `k`. -/
def colDist (a k : Fin 64) : Fin 31 := ⟨min 30 (k.val + 15 - a.val), by omega⟩

/-- The first grid row of the window of grid row `r`. -/
def rowStart (r : ℕ) : ℕ := min (r - 4) 24

/-- The bias table's row for the window's first grid row. -/
def rowDist (r : ℕ) : ℕ := rowStart r + 7 - r

theorem rowStart_le (r : ℕ) : rowStart r ≤ 24 := Nat.min_le_right _ _

theorem rowDist_le (r : Fin 32) : rowDist r.val ≤ 7 := by
  have := r.isLt
  unfold rowDist rowStart
  omega

abbrev Rows := (⟨3, ![16, 2304, 1024]⟩ : Shape).Idx → EReal
abbrev Biases := (⟨3, ![16, 15, 31]⟩ : Shape).Idx → EReal

/-- Column `e` of head `h`. -/
def hcol (h : Fin 16) (e : Fin 64) : Fin 1024 := ⟨64 * h.val + e.val, by omega⟩
/-- Context row `n`. -/
def ctxRow (n : Fin 256) : Fin 2304 := ⟨n.val, by omega⟩
/-- The row of grid row `r` and grid column `a`. -/
def latRow (r : Fin 32) (a : Fin 64) : Fin 2304 := ⟨256 + 64 * r.val + a.val, by omega⟩
/-- The row of entry `n` of the window of grid row `r`. -/
def keyRow (r : Fin 32) (n : Fin 512) : Fin 2304 := ⟨256 + 64 * rowStart r.val + n.val, by have := rowStart_le r.val; omega⟩
/-- Its grid column. -/
def keyCol (n : Fin 512) : Fin 64 := ⟨n.val % 64, by omega⟩
/-- The bias table's row for it. -/
def keyDist (r : Fin 32) (n : Fin 512) : Fin 15 := ⟨rowDist r.val + n.val / 64, by have := rowDist_le r; omega⟩

variable (q k v : Rows) (x : Biases)

/-- The product of a query and a key of one head. -/
def score (b : Fin 16) (h : Fin 16) (i j : Fin 2304) : EReal := ∑ e, q (ix3 b i (hcol h e)) * k (ix3 b j (hcol h e))

/-- The score of a row against a context row. -/
def ctxScore (b h : Fin 16) (i : Fin 2304) (n : Fin 256) : EReal := score q k b h i (ctxRow n)

/-- The score of a grid point against an entry of its window. -/
def latScore (b h : Fin 16) (r : Fin 32) (a : Fin 64) (n : Fin 512) : EReal :=
  if near a (keyCol n) then score q k b h (latRow r a) (keyRow r n) + x (ix3 h (keyDist r n) (colDist a (keyCol n))) else ⊥

/-- The result at a context row. -/
def ctxOut (b h : Fin 16) (i : Fin 256) (d : Fin 64) : EReal :=
  early (Fin.elim0 : Fin 0 → EReal) (ctxScore q k b h (ctxRow i)) Fin.elim0 (fun n => v (ix3 b (ctxRow n) (hcol h d)))

/-- The result at a grid point. -/
def latOut (b h : Fin 16) (r : Fin 32) (a : Fin 64) (d : Fin 64) : EReal :=
  early (latScore q k x b h r a) (ctxScore q k b h (latRow r a)) (fun n => v (ix3 b (keyRow r n) (hcol h d))) (fun n => v (ix3 b (ctxRow n) (hcol h d)))

/-- The whole result. -/
def whole (b : Fin 16) (i : Fin 2304) (j : Fin 1024) : EReal :=
  if hi : i.val < 256 then ctxOut q k v b ⟨j.val / 64, by omega⟩ ⟨i.val, hi⟩ ⟨j.val % 64, by omega⟩
  else latOut q k v x b ⟨j.val / 64, by omega⟩ ⟨(i.val - 256) / 64, by omega⟩ ⟨(i.val - 256) % 64, by omega⟩ ⟨j.val % 64, by omega⟩

theorem whole_ctx (b h : Fin 16) (i : Fin 256) (d : Fin 64) : whole q k v x b (ctxRow i) (hcol h d) = ctxOut q k v b h i d := by
  have hd := d.isLt
  have e1 : (⟨(hcol h d).val / 64, by omega⟩ : Fin 16) = h := Fin.ext (by show (64 * h.val + d.val) / 64 = h.val; omega)
  have e2 : (⟨(hcol h d).val % 64, by omega⟩ : Fin 64) = d := Fin.ext (by show (64 * h.val + d.val) % 64 = d.val; omega)
  unfold whole
  rw [dif_pos (show (ctxRow i).val < 256 from i.isLt), e1, e2]
  rfl

theorem whole_lat (b h : Fin 16) (r : Fin 32) (a : Fin 64) (d : Fin 64) : whole q k v x b (latRow r a) (hcol h d) = latOut q k v x b h r a d := by
  have hd := d.isLt
  have ha := a.isLt
  have e1 : (⟨(hcol h d).val / 64, by omega⟩ : Fin 16) = h := Fin.ext (by show (64 * h.val + d.val) / 64 = h.val; omega)
  have e2 : (⟨(hcol h d).val % 64, by omega⟩ : Fin 64) = d := Fin.ext (by show (64 * h.val + d.val) % 64 = d.val; omega)
  have e3 : (⟨((latRow r a).val - 256) / 64, by omega⟩ : Fin 32) = r := Fin.ext (by show (256 + 64 * r.val + a.val - 256) / 64 = r.val; omega)
  have e4 : (⟨((latRow r a).val - 256) % 64, by omega⟩ : Fin 64) = a := Fin.ext (by show (256 + 64 * r.val + a.val - 256) % 64 = a.val; omega)
  unfold whole
  rw [dif_neg (show ¬(latRow r a).val < 256 by show ¬(256 + 64 * r.val + a.val < 256); omega), e1, e2, e3, e4]

/-! ## The scores times the binary logarithm of e -/

/-- That an array's entries are finite. -/
def Finite {s : Shape} (f : s.Idx → EReal) : Prop := ∀ i, f i ≠ ⊤ ∧ f i ≠ ⊥

variable {q k x}

theorem score_scaled (hq : Finite q) (hk : Finite k) (b h : Fin 16) (i j : Fin 2304) :
    ∃ r : ℝ, score q k b h i j = r ∧ (∑ e, q (ix3 b i (hcol h e)) * (log2e : EReal) * k (ix3 b j (hcol h e))) = ((log2e * r : ℝ) : EReal) :=
  sum_scaled (fun e => q (ix3 b i (hcol h e))) (fun e => k (ix3 b j (hcol h e))) (fun e => hq _) (fun e => hk _) log2e

theorem ctxScore_scaled (hq : Finite q) (hk : Finite k) (b h : Fin 16) (i : Fin 2304) (n : Fin 256) :
    (∑ e, q (ix3 b i (hcol h e)) * (log2e : EReal) * k (ix3 b (ctxRow n) (hcol h e))) = (log2e : EReal) * ctxScore q k b h i n := by
  obtain ⟨r, h1, h2⟩ := score_scaled hq hk b h i (ctxRow n)
  unfold ctxScore
  rw [h1, h2, EReal.coe_mul]

theorem ctxScore_finite (hq : Finite q) (hk : Finite k) (b h : Fin 16) (i : Fin 2304) (n : Fin 256) :
    ctxScore q k b h i n ≠ ⊤ ∧ ctxScore q k b h i n ≠ ⊥ := by
  obtain ⟨r, h1, h2⟩ := score_scaled hq hk b h i (ctxRow n)
  unfold ctxScore
  rw [h1]
  exact ⟨EReal.coe_ne_top _, EReal.coe_ne_bot _⟩

theorem latScore_scaled (hq : Finite q) (hk : Finite k) (hx : Finite x) (b h : Fin 16) (r : Fin 32) (a : Fin 64) (n : Fin 512) :
    (∑ e, q (ix3 b (latRow r a) (hcol h e)) * (log2e : EReal) * k (ix3 b (keyRow r n) (hcol h e)))
      + ((if near a (keyCol n) then x (ix3 h (keyDist r n) (colDist a (keyCol n))) else 0) * (log2e : EReal) + (if near a (keyCol n) then 0 else ⊥))
      = (log2e : EReal) * latScore q k x b h r a n := by
  obtain ⟨s, h1, h2⟩ := score_scaled hq hk b h (latRow r a) (keyRow r n)
  unfold latScore
  rw [h1, h2]
  by_cases hn : near a (keyCol n)
  · rw [if_pos hn, if_pos hn, if_pos hn, add_zero]
    obtain ⟨y, hy⟩ : ∃ y : ℝ, x (ix3 h (keyDist r n) (colDist a (keyCol n))) = y :=
      ⟨_, (EReal.coe_toReal (hx _).1 (hx _).2).symm⟩
    rw [hy, ← EReal.coe_mul, ← EReal.coe_add, ← EReal.coe_add, ← EReal.coe_mul, EReal.coe_eq_coe_iff]
    ring
  · rw [if_neg hn, if_neg hn, if_neg hn, EReal.add_bot, EReal.add_bot, EReal.coe_mul_bot_of_pos log2e_pos]

theorem latScore_ne_top (hq : Finite q) (hk : Finite k) (hx : Finite x) (b h : Fin 16) (r : Fin 32) (a : Fin 64) (n : Fin 512) :
    latScore q k x b h r a n ≠ ⊤ := by
  obtain ⟨s, h1, h2⟩ := score_scaled hq hk b h (latRow r a) (keyRow r n)
  unfold latScore
  rw [h1]
  split
  · obtain ⟨y, hy⟩ : ∃ y : ℝ, x (ix3 h (keyDist r n) (colDist a (keyCol n))) = y :=
      ⟨_, (EReal.coe_toReal (hx _).1 (hx _).2).symm⟩
    rw [hy, ← EReal.coe_add]
    exact EReal.coe_ne_top _
  · exact bot_ne_top

/-- A context row in the other order of computing it, with scaled scores. -/
theorem ctxOut_late (hq : Finite q) (hk : Finite k) (b h : Fin 16) (i : Fin 256) (d : Fin 64) :
    late (fun n => (log2e : EReal) * (Fin.elim0 : Fin 0 → EReal) n) (fun n => (log2e : EReal) * ctxScore q k b h (ctxRow i) n) Fin.elim0
      (fun n => v (ix3 b (ctxRow n) (hcol h d))) = ctxOut q k v b h i d :=
  late_eq_early _ _ _ _ (fun n => n.elim0) (fun n => (ctxScore_finite hq hk b h (ctxRow i) n).1) 0 (ctxScore_finite hq hk b h (ctxRow i) 0).2

/-- A grid point likewise. -/
theorem latOut_late (hq : Finite q) (hk : Finite k) (hx : Finite x) (b h : Fin 16) (r : Fin 32) (a : Fin 64) (d : Fin 64) :
    late (fun n => (log2e : EReal) * latScore q k x b h r a n) (fun n => (log2e : EReal) * ctxScore q k b h (latRow r a) n)
      (fun n => v (ix3 b (keyRow r n) (hcol h d))) (fun n => v (ix3 b (ctxRow n) (hcol h d))) = latOut q k v x b h r a d :=
  late_eq_early _ _ _ _ (fun n => latScore_ne_top hq hk hx b h r a n) (fun n => (ctxScore_finite hq hk b h (latRow r a) n).1) 0
    (ctxScore_finite hq hk b h (latRow r a) 0).2

end Cert.Soft

end
-- ==== Proof.Natten.Block.lean ====
/-
  What one grid point of the attention kernel leaves in its block: the context's 256 rows, then 32 groups of 64 rows, one for
  each row of the grid of latents, all of them one function of the group's queries, window and bias.
-/
module

public import proofs.«01_k».proof.Proof.Gen.KernelIdeal.Frame
public import proofs.«01_k».proof.Proof.Natten.Whole
public import Idealize.ShloMosaic.Lib.WholeRead
public import Idealize.ShloMosaic.Lib.Pipeline.Value

@[expose] public section

set_option maxRecDepth 65536

noncomputable section

namespace Cert.KernelIdeal.Hand

open Cert.Soft Cert.KernelIdeal Cert.KernelIdeal.Gen Idealize.ShloMosaic Idealize.ShloMosaic.TcCoe Idealize.SL.Sem

variable {F : FTy → Type} [FloatOps F]

/-! ## Where a group reads and writes -/

theorem inb_q (r : Fin 32) : ∀ a, (![0, 256 + 64 * r.val, 0] : Fin 3 → ℕ) a + S1x64x128.size a ≤ S1x2304x128.size a := by
  have := r.isLt
  intro a
  match a with
  | ⟨0, _⟩ => show 0 + 1 ≤ 1; omega
  | ⟨1, _⟩ => show 256 + 64 * r.val + 64 ≤ 2304; omega
  | ⟨2, _⟩ => show 0 + 128 ≤ 128; omega

theorem inb_k (r : Fin 32) : ∀ a, (![0, 256 + 64 * rowStart r.val, 0] : Fin 3 → ℕ) a + S1x512x128.size a ≤ S1x2304x128.size a := by
  have := rowStart_le r.val
  intro a
  match a with
  | ⟨0, _⟩ => show 0 + 1 ≤ 1; omega
  | ⟨1, _⟩ => show 256 + 64 * rowStart r.val + 512 ≤ 2304; omega
  | ⟨2, _⟩ => show 0 + 128 ≤ 128; omega

theorem inb_v (r : Fin 32) : ∀ a, (![256 + 64 * rowStart r.val, 0] : Fin 2 → ℕ) a + S512x256.size a ≤ S2304x256.size a := by
  have := rowStart_le r.val
  intro a
  match a with
  | ⟨0, _⟩ => show 256 + 64 * rowStart r.val + 512 ≤ 2304; omega
  | ⟨1, _⟩ => show 0 + 256 ≤ 256; omega

theorem inb_b (r : Fin 32) : ∀ a, (![0, rowDist r.val % 2, 0, 128 * (rowDist r.val / 2)] : Fin 4 → ℕ) a + S1x1x128x512.size a ≤ S1x2x128x1024.size a := by
  have := rowDist_le r
  intro a
  match a with
  | ⟨0, _⟩ => show 0 + 1 ≤ 1; omega
  | ⟨1, _⟩ => show rowDist r.val % 2 + 1 ≤ 2; omega
  | ⟨2, _⟩ => show 0 + 128 ≤ 128; omega
  | ⟨3, _⟩ => show 128 * (rowDist r.val / 2) + 512 ≤ 1024; omega

/-- A group's queries and its results. -/
abbrev rectQ (r : Fin 32) : Rect S1x2304x128 := Rect.unit ![0, 256 + 64 * r.val, 0] S1x64x128.size (inb_q r)
/-- Its window's keys. -/
abbrev rectK (r : Fin 32) : Rect S1x2304x128 := Rect.unit ![0, 256 + 64 * rowStart r.val, 0] S1x512x128.size (inb_k r)
/-- Its window's values. -/
abbrev rectV (r : Fin 32) : Rect S2304x256 := Rect.unit ![256 + 64 * rowStart r.val, 0] S512x256.size (inb_v r)
/-- Its part of the bias table. -/
abbrev rectB (r : Fin 32) : Rect S1x2x128x1024 := Rect.unit ![0, rowDist r.val % 2, 0, 128 * (rowDist r.val / 2)] S1x1x128x512.size (inb_b r)
/-- The context's rows of the queries, the keys and the results. -/
abbrev rectC : Rect S1x2304x128 := Rect.unit ![0, 0, 0] S1x256x128.size inb_S1x2304x128_S1x256x128_0_0_0
/-- The context's rows of the values. -/
abbrev rectVC : Rect S2304x256 := Rect.unit ![0, 0] S256x256.size inb_S2304x256_S256x256_0_0

/-! ## What is stored -/

/-- The values beside columns of ones, as the stores leave them, last first. -/
def widePieces (v : Vec F S1x2304x128 .bf16) : List (View.Piece (Elt F) S2304x256 .bf16) :=
  [⟨Rect.unit ![0, 128] S2304x128.size inb_S2304x256_S2304x128_0_128, k0_pay3⟩,
   ⟨Rect.unit ![0, 0] S2304x128.size inb_S2304x256_S2304x128_0_0, k0_pay2 v⟩]

/-- The context's rows. -/
def ctxV (kc : Vec F S1x256x128 .bf16) (vc : Vec F S256x256 .bf16) (qc : Vec F S1x256x128 .bf16) : FVec F S1x256x128 .bf16 :=
  k0_pay8 (k0_pay6 kc vc qc) (k0_pay7 kc vc qc) (Scalar.ofBits .f32 0x3F800000#32)

/-- A group's rows. -/
def latV (kc : Vec F S1x256x128 .bf16) (vc : Vec F S256x256 .bf16) (q : Vec F S1x64x128 .bf16) (b : Vec F S1x1x128x512 .f32)
    (k : Vec F S1x512x128 .bf16) (v : Vec F S512x256 .bf16) : FVec F S1x64x128 .bf16 :=
  k0_pay11 (k0_pay10 (k0_pay4 kc) vc (k0_pay9 q) b k v)

/-- The stores into the block, last first, from how the five buffers are read. -/
def storesOf (ldq : (r : Rect S1x2304x128) → r.shape.Idx → Elt F .bf16) (ldk : (r : Rect S1x2304x128) → r.shape.Idx → Elt F .bf16)
    (ldb : (r : Rect S1x2x128x1024) → r.shape.Idx → Elt F .f32) (ldv : (r : Rect S2304x256) → r.shape.Idx → Elt F .bf16) :
    List (View.Piece (Elt F) S1x2304x128 .bf16) :=
  (List.finRange 32).reverse.map (fun r => ⟨rectQ r, latV (ldk rectC) (ldv rectVC) (ldq (rectQ r)) (ldb (rectB r)) (ldk (rectK r)) (ldv (rectV r))⟩)
    ++ [⟨rectC, ctxV (ldk rectC) (ldv rectVC) (ldq rectC)⟩]

theorem pieces_eq (c : Dev nD) (i : grid0.Coords) (arg2 : Memref sig .tc .vmem S1x2304x128 .bf16) (harg2 : arg2.IsWhole) (arg3 : Memref sig .tc .vmem S1x2304x128 .bf16) (harg3 : arg3.IsWhole) (arg4 : Memref sig .tc .vmem S1x2304x128 .bf16) (harg4 : arg4.IsWhole) (arg5 : Memref sig .tc .vmem S1x2x128x1024 .f32) (harg5 : arg5.IsWhole) (arg6 : Memref sig .tc .vmem S1x2304x128 .bf16) (harg6 : arg6.IsWhole) (arg7 : Memref sig .tc .vmem S2304x256 .bf16) (harg7 : arg7.IsWhole)
    (x0 : Vec F S1x2304x128 .bf16) (x1 : Vec F S1x2304x128 .bf16) (x2 : Vec F S1x2304x128 .bf16) (x3 : Vec F S1x2x128x1024 .f32) :
    (kernelRun0_A c i arg2 harg2 arg3 harg3 arg4 harg4 arg5 harg5 arg6 harg6 arg7 harg7 x0 x1 x2 x3).1
      = storesOf (fun r => View.readAt (Elt F) arg2.view r.toLoadRect (harg2.unread x0))
          (fun r => View.readAt (Elt F) arg3.view r.toLoadRect (harg3.unread x1))
          (fun r => View.readAt (Elt F) arg5.view r.toLoadRect (harg5.unread x3))
          (fun r => arg7.view.readCov (widePieces (View.readAt (Elt F) arg4.view (Rect.unit ![0, 0, 0] S1x2304x128.size inb_S1x2304x128_S1x2304x128_0_0_0).toLoadRect (harg4.unread x2))) r.toLoadRect) := by
  unfold kernelRun0_A
  rfl

/-- What a grid point leaves, its four blocks being `q`, `k`, `v` and `t`. -/
def block (q k v : Vec F S1x2304x128 .bf16) (t : Vec F S1x2x128x1024 .f32) : Vec F S1x2304x128 .bf16 :=
  View.canon (storesOf (View.ld q) (View.ld k) (View.ld t) (View.ld (View.canon (widePieces v))))

theorem out_eq (c : Dev nD) (i : grid0.Coords) (arg2 : Memref sig .tc .vmem S1x2304x128 .bf16) (harg2 : arg2.IsWhole) (arg3 : Memref sig .tc .vmem S1x2304x128 .bf16) (harg3 : arg3.IsWhole) (arg4 : Memref sig .tc .vmem S1x2304x128 .bf16) (harg4 : arg4.IsWhole) (arg5 : Memref sig .tc .vmem S1x2x128x1024 .f32) (harg5 : arg5.IsWhole) (arg6 : Memref sig .tc .vmem S1x2304x128 .bf16) (harg6 : arg6.IsWhole) (arg7 : Memref sig .tc .vmem S2304x256 .bf16) (harg7 : arg7.IsWhole)
    (x0 : Vec F S1x2304x128 .bf16) (x1 : Vec F S1x2304x128 .bf16) (x2 : Vec F S1x2304x128 .bf16) (x3 : Vec F S1x2x128x1024 .f32) :
    out0_A_4 c i arg2 harg2 arg3 harg3 arg4 harg4 arg5 harg5 arg6 harg6 arg7 harg7 x0 x1 x2 x3 = block x0 x1 x2 x3 := by
  have h2 : (fun r : Rect S1x2304x128 => View.readAt (Elt F) arg2.view r.toLoadRect (harg2.unread x0)) = View.ld x0 := by
    funext r j; rw [harg2.readAt_unread]
  have h3 : (fun r : Rect S1x2304x128 => View.readAt (Elt F) arg3.view r.toLoadRect (harg3.unread x1)) = View.ld x1 := by
    funext r j; rw [harg3.readAt_unread]
  have h5 : (fun r : Rect S1x2x128x1024 => View.readAt (Elt F) arg5.view r.toLoadRect (harg5.unread x3)) = View.ld x3 := by
    funext r j; rw [harg5.readAt_unread]
  have h4 : View.readAt (Elt F) arg4.view (Rect.unit ![0, 0, 0] S1x2304x128.size inb_S1x2304x128_S1x2304x128_0_0_0).toLoadRect (harg4.unread x2)
      = View.ld x2 (Rect.unit ![0, 0, 0] S1x2304x128.size inb_S1x2304x128_S1x2304x128_0_0_0) := by
    funext j; rw [harg4.readAt_unread]
  have h7 : ∀ L : List (View.Piece (Elt F) S2304x256 .bf16), (fun r : Rect S2304x256 => arg7.view.readCov L r.toLoadRect) = View.ld (View.canon L) := by
    intro L; funext r; rw [View.readCov_eq_canon']
  unfold out0_A_4
  rw [View.read_writes_junk_eq_canon, pieces_eq, h2, h3, h4, h5, h7]
  unfold block
  rw [View.ld_unit_zero (by funext a; match a with | ⟨0, _⟩ => rfl | ⟨1, _⟩ => rfl | ⟨2, _⟩ => rfl)]

end Cert.KernelIdeal.Hand

end
-- ==== Proof.Natten.Group.lean ====
/-
  The attention kernel's groups of rows, read at a row and a column: a softmax over the window's scores and the context's,
  of which the numerator and the denominator are accumulated together and divided last.
-/
module

public import proofs.«01_k».proof.Proof.Natten.Block
public import proofs.«01_k».proof.Proof.Natten.Words
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

section
variable {F : FTy → Type} [FloatOps F]

/-- A group's scores against its window. -/
def latS (q : FVec F S128x128 .bf16) (b : Vec F S1x1x128x512 .f32) (k : Vec F S1x512x128 .bf16) : FVec F S128x512 .f32 :=
  addf (matmul dot_S128x128_S512x128_S128x512_1_1_0_0_n_n none q (shapeCast S512x128 k shapeCasts_S1x512x128_S512x128)
    (constant S128x512 .f32 0x00000000#32)) (shapeCast S128x512 b shapeCasts_S1x1x128x512_S128x512)

/-- A group's scores against the context. -/
def latC (q : FVec F S128x128 .bf16) (kc : Vec F S1x256x128 .bf16) : FVec F S128x256 .f32 :=
  matmul dot_S128x128_S256x128_S128x256_1_1_0_0_n_n none q (k0_pay4 kc) (constant S128x256 .f32 0x00000000#32)

/-- The largest score of each row. -/
def latM (s : FVec F S128x512 .f32) (t : FVec F S128x256 .f32) : FVec F S128x1 .f32 :=
  maximumf (shapeCast S128x1 (multiReduction .maximumf [1] S128 s 0xFF800000#32 reduces_S128x512_S128 (.inl rfl) rfl) shapeCasts_S128_S128x1)
    (shapeCast S128x1 (multiReduction .maximumf [1] S128 t 0xFF800000#32 reduces_S128x256_S128 (.inl rfl) rfl) shapeCasts_S128_S128x1)

/-- The weighted sums of the values, and in the last 128 columns of the ones. -/
def latA (s : FVec F S128x512 .f32) (t : FVec F S128x256 .f32) (m : FVec F S128x1 .f32) (v : Vec F S512x256 .bf16) (vc : Vec F S256x256 .bf16) :
    FVec F S128x256 .f32 :=
  addf (matmul dot_S128x512_S512x256_S128x256_1_0_0_1_n_n none
      (truncf .bf16 (exp2 (subf s (broadcastTo S128x512 m broadcasts_S128x1_S128x512))) bitsLt_bf16_f32) v (constant S128x256 .f32 0x00000000#32))
    (matmul dot_S128x256_S256x256_S128x256_1_0_0_1_n_n none
      (truncf .bf16 (exp2 (subf t (broadcastTo S128x256 m broadcasts_S128x1_S128x256))) bitsLt_bf16_f32) vc (constant S128x256 .f32 0x00000000#32))

/-- The quotients, the first 64 rows in a head's 64 columns and the last 64 in the other's. -/
def latO (a : FVec F S128x256 .f32) : FVec F S1x64x128 .bf16 :=
  let o := mulf (extractStridedSlice S128x128 ![0, 0] a slices_S128x256_o0_0_S128x128)
    (divf (broadcast S128x128 (Scalar.ofBits .f32 0x3F800000#32)) (extractStridedSlice S128x128 ![0, 128] a slices_S128x256_o0_128_S128x128))
  shapeCast S1x64x128 (truncf .bf16 (select (cmpi .slt (iota .tc S64x128 32 [1] iota_S64x128_d1_w32) (broadcast S64x128 64#32))
    (extractStridedSlice S64x128 ![0, 0] o slices_S128x128_o0_0_S64x128)
    (extractStridedSlice S64x128 ![64, 0] o slices_S128x128_o64_0_S64x128)) bitsLt_bf16_f32) shapeCasts_S64x128_S1x64x128

theorem latV_eq (kc : Vec F S1x256x128 .bf16) (vc : Vec F S256x256 .bf16) (q : Vec F S1x64x128 .bf16) (b : Vec F S1x1x128x512 .f32)
    (k : Vec F S1x512x128 .bf16) (v : Vec F S512x256 .bf16) :
    latV kc vc q b k v = latO (latA (latS (k0_pay9 q) b k) (latC (k0_pay9 q) kc) (latM (latS (k0_pay9 q) b k) (latC (k0_pay9 q) kc)) v vc) := rfl

end

/-! ## The parts read at a row and a column -/

/-- Column `d` of head `h` of the two heads that a block holds side by side; also row `d` of the head's half of the doubled rows. -/
def lane (h : Fin 2) (d : Fin 64) : Fin 128 := ⟨64 * h.val + d.val, by omega⟩

theorem lane_cases (x : Fin 128) : ∃ h d, x = lane h d :=
  ⟨⟨x.val / 64, by omega⟩, ⟨x.val % 64, by omega⟩, Fin.ext (by show x.val = 64 * (x.val / 64) + x.val % 64; omega)⟩

theorem sum_lanes (f : Fin 128 → EReal) : ∑ e, f e = (∑ d, f (lane 0 d)) + ∑ d, f (lane 1 d) := by
  rw [show (∑ e : Fin 128, f e) = ∑ e : Fin (64 + 64), f e from rfl, Fin.sum_univ_add]
  congr 1

theorem below (h : Fin 2) (d : Fin 64) : IntOp.cmpi .slt (BitVec.ofNat 32 (lane h d).val) 64#32 = BitVec.ofBool (decide (h.val = 0)) := by
  revert h d
  decide +kernel

/-- The doubled queries: in a head's half of the rows the head's columns, and zeros in the other's. -/
theorem dup_apply (q : Vec Ideal S1x64x128 .bf16) (h h' : Fin 2) (i e : Fin 64) :
    k0_pay9 q (ix2 (lane h i) (lane h' e)) = if h = h' then q (ix3 0 i (lane h' e)) else 0 := by
  pointwise [k0_pay9]
  rw [below]
  have hi := i.isLt
  match h, h' with
  | ⟨0, _⟩, ⟨0, _⟩ => rw [dif_pos (by show 64 * 0 + i.val < 64; omega)]; show q (ix3 0 ⟨64 * 0 + i.val, _⟩ _) = q _; congr 3; omega
  | ⟨0, _⟩, ⟨1, _⟩ => rw [dif_pos (by show 64 * 0 + i.val < 64; omega)]; rfl
  | ⟨1, _⟩, ⟨0, _⟩ => rw [dif_neg (by show ¬(64 * 1 + i.val < 64); omega)]; rfl
  | ⟨1, _⟩, ⟨1, _⟩ => rw [dif_neg (by show ¬(64 * 1 + i.val < 64); omega)]; show q (ix3 0 ⟨64 * 1 + i.val - 64, _⟩ _) = q _; congr 3; omega

/-- So a product with them is the head's. -/
theorem dup_sum (q : Vec Ideal S1x64x128 .bf16) (h : Fin 2) (i : Fin 64) (k : Fin 128 → EReal) :
    (∑ e : Fin 128, k0_pay9 q (ix2 (lane h i) e) * k e) = ∑ d : Fin 64, q (ix3 0 i (lane h d)) * k (lane h d) := by
  rw [sum_lanes]
  simp only [dup_apply]
  match h with
  | ⟨0, _⟩ => simp
  | ⟨1, _⟩ => simp

theorem latS_apply (q : FVec Ideal S128x128 .bf16) (b : Vec Ideal S1x1x128x512 .f32) (k : Vec Ideal S1x512x128 .bf16) (i : Fin 128) (n : Fin 512) :
    latS q b k (ix2 i n) = (∑ e : Fin 128, q (ix2 i e) * k (ix3 0 n e)) + b (ix4 0 0 i n) := by
  pointwise [latS]

theorem latC_apply (q : FVec Ideal S128x128 .bf16) (kc : Vec Ideal S1x256x128 .bf16) (i : Fin 128) (n : Fin 256) :
    latC q kc (ix2 i n) = ∑ e : Fin 128, q (ix2 i e) * kc (ix3 0 n e) := by
  pointwise [latC, k0_pay4]

theorem latM_apply (s : FVec Ideal S128x512 .f32) (t : FVec Ideal S128x256 .f32) (i : Fin 128) :
    latM s t (ix2 i 0) = Cert.Soft.peak (fun n => s (ix2 i n)) (fun n => t (ix2 i n)) := by
  pointwise [latM]
  rw [Cert.Soft.word_bot]
  rfl

theorem latA_apply (s : FVec Ideal S128x512 .f32) (t : FVec Ideal S128x256 .f32) (m : FVec Ideal S128x1 .f32) (v : Vec Ideal S512x256 .bf16) (vc : Vec Ideal S256x256 .bf16) (i : Fin 128) (l : Fin 256) :
    latA s t m v vc (ix2 i l) = (∑ n : Fin 512, Ideal.exp2 (s (ix2 i n) - m (ix2 i 0)) * v (ix2 n l))
      + ∑ n : Fin 256, Ideal.exp2 (t (ix2 i n) - m (ix2 i 0)) * vc (ix2 n l) := by
  pointwise [latA]
  rfl

theorem latO_apply (a : FVec Ideal S128x256 .f32) (i : Fin 64) (h : Fin 2) (d : Fin 64) :
    latO a (ix3 0 i (lane h d)) = a (ix2 (lane h i) ⟨(lane h d).val, by omega⟩) * Ideal.div 1 (a (ix2 (lane h i) ⟨128 + (lane h d).val, by omega⟩)) := by
  pointwise [latO]
  rw [below]
  match h with
  | ⟨0, _⟩ =>
    have e : lane ⟨0, by decide⟩ i = ⟨i.val, by omega⟩ := Fin.ext (by show 64 * 0 + i.val = i.val; omega)
    rw [e]; rfl
  | ⟨1, _⟩ => rfl

/-- A group's rows, read at a row and a head's column. -/
theorem latV_apply (kc : Vec Ideal S1x256x128 .bf16) (vc : Vec Ideal S256x256 .bf16) (q : Vec Ideal S1x64x128 .bf16) (b : Vec Ideal S1x1x128x512 .f32)
    (k : Vec Ideal S1x512x128 .bf16) (v : Vec Ideal S512x256 .bf16) (i : Fin 64) (h : Fin 2) (d : Fin 64)
    (s : Fin 512 → EReal) (t : Fin 256 → EReal)
    (hs : ∀ n, s n = (∑ d : Fin 64, q (ix3 0 i (lane h d)) * k (ix3 0 n (lane h d))) + b (ix4 0 0 (lane h i) n))
    (ht : ∀ n, t n = ∑ d : Fin 64, q (ix3 0 i (lane h d)) * kc (ix3 0 n (lane h d)))
    (hv : ∀ n l, v (ix2 n ⟨128 + (lane h l).val, by omega⟩) = 1) (hvc : ∀ n l, vc (ix2 n ⟨128 + (lane h l).val, by omega⟩) = 1) :
    latV kc vc q b k v (ix3 0 i (lane h d)) = Cert.Soft.late s t (fun n => v (ix2 n ⟨(lane h d).val, by omega⟩)) (fun n => vc (ix2 n ⟨(lane h d).val, by omega⟩)) := by
  have hs' : ∀ n, latS (k0_pay9 q) b k (ix2 (lane h i) n) = s n := fun n => by
    rw [latS_apply, dup_sum q h i (fun e => k (ix3 0 n e)), hs]
  have ht' : ∀ n, latC (k0_pay9 q) kc (ix2 (lane h i) n) = t n := fun n => by
    rw [latC_apply, dup_sum q h i (fun e => kc (ix3 0 n e)), ht]
  rw [latV_eq, latO_apply, latA_apply, latA_apply, latM_apply]
  simp only [hs', ht', hv, hvc]
  rfl

/-! ## The context's rows, likewise -/

section
variable {F : FTy → Type} [FloatOps F]

/-- The doubled queries of the context. -/
def ctxD (q : Vec F S1x256x128 .bf16) : FVec F S512x128 .bf16 :=
  let x := shapeCast S256x128 q shapeCasts_S1x256x128_S256x128
  let z := broadcast S256x128 (Scalar.ofBits .bf16 0x0000#16)
  let b := cmpi .slt (iota .tc S256x128 32 [1] iota_S256x128_d1_w32) (broadcast S256x128 64#32)
  concatenate S512x128 0 [⟨S256x128, select b x z⟩, ⟨S256x128, select b z x⟩] concatenates_S256x128_S256x128_S512x128_d0

/-- The context's scores. -/
def ctxS (d : FVec F S512x128 .bf16) (kc : Vec F S1x256x128 .bf16) : FVec F S512x256 .f32 :=
  matmul dot_S512x128_S256x128_S512x256_1_1_0_0_n_n none d (k0_pay4 kc) (constant S512x256 .f32 0x00000000#32)

/-- The largest score of each row. -/
def ctxM (s : FVec F S512x256 .f32) : FVec F S512x1 .f32 :=
  shapeCast S512x1 (multiReduction .maximumf [1] S512 s 0xFF800000#32 reduces_S512x256_S512 (.inl rfl) rfl) shapeCasts_S512_S512x1

/-- The weighted sums. -/
def ctxA (s : FVec F S512x256 .f32) (m : FVec F S512x1 .f32) (vc : Vec F S256x256 .bf16) : FVec F S512x256 .f32 :=
  matmul dot_S512x256_S256x256_S512x256_1_0_0_1_n_n none
    (truncf .bf16 (exp2 (subf s (broadcastTo S512x256 m broadcasts_S512x1_S512x256))) bitsLt_bf16_f32) vc (constant S512x256 .f32 0x00000000#32)

/-- The quotients. -/
def ctxO (a : FVec F S512x256 .f32) : FVec F S1x256x128 .bf16 :=
  k0_pay8 (extractStridedSlice S512x128 ![0, 0] a slices_S512x256_o0_0_S512x128) (extractStridedSlice S512x128 ![0, 128] a slices_S512x256_o0_128_S512x128)
    (Scalar.ofBits .f32 0x3F800000#32)

theorem ctxV_eq (kc : Vec F S1x256x128 .bf16) (vc : Vec F S256x256 .bf16) (q : Vec F S1x256x128 .bf16) :
    ctxV kc vc q = ctxO (ctxA (ctxS (ctxD q) kc) (ctxM (ctxS (ctxD q) kc)) vc) := rfl

end

/-- Row `i` of head `h` of the context's doubled rows. -/
def crow (h : Fin 2) (i : Fin 256) : Fin 512 := ⟨256 * h.val + i.val, by omega⟩

theorem ctxD_apply (q : Vec Ideal S1x256x128 .bf16) (h h' : Fin 2) (i : Fin 256) (e : Fin 64) :
    ctxD q (ix2 (crow h i) (lane h' e)) = if h = h' then q (ix3 0 i (lane h' e)) else 0 := by
  pointwise [ctxD]
  rw [below]
  have hi := i.isLt
  match h, h' with
  | ⟨0, _⟩, ⟨0, _⟩ => rw [dif_pos (by show 256 * 0 + i.val < 256; omega)]; show q (ix3 0 ⟨256 * 0 + i.val, _⟩ _) = q _; congr 3; omega
  | ⟨0, _⟩, ⟨1, _⟩ => rw [dif_pos (by show 256 * 0 + i.val < 256; omega)]; rfl
  | ⟨1, _⟩, ⟨0, _⟩ => rw [dif_neg (by show ¬(256 * 1 + i.val < 256); omega)]; rfl
  | ⟨1, _⟩, ⟨1, _⟩ => rw [dif_neg (by show ¬(256 * 1 + i.val < 256); omega)]; show q (ix3 0 ⟨256 * 1 + i.val - 256, _⟩ _) = q _; congr 3; omega

theorem ctxD_sum (q : Vec Ideal S1x256x128 .bf16) (h : Fin 2) (i : Fin 256) (k : Fin 128 → EReal) :
    (∑ e : Fin 128, ctxD q (ix2 (crow h i) e) * k e) = ∑ d : Fin 64, q (ix3 0 i (lane h d)) * k (lane h d) := by
  rw [sum_lanes]
  simp only [ctxD_apply]
  match h with
  | ⟨0, _⟩ => simp
  | ⟨1, _⟩ => simp

theorem ctxS_apply (d : FVec Ideal S512x128 .bf16) (kc : Vec Ideal S1x256x128 .bf16) (i : Fin 512) (n : Fin 256) :
    ctxS d kc (ix2 i n) = ∑ e : Fin 128, d (ix2 i e) * kc (ix3 0 n e) := by
  pointwise [ctxS, k0_pay4]

theorem ctxM_apply (s : FVec Ideal S512x256 .f32) (i : Fin 512) :
    ctxM s (ix2 i 0) = Finset.univ.sup fun n => s (ix2 i n) := by
  pointwise [ctxM]
  rw [Cert.Soft.word_bot]
  rfl

theorem ctxA_apply (s : FVec Ideal S512x256 .f32) (m : FVec Ideal S512x1 .f32) (vc : Vec Ideal S256x256 .bf16) (i : Fin 512) (l : Fin 256) :
    ctxA s m vc (ix2 i l) = ∑ n : Fin 256, Ideal.exp2 (s (ix2 i n) - m (ix2 i 0)) * vc (ix2 n l) := by
  pointwise [ctxA]
  rfl

theorem ctxO_apply (a : FVec Ideal S512x256 .f32) (i : Fin 256) (h : Fin 2) (d : Fin 64) :
    ctxO a (ix3 0 i (lane h d)) = a (ix2 (crow h i) ⟨(lane h d).val, by omega⟩) * Ideal.div 1 (a (ix2 (crow h i) ⟨128 + (lane h d).val, by omega⟩)) := by
  pointwise [ctxO, k0_pay8]
  rw [below]
  match h with
  | ⟨0, _⟩ =>
    have e : crow ⟨0, by decide⟩ i = ⟨i.val, by omega⟩ := Fin.ext (by show 256 * 0 + i.val = i.val; omega)
    rw [e]; rfl
  | ⟨1, _⟩ => rfl

/-- The context's rows, read at a row and a head's column. -/
theorem ctxV_apply (kc : Vec Ideal S1x256x128 .bf16) (vc : Vec Ideal S256x256 .bf16) (q : Vec Ideal S1x256x128 .bf16) (i : Fin 256) (h : Fin 2) (d : Fin 64)
    (s v : Fin 0 → EReal) (t : Fin 256 → EReal)
    (ht : ∀ n, t n = ∑ d : Fin 64, q (ix3 0 i (lane h d)) * kc (ix3 0 n (lane h d)))
    (hvc : ∀ n l, vc (ix2 n ⟨128 + (lane h l).val, by omega⟩) = 1) :
    ctxV kc vc q (ix3 0 i (lane h d)) = Cert.Soft.late s t v (fun n => vc (ix2 n ⟨(lane h d).val, by omega⟩)) := by
  have ht' : ∀ n, ctxS (ctxD q) kc (ix2 (crow h i) n) = t n := fun n => by
    rw [ctxS_apply, ctxD_sum q h i (fun e => kc (ix3 0 n e)), ht]
  have hp : Cert.Soft.peak s t = Finset.univ.sup t := by
    unfold Cert.Soft.peak
    rw [show (Finset.univ : Finset (Fin 0)).sup s = ⊥ from rfl]
    exact max_eq_right bot_le
  rw [ctxV_eq, ctxO_apply, ctxA_apply, ctxA_apply, ctxM_apply]
  simp only [ht', hvc]
  unfold Cert.Soft.late Cert.Soft.power
  rw [hp, Fin.sum_univ_zero, Fin.sum_univ_zero, zero_add, zero_add]

end Cert.KernelIdeal.Hand

end
-- ==== Proof.Qkv.Block.lean ====
/-
  What one grid point of the query, key and value projection leaves in its three blocks of 768 rows: groups of 256 rows and
  128 columns (the queries' and the keys', two heads side by side) or of 256 rows and 512 columns (the values').
-/
module

public import proofs.«01_k».proof.Proof.Gen.QkvIdeal.Frame
public import proofs.«01_k».proof.Proof.Mlp.Block
public import proofs.«01_k».proof.Proof.Natten.Group
public import proofs.«01_k».proof.Proof.Qkv.Rows

@[expose] public section

set_option maxRecDepth 16384

noncomputable section

namespace Cert.QkvIdeal.Hand

open Cert.QkvIdeal Cert.QkvIdeal.Gen Cert.MlpIdeal.Hand Idealize.ShloMosaic Idealize.ShloMosaic.TcCoe

section
variable {F : FTy → Type} [FloatOps F]

/-- The rows `256 * s` and following of a block of 768 rows. -/
abbrev rowsR (s : Fin 3) : Rect S768x1024 := Rect.unit (s := S768x1024) ![256 * s.val, 0] S256x1024.size (by
  intro a; match a with
  | ⟨0, _⟩ => show 256 * s.val + 256 ≤ 768; omega
  | ⟨1, _⟩ => show 0 + 1024 ≤ 1024; omega)

/-- Columns `o` and following, 512 of them, of the matrix. -/
abbrev colsR (o : ℕ) (ho : o + 512 ≤ 3072) : Rect S1024x3072 := Rect.unit (s := S1024x3072) ![0, o] S1024x512.size (by
  intro a; match a with
  | ⟨0, _⟩ => show 0 + 1024 ≤ 1024; omega
  | ⟨1, _⟩ => exact ho)

/-- A group's modulation: the first group's is the context's where the block begins with context rows. -/
def modS (i : grid0.Coords) (s : Fin 3) (c b : FVec F S1x1024 .f32) : FVec F S1x1024 .f32 :=
  match s.val with
  | 0 => Scalar.select (isCtx i) c b
  | _ + 1 => b

/-- A group's rows, normalized and modulated. -/
def hV (i : grid0.Coords) (x0 : Vec F S768x1024 .f32) (x1 x2 x3 x4 : Vec F S1x1x1x1x1024 .f32) (s : Fin 3) : FVec F S256x1024 .bf16 :=
  normV (View.ld x0 (rowsR s)) (modS i s (modV (View.ld x3 r0_1)) (modV (View.ld x4 r0_1)))
    (modS i s (modV (View.ld x1 r0_1)) (modV (View.ld x2 r0_1)))

/-- Rows against 512 columns of the matrix. -/
def accV (h : FVec F S256x1024 .bf16) (w : Vec F S1024x512 .bf16) : FVec F S256x512 .f32 :=
  matmul dot_S256x1024_S1024x512_S256x512_1_0_0_1_n_n none h (shapeCast S1024x512 w shapeCasts_S1024x512_S1024x512)
    (constant S256x512 .f32 0x00000000#32)

/-- 128 of the 512 columns. -/
def pickV (a : FVec F S256x512 .f32) (g : Fin 4) : FVec F S256x128 .f32 :=
  extractStridedSlice S256x128 ![0, 128 * g.val] a ⟨rfl, fun b => match b with
    | ⟨0, _⟩ => by show 0 + 256 ≤ 256; omega
    | ⟨1, _⟩ => by show 128 * g.val + 128 ≤ 512; omega⟩

/-- Which of 128 columns belong to the first of two heads. -/
def firstV : IVec S256x128 1 := cmpi .slt (iota .tc S256x128 32 [1] iota_S256x128_d1_w32) (broadcast S256x128 64#32)

/-- Row sums, the column of them widened again. -/
def sumV (a : FVec F S256x128 .f32) : FVec F S256x128 .f32 :=
  broadcastTo S256x128 (shapeCast S256x1 (shapeCast S256x1 (multiReduction .add [1] S256 a 0x00000000#32 reduces_S256x128_S256 (.inl rfl) rfl)
    shapeCasts_S256_S256x1) shapeCasts_S256x1_S256x1) broadcasts_S256x1_S256x128

/-- Two heads side by side, each normalized. -/
def headsV (a : FVec F S256x128 .f32) (gain : FVec F S1x128 .f32) : FVec F S256x128 .f32 :=
  mulf (mulf a (rsqrt (addf (mulf (select firstV
      (sumV (select firstV (mulf a a) (broadcast S256x128 (Scalar.ofBits .f32 0x00000000#32))))
      (sumV (select firstV (broadcast S256x128 (Scalar.ofBits .f32 0x00000000#32)) (mulf a a))))
    (broadcast S256x128 (Scalar.ofBits .f32 0x3C800000#32))) (broadcast S256x128 (Scalar.ofBits .f32 0x358637BD#32)))))
    (broadcastTo S256x128 gain broadcasts_S1x128_S256x128)

/-- A store of the queries. -/
def qV (a : FVec F S256x128 .f32) (gain : FVec F S1x128 .f32) : FVec F S256x128 .bf16 :=
  truncf .bf16 (mulf (headsV a gain) (broadcast S256x128 (Scalar.ofBits .f32 0x3E000000#32))) bitsLt_bf16_f32

/-- A store of the keys. -/
def kV (a : FVec F S256x128 .f32) (gain : FVec F S1x128 .f32) : FVec F S256x128 .bf16 :=
  truncf .bf16 (headsV a gain) bitsLt_bf16_f32

/-- The group of rows and the pair of heads of store `n`, counted from the last. -/
abbrev grp (n : Fin 24) : Fin 3 := ⟨2 - n.val / 8, by omega⟩
abbrev prs (n : Fin 24) : Fin 8 := ⟨7 - n.val % 8, by omega⟩

theorem inb24 (n : Fin 24) (a : Fin 2) : (![256 * (grp n).val, 128 * (prs n).val] : Fin 2 → ℕ) a + S256x128.size a ≤ S768x1024.size a := by
  match a with
  | ⟨0, _⟩ => show 256 * (2 - n.val / 8) + 256 ≤ 768; omega
  | ⟨1, _⟩ => show 128 * (7 - n.val % 8) + 128 ≤ 1024; omega

/-- The 128 columns of pair `g` of part `b`. -/
def pairV (h : FVec F S256x1024 .bf16) (w : Vec F S1024x3072 .bf16) (b : Fin 2) (g : Fin 8) : FVec F S256x128 .f32 :=
  pickV (accV h (View.ld w (colsR (1024 * b.val + 512 * (g.val / 4)) (by omega)))) ⟨g.val % 4, by omega⟩

theorem out8_eq (i : grid0.Coords) (x0 : Vec F S768x1024 .f32) (x1 x2 x3 x4 : Vec F S1x1x1x1x1024 .f32) (x5 : Vec F S1024x3072 .bf16)
    (x6 x7 : Vec F S1x128 .f32) :
    out0_8 i x0 x1 x2 x3 x4 x5 x6 x7 = View.canon (Val := Elt F) (s := S768x1024) (e := .bf16)
      (List.ofFn fun n : Fin 24 => ⟨Rect.unit (s := S768x1024) ![256 * (grp n).val, 128 * (prs n).val] S256x128.size (inb24 n),
        qV (pairV (hV i x0 x1 x2 x3 x4 (grp n)) x5 0 (prs n)) (shapeCast S1x128 (View.ld x6 r0_2) shapeCasts_S1x128_S1x128)⟩) := rfl

theorem out9_eq (i : grid0.Coords) (x0 : Vec F S768x1024 .f32) (x1 x2 x3 x4 : Vec F S1x1x1x1x1024 .f32) (x5 : Vec F S1024x3072 .bf16)
    (x6 x7 : Vec F S1x128 .f32) :
    out0_9 i x0 x1 x2 x3 x4 x5 x6 x7 = View.canon (Val := Elt F) (s := S768x1024) (e := .bf16)
      (List.ofFn fun n : Fin 24 => ⟨Rect.unit (s := S768x1024) ![256 * (grp n).val, 128 * (prs n).val] S256x128.size (inb24 n),
        kV (pairV (hV i x0 x1 x2 x3 x4 (grp n)) x5 1 (prs n)) (shapeCast S1x128 (View.ld x7 r0_2) shapeCasts_S1x128_S1x128)⟩) := rfl

/-- The group of rows and the half of the columns of the values' store `n`, counted from the last. -/
abbrev grp6 (n : Fin 6) : Fin 3 := ⟨2 - n.val / 2, by omega⟩
abbrev hlf6 (n : Fin 6) : Fin 2 := ⟨1 - n.val % 2, by omega⟩

theorem inb6 (n : Fin 6) (a : Fin 2) : (![256 * (grp6 n).val, 512 * (hlf6 n).val] : Fin 2 → ℕ) a + S256x512.size a ≤ S768x1024.size a := by
  match a with
  | ⟨0, _⟩ => show 256 * (2 - n.val / 2) + 256 ≤ 768; omega
  | ⟨1, _⟩ => show 512 * (1 - n.val % 2) + 512 ≤ 1024; omega

theorem out10_eq (i : grid0.Coords) (x0 : Vec F S768x1024 .f32) (x1 x2 x3 x4 : Vec F S1x1x1x1x1024 .f32) (x5 : Vec F S1024x3072 .bf16)
    (x6 x7 : Vec F S1x128 .f32) :
    out0_10 i x0 x1 x2 x3 x4 x5 x6 x7 = View.canon (Val := Elt F) (s := S768x1024) (e := .bf16)
      (List.ofFn fun n : Fin 6 => ⟨Rect.unit (s := S768x1024) ![256 * (grp6 n).val, 512 * (hlf6 n).val] S256x512.size (inb6 n),
        truncf .bf16 (accV (hV i x0 x1 x2 x3 x4 (grp6 n)) (View.ld x5 (colsR (2048 + 512 * (hlf6 n).val) (by omega)))) bitsLt_bf16_f32⟩) := rfl

end

/-! ## The stores read at a row and a column -/

open Cert.KernelIdeal.Hand (lane lane_cases sum_lanes below)

theorem accV_apply (h : FVec Ideal S256x1024 .bf16) (w : Vec Ideal S1024x512 .bf16) (p : Fin 256) (j : Fin 512) :
    accV h w (ix2 p j) = Cert.ProjMath.proj (fun k => h (ix2 p k)) (fun k => w (ix2 k j)) := by
  pointwise [accV, Cert.ProjMath.proj]

theorem pickV_apply (a : FVec Ideal S256x512 .f32) (g : Fin 4) (p : Fin 256) (l : Fin 128) :
    pickV a g (ix2 p l) = a (ix2 p ⟨128 * g.val + l.val, by omega⟩) := by
  unfold pickV extractStridedSlice
  refine congrArg a (Cert.MlpMath.ix2_of _ _ _ ?_ ?_)
  · show 0 + p.val = p.val; omega
  · rfl

theorem firstV_apply (p : Fin 256) (h : Fin 2) (d : Fin 64) : firstV (ix2 p (lane h d)) = BitVec.ofBool (decide (h.val = 0)) := by
  rw [← below h d]
  pointwise [firstV]

theorem sumV_apply (a : FVec Ideal S256x128 .f32) (p : Fin 256) (l : Fin 128) : sumV a (ix2 p l) = ∑ e : Fin 128, a (ix2 p e) := by
  pointwise [sumV]

/-- The sum over the lanes of one head. -/
theorem sum_head (a : FVec Ideal S256x128 .f32) (p : Fin 256) (h : Fin 2) (l : Fin 128) :
    select firstV (sumV (select firstV a (broadcast S256x128 (Scalar.ofBits .f32 0x00000000#32))))
      (sumV (select firstV (broadcast S256x128 (Scalar.ofBits .f32 0x00000000#32)) a)) (ix2 p (lane h ⟨l.val % 64, by omega⟩))
      = ∑ e : Fin 64, a (ix2 p (lane h e)) := by
  have hs : ∀ (x y : FVec Ideal S256x128 .f32) (p : Fin 256) (h : Fin 2) (d : Fin 64),
      select firstV x y (ix2 p (lane h d)) = if h.val = 0 then x (ix2 p (lane h d)) else y (ix2 p (lane h d)) := by
    intro x y p h d
    show (if firstV (ix2 p (lane h d)) = 1#1 then x (ix2 p (lane h d)) else y (ix2 p (lane h d))) = _
    rw [firstV_apply]
    match h with
    | ⟨0, _⟩ => rfl
    | ⟨1, _⟩ => rfl
  have hz : ∀ i : S256x128.Idx, broadcast S256x128 (Scalar.ofBits (F := Ideal) .f32 0x00000000#32) i = 0 := by
    intro i; pointwise []
  rw [hs]
  simp only [sumV_apply, sum_lanes, hs, hz]
  match h with
  | ⟨0, _⟩ => simp
  | ⟨1, _⟩ => simp

theorem headsV_apply (a : FVec Ideal S256x128 .f32) (gain : FVec Ideal S1x128 .f32) (p : Fin 256) (h : Fin 2) (d : Fin 64) :
    headsV a gain (ix2 p (lane h d)) = Cert.ProjMath.headed (fun e => a (ix2 p (lane h e))) (fun e => gain (ix2 0 (lane h e))) d := by
  have hd : d = ⟨(lane h d).val % 64, by omega⟩ := Fin.ext (by show d.val = (64 * h.val + d.val) % 64; omega)
  have hs := sum_head (mulf a a) p h (lane h d)
  rw [← hd] at hs
  unfold headsV
  generalize select firstV _ _ = S at hs ⊢
  unfold Cert.ProjMath.headed
  rw [← Cert.ProjMath.mul_inv64]
  have e : ∑ e : Fin 64, a (ix2 p (lane h e)) * a (ix2 p (lane h e)) = S (ix2 p (lane h d)) := hs.symm
  rw [e]
  pointwise []

/-! ## A group's rows, normalized -/

theorem ld_x (x : Vec Ideal S768x1024 .f32) (s : Fin 3) (p : Fin 256) (k : Fin 1024) :
    View.ld x (rowsR s) (ix2 p k) = x (ix2 ⟨256 * s.val + p.val, by omega⟩ k) := by
  refine congrArg x (Cert.MlpMath.ix2_of _ _ _ ?_ ?_)
  · show 256 * s.val + 1 * p.val = 256 * s.val + p.val; omega
  · show 0 + 1 * k.val = k.val; omega

/-- A group's modulation is the vector its rows' place picks. -/
theorem modS_of (l : Fin 4) (i : grid0.Coords) (t : ℕ) (ht : t < 48) (hi : isCtx i = BitVec.ofBool (decide (t % 3 = 0)))
    (X1 : S4x24x6x1x1024.Idx → EReal) (s : Fin 3) (p : Fin 256) (C B : Vec Ideal S1x1x1x1x1024 .f32) (w : Fin 6)
    (hC : ∀ k, C (ix5 0 0 0 0 k) = X1 (ix5 l 16 w 0 k)) (hB : ∀ k, B (ix5 0 0 0 0 k) = X1 (ix5 l ⟨t / 3, by omega⟩ w 0 k)) (k : Fin 1024) :
    modS i s (modV (View.ld C r0_1)) (modV (View.ld B r0_1)) (ix2 0 k)
      = X1 (ix5 l (Cert.MlpMath.modOf ⟨768 * t + (256 * s.val + p.val), by omega⟩) w 0 k) := by
  match s with
  | ⟨0, _⟩ =>
    show (Scalar.select (isCtx i) (modV (View.ld C r0_1)) (modV (View.ld B r0_1)) : FVec Ideal S1x1024 .f32) (ix2 0 k) = _
    rw [hi]
    by_cases h0 : t % 3 = 0
    · rw [decide_eq_true h0]
      refine ((ld_mod C k).trans (hC k)).trans ?_
      rw [show Cert.MlpMath.modOf ⟨768 * t + (256 * 0 + p.val), by omega⟩ = 16 from Cert.MlpMath.modOf_ctx t p (by omega) h0]
    · rw [decide_eq_false h0]
      refine ((ld_mod B k).trans (hB k)).trans ?_
      rw [show Cert.MlpMath.modOf ⟨768 * t + (256 * 0 + p.val), by omega⟩ = _ from Cert.MlpMath.modOf_lat t 0 p ht (by omega) (by omega) (by omega) (by omega)]
  | ⟨1, _⟩ =>
    refine ((ld_mod B k).trans (hB k)).trans ?_
    rw [show Cert.MlpMath.modOf ⟨768 * t + (256 * 1 + p.val), by omega⟩ = _ from Cert.MlpMath.modOf_lat t 256 p ht (by omega) (by omega) (by omega) (by omega)]
  | ⟨2, _⟩ =>
    refine ((ld_mod B k).trans (hB k)).trans ?_
    rw [show Cert.MlpMath.modOf ⟨768 * t + (256 * 2 + p.val), by omega⟩ = _ from Cert.MlpMath.modOf_lat t 512 p ht (by omega) (by omega) (by omega) (by omega)]

/-- A group's rows are the layer's normalized rows where the blocks are the rows and the layer's vectors. -/
theorem hV_of (l : Fin 4) (i : grid0.Coords) (t : ℕ) (ht : t < 48) (hi : isCtx i = BitVec.ofBool (decide (t % 3 = 0)))
    (X0 : S36864x1024.Idx → EReal) (X1 : S4x24x6x1x1024.Idx → EReal) (x0 : Vec Ideal S768x1024 .f32) (x1 x2 x3 x4 : Vec Ideal S1x1x1x1x1024 .f32)
    (h0 : ∀ (p : Fin 768) k, x0 (ix2 p k) = X0 (ix2 ⟨768 * t + p.val, by omega⟩ k))
    (h1 : ∀ k, x1 (ix5 0 0 0 0 k) = X1 (ix5 l 16 0 0 k)) (h2 : ∀ k, x2 (ix5 0 0 0 0 k) = X1 (ix5 l ⟨t / 3, by omega⟩ 0 0 k))
    (h3 : ∀ k, x3 (ix5 0 0 0 0 k) = X1 (ix5 l 16 1 0 k)) (h4 : ∀ k, x4 (ix5 0 0 0 0 k) = X1 (ix5 l ⟨t / 3, by omega⟩ 1 0 k))
    (s : Fin 3) (p : Fin 256) (k : Fin 1024) :
    hV i x0 x1 x2 x3 x4 s (ix2 p k) = Cert.ProjMath.hrow l X0 X1 ⟨768 * t + (256 * s.val + p.val), by omega⟩ k := by
  unfold hV Cert.ProjMath.hrow
  rw [normV_apply]
  have hx : ∀ k, View.ld x0 (rowsR s) (ix2 p k) = X0 (ix2 ⟨768 * t + (256 * s.val + p.val), by omega⟩ k) :=
    fun k => (ld_x _ s p k).trans (h0 _ k)
  rw [funext hx]
  rw [funext (modS_of l i t ht hi X1 s p _ _ 1 h3 h4), funext (modS_of l i t ht hi X1 s p _ _ 0 h1 h2)]

end Cert.QkvIdeal.Hand

end
-- ==== Proof.EvenIn.Block.lean ====
/-
  What one grid point of an even layer's first projection leaves in its six blocks of 768 rows: groups of 256 rows; the queries
  and the keys are stored head by head, and the keys and the gates are stored transposed.
-/
module

public import proofs.«01_k».proof.Proof.Gen.EvenInIdeal.Frame
public import proofs.«01_k».proof.Proof.Qkv.Block
public import proofs.«01_k».proof.Proof.EvenIn.Rows

@[expose] public section

set_option maxRecDepth 16384

noncomputable section

namespace Cert.EvenInIdeal.Hand

open Cert.EvenInIdeal Cert.EvenInIdeal.Gen Idealize.ShloMosaic Idealize.ShloMosaic.TcCoe
open Cert.QkvIdeal.Hand (rowsR hV accV pickV accV_apply pickV_apply)

section
variable {F : FTy → Type} [FloatOps F]

/-- Columns `o` and following, 512 of them, of the matrix. -/
abbrev colsE (o : ℕ) (ho : o + 512 ≤ 3712) : Rect S1024x3712 := Rect.unit (s := S1024x3712) ![0, o] S1024x512.size (by
  intro a; match a with
  | ⟨0, _⟩ => show 0 + 1024 ≤ 1024; omega
  | ⟨1, _⟩ => exact ho)

/-- The rows `256 * s` and following of a table. -/
abbrev rowsT (s : Fin 3) : Rect S768x128 := Rect.unit (s := S768x128) ![256 * s.val, 0] S256x128.size (by
  intro a; match a with
  | ⟨0, _⟩ => show 256 * s.val + 256 ≤ 768; omega
  | ⟨1, _⟩ => show 0 + 128 ≤ 128; omega)

/-- Rows of a table. -/
def tabV (x : Vec F S768x128 .f32) (s : Fin 3) : FVec F S256x128 .f32 := shapeCast S256x128 (View.ld x (rowsT s)) shapeCasts_S256x128_S256x128

/-- Which lanes turn into the lane 32 further on; the others turn into the lane 32 before them. -/
def sideV : IVec S256x128 1 := k0_pay2

/-- A head's rows, rotated by the tables. -/
def ropeV (a c s : FVec F S256x128 .f32) : FVec F S256x128 .f32 :=
  addf (mulf a c) (mulf (select sideV (dynamicRotate 1 96#32 none a rotates_S256x128_d1) (dynamicRotate 1 32#32 none a rotates_S256x128_d1)) s)

/-- A store of the queries. -/
def qV (h : FVec F S256x1024 .bf16) (w : Vec F S1024x3712 .bf16) (g : Fin 4) (c s : FVec F S256x128 .f32) : FVec F S256x128 .bf16 :=
  truncf .bf16 (ropeV (pickV (accV h (View.ld w (colsE 0 (by omega)))) g) c s) bitsLt_bf16_f32

/-- A store of the keys. -/
def kV (h : FVec F S256x1024 .bf16) (w : Vec F S1024x3712 .bf16) (g : Fin 4) (c s : FVec F S256x128 .f32) : FVec F S128x256 .bf16 :=
  truncf .bf16 (transpose S128x256 [1, 0] (ropeV (pickV (mulf (accV h (View.ld w (colsE 512 (by omega))))
    (broadcast S256x512 (Scalar.ofBits .f32 0x3DB504F3#32))) g) c s) transposes_S256x128_p1_0_S128x256) bitsLt_bf16_f32

/-- A store of the output gate. -/
def oV (h : FVec F S256x1024 .bf16) (w : Vec F S1024x3712 .bf16) : FVec F S256x512 .bf16 :=
  truncf .bf16 (divf (broadcast S256x512 (Scalar.ofBits .f32 0x3F800000#32)) (addf (broadcast S256x512 (Scalar.ofBits .f32 0x3F800000#32))
    (exp (subf (broadcast S256x512 (Scalar.ofBits .f32 0x00000000#32)) (accV h (View.ld w (colsE 1536 (by omega)))))))) bitsLt_bf16_f32

/-- A store of the gates. -/
def gV (h : FVec F S256x1024 .bf16) (w : Vec F S1024x3712 .bf16) (b : Vec F S1x128 .f32) : FVec F S128x256 .f32 :=
  transpose S128x256 [1, 0] (addf (matmul dot_S256x1024_S1024x128_S256x128_1_0_0_1_n_n none h
      (shapeCast S1024x128 (View.ld w r0_16) shapeCasts_S1024x128_S1024x128) (constant S256x128 .f32 0x00000000#32))
    (broadcastTo S256x128 (shapeCast S1x128 (View.ld b r0_17) shapeCasts_S1x128_S1x128) broadcasts_S1x128_S256x128)) transposes_S256x128_p1_0_S128x256

/-- The group of rows and the head of store `n`, counted from the last. -/
abbrev grp (n : Fin 12) : Fin 3 := ⟨2 - n.val / 4, by omega⟩
abbrev hds (n : Fin 12) : Fin 4 := ⟨3 - n.val % 4, by omega⟩
/-- The group of rows and the third of the columns of store `n`, counted from the last. -/
abbrev grp9 (n : Fin 9) : Fin 3 := ⟨2 - n.val / 3, by omega⟩
abbrev thd9 (n : Fin 9) : Fin 3 := ⟨2 - n.val % 3, by omega⟩
/-- The group of rows of store `n`, counted from the last. -/
abbrev grp3 (n : Fin 3) : Fin 3 := ⟨2 - n.val, by omega⟩

theorem inbQ (n : Fin 12) (a : Fin 2) : (![256 * (grp n).val, 128 * (hds n).val] : Fin 2 → ℕ) a + (![256, 128] : Fin 2 → ℕ) a ≤ (![768, 512] : Fin 2 → ℕ) a := by
  match a with
  | ⟨0, _⟩ => show 256 * (2 - n.val / 4) + 256 ≤ 768; omega
  | ⟨1, _⟩ => show 128 * (3 - n.val % 4) + 128 ≤ 512; omega
theorem inbK (n : Fin 12) (a : Fin 2) : (![128 * (hds n).val, 256 * (grp n).val] : Fin 2 → ℕ) a + (![128, 256] : Fin 2 → ℕ) a ≤ (![512, 768] : Fin 2 → ℕ) a := by
  match a with
  | ⟨0, _⟩ => show 128 * (3 - n.val % 4) + 128 ≤ 512; omega
  | ⟨1, _⟩ => show 256 * (2 - n.val / 4) + 256 ≤ 768; omega
theorem inbV (n : Fin 3) (a : Fin 2) : (![256 * (grp3 n).val, 512 * 0] : Fin 2 → ℕ) a + (![256, 512] : Fin 2 → ℕ) a ≤ (![768, 512] : Fin 2 → ℕ) a := by
  match a with
  | ⟨0, _⟩ => show 256 * (2 - n.val) + 256 ≤ 768; omega
  | ⟨1, _⟩ => show 512 * 0 + 512 ≤ 512; omega
theorem inbG (n : Fin 3) (a : Fin 2) : (![128 * 0, 256 * (grp3 n).val] : Fin 2 → ℕ) a + (![128, 256] : Fin 2 → ℕ) a ≤ (![128, 768] : Fin 2 → ℕ) a := by
  match a with
  | ⟨0, _⟩ => show 128 * 0 + 128 ≤ 128; omega
  | ⟨1, _⟩ => show 256 * (2 - n.val) + 256 ≤ 768; omega
theorem inbH (n : Fin 9) (a : Fin 2) : (![256 * (grp9 n).val, 512 * (thd9 n).val] : Fin 2 → ℕ) a + (![256, 512] : Fin 2 → ℕ) a ≤ (![768, 1536] : Fin 2 → ℕ) a := by
  match a with
  | ⟨0, _⟩ => show 256 * (2 - n.val / 3) + 256 ≤ 768; omega
  | ⟨1, _⟩ => show 512 * (2 - n.val % 3) + 512 ≤ 1536; omega

variable (i : grid0.Coords) (x0 : Vec F S768x1024 .f32) (x1 x2 x3 x4 : Vec F S1x1x1x1x1024 .f32) (x5 : Vec F S1024x3712 .bf16)
  (x6 : Vec F S1x128 .f32) (x7 x8 : Vec F S768x128 .f32)

theorem out9_eq : out0_9 i x0 x1 x2 x3 x4 x5 x6 x7 x8 = View.canon (Val := Elt F) (s := S768x512) (e := .bf16)
    (List.ofFn fun n : Fin 12 => ⟨Rect.unit (s := S768x512) ![256 * (grp n).val, 128 * (hds n).val] ![256, 128] (inbQ n),
      qV (hV i x0 x1 x2 x3 x4 (grp n)) x5 (hds n) (tabV x7 (grp n)) (tabV x8 (grp n))⟩) := rfl

theorem out10_eq : out0_10 i x0 x1 x2 x3 x4 x5 x6 x7 x8 = View.canon (Val := Elt F) (s := S512x768) (e := .bf16)
    (List.ofFn fun n : Fin 12 => ⟨Rect.unit (s := S512x768) ![128 * (hds n).val, 256 * (grp n).val] ![128, 256] (inbK n),
      kV (hV i x0 x1 x2 x3 x4 (grp n)) x5 (hds n) (tabV x7 (grp n)) (tabV x8 (grp n))⟩) := rfl

theorem out11_eq : out0_11 i x0 x1 x2 x3 x4 x5 x6 x7 x8 = View.canon (Val := Elt F) (s := S768x512) (e := .bf16)
    (List.ofFn fun n : Fin 3 => ⟨Rect.unit (s := S768x512) ![256 * (grp3 n).val, 512 * 0] ![256, 512] (inbV n),
      truncf .bf16 (accV (hV i x0 x1 x2 x3 x4 (grp3 n)) (View.ld x5 (colsE 1024 (by omega)))) bitsLt_bf16_f32⟩) := rfl

theorem out12_eq : out0_12 i x0 x1 x2 x3 x4 x5 x6 x7 x8 = View.canon (Val := Elt F) (s := S768x512) (e := .bf16)
    (List.ofFn fun n : Fin 3 => ⟨Rect.unit (s := S768x512) ![256 * (grp3 n).val, 512 * 0] ![256, 512] (inbV n),
      oV (hV i x0 x1 x2 x3 x4 (grp3 n)) x5⟩) := rfl

theorem out13_eq : out0_13 i x0 x1 x2 x3 x4 x5 x6 x7 x8 = View.canon (Val := Elt F) (s := S128x768) (e := .f32)
    (List.ofFn fun n : Fin 3 => ⟨Rect.unit (s := S128x768) ![128 * 0, 256 * (grp3 n).val] ![128, 256] (inbG n),
      gV (hV i x0 x1 x2 x3 x4 (grp3 n)) x5 x6⟩) := rfl

theorem out14_eq : out0_14 i x0 x1 x2 x3 x4 x5 x6 x7 x8 = View.canon (Val := Elt F) (s := S768x1536) (e := .f32)
    (List.ofFn fun n : Fin 9 => ⟨Rect.unit (s := S768x1536) ![256 * (grp9 n).val, 512 * (thd9 n).val] ![256, 512] (inbH n),
      accV (hV i x0 x1 x2 x3 x4 (grp9 n)) (View.ld x5 (colsE (2176 + 512 * (thd9 n).val) (by omega)))⟩) := rfl

end

/-! ## The stores read at a row and a column -/

open Cert.EvenMath

theorem sideV_apply (p : Fin 256) (h s : Fin 2) (d : Fin 32) : sideV (ix2 p (lane3 h s d)) = BitVec.ofBool (decide (s.val = 0)) := by
  pointwise [sideV, k0_pay2]
  revert h s d
  decide +kernel

theorem turn_up (a : FVec Ideal S256x128 .f32) (p : Fin 256) (h : Fin 2) (d : Fin 32) :
    dynamicRotate 1 96#32 none a rotates_S256x128_d1 (ix2 p (lane3 h 0 d)) = a (ix2 p (lane3 h 1 d)) := by
  pointwise []
  refine congrArg (fun l => a (ix2 p l)) (Fin.ext ?_)
  show (64 * h.val + d.val + 128 - 96) % 128 = 64 * h.val + 32 * 1 + d.val
  omega

theorem turn_down (a : FVec Ideal S256x128 .f32) (p : Fin 256) (h : Fin 2) (d : Fin 32) :
    dynamicRotate 1 32#32 none a rotates_S256x128_d1 (ix2 p (lane3 h 1 d)) = a (ix2 p (lane3 h 0 d)) := by
  pointwise []
  refine congrArg (fun l => a (ix2 p l)) (Fin.ext ?_)
  show (64 * h.val + 32 + d.val + 128 - 32) % 128 = 64 * h.val + 32 * 0 + d.val
  omega

theorem ropeV_apply (a c s : FVec Ideal S256x128 .f32) (p : Fin 256) (h e : Fin 2) (d : Fin 32) :
    ropeV a c s (ix2 p (lane3 h e d)) = a (ix2 p (lane3 h e d)) * c (ix2 p (lane3 h e d))
      + a (ix2 p (lane3 h (other e) d)) * s (ix2 p (lane3 h e d)) := by
  show a _ * c _ + (Scalar.select (sideV (ix2 p (lane3 h e d))) (dynamicRotate 1 96#32 none a rotates_S256x128_d1 (ix2 p (lane3 h e d)))
    (dynamicRotate 1 32#32 none a rotates_S256x128_d1 (ix2 p (lane3 h e d))) : EReal) * s _ = _
  rw [sideV_apply]
  match e with
  | ⟨0, _⟩ => exact congrArg (fun y => _ + y * _) (turn_up a p h d)
  | ⟨1, _⟩ => exact congrArg (fun y => _ + y * _) (turn_down a p h d)

theorem tabV_apply (x : Vec Ideal S768x128 .f32) (s : Fin 3) (p : Fin 256) (l : Fin 128) :
    tabV x s (ix2 p l) = x (ix2 ⟨256 * s.val + p.val, by omega⟩ l) := by
  unfold tabV
  pointwise []

theorem ld_cols (w : Vec Ideal S1024x3712 .bf16) (o : ℕ) (ho : o + 512 ≤ 3712) (k : Fin 1024) (j : Fin 512) :
    View.ld w (colsE o ho) (ix2 k j) = w (ix2 k ⟨o + j.val, by omega⟩) := by
  refine congrArg w (Cert.MlpMath.ix2_of _ _ _ ?_ ?_)
  · show 0 + 1 * k.val = k.val; omega
  · show o + 1 * j.val = o + j.val; omega

/-- Rows against 512 columns. -/
theorem acc_cols (h : FVec Ideal S256x1024 .bf16) (w : Vec Ideal S1024x3712 .bf16) (o : ℕ) (ho : o + 512 ≤ 3712) (p : Fin 256) (j : Fin 512) :
    accV h (View.ld w (colsE o ho)) (ix2 p j) = Cert.ProjMath.proj (fun k => h (ix2 p k)) (fun k => w (ix2 k ⟨o + j.val, by omega⟩)) := by
  rw [accV_apply]
  exact congrArg (Cert.ProjMath.proj _) (funext fun k => ld_cols w o ho k j)

theorem oV_apply (h : FVec Ideal S256x1024 .bf16) (w : Vec Ideal S1024x3712 .bf16) (p : Fin 256) (j : Fin 512) :
    oV h w (ix2 p j) = Ideal.div 1 (1 + Ideal.exp (-Cert.ProjMath.proj (fun k => h (ix2 p k)) (fun k => w (ix2 k ⟨1536 + j.val, by omega⟩)))) := by
  rw [← acc_cols h w 1536 (by omega)]
  unfold oV
  generalize accV h (View.ld w (colsE 1536 (by omega))) = a
  pointwise []
  rw [sub_eq_add_neg, zero_add]

theorem gV_apply (h : FVec Ideal S256x1024 .bf16) (w : Vec Ideal S1024x3712 .bf16) (b : Vec Ideal S1x128 .f32) (p : Fin 256) (j : Fin 128) :
    gV h w b (ix2 j p) = Cert.ProjMath.proj (fun k => h (ix2 p k)) (fun k => w (ix2 k ⟨2048 + j.val, by omega⟩)) + b (ix2 0 j) := by
  pointwise [gV, Cert.ProjMath.proj]

end Cert.EvenInIdeal.Hand

end
-- ==== Proof.EvenIn.Host.lean ====
/-
  The arrays the host prepares for an even layer's first projection: the matrix with its gates' columns widened to 128, the
  gates' bias widened with it, and the two tables of the rotation.
-/
module

public import proofs.«01_k».proof.Proof.Gen.EvenInIdeal.Frame
public import proofs.«01_k».proof.Proof.EvenIn.Rows
public import Idealize.ShloMosaic.Lib.StableHlo.RunRead

@[expose] public section

set_option maxRecDepth 16384

noncomputable section

namespace Cert.EvenInIdeal.Hand

open Cert.EvenInIdeal Cert.EvenInIdeal.Gen Idealize.ShloMosaic Idealize.ShloMosaic.TcCoe Idealize.SL.Sem
open Cert.EvenMath

section
variable {F : FTy → Type} [FloatOps F]

/-- The matrix, the gates' 16 columns widened to 128. -/
def wideW (w : FVec F S1024x3600 .f32) : FVec F S1024x3712 .bf16 :=
  truncf .bf16 (concatenate S1024x3712 1 [⟨S1024x2048, extractStridedSlice S1024x2048 ![0, 0] w slices_S1024x3600_S1024x2048_0_0⟩,
    ⟨S1024x128, pad S1024x128 ![0, 0] ![0, 112] ![0, 0] (extractStridedSlice S1024x16 ![0, 2048] w slices_S1024x3600_S1024x16_0_2048)
      (sitofp .f32 (constantI S_ 32 0#32)) pads_S1024x16_S1024x128_000_01120 h_S_⟩,
    ⟨S1024x1536, extractStridedSlice S1024x1536 ![0, 2064] w slices_S1024x3600_S1024x1536_0_2064⟩]
    concatenates_S1024x2048_S1024x128_S1024x1536_S1024x3712_d1) bitsLt_bf16_f32

/-- The gates' bias, widened to 128. -/
def wideB (b : FVec F S16 .f32) : FVec F S1x128 .f32 :=
  pad S1x128 ![0, 0] ![0, 112] ![0, 0] (broadcastInDim S1x16 ![1] bcast_S16_S1x16_1 b) (sitofp .f32 (constantI S_ 32 0#32))
    pads_S1x16_S1x128_000_01120 h_S_

/-- The rows and the columns of the tokens' places. -/
def rowPos : IVec S2048 32 := shapeCast S2048 (broadcastInDim S32x64 ![0, 1] bcast_S32x1_S32x64_0_1
  (broadcastInDim S32x1 ![0] bcast_S32_S32x1_0 (iotaInDim S32 32 0))) shapeCasts_S32x64_S2048
def colPos : IVec S2048 32 := shapeCast S2048 (broadcastInDim S32x64 ![0, 1] bcast_S1x64_S32x64_0_1
  (broadcastInDim S1x64 ![1] bcast_S64_S1x64_1 (iotaInDim S64 32 0))) shapeCasts_S32x64_S2048

/-- The angles of the places. -/
def angH (pos : IVec S2048 32) : FVec F S2048x32 .f32 :=
  mulf (broadcastInDim S2048x32 ![0, 1] bcast_S2048x1_S2048x32_0_1 (sitofp .f32 (broadcastInDim S2048x1 ![0] bcast_S2048_S2048x1_0 pos)))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Two tables of 32 columns beside each other, and two of 64. -/
def join32 (a b : FVec F S2048x32 .f32) : FVec F S2048x64 .f32 :=
  concatenate S2048x64 1 [⟨S2048x32, a⟩, ⟨S2048x32, b⟩] concatenates_S2048x32_S2048x32_S2048x64_d1
def join64 (a b : FVec F S2048x64 .f32) : FVec F S2048x128 .f32 :=
  concatenate S2048x128 1 [⟨S2048x64, a⟩, ⟨S2048x64, b⟩] concatenates_S2048x64_S2048x64_S2048x128_d1
/-- The context's rows above the latent tokens' rows. -/
def above (x : BitVec 32) (a : FVec F S2048x128 .f32) : FVec F S2304x128 .f32 :=
  concatenate S2304x128 0 [⟨S256x128, broadcastInDim S256x128 ![] bcast_S_S256x128 (constant S_ .f32 x)⟩, ⟨S2048x128, a⟩]
    concatenates_S256x128_S2048x128_S2304x128_d0

def cosH (pos : IVec S2048 32) : FVec F S2048x64 .f32 := join32 (Host.cos (angH pos)) (Host.cos (angH pos))
def sinH (pos : IVec S2048 32) : FVec F S2048x64 .f32 := join32 (Host.negf (Host.sin (angH pos))) (Host.sin (angH pos))

/-- The two tables. -/
def cosTab : FVec F S2304x128 .f32 := above 0x3F800000#32 (join64 (cosH rowPos) (cosH colPos))
def sinTab : FVec F S2304x128 .f32 := above 0x00000000#32 (join64 (sinH rowPos) (sinH colPos))

end

variable (m : (ℓ : Loc nD τ sig) → Buf (Elt Ideal) ℓ)

theorem V_w (c : Dev nD) : V m c main_v5 = wideW (F := Ideal) (m ((c : Thread nD τ).loc main_arg2)) := by
  show StableHlo.after _ _ _ = _
  simp only [hostOps0, hostOps0_1, hostOps0_2, hostOps0_3, hostOps0_4, List.flatten_cons, List.flatten_nil, List.append_nil, List.cons_append, List.nil_append]
  after_reads_simp
  rfl

theorem V_b (c : Dev nD) : V m c main_v7 = wideB (F := Ideal) (m ((c : Thread nD τ).loc main_arg3)) := by
  show StableHlo.after _ _ _ = _
  simp only [hostOps0, hostOps0_1, hostOps0_2, hostOps0_3, hostOps0_4, List.flatten_cons, List.flatten_nil, List.append_nil, List.cons_append, List.nil_append]
  after_reads_simp
  rfl

theorem V_cos (c : Dev nD) : V m c main_v51 = cosTab (F := Ideal) := by
  show StableHlo.after _ _ _ = _
  simp only [hostOps0, hostOps0_1, hostOps0_2, hostOps0_3, hostOps0_4, List.flatten_cons, List.flatten_nil, List.append_nil, List.cons_append, List.nil_append]
  after_reads_simp
  rfl

theorem V_sin (c : Dev nD) : V m c main_v53 = sinTab (F := Ideal) := by
  show StableHlo.after _ _ _ = _
  simp only [hostOps0, hostOps0_1, hostOps0_2, hostOps0_3, hostOps0_4, List.flatten_cons, List.flatten_nil, List.append_nil, List.cons_append, List.nil_append]
  after_reads_simp
  rfl

/-! ## Their entries -/

theorem wideW_apply (w : FVec Ideal S1024x3600 .f32) (k : Fin 1024) (j : Fin 3712) :
    wideW w (ix2 k j) = if h : j.val < 2064 then w (ix2 k ⟨j.val, by omega⟩)
      else if h' : j.val < 2176 then 0 else w (ix2 k ⟨j.val - 112, by omega⟩) := by
  have hj := j.isLt
  pointwise [wideW]
  rw [sitofp_zero]
  by_cases h1 : j.val < 2048
  · rw [dif_pos h1, dif_pos (by omega)]
  · rw [dif_neg h1]
    by_cases h2 : j.val < 2176
    · rw [dif_pos (by omega)]
      by_cases h3 : j.val < 2064
      · rw [dif_pos (by omega), dif_pos h3]
        exact congrArg (fun v => w (ix2 k v)) (Fin.ext (by show 2048 + (j.val - 2048) = j.val; omega))
      · rw [dif_neg (by omega), dif_neg h3, dif_pos h2]
    · rw [dif_neg (by omega), dif_neg (by omega), dif_neg h2]
      exact congrArg (fun v => w (ix2 k v)) (Fin.ext (by show 2064 + (j.val - 2048 - 128) = j.val - 112; omega))

theorem wideB_apply (b : FVec Ideal S16 .f32) (j : Fin 128) :
    wideB b (ix2 0 j) = if h : j.val < 16 then b (ix1 ⟨j.val, h⟩) else 0 := by
  pointwise [wideB]
  rw [sitofp_zero]

theorem rowPos_apply (n : Fin 2048) : rowPos (ix1 n) = BitVec.ofNat 32 (place 0 n.val) := by
  pointwise [rowPos, place]

theorem colPos_apply (n : Fin 2048) : colPos (ix1 n) = BitVec.ofNat 32 (place 1 n.val) := by
  pointwise [colPos, place]

theorem angH_apply (h : Fin 2) (pos : IVec S2048 32) (hpos : ∀ n, pos (ix1 n) = BitVec.ofNat 32 (place h n.val)) (n : Fin 2048) (d : Fin 32) :
    angH (F := Ideal) pos (ix2 n d) = angle h n.val d := by
  unfold angle
  rw [← hpos]
  pointwise [angH]

theorem join32_apply (a b : FVec Ideal S2048x32 .f32) (n : Fin 2048) (s : Fin 2) (d : Fin 32) :
    join32 a b (ix2 n ⟨32 * s.val + d.val, by omega⟩) = if s.val = 0 then a (ix2 n d) else b (ix2 n d) := by
  match s with
  | ⟨0, _⟩ => pointwise [join32]
  | ⟨1, _⟩ => pointwise [join32]

theorem join64_apply (a b : FVec Ideal S2048x64 .f32) (n : Fin 2048) (h s : Fin 2) (d : Fin 32) :
    join64 a b (ix2 n (lane3 h s d)) = if h.val = 0 then a (ix2 n ⟨32 * s.val + d.val, by omega⟩) else b (ix2 n ⟨32 * s.val + d.val, by omega⟩) := by
  match h with
  | ⟨0, _⟩ =>
    pointwise [join64]
    exact dif_pos (by omega)
  | ⟨1, _⟩ =>
    pointwise [join64]
    refine (dif_neg (by omega)).trans (congrArg (fun v => b (ix2 n v)) (Fin.ext ?_))
    show 64 + 32 * s.val + d.val - 64 = 32 * s.val + d.val
    omega

theorem above_apply (x : BitVec 32) (a : FVec Ideal S2048x128 .f32) (p : Fin 2304) (l : Fin 128) :
    above x a (ix2 p l) = if h : p.val < 256 then Ideal.ofBits .f32 x else a (ix2 ⟨p.val - 256, by omega⟩ l) := by
  pointwise [above]

theorem cosH_apply (h : Fin 2) (pos : IVec S2048 32) (hpos : ∀ n, pos (ix1 n) = BitVec.ofNat 32 (place h n.val)) (n : Fin 2048) (s : Fin 2)
    (d : Fin 32) : cosH (F := Ideal) pos (ix2 n ⟨32 * s.val + d.val, by omega⟩) = Ideal.cos (angle h n.val d) := by
  unfold cosH
  rw [join32_apply, ite_self, ← angH_apply h pos hpos]
  rfl

theorem sinH_apply (h : Fin 2) (pos : IVec S2048 32) (hpos : ∀ n, pos (ix1 n) = BitVec.ofNat 32 (place h n.val)) (n : Fin 2048) (s : Fin 2)
    (d : Fin 32) : sinH (F := Ideal) pos (ix2 n ⟨32 * s.val + d.val, by omega⟩)
      = if s.val = 0 then -Ideal.sin (angle h n.val d) else Ideal.sin (angle h n.val d) := by
  unfold sinH
  rw [join32_apply, ← angH_apply h pos hpos]
  rfl

/-- The table of the cosines. -/
theorem cosTab_apply (p : Fin 2304) (h s : Fin 2) (d : Fin 32) : cosTab (F := Ideal) (ix2 p (lane3 h s d)) = cosAt p h d := by
  unfold cosTab cosAt
  rw [above_apply]
  by_cases hp : p.val < 256
  · rw [dif_pos hp, if_pos hp]
    simp [Ideal.ofBits, Ideal.ieee, -EReal.coe_mul]
    norm_num
  · rw [dif_neg hp, if_neg hp, join64_apply]
    match h with
    | ⟨0, _⟩ => exact cosH_apply 0 _ rowPos_apply _ s d
    | ⟨1, _⟩ => exact cosH_apply 1 _ colPos_apply _ s d

/-- The table of the signed sines. -/
theorem sinTab_apply (p : Fin 2304) (h s : Fin 2) (d : Fin 32) : sinTab (F := Ideal) (ix2 p (lane3 h s d)) = sinAt p h s d := by
  unfold sinTab sinAt
  rw [above_apply]
  by_cases hp : p.val < 256
  · rw [dif_pos hp, if_pos hp]
    simp [Ideal.ofBits, Ideal.ieee]
  · rw [dif_neg hp, if_neg hp, join64_apply]
    match h with
    | ⟨0, _⟩ => exact sinH_apply 0 _ rowPos_apply _ s d
    | ⟨1, _⟩ => exact sinH_apply 1 _ colPos_apply _ s d

end Cert.EvenInIdeal.Hand

end
-- ==== Proof.EvenIn.Tiles.lean ====
/-
  The six blocks an even layer's first projection leaves at a grid point, for any layer and any array of rows: where a group's
  normalized rows are the layer's, every entry of the blocks is the formula of `EvenIn/Rows.lean`.
-/
module

public import proofs.«01_k».proof.Proof.EvenIn.Block
public import proofs.«01_k».proof.Proof.EvenIn.Host
public import Idealize.ShloMosaic.Lib.Pipeline.Value
public import Idealize.ShloMosaic.Lib.Pipeline.ValueKit.Tiles

@[expose] public section

set_option maxRecDepth 16384

noncomputable section

namespace Cert.EvenInIdeal.Hand

open Cert.EvenInIdeal Cert.EvenInIdeal.Gen Idealize.ShloMosaic Idealize.ShloMosaic.TcCoe Idealize.SL.Sem
open Cert.ProjMath (proj hrow)
open Cert.QkvIdeal.Hand (accV pickV pickV_apply)
open Cert.EvenMath

/-- The array's row of row `p` of a group, its position in its batch, and the array's row of a row of the block. -/
abbrev rowAt (t : Fin 48) (s : Fin 3) (p : Fin 256) : Fin 36864 := ⟨768 * t.val + (256 * s.val + p.val), by omega⟩
abbrev posR (r : Fin 36864) : Fin 2304 := ⟨r.val % 2304, by omega⟩
abbrev rowB (t : Fin 48) (p : Fin 768) : Fin 36864 := ⟨768 * t.val + p.val, by omega⟩

/-! ## The results -/

/-- Numbers in their heads, rotated. -/
def headQ (y : Fin 512 → EReal) (p : Fin 2304) (q : Fin 512) : EReal :=
  rotated (fun h s d => y (col4 ⟨q.val / 128, by omega⟩ h s d)) p ⟨q.val / 64 % 2, by omega⟩ ⟨q.val / 32 % 2, by omega⟩ ⟨q.val % 32, by omega⟩

theorem headQ_col (y : Fin 512 → EReal) (p : Fin 2304) (g : Fin 4) (h s : Fin 2) (d : Fin 32) :
    headQ y p (col4 g h s d) = rotated (fun h s d => y (col4 g h s d)) p h s d := by
  unfold headQ
  have hg : (⟨(col4 g h s d).val / 128, by omega⟩ : Fin 4) = g :=
    Fin.ext (by show (128 * g.val + (64 * h.val + 32 * s.val + d.val)) / 128 = g.val; omega)
  have hh : (⟨(col4 g h s d).val / 64 % 2, by omega⟩ : Fin 2) = h :=
    Fin.ext (by show (128 * g.val + (64 * h.val + 32 * s.val + d.val)) / 64 % 2 = h.val; omega)
  have hs : (⟨(col4 g h s d).val / 32 % 2, by omega⟩ : Fin 2) = s :=
    Fin.ext (by show (128 * g.val + (64 * h.val + 32 * s.val + d.val)) / 32 % 2 = s.val; omega)
  have hd : (⟨(col4 g h s d).val % 32, by omega⟩ : Fin 32) = d :=
    Fin.ext (by show (128 * g.val + (64 * h.val + 32 * s.val + d.val)) % 32 = d.val; omega)
  rw [hg, hh, hs, hd]

section
variable (l : Fin 4) (x0 : S36864x1024.Idx → EReal) (x1 : S4x24x6x1x1024.Idx → EReal) (w : S1024x3600.Idx → EReal) (b : S16.Idx → EReal)

/-- The six results at a row and a column. -/
def qAt (r : Fin 36864) (q : Fin 512) : EReal := headQ (fun j => pr l x0 x1 w r ⟨j.val, by omega⟩) (posR r) q
def kAt (r : Fin 36864) (q : Fin 512) : EReal :=
  headQ (fun j => pr l x0 x1 w r ⟨512 + j.val, by omega⟩ * Ideal.ofBits .f32 0x3DB504F3#32) (posR r) q
def vAt (r : Fin 36864) (q : Fin 512) : EReal := pr l x0 x1 w r ⟨1024 + q.val, by omega⟩
def oAt (r : Fin 36864) (q : Fin 512) : EReal := Ideal.div 1 (1 + Ideal.exp (-pr l x0 x1 w r ⟨1536 + q.val, by omega⟩))
def gAt (r : Fin 36864) (q : Fin 128) : EReal := if hq : q.val < 16 then pr l x0 x1 w r ⟨2048 + q.val, by omega⟩ + b (ix1 ⟨q.val, hq⟩) else 0
def hyAt (r : Fin 36864) (q : Fin 1536) : EReal := pr l x0 x1 w r ⟨2064 + q.val, by omega⟩

end

/-- A block that is stored in tiles. -/
theorem tiles {N R C a b : ℕ} {e : EltTy} (ha : 0 < a) (hb : 0 < b) (ro co : Fin N → ℕ)
    (inb : ∀ n (i : Fin 2), (![a * ro n, b * co n] : Fin 2 → ℕ) i + (![a, b] : Fin 2 → ℕ) i ≤ (![R, C] : Fin 2 → ℕ) i)
    (hit : ∀ (p : Fin R) (q : Fin C), ∃ n, ro n = p.val / a ∧ co n = q.val / b)
    (P : (n : Fin N) → (⟨2, ![a, b]⟩ : Shape).Idx → Elt Ideal e) (f : Fin R → Fin C → Elt Ideal e)
    (h : ∀ n (p : Fin a) (q : Fin b) (hp : a * ro n + p.val < R) (hq : b * co n + q.val < C), P n (ix2 p q) = f ⟨a * ro n + p.val, hp⟩ ⟨b * co n + q.val, hq⟩)
    (p : Fin R) (q : Fin C) :
    View.canon (Val := Elt Ideal) (s := (⟨2, ![R, C]⟩ : Shape)) (e := e) (List.ofFn fun n : Fin N =>
      ⟨Rect.unit (s := (⟨2, ![R, C]⟩ : Shape)) ![a * ro n, b * co n] ![a, b] (inb n), P n⟩) (ix2 p q) = f p q := by
  have h1 : ∃ n : Fin N, ∀ i : Fin 2, (![a * ro n, b * co n] : Fin 2 → ℕ) i ≤ ((ix2 p q : (⟨2, ![R, C]⟩ : Shape).Idx) i).val
      ∧ ((ix2 p q : (⟨2, ![R, C]⟩ : Shape).Idx) i).val < (![a * ro n, b * co n] : Fin 2 → ℕ) i + (![a, b] : Fin 2 → ℕ) i := by
    obtain ⟨n, hr, hc⟩ := hit p q
    refine ⟨n, fun i => ?_⟩
    match i with
    | ⟨0, _⟩ =>
      show a * ro n ≤ p.val ∧ p.val < a * ro n + a
      rw [hr]
      exact ⟨Nat.mul_div_le _ _, Nat.lt_mul_div_succ _ ha⟩
    | ⟨1, _⟩ =>
      show b * co n ≤ q.val ∧ q.val < b * co n + b
      rw [hc]
      exact ⟨Nat.mul_div_le _ _, Nat.lt_mul_div_succ _ hb⟩
  have h2 : ∀ n : Fin N, View.TileAt (Val := Elt Ideal) (S := (⟨2, ![R, C]⟩ : Shape)) (e := e) (ix2 p q) ![a * ro n, b * co n]
      ![a, b] (P n) (f p q) := by
    intro n x hx
    obtain ⟨x0, x1, rfl⟩ : ∃ (u : Fin a) (v : Fin b), x = ix2 u v := ⟨x 0, x 1, eq_ix2 x⟩
    have e0 : p.val = a * ro n + x0.val := hx 0
    have e1 : q.val = b * co n + x1.val := hx 1
    refine (h n x0 x1 (e0 ▸ p.isLt) (e1 ▸ q.isLt)).trans (congrArg₂ f (Fin.ext e0.symm) (Fin.ext e1.symm))
  have key := View.canon_ofFn_unit_eq_of_forall (Val := Elt Ideal) (S := (⟨2, ![R, C]⟩ : Shape)) (e := e) (fun n : Fin N => ![a * ro n, b * co n])
    ![a, b] inb P (ix2 p q) (f p q) h1 h2
  exact key

/-! ## The stores -/

theorem kV_apply (h : FVec Ideal Cert.QkvIdeal.S256x1024 .bf16) (w : Vec Ideal S1024x3712 .bf16) (g : Fin 4) (c s : FVec Ideal S256x128 .f32)
    (l : Fin 128) (p : Fin 256) : kV h w g c s (ix2 l p)
      = ropeV (pickV (mulf (accV h (View.ld w (colsE 512 (by omega)))) (broadcast S256x512 (Scalar.ofBits .f32 0x3DB504F3#32))) g) c s (ix2 p l) := by
  unfold kV
  generalize ropeV (F := Ideal) _ _ _ = a
  pointwise []

theorem qV_apply (h : FVec Ideal Cert.QkvIdeal.S256x1024 .bf16) (w : Vec Ideal S1024x3712 .bf16) (g : Fin 4) (c s : FVec Ideal S256x128 .f32)
    (p : Fin 256) (l : Fin 128) : qV h w g c s (ix2 p l) = ropeV (pickV (accV h (View.ld w (colsE 0 (by omega)))) g) c s (ix2 p l) := rfl

theorem scaled_apply (a : FVec Ideal S256x512 .f32) (i : S256x512.Idx) :
    mulf a (broadcast S256x512 (Scalar.ofBits (F := Ideal) .f32 0x3DB504F3#32)) i = a i * Ideal.ofBits .f32 0x3DB504F3#32 := rfl

theorem hit12 (p : Fin 768) (q : Fin 512) : ∃ n : Fin 12, (grp n).val = p.val / 256 ∧ (hds n).val = q.val / 128 :=
  ⟨⟨4 * (2 - p.val / 256) + (3 - q.val / 128), by omega⟩, by
    show 2 - (4 * (2 - p.val / 256) + (3 - q.val / 128)) / 4 = p.val / 256; omega, by
    show 3 - (4 * (2 - p.val / 256) + (3 - q.val / 128)) % 4 = q.val / 128; omega⟩

theorem hit3 {K b : ℕ} (hb : K ≤ b) (p : Fin 768) (q : Fin K) : ∃ n : Fin 3, (grp3 n).val = p.val / 256 ∧ 0 = q.val / b :=
  ⟨⟨2 - p.val / 256, by omega⟩, by show 2 - (2 - p.val / 256) = p.val / 256; omega, (Nat.div_eq_of_lt (by omega)).symm⟩

theorem hit9 (p : Fin 768) (q : Fin 1536) : ∃ n : Fin 9, (grp9 n).val = p.val / 256 ∧ (thd9 n).val = q.val / 512 :=
  ⟨⟨3 * (2 - p.val / 256) + (2 - q.val / 512), by omega⟩, by
    show 2 - (3 * (2 - p.val / 256) + (2 - q.val / 512)) / 3 = p.val / 256; omega, by
    show 2 - (3 * (2 - p.val / 256) + (2 - q.val / 512)) % 3 = q.val / 512; omega⟩

/-! ## The blocks -/

section
variable {l : Fin 4} {X0 : S36864x1024.Idx → EReal} {X1 : S4x24x6x1x1024.Idx → EReal} {W : S1024x3600.Idx → EReal} {B : S16.Idx → EReal} {t : Fin 48}
  {h : Fin 3 → FVec Ideal Cert.QkvIdeal.S256x1024 .bf16} {w : Vec Ideal S1024x3712 .bf16} {b : Vec Ideal S1x128 .f32} {cs sn : Vec Ideal S768x128 .f32}

/-- A group's rows against 512 columns of the matrix which stand before the gates' or after them. -/
theorem acc_at (hh : ∀ s p k, h s (ix2 p k) = hrow l X0 X1 (rowAt t s p) k) (hw : ∀ k j, w (ix2 k j) = wideW (F := Ideal) W (ix2 k j))
    (s : Fin 3) (o : ℕ) (ho : o + 512 ≤ 3712) (n : ℕ) (hn : n + 512 ≤ 3600)
    (hon : o = n ∧ n + 512 ≤ 2048 ∨ o = n + 112 ∧ 2064 ≤ n) (p : Fin 256) (j : Fin 512) :
    accV (h s) (View.ld w (colsE o ho)) (ix2 p j) = pr l X0 X1 W (rowAt t s p) ⟨n + j.val, by omega⟩ := by
  rw [acc_cols, funext (hh s p)]
  unfold pr
  refine congrArg (proj _) (funext fun k => ?_)
  rw [hw, wideW_apply]
  rcases hon with ⟨rfl, h⟩ | ⟨rfl, h⟩
  · exact dif_pos (show o + j.val < 2064 by omega)
  · refine (dif_neg (show ¬ n + 112 + j.val < 2064 by omega)).trans ((dif_neg (show ¬ n + 112 + j.val < 2176 by omega)).trans ?_)
    exact congrArg (fun v => W (ix2 k v)) (Fin.ext (by show n + 112 + j.val - 112 = n + j.val; omega))

/-- A head's numbers, rotated by the tables' rows. -/
theorem rope_at (hc : ∀ s p h e d, tabV cs s (ix2 p (lane3 h e d)) = cosAt (posR (rowAt t s p)) h d)
    (hs : ∀ s p h e d, tabV sn s (ix2 p (lane3 h e d)) = sinAt (posR (rowAt t s p)) h e d)
    (s : Fin 3) (g : Fin 4) (a : FVec Ideal Cert.QkvIdeal.S256x512 .f32) (y : Fin 512 → EReal) (p : Fin 256)
    (hy : ∀ j, a (ix2 p j) = y j) (h e : Fin 2) (d : Fin 32) :
    ropeV (pickV a g) (tabV cs s) (tabV sn s) (ix2 p (lane3 h e d)) = headQ y (posR (rowAt t s p)) (col4 g h e d) := by
  rw [ropeV_apply, hc, hs, headQ_col, pickV_apply, pickV_apply, hy, hy]
  exact rotated_tables (fun h s d => y (col4 g h s d)) _ h e d

theorem canonQ (hh : ∀ s p k, h s (ix2 p k) = hrow l X0 X1 (rowAt t s p) k) (hw : ∀ k j, w (ix2 k j) = wideW (F := Ideal) W (ix2 k j))
    (hc : ∀ s p h e d, tabV cs s (ix2 p (lane3 h e d)) = cosAt (posR (rowAt t s p)) h d)
    (hs : ∀ s p h e d, tabV sn s (ix2 p (lane3 h e d)) = sinAt (posR (rowAt t s p)) h e d) (p : Fin 768) (q : Fin 512) :
    View.canon (Val := Elt Ideal) (s := S768x512) (e := .bf16)
      (List.ofFn fun n : Fin 12 => ⟨Rect.unit (s := S768x512) ![256 * (grp n).val, 128 * (hds n).val] ![256, 128] (inbQ n),
        qV (h (grp n)) w (hds n) (tabV cs (grp n)) (tabV sn (grp n))⟩) (ix2 p q) = qAt l X0 X1 W (rowB t p) q := by
  refine tiles (e := .bf16) (by omega) (by omega) (fun n => (grp n).val) (fun n => (hds n).val) inbQ hit12 _
    (fun p q => qAt l X0 X1 W (rowB t p) q) (fun n p v hp hq => ?_) p q
  obtain ⟨u, e, d, rfl⟩ := lane3_cases v
  refine (qV_apply _ _ _ _ _ p _).trans ?_
  show _ = qAt _ _ _ _ (rowAt t (grp n) p) (col4 (hds n) u e d)
  unfold qAt
  refine rope_at hc hs (grp n) (hds n) _ _ p (fun j => ?_) u e d
  exact (acc_at hh hw (grp n) 0 (by omega) 0 (by omega) (by omega) p j).trans (congrArg (pr _ _ _ _ _) (Fin.ext (Nat.zero_add _)))

theorem canonK (hh : ∀ s p k, h s (ix2 p k) = hrow l X0 X1 (rowAt t s p) k) (hw : ∀ k j, w (ix2 k j) = wideW (F := Ideal) W (ix2 k j))
    (hc : ∀ s p h e d, tabV cs s (ix2 p (lane3 h e d)) = cosAt (posR (rowAt t s p)) h d)
    (hs : ∀ s p h e d, tabV sn s (ix2 p (lane3 h e d)) = sinAt (posR (rowAt t s p)) h e d) (q : Fin 512) (p : Fin 768) :
    View.canon (Val := Elt Ideal) (s := S512x768) (e := .bf16)
      (List.ofFn fun n : Fin 12 => ⟨Rect.unit (s := S512x768) ![128 * (hds n).val, 256 * (grp n).val] ![128, 256] (inbK n),
        kV (h (grp n)) w (hds n) (tabV cs (grp n)) (tabV sn (grp n))⟩) (ix2 q p) = kAt l X0 X1 W (rowB t p) q := by
  refine tiles (e := .bf16) (by omega) (by omega) (fun n => (hds n).val) (fun n => (grp n).val) inbK
    (fun q p => (hit12 p q).imp fun _ h => h.symm) _ (fun q p => kAt l X0 X1 W (rowB t p) q) (fun n v p hq hp => ?_) q p
  obtain ⟨u, e, d, rfl⟩ := lane3_cases v
  refine (kV_apply _ _ _ _ _ _ _).trans ?_
  show _ = kAt _ _ _ _ (rowAt t (grp n) p) (col4 (hds n) u e d)
  unfold kAt
  refine rope_at hc hs (grp n) (hds n) _ _ p (fun j => ?_) u e d
  refine (scaled_apply _ _).trans ?_
  rw [acc_at hh hw (grp n) 512 (by omega) 512 (by omega) (by omega) p j]

theorem canonV (hh : ∀ s p k, h s (ix2 p k) = hrow l X0 X1 (rowAt t s p) k) (hw : ∀ k j, w (ix2 k j) = wideW (F := Ideal) W (ix2 k j))
    (p : Fin 768) (q : Fin 512) :
    View.canon (Val := Elt Ideal) (s := S768x512) (e := .bf16)
      (List.ofFn fun n : Fin 3 => ⟨Rect.unit (s := S768x512) ![256 * (grp3 n).val, 512 * 0] ![256, 512] (inbV n),
        truncf .bf16 (accV (h (grp3 n)) (View.ld w (colsE 1024 (by omega)))) bitsLt_bf16_f32⟩) (ix2 p q) = vAt l X0 X1 W (rowB t p) q := by
  refine tiles (e := .bf16) (by omega) (by omega) (fun n => (grp3 n).val) (fun _ => 0) inbV (hit3 (by omega)) _
    (fun p q => vAt l X0 X1 W (rowB t p) q) (fun n p j hp hq => ?_) p q
  refine (acc_at hh hw (grp3 n) 1024 (by omega) 1024 (by omega) (by omega) p j).trans ?_
  exact congrArg (pr _ _ _ _ _) (Fin.ext (by show 1024 + j.val = 1024 + (512 * 0 + j.val); omega))

theorem canonO (hh : ∀ s p k, h s (ix2 p k) = hrow l X0 X1 (rowAt t s p) k) (hw : ∀ k j, w (ix2 k j) = wideW (F := Ideal) W (ix2 k j))
    (p : Fin 768) (q : Fin 512) :
    View.canon (Val := Elt Ideal) (s := S768x512) (e := .bf16)
      (List.ofFn fun n : Fin 3 => ⟨Rect.unit (s := S768x512) ![256 * (grp3 n).val, 512 * 0] ![256, 512] (inbV n),
        oV (h (grp3 n)) w⟩) (ix2 p q) = oAt l X0 X1 W (rowB t p) q := by
  refine tiles (e := .bf16) (by omega) (by omega) (fun n => (grp3 n).val) (fun _ => 0) inbV (hit3 (by omega)) _
    (fun p q => oAt l X0 X1 W (rowB t p) q) (fun n p j hp hq => ?_) p q
  refine (oV_apply _ _ p j).trans ?_
  rw [← acc_cols _ _ 1536 (by omega), acc_at hh hw (grp3 n) 1536 (by omega) 1536 (by omega) (by omega) p j]
  exact congrArg (fun v => Ideal.div 1 (1 + Ideal.exp (-pr _ _ _ _ _ v))) (Fin.ext (by show 1536 + j.val = 1536 + (512 * 0 + j.val); omega))

theorem canonG (hh : ∀ s p k, h s (ix2 p k) = hrow l X0 X1 (rowAt t s p) k) (hw : ∀ k j, w (ix2 k j) = wideW (F := Ideal) W (ix2 k j))
    (hb : ∀ j, b (ix2 0 j) = wideB (F := Ideal) B (ix2 0 j)) (q : Fin 128) (p : Fin 768) :
    View.canon (Val := Elt Ideal) (s := S128x768) (e := .f32)
      (List.ofFn fun n : Fin 3 => ⟨Rect.unit (s := S128x768) ![128 * 0, 256 * (grp3 n).val] ![128, 256] (inbG n),
        gV (h (grp3 n)) w b⟩) (ix2 q p) = gAt l X0 X1 W B (rowB t p) q := by
  refine tiles (e := .f32) (by omega) (by omega) (fun _ => 0) (fun n => (grp3 n).val) inbG
    (fun q p => (hit3 (by omega) p q).imp fun _ h => h.symm) _ (fun q p => gAt l X0 X1 W B (rowB t p) q) (fun n j p hq hp => ?_) q p
  have hj : (⟨128 * 0 + j.val, hq⟩ : Fin 128) = j := Fin.ext (by show 128 * 0 + j.val = j.val; omega)
  rw [hj]
  refine (gV_apply _ _ _ p j).trans ?_
  show _ = gAt _ _ _ _ _ (rowAt t (grp3 n) p) j
  rw [funext (hh (grp3 n) p), hb, wideB_apply]
  unfold gAt
  by_cases h : j.val < 16
  · rw [dif_pos h, dif_pos h]
    refine congrArg (· + _) (congrArg (proj _) (funext fun k => ?_))
    rw [hw, wideW_apply]
    exact dif_pos (show 2048 + j.val < 2064 by omega)
  · rw [dif_neg h, dif_neg h, add_zero]
    refine Finset.sum_eq_zero fun k _ => ?_
    have hz : w (ix2 k ⟨2048 + j.val, by omega⟩) = (0 : EReal) := by
      rw [hw, wideW_apply]
      exact (dif_neg (show ¬ 2048 + j.val < 2064 by omega)).trans (dif_pos (show 2048 + j.val < 2176 by omega))
    exact (congrArg (_ * ·) hz).trans (mul_zero _)

theorem canonHy (hh : ∀ s p k, h s (ix2 p k) = hrow l X0 X1 (rowAt t s p) k) (hw : ∀ k j, w (ix2 k j) = wideW (F := Ideal) W (ix2 k j))
    (p : Fin 768) (q : Fin 1536) :
    View.canon (Val := Elt Ideal) (s := S768x1536) (e := .f32)
      (List.ofFn fun n : Fin 9 => ⟨Rect.unit (s := S768x1536) ![256 * (grp9 n).val, 512 * (thd9 n).val] ![256, 512] (inbH n),
        accV (h (grp9 n)) (View.ld w (colsE (2176 + 512 * (thd9 n).val) (by omega)))⟩) (ix2 p q) = hyAt l X0 X1 W (rowB t p) q := by
  refine tiles (e := .f32) (by omega) (by omega) (fun n => (grp9 n).val) (fun n => (thd9 n).val) inbH hit9 _
    (fun p q => hyAt l X0 X1 W (rowB t p) q) (fun n p j hp hq => ?_) p q
  refine (acc_at hh hw (grp9 n) (2176 + 512 * (thd9 n).val) (by omega) (2064 + 512 * (thd9 n).val) (by omega) (by omega) p j).trans ?_
  exact congrArg (pr _ _ _ _ _) (Fin.ext (Nat.add_assoc _ _ _))

end

/-! ## Rows and columns of the arrays -/

/-- An index as a row and a column. -/
theorem eq_at {R C : ℕ} (j : (⟨2, ![R, C]⟩ : Shape).Idx) : j = ix2 (⟨(j 0).val, (j 0).isLt⟩ : Fin R) (⟨(j 1).val, (j 1).isLt⟩ : Fin C) := by
  funext a; match a with | ⟨0, _⟩ => rfl | ⟨1, _⟩ => rfl

/-- The index of the array at which an index of a block of rows stands. -/
theorem row_of {K : ℕ} (t : Fin 48) (i : (⟨2, ![36864, K]⟩ : Shape).Idx) (j : (⟨2, ![768, K]⟩ : Shape).Idx) (n : Fin 2 → ℕ)
    (hn : n 0 = t.val ∧ n 1 = 0) (h : ∀ a, (i a).val = n a * (![768, K] : Fin 2 → ℕ) a + 1 * (j a).val) :
    ix2 (rowB t ⟨(j 0).val, (j 0).isLt⟩) (⟨(j 1).val, (j 1).isLt⟩ : Fin K) = i := by
  refine (Cert.MlpMath.ix2_of i _ _ ?_ ?_).symm
  · have := h 0; rw [hn.1] at this; show (i 0).val = 768 * t.val + (j 0).val; rw [this]; show t.val * 768 + 1 * (j 0).val = _; omega
  · have := h 1; rw [hn.2] at this; show (i 1).val = (j 1).val; rw [this]; show 0 * K + 1 * (j 1).val = _; omega

/-- The same of a block of columns. -/
theorem col_of {K : ℕ} (t : Fin 48) (i : (⟨2, ![K, 36864]⟩ : Shape).Idx) (j : (⟨2, ![K, 768]⟩ : Shape).Idx) (n : Fin 2 → ℕ)
    (hn : n 0 = 0 ∧ n 1 = t.val) (h : ∀ a, (i a).val = n a * (![K, 768] : Fin 2 → ℕ) a + 1 * (j a).val) :
    ix2 (⟨(j 0).val, (j 0).isLt⟩ : Fin K) (rowB t ⟨(j 1).val, (j 1).isLt⟩) = i := by
  refine (Cert.MlpMath.ix2_of i _ _ ?_ ?_).symm
  · have := h 0; rw [hn.1] at this; show (i 0).val = (j 0).val; rw [this]; show 0 * K + 1 * (j 0).val = _; omega
  · have := h 1; rw [hn.2] at this; show (i 1).val = 768 * t.val + (j 1).val; rw [this]; show t.val * 768 + 1 * (j 1).val = _; omega

/-- The point whose block holds a row. -/
theorem rows_of {K : ℕ} (i : (⟨2, ![36864, K]⟩ : Shape).Idx) : ∃ t : Fin 48, ∀ n : Fin 2 → ℕ, n 0 = t.val ∧ n 1 = 0 →
    ∀ a : Fin 2, n a * (![768, K] : Fin 2 → ℕ) a ≤ (i a).val ∧ (i a).val < n a * (![768, K] : Fin 2 → ℕ) a + (![768, K] : Fin 2 → ℕ) a := by
  have h0 : (i 0).val < 36864 := (i 0).isLt
  have h1 : (i 1).val < K := (i 1).isLt
  refine ⟨⟨(i 0).val / 768, by omega⟩, fun n hn a => ?_⟩
  match a with
  | ⟨0, _⟩ => show n 0 * 768 ≤ (i 0).val ∧ (i 0).val < n 0 * 768 + 768; rw [hn.1]; show (i 0).val / 768 * 768 ≤ _ ∧ _ < (i 0).val / 768 * 768 + 768; omega
  | ⟨1, _⟩ => show n 1 * K ≤ (i 1).val ∧ (i 1).val < n 1 * K + K; rw [hn.2]; omega

/-- The point whose block holds a column. -/
theorem cols_of {K : ℕ} (i : (⟨2, ![K, 36864]⟩ : Shape).Idx) : ∃ t : Fin 48, ∀ n : Fin 2 → ℕ, n 0 = 0 ∧ n 1 = t.val →
    ∀ a : Fin 2, n a * (![K, 768] : Fin 2 → ℕ) a ≤ (i a).val ∧ (i a).val < n a * (![K, 768] : Fin 2 → ℕ) a + (![K, 768] : Fin 2 → ℕ) a := by
  have h0 : (i 0).val < K := (i 0).isLt
  have h1 : (i 1).val < 36864 := (i 1).isLt
  refine ⟨⟨(i 1).val / 768, by omega⟩, fun n hn a => ?_⟩
  match a with
  | ⟨0, _⟩ => show n 0 * K ≤ (i 0).val ∧ (i 0).val < n 0 * K + K; rw [hn.1]; omega
  | ⟨1, _⟩ => show n 1 * 768 ≤ (i 1).val ∧ (i 1).val < n 1 * 768 + 768; rw [hn.2]; show (i 1).val / 768 * 768 ≤ _ ∧ _ < (i 1).val / 768 * 768 + 768; omega

end Cert.EvenInIdeal.Hand

end
-- ==== Proof.EvenIn.Final.lean ====
/-
  The six arrays an even layer's first projection ends with: every entry is the formula of `EvenIn/Rows.lean`.
-/
module

public import proofs.«01_k».proof.Proof.Gen.EvenInIdeal.Value
public import proofs.«01_k».proof.Proof.EvenIn.Tiles

@[expose] public section

set_option maxRecDepth 16384

noncomputable section

namespace Cert.EvenInIdeal.Hand

open Cert.EvenInIdeal Cert.EvenInIdeal.Gen Idealize.ShloMosaic Idealize.ShloMosaic.TcCoe Idealize.SL.Sem
open Idealize.ShloMosaic.Pipeline (Dat)
open Cert.ProjMath (hrow)
open Cert.QkvIdeal.Hand (hV hV_of)
open Cert.MlpIdeal.Hand (isCtx)
open Cert.EvenMath

variable (m : (ℓ : Loc nD τ sig) → Buf (Elt Ideal) ℓ)

theorem t_lt (t : Fin cfg0.N) : t.val < 48 := Nat.lt_of_lt_of_eq t.isLt N_0
/-- The grid's points, counted to 48. -/
abbrev pt (t : Fin cfg0.N) : Fin 48 := ⟨t.val, t_lt t⟩
abbrev tp (t : Fin 48) : Fin cfg0.N := ⟨t.val, Nat.lt_of_lt_of_eq t.isLt N_0.symm⟩

/-! ## The blocks a grid point reads -/

theorem at0 : ∀ t : Fin grid0.N, win0_0.index t 0 = t.val ∧ win0_0.index t 1 = 0 := by decide +kernel
theorem at1 : ∀ t : Fin grid0.N, win0_1.index t 0 = 2 ∧ win0_1.index t 1 = 16 ∧ win0_1.index t 2 = 0 ∧ win0_1.index t 3 = 0 ∧ win0_1.index t 4 = 0 := by decide +kernel
theorem at2 : ∀ t : Fin grid0.N, win0_2.index t 0 = 2 ∧ win0_2.index t 1 = t.val / 3 ∧ win0_2.index t 2 = 0 ∧ win0_2.index t 3 = 0 ∧ win0_2.index t 4 = 0 := by decide +kernel
theorem at3 : ∀ t : Fin grid0.N, win0_3.index t 0 = 2 ∧ win0_3.index t 1 = 16 ∧ win0_3.index t 2 = 1 ∧ win0_3.index t 3 = 0 ∧ win0_3.index t 4 = 0 := by decide +kernel
theorem at4 : ∀ t : Fin grid0.N, win0_4.index t 0 = 2 ∧ win0_4.index t 1 = t.val / 3 ∧ win0_4.index t 2 = 1 ∧ win0_4.index t 3 = 0 ∧ win0_4.index t 4 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = t.val % 3 ∧ win0_7.index t 1 = 0 := by decide +kernel
theorem at8 : ∀ t : Fin grid0.N, win0_8.index t 0 = t.val % 3 ∧ win0_8.index t 1 = 0 := by decide +kernel
theorem at9 : ∀ t : Fin grid0.N, win0_9.index t 0 = t.val ∧ win0_9.index t 1 = 0 := by decide +kernel
theorem at10 : ∀ t : Fin grid0.N, win0_10.index t 0 = 0 ∧ win0_10.index t 1 = t.val := by decide +kernel
theorem at11 : ∀ t : Fin grid0.N, win0_11.index t 0 = t.val ∧ win0_11.index t 1 = 0 := by decide +kernel
theorem at12 : ∀ t : Fin grid0.N, win0_12.index t 0 = t.val ∧ win0_12.index t 1 = 0 := by decide +kernel
theorem at13 : ∀ t : Fin grid0.N, win0_13.index t 0 = 0 ∧ win0_13.index t 1 = t.val := by decide +kernel
theorem at14 : ∀ t : Fin grid0.N, win0_14.index t 0 = t.val ∧ win0_14.index t 1 = 0 := by decide +kernel

/-- A grid point's first 256 rows are context rows iff its number is a multiple of three. -/
theorem isCtx_at : ∀ t : Fin grid0.N, isCtx (grid0.coords t) = BitVec.ofBool (decide (t.val % 3 = 0)) := by decide +kernel

theorem blk0 (c : Dev nD) (t : Fin cfg0.N) (p : Fin 768) (k : Fin 1024) :
    iblk m c 0 t (ix2 p k) = m ((c : Thread nD τ).loc main_arg0) (ix2 ⟨768 * t.val + p.val, by have := t_lt t; omega⟩ k) := by
  unfold iblk
  rw [View.read_apply]
  show V m c main_arg0 _ = _
  rw [V_main_arg0]
  refine congrArg _ (Cert.MlpMath.ix2_of _ _ _ ?_ ?_)
  · show win0_0.index t 0 * 768 + 1 * p.val = 768 * t.val + p.val; rw [(at0 t).1]; omega
  · show win0_0.index t 1 * 1024 + 1 * k.val = k.val; rw [(at0 t).2]; omega

/-- The modulations at an index which stands in a block of one vector. -/
theorem mod_at (c : Dev nD) (e : S4x24x6x1x1024.Idx) (i : Fin 5 → ℕ) (b : Fin 24) (w : Fin 6) (k : Fin 1024)
    (he : ∀ a, (e a).val = i a * (![1, 1, 1, 1, 1024] : Fin 5 → ℕ) a + 1 * ((ix5 0 0 0 0 k : S1x1x1x1x1024.Idx) a).val)
    (hi : i 0 = 2 ∧ i 1 = b.val ∧ i 2 = w.val ∧ i 3 = 0 ∧ i 4 = 0) :
    V m c main_arg1 e = m ((c : Thread nD τ).loc main_arg1) (ix5 2 b w 0 k) := by
  rw [V_main_arg1, Cert.MlpMath.ix5_of e i 2 b w k he hi]

theorem blk1 (c : Dev nD) (t : Fin cfg0.N) (k : Fin 1024) :
    iblk m c 1 t (ix5 0 0 0 0 k) = m ((c : Thread nD τ).loc main_arg1) (ix5 2 16 0 0 k) :=
  mod_at m c _ _ _ _ _ (fun _ => rfl) (at1 t)

theorem blk2 (c : Dev nD) (t : Fin cfg0.N) (k : Fin 1024) :
    iblk m c 2 t (ix5 0 0 0 0 k) = m ((c : Thread nD τ).loc main_arg1) (ix5 2 ⟨t.val / 3, by have := t_lt t; omega⟩ 0 0 k) :=
  mod_at m c _ _ _ _ _ (fun _ => rfl) (at2 t)

theorem blk3 (c : Dev nD) (t : Fin cfg0.N) (k : Fin 1024) :
    iblk m c 3 t (ix5 0 0 0 0 k) = m ((c : Thread nD τ).loc main_arg1) (ix5 2 16 1 0 k) :=
  mod_at m c _ _ _ _ _ (fun _ => rfl) (at3 t)

theorem blk4 (c : Dev nD) (t : Fin cfg0.N) (k : Fin 1024) :
    iblk m c 4 t (ix5 0 0 0 0 k) = m ((c : Thread nD τ).loc main_arg1) (ix5 2 ⟨t.val / 3, by have := t_lt t; omega⟩ 1 0 k) :=
  mod_at m c _ _ _ _ _ (fun _ => rfl) (at4 t)

theorem blk5 (c : Dev nD) (t : Fin cfg0.N) (k : Fin 1024) (j : Fin 3712) :
    iblk m c 5 t (ix2 k j) = wideW (F := Ideal) (m ((c : Thread nD τ).loc main_arg2)) (ix2 k j) := by
  unfold iblk
  rw [View.read_apply]
  show V m c main_v5 _ = _
  rw [V_w]
  refine congrArg _ (Cert.MlpMath.ix2_of _ _ _ ?_ ?_)
  · show win0_5.index t 0 * 1024 + 1 * k.val = k.val; rw [(at5 t).1]; omega
  · show win0_5.index t 1 * 3712 + 1 * j.val = j.val; rw [(at5 t).2]; omega

theorem blk6 (c : Dev nD) (t : Fin cfg0.N) (j : Fin 128) :
    iblk m c 6 t (ix2 0 j) = wideB (F := Ideal) (m ((c : Thread nD τ).loc main_arg3)) (ix2 0 j) := by
  unfold iblk
  rw [View.read_apply]
  show V m c main_v7 _ = _
  rw [V_b]
  refine congrArg _ (Cert.MlpMath.ix2_of _ _ _ ?_ ?_)
  · show win0_6.index t 0 * 1 + 1 * 0 = 0; rw [(at6 t).1]
  · show win0_6.index t 1 * 128 + 1 * j.val = j.val; rw [(at6 t).2]; omega

theorem blk7 (c : Dev nD) (t : Fin cfg0.N) (s : Fin 3) (p : Fin 256) (h e : Fin 2) (d : Fin 32) :
    tabV (iblk m c 7 t) s (ix2 p (lane3 h e d)) = cosAt (posR (rowAt (pt t) s p)) h d := by
  rw [tabV_apply, ← cosTab_apply _ h e d]
  unfold iblk
  rw [View.read_apply]
  show V m c main_v51 _ = _
  rw [V_cos]
  have ht := t_lt t
  refine congrArg _ (Cert.MlpMath.ix2_of _ _ _ ?_ ?_)
  · show win0_7.index t 0 * 768 + 1 * (256 * s.val + p.val) = (768 * t.val + (256 * s.val + p.val)) % 2304; rw [(at7 t).1]; omega
  · show win0_7.index t 1 * 128 + 1 * (lane3 h e d).val = (lane3 h e d).val; rw [(at7 t).2]; omega

theorem blk8 (c : Dev nD) (t : Fin cfg0.N) (s : Fin 3) (p : Fin 256) (h e : Fin 2) (d : Fin 32) :
    tabV (iblk m c 8 t) s (ix2 p (lane3 h e d)) = sinAt (posR (rowAt (pt t) s p)) h e d := by
  rw [tabV_apply, ← sinTab_apply]
  unfold iblk
  rw [View.read_apply]
  show V m c main_v53 _ = _
  rw [V_sin]
  have ht := t_lt t
  refine congrArg _ (Cert.MlpMath.ix2_of _ _ _ ?_ ?_)
  · show win0_8.index t 0 * 768 + 1 * (256 * s.val + p.val) = (768 * t.val + (256 * s.val + p.val)) % 2304; rw [(at8 t).1]; omega
  · show win0_8.index t 1 * 128 + 1 * (lane3 h e d).val = (lane3 h e d).val; rw [(at8 t).2]; omega

/-- A group's normalized rows. -/
abbrev hAt (c : Dev nD) (t : Fin cfg0.N) (s : Fin 3) : FVec Ideal Cert.QkvIdeal.S256x1024 .bf16 :=
  hV (grid0.coords t) (iblk m c 0 t) (iblk m c 1 t) (iblk m c 2 t) (iblk m c 3 t) (iblk m c 4 t) s

theorem hAt_apply (c : Dev nD) (t : Fin cfg0.N) (s : Fin 3) (p : Fin 256) (k : Fin 1024) :
    hAt m c t s (ix2 p k) = hrow 2 (m ((c : Thread nD τ).loc main_arg0)) (m ((c : Thread nD τ).loc main_arg1)) (rowAt (pt t) s p) k :=
  hV_of 2 _ t.val (t_lt t) (isCtx_at t) _ _ _ _ _ _ _ (blk0 m c t) (blk1 m c t) (blk2 m c t) (blk3 m c t) (blk4 m c t) s p k

/-! ## The results -/

/-- The results as contents of their arrays. -/
def resultQ (c : Dev nD) : Buf (Elt Ideal) ((c : Thread nD τ).loc main_v54_0) := fun i : S36864x512.Idx =>
  qAt 2 (m ((c : Thread nD τ).loc main_arg0)) (m ((c : Thread nD τ).loc main_arg1)) (m ((c : Thread nD τ).loc main_arg2)) (i 0) (i 1)
def resultK (c : Dev nD) : Buf (Elt Ideal) ((c : Thread nD τ).loc main_v54_1) := fun i : S512x36864.Idx =>
  kAt 2 (m ((c : Thread nD τ).loc main_arg0)) (m ((c : Thread nD τ).loc main_arg1)) (m ((c : Thread nD τ).loc main_arg2)) (i 1) (i 0)
def resultV (c : Dev nD) : Buf (Elt Ideal) ((c : Thread nD τ).loc main_v54_2) := fun i : S36864x512.Idx =>
  vAt 2 (m ((c : Thread nD τ).loc main_arg0)) (m ((c : Thread nD τ).loc main_arg1)) (m ((c : Thread nD τ).loc main_arg2)) (i 0) (i 1)
def resultO (c : Dev nD) : Buf (Elt Ideal) ((c : Thread nD τ).loc main_v54_3) := fun i : S36864x512.Idx =>
  oAt 2 (m ((c : Thread nD τ).loc main_arg0)) (m ((c : Thread nD τ).loc main_arg1)) (m ((c : Thread nD τ).loc main_arg2)) (i 0) (i 1)
def resultG (c : Dev nD) : Buf (Elt Ideal) ((c : Thread nD τ).loc main_v54_4) := fun i : S128x36864.Idx =>
  gAt 2 (m ((c : Thread nD τ).loc main_arg0)) (m ((c : Thread nD τ).loc main_arg1)) (m ((c : Thread nD τ).loc main_arg2))
    (m ((c : Thread nD τ).loc main_arg3)) (i 1) (i 0)
def resultHy (c : Dev nD) : Buf (Elt Ideal) ((c : Thread nD τ).loc main_v54_5) := fun i : S36864x1536.Idx =>
  hyAt 2 (m ((c : Thread nD τ).loc main_arg0)) (m ((c : Thread nD τ).loc main_arg1)) (m ((c : Thread nD τ).loc main_arg2)) (i 0) (i 1)

/-! ## The blocks -/

theorem block9 (c : Dev nD) (t : Fin cfg0.N) (p : Fin 768) (q : Fin 512) :
    out0_9 (grid0.coords t) (iblk m c 0 t) (iblk m c 1 t) (iblk m c 2 t) (iblk m c 3 t) (iblk m c 4 t) (iblk m c 5 t) (iblk m c 6 t)
      (iblk m c 7 t) (iblk m c 8 t) (ix2 p q) = resultQ m c (ix2 (rowB (pt t) p) q) := by
  rw [out9_eq]
  exact canonQ (t := pt t) (hAt_apply m c t) (blk5 m c t) (blk7 m c t) (blk8 m c t) p q

theorem block10 (c : Dev nD) (t : Fin cfg0.N) (q : Fin 512) (p : Fin 768) :
    out0_10 (grid0.coords t) (iblk m c 0 t) (iblk m c 1 t) (iblk m c 2 t) (iblk m c 3 t) (iblk m c 4 t) (iblk m c 5 t) (iblk m c 6 t)
      (iblk m c 7 t) (iblk m c 8 t) (ix2 q p) = resultK m c (ix2 q (rowB (pt t) p)) := by
  rw [out10_eq]
  exact canonK (t := pt t) (hAt_apply m c t) (blk5 m c t) (blk7 m c t) (blk8 m c t) q p

theorem block11 (c : Dev nD) (t : Fin cfg0.N) (p : Fin 768) (q : Fin 512) :
    out0_11 (grid0.coords t) (iblk m c 0 t) (iblk m c 1 t) (iblk m c 2 t) (iblk m c 3 t) (iblk m c 4 t) (iblk m c 5 t) (iblk m c 6 t)
      (iblk m c 7 t) (iblk m c 8 t) (ix2 p q) = resultV m c (ix2 (rowB (pt t) p) q) := by
  rw [out11_eq]
  exact canonV (t := pt t) (hAt_apply m c t) (blk5 m c t) p q

theorem block12 (c : Dev nD) (t : Fin cfg0.N) (p : Fin 768) (q : Fin 512) :
    out0_12 (grid0.coords t) (iblk m c 0 t) (iblk m c 1 t) (iblk m c 2 t) (iblk m c 3 t) (iblk m c 4 t) (iblk m c 5 t) (iblk m c 6 t)
      (iblk m c 7 t) (iblk m c 8 t) (ix2 p q) = resultO m c (ix2 (rowB (pt t) p) q) := by
  rw [out12_eq]
  exact canonO (t := pt t) (hAt_apply m c t) (blk5 m c t) p q

theorem block13 (c : Dev nD) (t : Fin cfg0.N) (q : Fin 128) (p : Fin 768) :
    out0_13 (grid0.coords t) (iblk m c 0 t) (iblk m c 1 t) (iblk m c 2 t) (iblk m c 3 t) (iblk m c 4 t) (iblk m c 5 t) (iblk m c 6 t)
      (iblk m c 7 t) (iblk m c 8 t) (ix2 q p) = resultG m c (ix2 q (rowB (pt t) p)) := by
  rw [out13_eq]
  exact canonG (t := pt t) (hAt_apply m c t) (blk5 m c t) (blk6 m c t) q p

theorem block14 (c : Dev nD) (t : Fin cfg0.N) (p : Fin 768) (q : Fin 1536) :
    out0_14 (grid0.coords t) (iblk m c 0 t) (iblk m c 1 t) (iblk m c 2 t) (iblk m c 3 t) (iblk m c 4 t) (iblk m c 5 t) (iblk m c 6 t)
      (iblk m c 7 t) (iblk m c 8 t) (ix2 p q) = resultHy m c (ix2 (rowB (pt t) p) q) := by
  rw [out14_eq]
  exact canonHy (t := pt t) (hAt_apply m c t) (blk5 m c t) p q

/-! ## The arrays at the end -/

theorem flushed9 (c : Dev nD) (t : Fin cfg0.N) :
    (dats m 0 c).flushed 9 t = ((cfg0.win 9).blk t).view.read (Elt Ideal) (resultQ m c) := by
  rw [Value.flushed9]
  funext j
  refine Eq.trans (congrArg (out0_9 (grid0.coords t) (iblk m c 0 t) (iblk m c 1 t) (iblk m c 2 t) (iblk m c 3 t) (iblk m c 4 t) (iblk m c 5 t)
    (iblk m c 6 t) (iblk m c 7 t) (iblk m c 8 t)) (eq_at j)) ?_
  rw [block9, View.read_apply]
  exact congrArg (resultQ m c) (row_of (pt t) _ j _ (at9 t) fun a => match a with | ⟨0, _⟩ => rfl | ⟨1, _⟩ => rfl)

theorem flushed10 (c : Dev nD) (t : Fin cfg0.N) :
    (dats m 0 c).flushed 10 t = ((cfg0.win 10).blk t).view.read (Elt Ideal) (resultK m c) := by
  rw [Value.flushed10]
  funext j
  refine Eq.trans (congrArg (out0_10 (grid0.coords t) (iblk m c 0 t) (iblk m c 1 t) (iblk m c 2 t) (iblk m c 3 t) (iblk m c 4 t) (iblk m c 5 t)
    (iblk m c 6 t) (iblk m c 7 t) (iblk m c 8 t)) (eq_at j)) ?_
  rw [block10, View.read_apply]
  exact congrArg (resultK m c) (col_of (pt t) _ j _ (at10 t) fun a => match a with | ⟨0, _⟩ => rfl | ⟨1, _⟩ => rfl)

theorem flushed11 (c : Dev nD) (t : Fin cfg0.N) :
    (dats m 0 c).flushed 11 t = ((cfg0.win 11).blk t).view.read (Elt Ideal) (resultV m c) := by
  rw [Value.flushed11]
  funext j
  refine Eq.trans (congrArg (out0_11 (grid0.coords t) (iblk m c 0 t) (iblk m c 1 t) (iblk m c 2 t) (iblk m c 3 t) (iblk m c 4 t) (iblk m c 5 t)
    (iblk m c 6 t) (iblk m c 7 t) (iblk m c 8 t)) (eq_at j)) ?_
  rw [block11, View.read_apply]
  exact congrArg (resultV m c) (row_of (pt t) _ j _ (at11 t) fun a => match a with | ⟨0, _⟩ => rfl | ⟨1, _⟩ => rfl)

theorem flushed12 (c : Dev nD) (t : Fin cfg0.N) :
    (dats m 0 c).flushed 12 t = ((cfg0.win 12).blk t).view.read (Elt Ideal) (resultO m c) := by
  rw [Value.flushed12]
  funext j
  refine Eq.trans (congrArg (out0_12 (grid0.coords t) (iblk m c 0 t) (iblk m c 1 t) (iblk m c 2 t) (iblk m c 3 t) (iblk m c 4 t) (iblk m c 5 t)
    (iblk m c 6 t) (iblk m c 7 t) (iblk m c 8 t)) (eq_at j)) ?_
  rw [block12, View.read_apply]
  exact congrArg (resultO m c) (row_of (pt t) _ j _ (at12 t) fun a => match a with | ⟨0, _⟩ => rfl | ⟨1, _⟩ => rfl)

theorem flushed13 (c : Dev nD) (t : Fin cfg0.N) :
    (dats m 0 c).flushed 13 t = ((cfg0.win 13).blk t).view.read (Elt Ideal) (resultG m c) := by
  rw [Value.flushed13]
  funext j
  refine Eq.trans (congrArg (out0_13 (grid0.coords t) (iblk m c 0 t) (iblk m c 1 t) (iblk m c 2 t) (iblk m c 3 t) (iblk m c 4 t) (iblk m c 5 t)
    (iblk m c 6 t) (iblk m c 7 t) (iblk m c 8 t)) (eq_at j)) ?_
  rw [block13, View.read_apply]
  exact congrArg (resultG m c) (col_of (pt t) _ j _ (at13 t) fun a => match a with | ⟨0, _⟩ => rfl | ⟨1, _⟩ => rfl)

theorem flushed14 (c : Dev nD) (t : Fin cfg0.N) :
    (dats m 0 c).flushed 14 t = ((cfg0.win 14).blk t).view.read (Elt Ideal) (resultHy m c) := by
  rw [Value.flushed14]
  funext j
  refine Eq.trans (congrArg (out0_14 (grid0.coords t) (iblk m c 0 t) (iblk m c 1 t) (iblk m c 2 t) (iblk m c 3 t) (iblk m c 4 t) (iblk m c 5 t)
    (iblk m c 6 t) (iblk m c 7 t) (iblk m c 8 t)) (eq_at j)) ?_
  rw [block14, View.read_apply]
  exact congrArg (resultHy m c) (row_of (pt t) _ j _ (at14 t) fun a => match a with | ⟨0, _⟩ => rfl | ⟨1, _⟩ => rfl)

theorem cover9 (i : S36864x512.Idx) : ∃ t : Fin cfg0.N, (cfg0.win 9).flush t = true ∧ i ∈ ((cfg0.win 9).blk t).view.set := by
  obtain ⟨t, ht⟩ := rows_of i
  refine ⟨tp t, flush0_9 _, ?_⟩
  show i ∈ ((View.whole main_v54_0).slice (win0_9.rect (tp t))).set
  rw [View.set_slice_whole, Rect.mem_set_unit]
  exact fun a => ht _ (at9 (tp t)) a

theorem cover10 (i : S512x36864.Idx) : ∃ t : Fin cfg0.N, (cfg0.win 10).flush t = true ∧ i ∈ ((cfg0.win 10).blk t).view.set := by
  obtain ⟨t, ht⟩ := cols_of i
  refine ⟨tp t, flush0_10 _, ?_⟩
  show i ∈ ((View.whole main_v54_1).slice (win0_10.rect (tp t))).set
  rw [View.set_slice_whole, Rect.mem_set_unit]
  exact fun a => ht _ (at10 (tp t)) a

theorem cover11 (i : S36864x512.Idx) : ∃ t : Fin cfg0.N, (cfg0.win 11).flush t = true ∧ i ∈ ((cfg0.win 11).blk t).view.set := by
  obtain ⟨t, ht⟩ := rows_of i
  refine ⟨tp t, flush0_11 _, ?_⟩
  show i ∈ ((View.whole main_v54_2).slice (win0_11.rect (tp t))).set
  rw [View.set_slice_whole, Rect.mem_set_unit]
  exact fun a => ht _ (at11 (tp t)) a

theorem cover12 (i : S36864x512.Idx) : ∃ t : Fin cfg0.N, (cfg0.win 12).flush t = true ∧ i ∈ ((cfg0.win 12).blk t).view.set := by
  obtain ⟨t, ht⟩ := rows_of i
  refine ⟨tp t, flush0_12 _, ?_⟩
  show i ∈ ((View.whole main_v54_3).slice (win0_12.rect (tp t))).set
  rw [View.set_slice_whole, Rect.mem_set_unit]
  exact fun a => ht _ (at12 (tp t)) a

theorem cover13 (i : S128x36864.Idx) : ∃ t : Fin cfg0.N, (cfg0.win 13).flush t = true ∧ i ∈ ((cfg0.win 13).blk t).view.set := by
  obtain ⟨t, ht⟩ := cols_of i
  refine ⟨tp t, flush0_13 _, ?_⟩
  show i ∈ ((View.whole main_v54_4).slice (win0_13.rect (tp t))).set
  rw [View.set_slice_whole, Rect.mem_set_unit]
  exact fun a => ht _ (at13 (tp t)) a

theorem cover14 (i : S36864x1536.Idx) : ∃ t : Fin cfg0.N, (cfg0.win 14).flush t = true ∧ i ∈ ((cfg0.win 14).blk t).view.set := by
  obtain ⟨t, ht⟩ := rows_of i
  refine ⟨tp t, flush0_14 _, ?_⟩
  show i ∈ ((View.whole main_v54_5).slice (win0_14.rect (tp t))).set
  rw [View.set_slice_whole, Rect.mem_set_unit]
  exact fun a => ht _ (at14 (tp t)) a

/-- The arrays the program ends with. -/
theorem final9 (c : Dev nD) : (dats m 0 c).arrAt 9 cfg0.N = resultQ m c :=
  (dats m 0 c).arrAt_eq_of_cover 9 (resultQ m c) (fun t _ => flushed9 m c t) cover9
theorem final10 (c : Dev nD) : (dats m 0 c).arrAt 10 cfg0.N = resultK m c :=
  (dats m 0 c).arrAt_eq_of_cover 10 (resultK m c) (fun t _ => flushed10 m c t) cover10
theorem final11 (c : Dev nD) : (dats m 0 c).arrAt 11 cfg0.N = resultV m c :=
  (dats m 0 c).arrAt_eq_of_cover 11 (resultV m c) (fun t _ => flushed11 m c t) cover11
theorem final12 (c : Dev nD) : (dats m 0 c).arrAt 12 cfg0.N = resultO m c :=
  (dats m 0 c).arrAt_eq_of_cover 12 (resultO m c) (fun t _ => flushed12 m c t) cover12
theorem final13 (c : Dev nD) : (dats m 0 c).arrAt 13 cfg0.N = resultG m c :=
  (dats m 0 c).arrAt_eq_of_cover 13 (resultG m c) (fun t _ => flushed13 m c t) cover13
theorem final14 (c : Dev nD) : (dats m 0 c).arrAt 14 cfg0.N = resultHy m c :=
  (dats m 0 c).arrAt_eq_of_cover 14 (resultHy m c) (fun t _ => flushed14 m c t) cover14

end Cert.EvenInIdeal.Hand

end
-- ==== Proof.EvenIn.Claim.lean ====
/-
  An even layer's first projection and its reference compute the same six arrays.
-/
module

public import proofs.«01_k».proof.Defs
public import proofs.«01_k».proof.Proof.Gen.EvenInRefIdeal.Run
public import proofs.«01_k».proof.Proof.EvenIn.Ref
public import proofs.«01_k».proof.Proof.EvenIn.Final
public import Idealize.ShloMosaic.Lib.Claim

@[expose] public section

noncomputable section

namespace Cert.EvenInIdeal.Hand

open Idealize.ShloMosaic Idealize.ShloMosaic.TcCoe Idealize.SL.Sem Cert.EvenInRefIdeal.Hand Cert.EvenInRefIdeal.Read
open Cert.EvenMath

/-- The position of a row in its batch. -/
theorem posR_at2 (b : Fin 16) (p : Fin 2304) : posR (Cert.MlpMath.at2 b p) = p :=
  Fin.ext (by show (b.val * 2304 + p.val) % 2304 = p.val; omega)

section
variable {l : Fin 4} {x0 : S36864x1024.Idx → EReal} {x1 : S4x24x6x1x1024.Idx → EReal} {w : S1024x3600.Idx → EReal}
  {y : FVec Ideal Cert.EvenInRefIdeal.S16x2304x3600 .f32} (hy : ∀ b p n, y (ix3 b p n) = pr l x0 x1 w (Cert.MlpMath.at2 b p) n)
include hy

/-- The queries agree. -/
theorem q_eq : (qF y : S36864x512.Idx → EReal) = fun i => qAt l x0 x1 w (i 0) (i 1) := by
  funext i
  obtain ⟨r, q, rfl⟩ : ∃ (r : Fin 36864) (q : Fin 512), i = ix2 r q := ⟨i 0, i 1, eq_ix2 i⟩
  obtain ⟨b, p, rfl⟩ := at2_cases r
  obtain ⟨g, h, s, d, rfl⟩ := col4_cases q
  refine (q_at y b p g h s d).trans ?_
  show _ = qAt l x0 x1 w (Cert.MlpMath.at2 b p) (col4 g h s d)
  unfold qAt
  rw [posR_at2, headQ_col]
  simp only [hy]

/-- The keys agree. -/
theorem k_eq : (kF y : S512x36864.Idx → EReal) = fun i => kAt l x0 x1 w (i 1) (i 0) := by
  funext i
  obtain ⟨q, r, rfl⟩ : ∃ (q : Fin 512) (r : Fin 36864), i = ix2 q r := ⟨i 0, i 1, eq_ix2 i⟩
  obtain ⟨b, p, rfl⟩ := at2_cases r
  obtain ⟨g, h, s, d, rfl⟩ := col4_cases q
  refine (k_at y b p g h s d).trans ?_
  show _ = kAt l x0 x1 w (Cert.MlpMath.at2 b p) (col4 g h s d)
  unfold kAt
  rw [posR_at2, headQ_col]
  simp only [hy]

/-- The values agree. -/
theorem v_eq : (vF y : S36864x512.Idx → EReal) = fun i => vAt l x0 x1 w (i 0) (i 1) := by
  funext i
  obtain ⟨r, q, rfl⟩ : ∃ (r : Fin 36864) (q : Fin 512), i = ix2 r q := ⟨i 0, i 1, eq_ix2 i⟩
  obtain ⟨b, p, rfl⟩ := at2_cases r
  exact (v_at y b p q).trans (hy b p _)

/-- The output gates agree. -/
theorem o_eq : (oF y : S36864x512.Idx → EReal) = fun i => oAt l x0 x1 w (i 0) (i 1) := by
  funext i
  obtain ⟨r, q, rfl⟩ : ∃ (r : Fin 36864) (q : Fin 512), i = ix2 r q := ⟨i 0, i 1, eq_ix2 i⟩
  obtain ⟨b, p, rfl⟩ := at2_cases r
  refine (o_at y b p q).trans ?_
  rw [hy]
  rfl

/-- The gates agree. -/
theorem g_eq (b : S16.Idx → EReal) : (gF y b : S128x36864.Idx → EReal) = fun i => gAt l x0 x1 w b (i 1) (i 0) := by
  funext i
  obtain ⟨q, r, rfl⟩ : ∃ (q : Fin 128) (r : Fin 36864), i = ix2 q r := ⟨i 0, i 1, eq_ix2 i⟩
  obtain ⟨e, p, rfl⟩ := at2_cases r
  refine (g_at y b e p q).trans ?_
  simp only [hy]
  rfl

/-- The inputs of the convolution branch agree. -/
theorem hy_eq : (hyF y : S36864x1536.Idx → EReal) = fun i => hyAt l x0 x1 w (i 0) (i 1) := by
  funext i
  obtain ⟨r, q, rfl⟩ : ∃ (r : Fin 36864) (q : Fin 1536), i = ix2 r q := ⟨i 0, i 1, eq_ix2 i⟩
  obtain ⟨b, p, rfl⟩ := at2_cases r
  exact (hy_at y b p q).trans (hy b p _)

end

theorem algebraic : Cert.algebraic_EvenInIdeal_EvenInRefIdeal := by
  intro m ρ m' ρ' _ hagree
  refine ⟨fun c => resultQ m c, fun c => resultK m c, fun c => resultV m c, fun c => resultO m c, fun c => resultG m c, fun c => resultHy m c, ?_, ?_⟩
  · exact (θ_run Cert.EvenInIdeal.defs _ _).mono (fun _ h c => ⟨(h c).1.trans (final9 m c), (h c).2.1.trans (final10 m c),
      (h c).2.2.1.trans (final11 m c), (h c).2.2.2.1.trans (final12 m c), (h c).2.2.2.2.1.trans (final13 m c),
      (h c).2.2.2.2.2.1.trans (final14 m c), (h c).2.2.2.2.2.2⟩) (Cert.EvenInIdeal.Value.run_blocks (F := Ideal) m ρ)
  · refine (θ_run Cert.EvenInRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.EvenInRefIdeal.Value.run (F := Ideal) m' ρ')
    · obtain ⟨h0, h1, h2, h3⟩ := hagree c
      rw [val_main_v121_eq]
      show val_main_v121 (F := Ideal) (m' ((c : Thread Cert.EvenInRefIdeal.nD Cert.EvenInRefIdeal.τ).loc Cert.EvenInRefIdeal.main_arg0))
        (m' ((c : Thread Cert.EvenInRefIdeal.nD Cert.EvenInRefIdeal.τ).loc Cert.EvenInRefIdeal.main_arg1))
        (m' ((c : Thread Cert.EvenInRefIdeal.nD Cert.EvenInRefIdeal.τ).loc Cert.EvenInRefIdeal.main_arg2)) = _
      rw [h0, h1, h2]
      rw [v121_eq]
      exact q_eq (v29_at _ _ _)
    · obtain ⟨h0, h1, h2, h3⟩ := hagree c
      rw [val_main_v197_eq]
      show val_main_v197 (F := Ideal) (m' ((c : Thread Cert.EvenInRefIdeal.nD Cert.EvenInRefIdeal.τ).loc Cert.EvenInRefIdeal.main_arg0))
        (m' ((c : Thread Cert.EvenInRefIdeal.nD Cert.EvenInRefIdeal.τ).loc Cert.EvenInRefIdeal.main_arg1))
        (m' ((c : Thread Cert.EvenInRefIdeal.nD Cert.EvenInRefIdeal.τ).loc Cert.EvenInRefIdeal.main_arg2)) = _
      rw [h0, h1, h2]
      rw [v197_eq]
      exact k_eq (v29_at _ _ _)
    · obtain ⟨h0, h1, h2, h3⟩ := hagree c
      rw [val_main_v199_eq]
      show val_main_v199 (F := Ideal) (m' ((c : Thread Cert.EvenInRefIdeal.nD Cert.EvenInRefIdeal.τ).loc Cert.EvenInRefIdeal.main_arg0))
        (m' ((c : Thread Cert.EvenInRefIdeal.nD Cert.EvenInRefIdeal.τ).loc Cert.EvenInRefIdeal.main_arg1))
        (m' ((c : Thread Cert.EvenInRefIdeal.nD Cert.EvenInRefIdeal.τ).loc Cert.EvenInRefIdeal.main_arg2)) = _
      rw [h0, h1, h2]
      rw [v199_eq]
      exact v_eq (v29_at _ _ _)
    · obtain ⟨h0, h1, h2, h3⟩ := hagree c
      rw [val_main_v207_eq]
      show val_main_v207 (F := Ideal) (m' ((c : Thread Cert.EvenInRefIdeal.nD Cert.EvenInRefIdeal.τ).loc Cert.EvenInRefIdeal.main_arg0))
        (m' ((c : Thread Cert.EvenInRefIdeal.nD Cert.EvenInRefIdeal.τ).loc Cert.EvenInRefIdeal.main_arg1))
        (m' ((c : Thread Cert.EvenInRefIdeal.nD Cert.EvenInRefIdeal.τ).loc Cert.EvenInRefIdeal.main_arg2)) = _
      rw [h0, h1, h2]
      rw [v207_eq]
      exact o_eq (v29_at _ _ _)
    · obtain ⟨h0, h1, h2, h3⟩ := hagree c
      rw [val_main_v208_eq]
      show val_main_v208 (F := Ideal) (m' ((c : Thread Cert.EvenInRefIdeal.nD Cert.EvenInRefIdeal.τ).loc Cert.EvenInRefIdeal.main_arg0))
        (m' ((c : Thread Cert.EvenInRefIdeal.nD Cert.EvenInRefIdeal.τ).loc Cert.EvenInRefIdeal.main_arg1))
        (m' ((c : Thread Cert.EvenInRefIdeal.nD Cert.EvenInRefIdeal.τ).loc Cert.EvenInRefIdeal.main_arg2))
        (m' ((c : Thread Cert.EvenInRefIdeal.nD Cert.EvenInRefIdeal.τ).loc Cert.EvenInRefIdeal.main_arg3)) = _
      rw [h0, h1, h2, h3]
      rw [v208_eq]
      exact g_eq (v29_at _ _ _) _
    · obtain ⟨h0, h1, h2, h3⟩ := hagree c
      rw [val_main_v209_eq]
      show val_main_v209 (F := Ideal) (m' ((c : Thread Cert.EvenInRefIdeal.nD Cert.EvenInRefIdeal.τ).loc Cert.EvenInRefIdeal.main_arg0))
        (m' ((c : Thread Cert.EvenInRefIdeal.nD Cert.EvenInRefIdeal.τ).loc Cert.EvenInRefIdeal.main_arg1))
        (m' ((c : Thread Cert.EvenInRefIdeal.nD Cert.EvenInRefIdeal.τ).loc Cert.EvenInRefIdeal.main_arg2)) = _
      rw [h0, h1, h2]
      rw [v209_eq]
      exact hy_eq (v29_at _ _ _)

end Cert.EvenInIdeal.Hand

end
-- ==== Proof.First.Block.lean ====
/-
  What one grid point of the first layer's first projection leaves in its seven blocks of 768 rows. The rows come in two arrays,
  the context's and the latent tokens', in groups of 256; the first group of a point is the context's where a batch begins. Six
  blocks are those of the later even layers; the seventh is the rows themselves.
-/
module

public import proofs.«01_k».proof.Proof.Gen.FirstIdeal.Frame
public import proofs.«01_k».proof.Proof.EvenIn.Tiles

@[expose] public section

set_option maxRecDepth 16384

noncomputable section

namespace Cert.FirstIdeal.Hand

open Cert.FirstIdeal Cert.FirstIdeal.Gen Idealize.ShloMosaic Idealize.ShloMosaic.TcCoe
open Cert.MlpIdeal.Hand (isCtx normV modV normV_apply)
open Cert.QkvIdeal.Hand (modS modS_of accV)
open Cert.EvenInIdeal.Hand (grp hds grp3 grp9 thd9 inbQ inbK inbV inbG inbH qV kV oV gV tabV colsE tiles hit3 rowB rowAt)
open Cert.ProjMath (hrow)

section
variable {F : FTy → Type} [FloatOps F]

/-- A whole block of 256 rows. -/
def allV (x : Vec F S256x1024 .f32) : FVec F S256x1024 .f32 := shapeCast S256x1024 (View.ld x r0_0) shapeCasts_S256x1024_S256x1024

/-- A group's rows. -/
def rowsF (i : grid0.Coords) (x0 x1 x2 x3 : Vec F S256x1024 .f32) (s : Fin 3) : FVec F S256x1024 .f32 :=
  match s.val with
  | 0 => Scalar.select (isCtx i) (allV x0) (allV x1)
  | 1 => allV x2
  | _ + 2 => allV x3

/-- A group's rows, normalized and modulated. -/
def hF (i : grid0.Coords) (x0 x1 x2 x3 : Vec F S256x1024 .f32) (x4 x5 x6 x7 : Vec F S1x1x1x1x1024 .f32) (s : Fin 3) : FVec F S256x1024 .bf16 :=
  normV (rowsF i x0 x1 x2 x3 s) (modS i s (modV (View.ld x6 r0_2)) (modV (View.ld x7 r0_2)))
    (modS i s (modV (View.ld x4 r0_2)) (modV (View.ld x5 r0_2)))

theorem inbX (n : Fin 3) (a : Fin 2) : (![256 * (grp3 n).val, 1024 * 0] : Fin 2 → ℕ) a + (![256, 1024] : Fin 2 → ℕ) a ≤ (![768, 1024] : Fin 2 → ℕ) a := by
  match a with
  | ⟨0, _⟩ => show 256 * (2 - n.val) + 256 ≤ 768; omega
  | ⟨1, _⟩ => show 1024 * 0 + 1024 ≤ 1024; omega

variable (i : grid0.Coords) (x0 x1 x2 x3 : Vec F S256x1024 .f32) (x4 x5 x6 x7 : Vec F S1x1x1x1x1024 .f32) (x8 : Vec F S1024x3712 .bf16)
  (x9 : Vec F S1x128 .f32) (x10 x11 : Vec F S768x128 .f32)

theorem out12_eq : out0_12 i x0 x1 x2 x3 x4 x5 x6 x7 x8 x9 x10 x11 = View.canon (Val := Elt F) (s := S768x512) (e := .bf16)
    (List.ofFn fun n : Fin 12 => ⟨Rect.unit (s := S768x512) ![256 * (grp n).val, 128 * (hds n).val] ![256, 128] (inbQ n),
      qV (hF i x0 x1 x2 x3 x4 x5 x6 x7 (grp n)) x8 (hds n) (tabV x10 (grp n)) (tabV x11 (grp n))⟩) := rfl

theorem out13_eq : out0_13 i x0 x1 x2 x3 x4 x5 x6 x7 x8 x9 x10 x11 = View.canon (Val := Elt F) (s := S512x768) (e := .bf16)
    (List.ofFn fun n : Fin 12 => ⟨Rect.unit (s := S512x768) ![128 * (hds n).val, 256 * (grp n).val] ![128, 256] (inbK n),
      kV (hF i x0 x1 x2 x3 x4 x5 x6 x7 (grp n)) x8 (hds n) (tabV x10 (grp n)) (tabV x11 (grp n))⟩) := rfl

theorem out14_eq : out0_14 i x0 x1 x2 x3 x4 x5 x6 x7 x8 x9 x10 x11 = View.canon (Val := Elt F) (s := S768x512) (e := .bf16)
    (List.ofFn fun n : Fin 3 => ⟨Rect.unit (s := S768x512) ![256 * (grp3 n).val, 512 * 0] ![256, 512] (inbV n),
      truncf .bf16 (accV (hF i x0 x1 x2 x3 x4 x5 x6 x7 (grp3 n)) (View.ld x8 (colsE 1024 (by omega)))) bitsLt_bf16_f32⟩) := rfl

theorem out15_eq : out0_15 i x0 x1 x2 x3 x4 x5 x6 x7 x8 x9 x10 x11 = View.canon (Val := Elt F) (s := S768x512) (e := .bf16)
    (List.ofFn fun n : Fin 3 => ⟨Rect.unit (s := S768x512) ![256 * (grp3 n).val, 512 * 0] ![256, 512] (inbV n),
      oV (hF i x0 x1 x2 x3 x4 x5 x6 x7 (grp3 n)) x8⟩) := rfl

theorem out16_eq : out0_16 i x0 x1 x2 x3 x4 x5 x6 x7 x8 x9 x10 x11 = View.canon (Val := Elt F) (s := S128x768) (e := .f32)
    (List.ofFn fun n : Fin 3 => ⟨Rect.unit (s := S128x768) ![128 * 0, 256 * (grp3 n).val] ![128, 256] (inbG n),
      gV (hF i x0 x1 x2 x3 x4 x5 x6 x7 (grp3 n)) x8 x9⟩) := rfl

theorem out17_eq : out0_17 i x0 x1 x2 x3 x4 x5 x6 x7 x8 x9 x10 x11 = View.canon (Val := Elt F) (s := S768x1536) (e := .f32)
    (List.ofFn fun n : Fin 9 => ⟨Rect.unit (s := S768x1536) ![256 * (grp9 n).val, 512 * (thd9 n).val] ![256, 512] (inbH n),
      accV (hF i x0 x1 x2 x3 x4 x5 x6 x7 (grp9 n)) (View.ld x8 (colsE (2176 + 512 * (thd9 n).val) (by omega)))⟩) := rfl

theorem out18_eq : out0_18 i x0 x1 x2 x3 x4 x5 x6 x7 x8 x9 x10 x11 = View.canon (Val := Elt F) (s := S768x1024) (e := .f32)
    (List.ofFn fun n : Fin 3 => ⟨Rect.unit (s := S768x1024) ![256 * (grp3 n).val, 1024 * 0] ![256, 1024] (inbX n),
      rowsF i x0 x1 x2 x3 (grp3 n)⟩) := rfl

end

/-! ## The rows -/

/-- The context's rows and the latent tokens', batch by batch, as one array of rows. -/
def joined (u : S16x256x1024.Idx → EReal) (v : S16x2048x1024.Idx → EReal) : S36864x1024.Idx → EReal := fun i =>
  if h : (i 0).val % 2304 < 256 then u (ix3 (⟨(i 0).val / 2304, by have : (i 0).val < 36864 := (i 0).isLt; omega⟩ : Fin 16) (⟨(i 0).val % 2304, h⟩ : Fin 256) (i 1))
  else v (ix3 (⟨(i 0).val / 2304, by have : (i 0).val < 36864 := (i 0).isLt; omega⟩ : Fin 16) (⟨(i 0).val % 2304 - 256, by omega⟩ : Fin 2048) (i 1))

theorem joined_ctx (u : S16x256x1024.Idx → EReal) (v : S16x2048x1024.Idx → EReal) (r : Fin 36864) (b : Fin 16) (p : Fin 256) (k : Fin 1024)
    (h : r.val = 2304 * b.val + p.val) : joined u v (ix2 r k) = u (ix3 b p k) := by
  have hp := p.isLt
  refine (dif_pos (show r.val % 2304 < 256 by omega)).trans ?_
  refine congrArg₂ (fun b p => u (ix3 b p k)) (Fin.ext ?_) (Fin.ext ?_)
  · show r.val / 2304 = b.val; omega
  · show r.val % 2304 = p.val; omega

theorem joined_lat (u : S16x256x1024.Idx → EReal) (v : S16x2048x1024.Idx → EReal) (r : Fin 36864) (b : Fin 16) (n : Fin 2048) (k : Fin 1024)
    (h : r.val = 2304 * b.val + (256 + n.val)) : joined u v (ix2 r k) = v (ix3 b n k) := by
  have hn := n.isLt
  refine (dif_neg (show ¬ r.val % 2304 < 256 by omega)).trans ?_
  refine congrArg₂ (fun b n => v (ix3 b n k)) (Fin.ext ?_) (Fin.ext ?_)
  · show r.val / 2304 = b.val; omega
  · show r.val % 2304 - 256 = n.val; omega

theorem allV_apply (x : Vec Ideal S256x1024 .f32) (p : Fin 256) (k : Fin 1024) : allV x (ix2 p k) = x (ix2 p k) := by
  pointwise [allV]

/-- The latent token of row `p` of group `s` of point `t`. -/
abbrev tokenAt (t : Fin 48) (s : Fin 3) (p : Fin 256) : Fin 2048 := ⟨256 * (3 * (t.val % 3) + s.val - 1) + p.val, by omega⟩
/-- The batch of point `t`. -/
abbrev batchAt (t : Fin 48) : Fin 16 := ⟨t.val / 3, by omega⟩
/-- The modulation of the latent tokens of point `t`. -/
abbrev modAt (t : Fin 48) : Fin 24 := ⟨t.val / 3, by omega⟩

section
variable {t : Fin 48} {i : grid0.Coords} (hi : isCtx i = BitVec.ofBool (decide (t.val % 3 = 0)))
  {u : S16x256x1024.Idx → EReal} {v : S16x2048x1024.Idx → EReal} {x0 x1 x2 x3 : Vec Ideal S256x1024 .f32}
  (h0 : ∀ (p : Fin 256) k, x0 (ix2 p k) = u (ix3 (batchAt t) p k))
  (h1 : ∀ (p : Fin 256) k, x1 (ix2 p k) = v (ix3 (batchAt t) (tokenAt t 0 p) k))
  (h2 : ∀ (p : Fin 256) k, x2 (ix2 p k) = v (ix3 (batchAt t) (tokenAt t 1 p) k))
  (h3 : ∀ (p : Fin 256) k, x3 (ix2 p k) = v (ix3 (batchAt t) (tokenAt t 2 p) k))
include hi h0 h1 h2 h3

theorem rowsF_of (s : Fin 3) (p : Fin 256) (k : Fin 1024) : rowsF i x0 x1 x2 x3 s (ix2 p k) = joined u v (ix2 (rowAt t s p) k) := by
  match s with
  | ⟨0, _⟩ =>
    show (Scalar.select (isCtx i) (allV x0) (allV x1) : FVec Ideal S256x1024 .f32) (ix2 p k) = _
    rw [hi]
    by_cases ht : t.val % 3 = 0
    · rw [decide_eq_true ht]
      refine ((allV_apply x0 p k).trans (h0 p k)).trans (joined_ctx u v _ _ _ k ?_).symm
      show 768 * t.val + (256 * 0 + p.val) = 2304 * (t.val / 3) + p.val; omega
    · rw [decide_eq_false ht]
      refine ((allV_apply x1 p k).trans (h1 p k)).trans (joined_lat u v _ _ _ k ?_).symm
      show 768 * t.val + (256 * 0 + p.val) = 2304 * (t.val / 3) + (256 + (256 * (3 * (t.val % 3) + 0 - 1) + p.val)); omega
  | ⟨1, _⟩ =>
    refine ((allV_apply x2 p k).trans (h2 p k)).trans (joined_lat u v _ _ _ k ?_).symm
    show 768 * t.val + (256 * 1 + p.val) = 2304 * (t.val / 3) + (256 + (256 * (3 * (t.val % 3) + 1 - 1) + p.val)); omega
  | ⟨2, _⟩ =>
    refine ((allV_apply x3 p k).trans (h3 p k)).trans (joined_lat u v _ _ _ k ?_).symm
    show 768 * t.val + (256 * 2 + p.val) = 2304 * (t.val / 3) + (256 + (256 * (3 * (t.val % 3) + 2 - 1) + p.val)); omega

theorem hF_of {X1 : S4x24x6x1x1024.Idx → EReal} {x4 x5 x6 x7 : Vec Ideal S1x1x1x1x1024 .f32}
    (h4 : ∀ k, x4 (ix5 0 0 0 0 k) = X1 (ix5 0 16 0 0 k)) (h5 : ∀ k, x5 (ix5 0 0 0 0 k) = X1 (ix5 0 (modAt t) 0 0 k))
    (h6 : ∀ k, x6 (ix5 0 0 0 0 k) = X1 (ix5 0 16 1 0 k)) (h7 : ∀ k, x7 (ix5 0 0 0 0 k) = X1 (ix5 0 (modAt t) 1 0 k))
    (s : Fin 3) (p : Fin 256) (k : Fin 1024) :
    hF i x0 x1 x2 x3 x4 x5 x6 x7 s (ix2 p k) = hrow 0 (joined u v) X1 (rowAt t s p) k := by
  refine (normV_apply _ _ _ p k).trans ?_
  unfold hrow
  rw [funext (rowsF_of hi h0 h1 h2 h3 s p)]
  exact congrArg₂ (fun a b => Cert.MlpMath.normed _ a b k) (funext (modS_of 0 i t.val t.isLt hi X1 s p _ _ 1 h6 h7))
    (funext (modS_of 0 i t.val t.isLt hi X1 s p _ _ 0 h4 h5))

/-- The seventh block is the rows. -/
theorem canonX (p : Fin 768) (q : Fin 1024) :
    View.canon (Val := Elt Ideal) (s := S768x1024) (e := .f32)
      (List.ofFn fun n : Fin 3 => ⟨Rect.unit (s := S768x1024) ![256 * (grp3 n).val, 1024 * 0] ![256, 1024] (inbX n),
        rowsF i x0 x1 x2 x3 (grp3 n)⟩) (ix2 p q) = joined u v (ix2 (rowB t p) q) := by
  refine tiles (e := .f32) (by omega) (by omega) (fun n => (grp3 n).val) (fun _ => 0) inbX (hit3 (by omega)) _
    (fun p q => joined u v (ix2 (rowB t p) q)) (fun n p j hp hq => ?_) p q
  refine (rowsF_of hi h0 h1 h2 h3 (grp3 n) p j).trans ?_
  exact congrArg (fun q => joined u v (ix2 (rowAt t (grp3 n) p) q)) (Fin.ext (by show j.val = 1024 * 0 + j.val; omega))

end

end Cert.FirstIdeal.Hand

end
-- ==== Proof.First.Ref.lean ====
/-
  The reference of the first layer's first projection, read at a row and a column: its rows are the two arrays' rows, joined
  batch by batch; all else is the reference of the later even layers.
-/
module

public import proofs.«01_k».proof.Proof.Gen.FirstRefIdeal.Read
public import proofs.«01_k».proof.Proof.EvenIn.Ref
public import proofs.«01_k».proof.Proof.First.Block

@[expose] public section

set_option maxRecDepth 16384

noncomputable section

namespace Cert.FirstRefIdeal.Hand

open Cert.MlpMath (at2 modOf_at2)
open Cert.EvenMath
open Cert.EvenInRefIdeal.Hand (projF qF kF vF oF gF hyF projF_at at2_cases batch_of pos_of)
open Cert.FirstIdeal.Hand (joined joined_ctx joined_lat)
open Cert.FirstRefIdeal Cert.FirstRefIdeal.Gen Cert.FirstRefIdeal.Read Idealize.ShloMosaic Idealize.ShloMosaic.TcCoe

variable (x0 : (⟨S16x256x1024, .f32⟩ : BufTy).Contents (Elt Ideal)) (x1 : (⟨S16x2048x1024, .f32⟩ : BufTy).Contents (Elt Ideal))
  (x2 : (⟨S4x24x6x1x1024, .f32⟩ : BufTy).Contents (Elt Ideal)) (x3 : (⟨S1024x3600, .f32⟩ : BufTy).Contents (Elt Ideal))
  (x4 : (⟨S16, .f32⟩ : BufTy).Contents (Elt Ideal))

theorem v29_eq : val_main_v29 (F := Ideal) x0 x1 x2 x3
    = projF (F := Ideal) (val_main_v0 (F := Ideal) x0 x1) (val_main_v17 (F := Ideal) x2) (val_main_v27 (F := Ideal) x2) x3 := rfl
theorem v121_eq : val_main_v121 (F := Ideal) x0 x1 x2 x3 = qF (F := Ideal) (val_main_v29 (F := Ideal) x0 x1 x2 x3) := rfl
theorem v197_eq : val_main_v197 (F := Ideal) x0 x1 x2 x3 = kF (F := Ideal) (val_main_v29 (F := Ideal) x0 x1 x2 x3) := rfl
theorem v199_eq : val_main_v199 (F := Ideal) x0 x1 x2 x3 = vF (F := Ideal) (val_main_v29 (F := Ideal) x0 x1 x2 x3) := rfl
theorem v207_eq : val_main_v207 (F := Ideal) x0 x1 x2 x3 = oF (F := Ideal) (val_main_v29 (F := Ideal) x0 x1 x2 x3) := rfl
theorem v208_eq : val_main_v208 (F := Ideal) x0 x1 x2 x3 x4 = gF (F := Ideal) (val_main_v29 (F := Ideal) x0 x1 x2 x3) x4 := rfl
theorem v209_eq : val_main_v209 (F := Ideal) x0 x1 x2 x3 = hyF (F := Ideal) (val_main_v29 (F := Ideal) x0 x1 x2 x3) := rfl

theorem v17_at (b : Fin 16) (p : Fin 2304) (k : Fin 1024) :
    val_main_v17 (F := Ideal) x2 (ix3 b p k) = x2 (ix5 0 (Cert.MlpMath.modOf (at2 b p)) 1 0 k) := by
  rw [modOf_at2]
  pointwise [val_main_v17, val_main_v16, val_main_v15, val_main_v14, val_main_v13, val_main_v12, val_main_v11]
  split <;> rfl

theorem v27_at (b : Fin 16) (p : Fin 2304) (k : Fin 1024) :
    val_main_v27 (F := Ideal) x2 (ix3 b p k) = x2 (ix5 0 (Cert.MlpMath.modOf (at2 b p)) 0 0 k) := by
  rw [modOf_at2]
  pointwise [val_main_v27, val_main_v26, val_main_v25, val_main_v24, val_main_v23, val_main_v22, val_main_v21]
  split <;> rfl

theorem v0_at (b : Fin 16) (p : Fin 2304) (k : Fin 1024) : val_main_v0 (F := Ideal) x0 x1 (ix3 b p k) = joined x0 x1 (ix2 (at2 b p) k) := by
  have hcat : val_main_v0 (F := Ideal) x0 x1 (ix3 b p k) = if hp : p.val < 256 then x0 (ix3 b ⟨p.val, hp⟩ k) else x1 (ix3 b ⟨p.val - 256, by omega⟩ k) := by
    pointwise [val_main_v0]
  rw [hcat]
  by_cases hp : p.val < 256
  · rw [dif_pos hp]
    refine (joined_ctx x0 x1 _ b ⟨p.val, hp⟩ k ?_).symm
    show b.val * 2304 + p.val = 2304 * b.val + p.val; omega
  · rw [dif_neg hp]
    refine (joined_lat x0 x1 _ b ⟨p.val - 256, by omega⟩ k ?_).symm
    show b.val * 2304 + p.val = 2304 * b.val + (256 + (p.val - 256)); omega

theorem v29_at (b : Fin 16) (p : Fin 2304) (n : Fin 3600) :
    val_main_v29 (F := Ideal) x0 x1 x2 x3 (ix3 b p n) = pr 0 (joined x0 x1) x2 x3 (at2 b p) n := by
  rw [v29_eq]
  exact projF_at 0 (joined x0 x1) x2 _ _ _ x3 b p (v0_at x0 x1 b p) (v17_at x2 b p) (v27_at x2 b p) n

/-- The joined rows. -/
theorem x_eq : (val_main_v210 (F := Ideal) x0 x1 : S36864x1024.Idx → EReal) = joined x0 x1 := by
  funext i
  obtain ⟨r, k, rfl⟩ : ∃ (r : Fin 36864) (k : Fin 1024), i = ix2 r k := ⟨i 0, i 1, eq_ix2 i⟩
  obtain ⟨b, p, rfl⟩ := at2_cases r
  rw [← v0_at]
  unfold val_main_v210
  generalize val_main_v0 (F := Ideal) x0 x1 = y
  have hb := b.isLt
  have hp := p.isLt
  have hk := k.isLt
  pointwise []
  rw [batch_of, pos_of]

end Cert.FirstRefIdeal.Hand

end
-- ==== Proof.First.Final.lean ====
/-
  The seven arrays the first layer's first projection ends with: six are the formulas of `EvenIn/Rows.lean` over the joined rows,
  the seventh is the joined rows.
-/
module

public import proofs.«01_k».proof.Proof.Gen.FirstIdeal.Value
public import proofs.«01_k».proof.Proof.First.Block

@[expose] public section

set_option maxRecDepth 16384

noncomputable section

namespace Cert.FirstIdeal.Hand

open Cert.FirstIdeal Cert.FirstIdeal.Gen Idealize.ShloMosaic Idealize.ShloMosaic.TcCoe Idealize.SL.Sem
open Idealize.ShloMosaic.Pipeline (Dat)
open Cert.MlpIdeal.Hand (isCtx)
open Cert.EvenInIdeal.Hand
open Cert.EvenMath

variable (m : (ℓ : Loc nD τ sig) → Buf (Elt Ideal) ℓ)

theorem t_lt (t : Fin cfg0.N) : t.val < 48 := Nat.lt_of_lt_of_eq t.isLt N_0
/-- The grid's points, counted to 48. -/
abbrev pt (t : Fin cfg0.N) : Fin 48 := ⟨t.val, t_lt t⟩
abbrev tp (t : Fin 48) : Fin cfg0.N := ⟨t.val, Nat.lt_of_lt_of_eq t.isLt N_0.symm⟩

/-! ## The arrays the host hands over -/

theorem V_ctx (c : Dev nD) :
    V m c main_v0 = shapeCast S4096x1024 (m ((c : Thread nD τ).loc main_arg0)) shapeCasts_S16x256x1024_S4096x1024 := by
  show StableHlo.after _ _ _ = _
  simp only [hostOps0, hostOps0_1, hostOps0_2, hostOps0_3, hostOps0_4, List.flatten_cons, List.flatten_nil, List.append_nil, List.cons_append, List.nil_append]
  after_reads_simp
  rfl

theorem V_lat (c : Dev nD) :
    V m c main_v1 = shapeCast S32768x1024 (m ((c : Thread nD τ).loc main_arg1)) shapeCasts_S16x2048x1024_S32768x1024 := by
  show StableHlo.after _ _ _ = _
  simp only [hostOps0, hostOps0_1, hostOps0_2, hostOps0_3, hostOps0_4, List.flatten_cons, List.flatten_nil, List.append_nil, List.cons_append, List.nil_append]
  after_reads_simp
  rfl

theorem V_w (c : Dev nD) : V m c main_v7 = wideW (F := Ideal) (m ((c : Thread nD τ).loc main_arg3)) := by
  show StableHlo.after _ _ _ = _
  simp only [hostOps0, hostOps0_1, hostOps0_2, hostOps0_3, hostOps0_4, List.flatten_cons, List.flatten_nil, List.append_nil, List.cons_append, List.nil_append]
  after_reads_simp
  rfl

theorem V_b (c : Dev nD) : V m c main_v9 = wideB (F := Ideal) (m ((c : Thread nD τ).loc main_arg4)) := by
  show StableHlo.after _ _ _ = _
  simp only [hostOps0, hostOps0_1, hostOps0_2, hostOps0_3, hostOps0_4, List.flatten_cons, List.flatten_nil, List.append_nil, List.cons_append, List.nil_append]
  after_reads_simp
  rfl

theorem V_cos (c : Dev nD) : V m c main_v53 = cosTab (F := Ideal) := by
  show StableHlo.after _ _ _ = _
  simp only [hostOps0, hostOps0_1, hostOps0_2, hostOps0_3, hostOps0_4, List.flatten_cons, List.flatten_nil, List.append_nil, List.cons_append, List.nil_append]
  after_reads_simp
  rfl

theorem V_sin (c : Dev nD) : V m c main_v55 = sinTab (F := Ideal) := by
  show StableHlo.after _ _ _ = _
  simp only [hostOps0, hostOps0_1, hostOps0_2, hostOps0_3, hostOps0_4, List.flatten_cons, List.flatten_nil, List.append_nil, List.cons_append, List.nil_append]
  after_reads_simp
  rfl

theorem ctx_row (a : S16x256x1024.Idx → EReal) (r : Fin 4096) (b : Fin 16) (p : Fin 256) (k : Fin 1024) (h : r.val = 256 * b.val + p.val) :
    (shapeCast S4096x1024 (a : Vec Ideal S16x256x1024 .f32) shapeCasts_S16x256x1024_S4096x1024) (ix2 r k) = a (ix3 b p k) := by
  have hp := p.isLt
  have e : (shapeCast S4096x1024 (a : Vec Ideal S16x256x1024 .f32) shapeCasts_S16x256x1024_S4096x1024) (ix2 r k)
      = a (ix3 (⟨r.val / 256, by omega⟩ : Fin 16) (⟨r.val % 256, by omega⟩ : Fin 256) k) := by
    have hr := r.isLt
    have hk := k.isLt
    pointwise []
  rw [e]
  refine congrArg₂ (fun b p => a (ix3 b p k)) (Fin.ext ?_) (Fin.ext ?_)
  · show r.val / 256 = b.val; omega
  · show r.val % 256 = p.val; omega

theorem lat_row (a : S16x2048x1024.Idx → EReal) (r : Fin 32768) (b : Fin 16) (n : Fin 2048) (k : Fin 1024) (h : r.val = 2048 * b.val + n.val) :
    (shapeCast S32768x1024 (a : Vec Ideal S16x2048x1024 .f32) shapeCasts_S16x2048x1024_S32768x1024) (ix2 r k) = a (ix3 b n k) := by
  have hn := n.isLt
  have e : (shapeCast S32768x1024 (a : Vec Ideal S16x2048x1024 .f32) shapeCasts_S16x2048x1024_S32768x1024) (ix2 r k)
      = a (ix3 (⟨r.val / 2048, by omega⟩ : Fin 16) (⟨r.val % 2048, by omega⟩ : Fin 2048) k) := by
    have hr := r.isLt
    have hk := k.isLt
    pointwise []
  rw [e]
  refine congrArg₂ (fun b n => a (ix3 b n k)) (Fin.ext ?_) (Fin.ext ?_)
  · show r.val / 2048 = b.val; omega
  · show r.val % 2048 = n.val; omega

/-! ## The blocks a grid point reads -/

theorem at0 : ∀ t : Fin grid0.N, win0_0.index t 0 = t.val / 3 ∧ win0_0.index t 1 = 0 := by decide +kernel
theorem at1 : ∀ t : Fin grid0.N, win0_1.index t 0 = 8 * (t.val / 3) + (3 * (t.val % 3) + 0 - 1) ∧ win0_1.index t 1 = 0 := by decide +kernel
theorem at2 : ∀ t : Fin grid0.N, win0_2.index t 0 = 8 * (t.val / 3) + (3 * (t.val % 3) + 1 - 1) ∧ win0_2.index t 1 = 0 := by decide +kernel
theorem at3 : ∀ t : Fin grid0.N, win0_3.index t 0 = 8 * (t.val / 3) + (3 * (t.val % 3) + 2 - 1) ∧ win0_3.index t 1 = 0 := by decide +kernel
theorem at4 : ∀ t : Fin grid0.N, win0_4.index t 0 = 0 ∧ win0_4.index t 1 = 16 ∧ win0_4.index t 2 = 0 ∧ win0_4.index t 3 = 0 ∧ win0_4.index t 4 = 0 := by decide +kernel
theorem at5 : ∀ t : Fin grid0.N, win0_5.index t 0 = 0 ∧ win0_5.index t 1 = t.val / 3 ∧ win0_5.index t 2 = 0 ∧ win0_5.index t 3 = 0 ∧ win0_5.index t 4 = 0 := by decide +kernel
theorem at6 : ∀ t : Fin grid0.N, win0_6.index t 0 = 0 ∧ win0_6.index t 1 = 16 ∧ win0_6.index t 2 = 1 ∧ win0_6.index t 3 = 0 ∧ win0_6.index t 4 = 0 := by decide +kernel
theorem at7 : ∀ t : Fin grid0.N, win0_7.index t 0 = 0 ∧ win0_7.index t 1 = t.val / 3 ∧ win0_7.index t 2 = 1 ∧ win0_7.index t 3 = 0 ∧ win0_7.index t 4 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel
theorem at10 : ∀ t : Fin grid0.N, win0_10.index t 0 = t.val % 3 ∧ win0_10.index t 1 = 0 := by decide +kernel
theorem at11 : ∀ t : Fin grid0.N, win0_11.index t 0 = t.val % 3 ∧ win0_11.index t 1 = 0 := by decide +kernel
theorem at12 : ∀ t : Fin grid0.N, win0_12.index t 0 = t.val ∧ win0_12.index t 1 = 0 := by decide +kernel
theorem at14 : ∀ t : Fin grid0.N, win0_14.index t 0 = t.val ∧ win0_14.index t 1 = 0 := by decide +kernel
theorem at15 : ∀ t : Fin grid0.N, win0_15.index t 0 = t.val ∧ win0_15.index t 1 = 0 := by decide +kernel
theorem at17 : ∀ t : Fin grid0.N, win0_17.index t 0 = t.val ∧ win0_17.index t 1 = 0 := by decide +kernel
theorem at18 : ∀ t : Fin grid0.N, win0_18.index t 0 = t.val ∧ win0_18.index t 1 = 0 := by decide +kernel
theorem at13 : ∀ t : Fin grid0.N, win0_13.index t 0 = 0 ∧ win0_13.index t 1 = t.val := by decide +kernel
theorem at16 : ∀ t : Fin grid0.N, win0_16.index t 0 = 0 ∧ win0_16.index t 1 = t.val := by decide +kernel

/-- A grid point's first 256 rows are context rows iff its number is a multiple of three. -/
theorem isCtx_at : ∀ t : Fin grid0.N, isCtx (grid0.coords t) = BitVec.ofBool (decide (t.val % 3 = 0)) := by decide +kernel

section
variable (c : Dev nD) (t : Fin cfg0.N)

theorem blk0 (p : Fin 256) (k : Fin 1024) :
    iblk m c 0 t (ix2 p k) = m ((c : Thread nD τ).loc main_arg0) (ix3 (batchAt (pt t)) p k) := by
  unfold iblk
  rw [View.read_apply]
  show V m c main_v0 _ = _
  have ht := t_lt t
  rw [V_ctx]
  refine Eq.trans (congrArg _ (Cert.MlpMath.ix2_of _ (⟨256 * (t.val / 3) + p.val, by omega⟩ : Fin 4096) k ?_ ?_)) (ctx_row _ _ _ p k rfl)
  · show win0_0.index t 0 * 256 + 1 * p.val = 256 * (t.val / 3) + p.val; rw [(at0 t).1]; omega
  · show win0_0.index t 1 * 1024 + 1 * k.val = k.val; rw [(at0 t).2]; omega

/-- The latent tokens at an index which stands in a block of 256 rows. -/
theorem lat_at (e : S32768x1024.Idx) (n : Fin 2 → ℕ) (s : Fin 3) (p : Fin 256) (k : Fin 1024)
    (hn : n 0 = 8 * (t.val / 3) + (3 * (t.val % 3) + s.val - 1) ∧ n 1 = 0)
    (he : ∀ a, (e a).val = n a * (![256, 1024] : Fin 2 → ℕ) a + 1 * ((ix2 p k : S256x1024.Idx) a).val) :
    V m c main_v1 e = m ((c : Thread nD τ).loc main_arg1) (ix3 (batchAt (pt t)) (tokenAt (pt t) s p) k) := by
  have ht := t_lt t
  rw [V_lat]
  refine Eq.trans (congrArg _ (Cert.MlpMath.ix2_of e
    (⟨2048 * (t.val / 3) + (256 * (3 * (t.val % 3) + s.val - 1) + p.val), by omega⟩ : Fin 32768) k ?_ ?_)) (lat_row _ _ _ _ k rfl)
  · have := he 0
    rw [hn.1] at this
    rw [this]
    show (8 * (t.val / 3) + (3 * (t.val % 3) + s.val - 1)) * 256 + 1 * p.val = 2048 * (t.val / 3) + (256 * (3 * (t.val % 3) + s.val - 1) + p.val)
    omega
  · have := he 1
    rw [hn.2] at this
    rw [this]
    show 0 * 1024 + 1 * k.val = k.val
    omega

theorem blk1 (p : Fin 256) (k : Fin 1024) : iblk m c 1 t (ix2 p k)
    = m ((c : Thread nD τ).loc main_arg1) (ix3 (batchAt (pt t)) (tokenAt (pt t) 0 p) k) :=
  lat_at m c t _ _ 0 p k (at1 t) fun _ => rfl
theorem blk2 (p : Fin 256) (k : Fin 1024) : iblk m c 2 t (ix2 p k)
    = m ((c : Thread nD τ).loc main_arg1) (ix3 (batchAt (pt t)) (tokenAt (pt t) 1 p) k) :=
  lat_at m c t _ _ 1 p k (at2 t) fun _ => rfl
theorem blk3 (p : Fin 256) (k : Fin 1024) : iblk m c 3 t (ix2 p k)
    = m ((c : Thread nD τ).loc main_arg1) (ix3 (batchAt (pt t)) (tokenAt (pt t) 2 p) k) :=
  lat_at m c t _ _ 2 p k (at3 t) fun _ => rfl

/-- The modulations at an index which stands in a block of one vector. -/
theorem mod_at (e : S4x24x6x1x1024.Idx) (i : Fin 5 → ℕ) (b : Fin 24) (w : Fin 6) (k : Fin 1024)
    (he : ∀ a, (e a).val = i a * (![1, 1, 1, 1, 1024] : Fin 5 → ℕ) a + 1 * ((ix5 0 0 0 0 k : S1x1x1x1x1024.Idx) a).val)
    (hi : i 0 = 0 ∧ i 1 = b.val ∧ i 2 = w.val ∧ i 3 = 0 ∧ i 4 = 0) :
    V m c main_arg2 e = m ((c : Thread nD τ).loc main_arg2) (ix5 0 b w 0 k) := by
  rw [V_main_arg2, Cert.MlpMath.ix5_of e i 0 b w k he hi]

theorem blk4 (k : Fin 1024) : iblk m c 4 t (ix5 0 0 0 0 k) = m ((c : Thread nD τ).loc main_arg2) (ix5 0 16 0 0 k) :=
  mod_at m c _ _ _ _ _ (fun _ => rfl) (at4 t)
theorem blk5 (k : Fin 1024) :
    iblk m c 5 t (ix5 0 0 0 0 k) = m ((c : Thread nD τ).loc main_arg2) (ix5 0 (modAt (pt t)) 0 0 k) :=
  mod_at m c _ _ _ _ _ (fun _ => rfl) (at5 t)
theorem blk6 (k : Fin 1024) : iblk m c 6 t (ix5 0 0 0 0 k) = m ((c : Thread nD τ).loc main_arg2) (ix5 0 16 1 0 k) :=
  mod_at m c _ _ _ _ _ (fun _ => rfl) (at6 t)
theorem blk7 (k : Fin 1024) :
    iblk m c 7 t (ix5 0 0 0 0 k) = m ((c : Thread nD τ).loc main_arg2) (ix5 0 (modAt (pt t)) 1 0 k) :=
  mod_at m c _ _ _ _ _ (fun _ => rfl) (at7 t)

theorem blk8 (k : Fin 1024) (j : Fin 3712) :
    iblk m c 8 t (ix2 k j) = wideW (F := Ideal) (m ((c : Thread nD τ).loc main_arg3)) (ix2 k j) := by
  unfold iblk
  rw [View.read_apply]
  show V m c main_v7 _ = _
  rw [V_w]
  refine congrArg _ (Cert.MlpMath.ix2_of _ _ _ ?_ ?_)
  · show win0_8.index t 0 * 1024 + 1 * k.val = k.val; rw [(at8 t).1]; omega
  · show win0_8.index t 1 * 3712 + 1 * j.val = j.val; rw [(at8 t).2]; omega

theorem blk9 (j : Fin 128) : iblk m c 9 t (ix2 0 j) = wideB (F := Ideal) (m ((c : Thread nD τ).loc main_arg4)) (ix2 0 j) := by
  unfold iblk
  rw [View.read_apply]
  show V m c main_v9 _ = _
  rw [V_b]
  refine congrArg _ (Cert.MlpMath.ix2_of _ _ _ ?_ ?_)
  · show win0_9.index t 0 * 1 + 1 * 0 = 0; rw [(at9 t).1]
  · show win0_9.index t 1 * 128 + 1 * j.val = j.val; rw [(at9 t).2]; omega

theorem blk10 (s : Fin 3) (p : Fin 256) (h e : Fin 2) (d : Fin 32) :
    tabV (iblk m c 10 t) s (ix2 p (lane3 h e d)) = cosAt (posR (rowAt (pt t) s p)) h d := by
  rw [tabV_apply, ← cosTab_apply _ h e d]
  unfold iblk
  rw [View.read_apply]
  show V m c main_v53 _ = _
  rw [V_cos]
  have ht := t_lt t
  refine congrArg _ (Cert.MlpMath.ix2_of _ _ _ ?_ ?_)
  · show win0_10.index t 0 * 768 + 1 * (256 * s.val + p.val) = (768 * t.val + (256 * s.val + p.val)) % 2304; rw [(at10 t).1]; omega
  · show win0_10.index t 1 * 128 + 1 * (lane3 h e d).val = (lane3 h e d).val; rw [(at10 t).2]; omega

theorem blk11 (s : Fin 3) (p : Fin 256) (h e : Fin 2) (d : Fin 32) :
    tabV (iblk m c 11 t) s (ix2 p (lane3 h e d)) = sinAt (posR (rowAt (pt t) s p)) h e d := by
  rw [tabV_apply, ← sinTab_apply]
  unfold iblk
  rw [View.read_apply]
  show V m c main_v55 _ = _
  rw [V_sin]
  have ht := t_lt t
  refine congrArg _ (Cert.MlpMath.ix2_of _ _ _ ?_ ?_)
  · show win0_11.index t 0 * 768 + 1 * (256 * s.val + p.val) = (768 * t.val + (256 * s.val + p.val)) % 2304; rw [(at11 t).1]; omega
  · show win0_11.index t 1 * 128 + 1 * (lane3 h e d).val = (lane3 h e d).val; rw [(at11 t).2]; omega

/-- The joined rows of the arguments. -/
abbrev rowsOf : S36864x1024.Idx → EReal := joined (m ((c : Thread nD τ).loc main_arg0)) (m ((c : Thread nD τ).loc main_arg1))

/-- A group's normalized rows. -/
theorem hAt_apply (s : Fin 3) (p : Fin 256) (k : Fin 1024) :
    hF (grid0.coords t) (iblk m c 0 t) (iblk m c 1 t) (iblk m c 2 t) (iblk m c 3 t) (iblk m c 4 t) (iblk m c 5 t) (iblk m c 6 t) (iblk m c 7 t)
      s (ix2 p k) = Cert.ProjMath.hrow 0 (rowsOf m c) (m ((c : Thread nD τ).loc main_arg2)) (rowAt (pt t) s p) k :=
  hF_of (t := pt t) (isCtx_at t) (blk0 m c t) (blk1 m c t) (blk2 m c t) (blk3 m c t) (blk4 m c t) (blk5 m c t) (blk6 m c t) (blk7 m c t) s p k

end

/-! ## The results -/

/-- The results as contents of their arrays. -/
def resultQ (c : Dev nD) : Buf (Elt Ideal) ((c : Thread nD τ).loc main_v56_0) := fun i : S36864x512.Idx =>
  qAt 0 (rowsOf m c) (m ((c : Thread nD τ).loc main_arg2)) (m ((c : Thread nD τ).loc main_arg3)) (i 0) (i 1)
def resultK (c : Dev nD) : Buf (Elt Ideal) ((c : Thread nD τ).loc main_v56_1) := fun i : S512x36864.Idx =>
  kAt 0 (rowsOf m c) (m ((c : Thread nD τ).loc main_arg2)) (m ((c : Thread nD τ).loc main_arg3)) (i 1) (i 0)
def resultV (c : Dev nD) : Buf (Elt Ideal) ((c : Thread nD τ).loc main_v56_2) := fun i : S36864x512.Idx =>
  vAt 0 (rowsOf m c) (m ((c : Thread nD τ).loc main_arg2)) (m ((c : Thread nD τ).loc main_arg3)) (i 0) (i 1)
def resultO (c : Dev nD) : Buf (Elt Ideal) ((c : Thread nD τ).loc main_v56_3) := fun i : S36864x512.Idx =>
  oAt 0 (rowsOf m c) (m ((c : Thread nD τ).loc main_arg2)) (m ((c : Thread nD τ).loc main_arg3)) (i 0) (i 1)
def resultG (c : Dev nD) : Buf (Elt Ideal) ((c : Thread nD τ).loc main_v56_4) := fun i : S128x36864.Idx =>
  gAt 0 (rowsOf m c) (m ((c : Thread nD τ).loc main_arg2)) (m ((c : Thread nD τ).loc main_arg3)) (m ((c : Thread nD τ).loc main_arg4)) (i 1) (i 0)
def resultHy (c : Dev nD) : Buf (Elt Ideal) ((c : Thread nD τ).loc main_v56_5) := fun i : S36864x1536.Idx =>
  hyAt 0 (rowsOf m c) (m ((c : Thread nD τ).loc main_arg2)) (m ((c : Thread nD τ).loc main_arg3)) (i 0) (i 1)
def resultX (c : Dev nD) : Buf (Elt Ideal) ((c : Thread nD τ).loc main_v56_6) := rowsOf m c

/-- A block of rows which holds the rows of an array is what the array has in the block's place. -/
theorem rows_flush {K : ℕ} (t : Fin 48) (v : (⟨2, ![768, K]⟩ : Shape).Idx → EReal) (R : (⟨2, ![36864, K]⟩ : Shape).Idx → EReal)
    (hv : ∀ p q, v (ix2 p q) = R (ix2 (rowB t p) q)) (j : (⟨2, ![768, K]⟩ : Shape).Idx) (i : (⟨2, ![36864, K]⟩ : Shape).Idx) (n : Fin 2 → ℕ)
    (hn : n 0 = t.val ∧ n 1 = 0) (h : ∀ a, (i a).val = n a * (![768, K] : Fin 2 → ℕ) a + 1 * (j a).val) : v j = R i :=
  ((congrArg v (eq_at j)).trans (hv _ _)).trans (congrArg R (row_of t i j n hn h))

/-- The same of a block of columns. -/
theorem cols_flush {K : ℕ} (t : Fin 48) (v : (⟨2, ![K, 768]⟩ : Shape).Idx → EReal) (R : (⟨2, ![K, 36864]⟩ : Shape).Idx → EReal)
    (hv : ∀ q p, v (ix2 q p) = R (ix2 q (rowB t p))) (j : (⟨2, ![K, 768]⟩ : Shape).Idx) (i : (⟨2, ![K, 36864]⟩ : Shape).Idx) (n : Fin 2 → ℕ)
    (hn : n 0 = 0 ∧ n 1 = t.val) (h : ∀ a, (i a).val = n a * (![K, 768] : Fin 2 → ℕ) a + 1 * (j a).val) : v j = R i :=
  ((congrArg v (eq_at j)).trans (hv _ _)).trans (congrArg R (col_of t i j n hn h))

/-! ## The arrays at the end -/

section
variable (c : Dev nD) (t : Fin cfg0.N)

theorem flushed12 : (dats m 0 c).flushed 12 t = ((cfg0.win 12).blk t).view.read (Elt Ideal) (resultQ m c) := by
  rw [Value.flushed12, out12_eq]
  funext j
  rw [View.read_apply]
  exact rows_flush (pt t) _ (resultQ m c) (fun _ _ => canonQ (t := pt t) (hAt_apply m c t) (blk8 m c t) (blk10 m c t) (blk11 m c t) _ _) j _ _ (at12 t)
    fun a => match a with | ⟨0, _⟩ => rfl | ⟨1, _⟩ => rfl

theorem flushed13 : (dats m 0 c).flushed 13 t = ((cfg0.win 13).blk t).view.read (Elt Ideal) (resultK m c) := by
  rw [Value.flushed13, out13_eq]
  funext j
  rw [View.read_apply]
  exact cols_flush (pt t) _ (resultK m c) (fun _ _ => canonK (t := pt t) (hAt_apply m c t) (blk8 m c t) (blk10 m c t) (blk11 m c t) _ _) j _ _ (at13 t)
    fun a => match a with | ⟨0, _⟩ => rfl | ⟨1, _⟩ => rfl

theorem flushed14 : (dats m 0 c).flushed 14 t = ((cfg0.win 14).blk t).view.read (Elt Ideal) (resultV m c) := by
  rw [Value.flushed14, out14_eq]
  funext j
  rw [View.read_apply]
  exact rows_flush (pt t) _ (resultV m c) (fun _ _ => canonV (t := pt t) (hAt_apply m c t) (blk8 m c t) _ _) j _ _ (at14 t)
    fun a => match a with | ⟨0, _⟩ => rfl | ⟨1, _⟩ => rfl

theorem flushed15 : (dats m 0 c).flushed 15 t = ((cfg0.win 15).blk t).view.read (Elt Ideal) (resultO m c) := by
  rw [Value.flushed15, out15_eq]
  funext j
  rw [View.read_apply]
  exact rows_flush (pt t) _ (resultO m c) (fun _ _ => canonO (t := pt t) (hAt_apply m c t) (blk8 m c t) _ _) j _ _ (at15 t)
    fun a => match a with | ⟨0, _⟩ => rfl | ⟨1, _⟩ => rfl

theorem flushed16 : (dats m 0 c).flushed 16 t = ((cfg0.win 16).blk t).view.read (Elt Ideal) (resultG m c) := by
  rw [Value.flushed16, out16_eq]
  funext j
  rw [View.read_apply]
  exact cols_flush (pt t) _ (resultG m c) (fun _ _ => canonG (t := pt t) (hAt_apply m c t) (blk8 m c t) (blk9 m c t) _ _) j _ _ (at16 t)
    fun a => match a with | ⟨0, _⟩ => rfl | ⟨1, _⟩ => rfl

theorem flushed17 : (dats m 0 c).flushed 17 t = ((cfg0.win 17).blk t).view.read (Elt Ideal) (resultHy m c) := by
  rw [Value.flushed17, out17_eq]
  funext j
  rw [View.read_apply]
  exact rows_flush (pt t) _ (resultHy m c) (fun _ _ => canonHy (t := pt t) (hAt_apply m c t) (blk8 m c t) _ _) j _ _ (at17 t)
    fun a => match a with | ⟨0, _⟩ => rfl | ⟨1, _⟩ => rfl

theorem flushed18 : (dats m 0 c).flushed 18 t = ((cfg0.win 18).blk t).view.read (Elt Ideal) (resultX m c) := by
  rw [Value.flushed18, out18_eq]
  funext j
  rw [View.read_apply]
  exact rows_flush (pt t) _ (resultX m c) (fun _ _ => canonX (t := pt t) (isCtx_at t) (blk0 m c t) (blk1 m c t) (blk2 m c t) (blk3 m c t) _ _) j _ _ (at18 t)
    fun a => match a with | ⟨0, _⟩ => rfl | ⟨1, _⟩ => rfl

end

theorem cover12 (i : S36864x512.Idx) : ∃ t : Fin cfg0.N, (cfg0.win 12).flush t = true ∧ i ∈ ((cfg0.win 12).blk t).view.set := by
  obtain ⟨t, ht⟩ := rows_of i
  refine ⟨tp t, flush0_12 _, ?_⟩
  show i ∈ ((View.whole main_v56_0).slice (win0_12.rect (tp t))).set
  rw [View.set_slice_whole, Rect.mem_set_unit]
  exact fun a => ht _ (at12 (tp t)) a

theorem cover13 (i : S512x36864.Idx) : ∃ t : Fin cfg0.N, (cfg0.win 13).flush t = true ∧ i ∈ ((cfg0.win 13).blk t).view.set := by
  obtain ⟨t, ht⟩ := cols_of i
  refine ⟨tp t, flush0_13 _, ?_⟩
  show i ∈ ((View.whole main_v56_1).slice (win0_13.rect (tp t))).set
  rw [View.set_slice_whole, Rect.mem_set_unit]
  exact fun a => ht _ (at13 (tp t)) a

theorem cover14 (i : S36864x512.Idx) : ∃ t : Fin cfg0.N, (cfg0.win 14).flush t = true ∧ i ∈ ((cfg0.win 14).blk t).view.set := by
  obtain ⟨t, ht⟩ := rows_of i
  refine ⟨tp t, flush0_14 _, ?_⟩
  show i ∈ ((View.whole main_v56_2).slice (win0_14.rect (tp t))).set
  rw [View.set_slice_whole, Rect.mem_set_unit]
  exact fun a => ht _ (at14 (tp t)) a

theorem cover15 (i : S36864x512.Idx) : ∃ t : Fin cfg0.N, (cfg0.win 15).flush t = true ∧ i ∈ ((cfg0.win 15).blk t).view.set := by
  obtain ⟨t, ht⟩ := rows_of i
  refine ⟨tp t, flush0_15 _, ?_⟩
  show i ∈ ((View.whole main_v56_3).slice (win0_15.rect (tp t))).set
  rw [View.set_slice_whole, Rect.mem_set_unit]
  exact fun a => ht _ (at15 (tp t)) a

theorem cover16 (i : S128x36864.Idx) : ∃ t : Fin cfg0.N, (cfg0.win 16).flush t = true ∧ i ∈ ((cfg0.win 16).blk t).view.set := by
  obtain ⟨t, ht⟩ := cols_of i
  refine ⟨tp t, flush0_16 _, ?_⟩
  show i ∈ ((View.whole main_v56_4).slice (win0_16.rect (tp t))).set
  rw [View.set_slice_whole, Rect.mem_set_unit]
  exact fun a => ht _ (at16 (tp t)) a

theorem cover17 (i : S36864x1536.Idx) : ∃ t : Fin cfg0.N, (cfg0.win 17).flush t = true ∧ i ∈ ((cfg0.win 17).blk t).view.set := by
  obtain ⟨t, ht⟩ := rows_of i
  refine ⟨tp t, flush0_17 _, ?_⟩
  show i ∈ ((View.whole main_v56_5).slice (win0_17.rect (tp t))).set
  rw [View.set_slice_whole, Rect.mem_set_unit]
  exact fun a => ht _ (at17 (tp t)) a

theorem cover18 (i : S36864x1024.Idx) : ∃ t : Fin cfg0.N, (cfg0.win 18).flush t = true ∧ i ∈ ((cfg0.win 18).blk t).view.set := by
  obtain ⟨t, ht⟩ := rows_of i
  refine ⟨tp t, flush0_18 _, ?_⟩
  show i ∈ ((View.whole main_v56_6).slice (win0_18.rect (tp t))).set
  rw [View.set_slice_whole, Rect.mem_set_unit]
  exact fun a => ht _ (at18 (tp t)) a

/-- The arrays the program ends with. -/
theorem final12 (c : Dev nD) : (dats m 0 c).arrAt 12 cfg0.N = resultQ m c :=
  (dats m 0 c).arrAt_eq_of_cover 12 (resultQ m c) (fun t _ => flushed12 m c t) cover12
theorem final13 (c : Dev nD) : (dats m 0 c).arrAt 13 cfg0.N = resultK m c :=
  (dats m 0 c).arrAt_eq_of_cover 13 (resultK m c) (fun t _ => flushed13 m c t) cover13
theorem final14 (c : Dev nD) : (dats m 0 c).arrAt 14 cfg0.N = resultV m c :=
  (dats m 0 c).arrAt_eq_of_cover 14 (resultV m c) (fun t _ => flushed14 m c t) cover14
theorem final15 (c : Dev nD) : (dats m 0 c).arrAt 15 cfg0.N = resultO m c :=
  (dats m 0 c).arrAt_eq_of_cover 15 (resultO m c) (fun t _ => flushed15 m c t) cover15
theorem final16 (c : Dev nD) : (dats m 0 c).arrAt 16 cfg0.N = resultG m c :=
  (dats m 0 c).arrAt_eq_of_cover 16 (resultG m c) (fun t _ => flushed16 m c t) cover16
theorem final17 (c : Dev nD) : (dats m 0 c).arrAt 17 cfg0.N = resultHy m c :=
  (dats m 0 c).arrAt_eq_of_cover 17 (resultHy m c) (fun t _ => flushed17 m c t) cover17
theorem final18 (c : Dev nD) : (dats m 0 c).arrAt 18 cfg0.N = resultX m c :=
  (dats m 0 c).arrAt_eq_of_cover 18 (resultX m c) (fun t _ => flushed18 m c t) cover18

end Cert.FirstIdeal.Hand

end
-- ==== Proof.First.Claim.lean ====
/-
  The first layer's first projection and its reference compute the same seven arrays.
-/
module

public import proofs.«01_k».proof.Defs
public import proofs.«01_k».proof.Proof.Gen.FirstRefIdeal.Run
public import proofs.«01_k».proof.Proof.EvenIn.Claim
public import proofs.«01_k».proof.Proof.First.Ref
public import proofs.«01_k».proof.Proof.First.Final
public import Idealize.ShloMosaic.Lib.Claim

@[expose] public section

noncomputable section

namespace Cert.FirstIdeal.Hand

open Idealize.ShloMosaic Idealize.ShloMosaic.TcCoe Idealize.SL.Sem Cert.FirstRefIdeal.Hand Cert.FirstRefIdeal.Read
open Cert.EvenInIdeal.Hand (q_eq k_eq v_eq o_eq g_eq hy_eq)

theorem algebraic : Cert.algebraic_FirstIdeal_FirstRefIdeal := by
  intro m ρ m' ρ' _ hagree
  refine ⟨fun c => resultQ m c, fun c => resultK m c, fun c => resultV m c, fun c => resultO m c, fun c => resultG m c, fun c => resultHy m c,
    fun c => resultX m c, ?_, ?_⟩
  · exact (θ_run Cert.FirstIdeal.defs _ _).mono (fun _ h c => ⟨(h c).1.trans (final12 m c), (h c).2.1.trans (final13 m c),
      (h c).2.2.1.trans (final14 m c), (h c).2.2.2.1.trans (final15 m c), (h c).2.2.2.2.1.trans (final16 m c),
      (h c).2.2.2.2.2.1.trans (final17 m c), (h c).2.2.2.2.2.2.1.trans (final18 m c), (h c).2.2.2.2.2.2.2⟩)
      (Cert.FirstIdeal.Value.run_blocks (F := Ideal) m ρ)
  · refine (θ_run Cert.FirstRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_, (h c).2.2.2.2.2.2.2⟩)
      (Cert.FirstRefIdeal.Value.run (F := Ideal) m' ρ')
    · obtain ⟨h0, h1, h2, h3, h4⟩ := hagree c
      rw [val_main_v121_eq]
      show val_main_v121 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1))
        (m' ((c : Thread Cert.FirstRefIdeal.nD Cert.FirstRefIdeal.τ).loc Cert.FirstRefIdeal.main_arg2))
        (m' ((c : Thread Cert.FirstRefIdeal.nD Cert.FirstRefIdeal.τ).loc Cert.FirstRefIdeal.main_arg3)) = _
      rw [h0, h1, h2, h3, v121_eq]
      exact q_eq (v29_at _ _ _ _)
    · obtain ⟨h0, h1, h2, h3, h4⟩ := hagree c
      rw [val_main_v197_eq]
      show val_main_v197 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1))
        (m' ((c : Thread Cert.FirstRefIdeal.nD Cert.FirstRefIdeal.τ).loc Cert.FirstRefIdeal.main_arg2))
        (m' ((c : Thread Cert.FirstRefIdeal.nD Cert.FirstRefIdeal.τ).loc Cert.FirstRefIdeal.main_arg3)) = _
      rw [h0, h1, h2, h3, v197_eq]
      exact k_eq (v29_at _ _ _ _)
    · obtain ⟨h0, h1, h2, h3, h4⟩ := hagree c
      rw [val_main_v199_eq]
      show val_main_v199 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1))
        (m' ((c : Thread Cert.FirstRefIdeal.nD Cert.FirstRefIdeal.τ).loc Cert.FirstRefIdeal.main_arg2))
        (m' ((c : Thread Cert.FirstRefIdeal.nD Cert.FirstRefIdeal.τ).loc Cert.FirstRefIdeal.main_arg3)) = _
      rw [h0, h1, h2, h3, v199_eq]
      exact v_eq (v29_at _ _ _ _)
    · obtain ⟨h0, h1, h2, h3, h4⟩ := hagree c
      rw [val_main_v207_eq]
      show val_main_v207 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1))
        (m' ((c : Thread Cert.FirstRefIdeal.nD Cert.FirstRefIdeal.τ).loc Cert.FirstRefIdeal.main_arg2))
        (m' ((c : Thread Cert.FirstRefIdeal.nD Cert.FirstRefIdeal.τ).loc Cert.FirstRefIdeal.main_arg3)) = _
      rw [h0, h1, h2, h3, v207_eq]
      exact o_eq (v29_at _ _ _ _)
    · obtain ⟨h0, h1, h2, h3, h4⟩ := hagree c
      rw [val_main_v208_eq]
      show val_main_v208 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1))
        (m' ((c : Thread Cert.FirstRefIdeal.nD Cert.FirstRefIdeal.τ).loc Cert.FirstRefIdeal.main_arg2))
        (m' ((c : Thread Cert.FirstRefIdeal.nD Cert.FirstRefIdeal.τ).loc Cert.FirstRefIdeal.main_arg3))
        (m' ((c : Thread Cert.FirstRefIdeal.nD Cert.FirstRefIdeal.τ).loc Cert.FirstRefIdeal.main_arg4)) = _
      rw [h0, h1, h2, h3, h4, v208_eq]
      exact g_eq (v29_at _ _ _ _) _
    · obtain ⟨h0, h1, h2, h3, h4⟩ := hagree c
      rw [val_main_v209_eq]
      show val_main_v209 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1))
        (m' ((c : Thread Cert.FirstRefIdeal.nD Cert.FirstRefIdeal.τ).loc Cert.FirstRefIdeal.main_arg2))
        (m' ((c : Thread Cert.FirstRefIdeal.nD Cert.FirstRefIdeal.τ).loc Cert.FirstRefIdeal.main_arg3)) = _
      rw [h0, h1, h2, h3, v209_eq]
      exact hy_eq (v29_at _ _ _ _)
    · obtain ⟨h0, h1, h2, h3, h4⟩ := hagree c
      rw [val_main_v210_eq]
      show val_main_v210 (F := Ideal) (m' ((c : Thread Cert.FirstRefIdeal.nD Cert.FirstRefIdeal.τ).loc Cert.FirstRefIdeal.main_arg0))
        (m' ((c : Thread Cert.FirstRefIdeal.nD Cert.FirstRefIdeal.τ).loc Cert.FirstRefIdeal.main_arg1)) = _
      rw [h0, h1]
      exact x_eq _ _

end Cert.FirstIdeal.Hand

end
-- ==== Proof.Odd.Block.lean ====
/-
  What one grid point of an odd layer's mixing and feed-forward kernel leaves in its block of 768 rows: three groups of 256
  rows, each the same function of its operands (`rows1V`), and that function read at a row and a column.
-/
module

public import proofs.«01_k».proof.Proof.Gen.OddIdeal.Frame
public import proofs.«01_k».proof.Proof.Mlp.Block

@[expose] public section

set_option maxRecDepth 16384

noncomputable section

namespace Cert.MlpMath

open Idealize.ShloMosaic

/-- The whole result of an odd layer `l`, index by index. -/
def whole1 (l : Fin 4) (x0 : (⟨2, ![36864, 1024]⟩ : Shape).Idx → EReal) (x1 : (⟨5, ![4, 24, 6, 1, 1024]⟩ : Shape).Idx → EReal)
    (x2 : (⟨2, ![36864, 1024]⟩ : Shape).Idx → EReal) (x3 : (⟨2, ![1024, 1024]⟩ : Shape).Idx → EReal)
    (x4 : (⟨2, ![1024, 4096]⟩ : Shape).Idx → EReal) (x5 : (⟨2, ![4096, 1024]⟩ : Shape).Idx → EReal)
    (r : Fin 36864) (q : Fin 1024) : EReal :=
  row1 (fun k => x0 (ix2 r k)) (fun k => x2 (ix2 r k)) (fun k j => x3 (ix2 k j))
    (fun k => x1 (ix5 l (modOf r) 2 0 k)) (fun k => x1 (ix5 l (modOf r) 3 0 k)) (fun k => x1 (ix5 l (modOf r) 4 0 k))
    (fun k => x1 (ix5 l (modOf r) 5 0 k)) (fun k n => x4 (ix2 k n)) (fun n k => x5 (ix2 n k)) q

end Cert.MlpMath

namespace Cert.MlpIdeal.Hand

open Cert.MlpIdeal Cert.MlpIdeal.Gen Idealize.ShloMosaic Idealize.ShloMosaic.TcCoe

section
variable {F : FTy → Type} [FloatOps F]

/-- The rows after an odd layer's gated output projection. -/
def mix1V (x : Vec F S256x1024 .f32) (a : Vec F S256x1024 .bf16) (wo : Vec F S1024x1024 .bf16) (g1 : FVec F S1x1024 .f32) : FVec F S256x1024 .f32 :=
  addf x (mulf (broadcastTo S256x1024 g1 broadcasts_S1x1024_S256x1024)
    (matmul dot_S256x1024_S1024x1024_S256x1024_1_0_0_1_n_n none a
      (shapeCast S1024x1024 wo shapeCasts_S1024x1024_S1024x1024) (constant S256x1024 .f32 0x00000000#32)))

/-- A group of 256 rows of an odd layer's result. -/
def rows1V (x : Vec F S256x1024 .f32) (a : Vec F S256x1024 .bf16) (wo : Vec F S1024x1024 .bf16)
    (g1 sh sc g2 : FVec F S1x1024 .f32) (w1 : Vec F S1024x4096 .bf16) (w2 : Vec F S4096x1024 .bf16) : FVec F S256x1024 .f32 :=
  restV (mix1V x a wo g1) sh sc g2 w1 w2

end

theorem mix1V_apply (x : Vec Ideal S256x1024 .f32) (a : Vec Ideal S256x1024 .bf16) (wo : Vec Ideal S1024x1024 .bf16)
    (g1 : FVec Ideal S1x1024 .f32) (p : Fin 256) (q : Fin 1024) :
    mix1V x a wo g1 (ix2 p q) = Cert.MlpMath.mixed1 (fun k => x (ix2 p k)) (fun k => a (ix2 p k)) (fun k j => wo (ix2 k j))
      (fun k => g1 (ix2 0 k)) q := by
  pointwise [mix1V, Cert.MlpMath.mixed1]

theorem rows1V_apply (x : Vec Ideal S256x1024 .f32) (a : Vec Ideal S256x1024 .bf16) (wo : Vec Ideal S1024x1024 .bf16)
    (g1 sh sc g2 : FVec Ideal S1x1024 .f32) (w1 : Vec Ideal S1024x4096 .bf16) (w2 : Vec Ideal S4096x1024 .bf16) (p : Fin 256) (q : Fin 1024) :
    rows1V x a wo g1 sh sc g2 w1 w2 (ix2 p q) = Cert.MlpMath.row1 (fun k => x (ix2 p k)) (fun k => a (ix2 p k))
      (fun k j => wo (ix2 k j)) (fun k => g1 (ix2 0 k)) (fun k => sh (ix2 0 k)) (fun k => sc (ix2 0 k)) (fun k => g2 (ix2 0 k))
      (fun k n => w1 (ix2 k n)) (fun n k => w2 (ix2 n k)) q := by
  unfold rows1V Cert.MlpMath.row1
  rw [restV_apply, funext (mix1V_apply x a wo g1 p)]

/-- A group of rows whose operands are those of row `R` is row `R` of the whole. -/
theorem group1_apply (l : Fin 4) (x0 : (⟨2, ![36864, 1024]⟩ : Shape).Idx → EReal) (x1 : (⟨5, ![4, 24, 6, 1, 1024]⟩ : Shape).Idx → EReal)
    (x2 : (⟨2, ![36864, 1024]⟩ : Shape).Idx → EReal) (x3 : (⟨2, ![1024, 1024]⟩ : Shape).Idx → EReal)
    (x4 : (⟨2, ![1024, 4096]⟩ : Shape).Idx → EReal) (x5 : (⟨2, ![4096, 1024]⟩ : Shape).Idx → EReal) (R : Fin 36864)
    (x : Vec Ideal S256x1024 .f32) (a : Vec Ideal S256x1024 .bf16) (wo : Vec Ideal S1024x1024 .bf16)
    (g1 sh sc g2 : FVec Ideal S1x1024 .f32) (w1 : Vec Ideal S1024x4096 .bf16) (w2 : Vec Ideal S4096x1024 .bf16) (p : Fin 256) (q : Fin 1024)
    (hx : ∀ k, x (ix2 p k) = x0 (ix2 R k)) (ha : ∀ k, a (ix2 p k) = x2 (ix2 R k)) (hwo : ∀ k j, wo (ix2 k j) = x3 (ix2 k j))
    (hw1 : ∀ k j, w1 (ix2 k j) = x4 (ix2 k j)) (hw2 : ∀ k j, w2 (ix2 k j) = x5 (ix2 k j))
    (h1 : ∀ k, g1 (ix2 0 k) = x1 (ix5 l (Cert.MlpMath.modOf R) 2 0 k)) (h2 : ∀ k, sh (ix2 0 k) = x1 (ix5 l (Cert.MlpMath.modOf R) 3 0 k))
    (h3 : ∀ k, sc (ix2 0 k) = x1 (ix5 l (Cert.MlpMath.modOf R) 4 0 k)) (h4 : ∀ k, g2 (ix2 0 k) = x1 (ix5 l (Cert.MlpMath.modOf R) 5 0 k)) :
    rows1V x a wo g1 sh sc g2 w1 w2 (ix2 p q) = Cert.MlpMath.whole1 l x0 x1 x2 x3 x4 x5 R q := by
  rw [rows1V_apply]
  unfold Cert.MlpMath.whole1
  rw [funext hx, funext ha, funext fun k => funext (hwo k), funext fun k => funext (hw1 k), funext fun k => funext (hw2 k),
    funext h1, funext h2, funext h3, funext h4]

end Cert.MlpIdeal.Hand

namespace Cert.OddIdeal.Hand

open Cert.OddIdeal Cert.OddIdeal.Gen Cert.MlpIdeal.Hand Idealize.ShloMosaic Idealize.ShloMosaic.TcCoe

variable {F : FTy → Type} [FloatOps F]

/-- The block is its three groups of rows. -/
theorem out_eq (i : grid0.Coords) (x0 : Vec F S768x1024 .f32) (x1 x2 x3 x4 x5 x6 x7 x8 : Vec F S1x1x1x1x1024 .f32)
    (x9 : Vec F S768x1024 .bf16) (x10 : Vec F S1024x1024 .bf16) (x11 : Vec F S1024x4096 .bf16) (x12 : Vec F S4096x1024 .bf16) :
    out0_13 i x0 x1 x2 x3 x4 x5 x6 x7 x8 x9 x10 x11 x12 = View.canon (Val := Elt F) (s := S768x1024) (e := .f32)
      [⟨r0_12, rows1V (View.ld x0 r0_12) (View.ld x9 r0_12) (View.ld x10 r0_1)
          (modV (View.ld x2 r0_2)) (modV (View.ld x4 r0_2)) (modV (View.ld x6 r0_2)) (modV (View.ld x8 r0_2)) x11 x12⟩,
       ⟨r0_11, rows1V (View.ld x0 r0_11) (View.ld x9 r0_11) (View.ld x10 r0_1)
          (modV (View.ld x2 r0_2)) (modV (View.ld x4 r0_2)) (modV (View.ld x6 r0_2)) (modV (View.ld x8 r0_2)) x11 x12⟩,
       ⟨r0_0, rows1V (View.ld x0 r0_0) (View.ld x9 r0_0) (View.ld x10 r0_1)
          (Scalar.select (isCtx i) (modV (View.ld x1 r0_2)) (modV (View.ld x2 r0_2)))
          (Scalar.select (isCtx i) (modV (View.ld x3 r0_2)) (modV (View.ld x4 r0_2)))
          (Scalar.select (isCtx i) (modV (View.ld x5 r0_2)) (modV (View.ld x6 r0_2)))
          (Scalar.select (isCtx i) (modV (View.ld x7 r0_2)) (modV (View.ld x8 r0_2))) x11 x12⟩] := rfl

end Cert.OddIdeal.Hand

end
-- ==== Proof.Last.Block.lean ====
/-
  What one grid point of the last layer's mixing and feed-forward kernel leaves in its block of 256 latent rows: the same
  function of its operands as a group of an odd layer's rows (`rows1V`).
-/
module

public import proofs.«01_k».proof.Proof.Gen.LastIdeal.Frame
public import proofs.«01_k».proof.Proof.Odd.Block
public import Idealize.ShloMosaic.Lib.WholeRead
public import Idealize.ShloMosaic.Lib.Pipeline.Value

@[expose] public section

set_option maxRecDepth 16384

noncomputable section

namespace Cert.LastIdeal.Hand

open Cert.LastIdeal Cert.LastIdeal.Gen Cert.MlpIdeal.Hand Idealize.ShloMosaic Idealize.ShloMosaic.TcCoe

variable {F : FTy → Type} [FloatOps F]

/-- The whole of a block of rows, of the output weights and of a vector of modulations. -/
abbrev rX : Rect S256x1024 := Rect.unit ![0, 0] S256x1024.size inb_S256x1024_S256x1024_0_0
abbrev rW : Rect S1024x1024 := Rect.unit ![0, 0] S1024x1024.size inb_S1024x1024_S1024x1024_0_0
abbrev rM : Rect S1x1x1x1x1024 := Rect.unit ![0, 0, 0, 0, 0] S1x1x1x1x1024.size inb_S1x1x1x1x1024_S1x1x1x1x1024_0_0_0_0_0

/-- Whether the point's rows are context rows: its number is a multiple of nine. -/
def isCtx9 (i : grid0.Coords) : BitVec 1 :=
  let n : BitVec 32 := Scalar.select (Scalar.cmpi .eq 9#32 0#32) 1#32 9#32
  let q : BitVec 32 := Scalar.remsi (BitVec.ofNat 32 (i 0).val) n
  Scalar.cmpi .eq (Scalar.select (Scalar.andi (Scalar.xori (Scalar.cmpi .slt q 0#32) (Scalar.cmpi .slt n 0#32))
    (Scalar.cmpi .ne q 0#32)) (Scalar.addi q n) q) 0#32

/-- The rows stored, from how the two weight buffers are read. -/
def stored (s : BitVec 1) (x : Vec F S256x1024 .f32) (v1 v2 v3 v4 v5 v6 v7 v8 : Vec F S1x1x1x1x1024 .f32) (a : Vec F S256x1024 .bf16)
    (wo : Vec F S1024x1024 .bf16) (ld1 : (r : Rect S1024x4096) → r.shape.Idx → Elt F .bf16) (ld2 : (r : Rect S4096x1024) → r.shape.Idx → Elt F .bf16) :
    FVec F S256x1024 .f32 :=
  let r := mix1V x a wo (Scalar.select s (modV v1) (modV v2))
  let h := normV r (Scalar.select s (modV v5) (modV v6)) (Scalar.select s (modV v3) (modV v4))
  addf r (mulf (broadcastTo S256x1024 (Scalar.select s (modV v7) (modV v8)) broadcasts_S1x1024_S256x1024)
    (addf (addf (addf (groupV h (ld1 Cert.MlpIdeal.Gen.r0_5) (ld2 Cert.MlpIdeal.Gen.r0_6))
      (groupV h (ld1 Cert.MlpIdeal.Gen.r0_7) (ld2 Cert.MlpIdeal.Gen.r0_8)))
      (groupV h (ld1 Cert.MlpIdeal.Gen.r0_9) (ld2 Cert.MlpIdeal.Gen.r0_10)))
      (groupV h (ld1 Cert.MlpIdeal.Gen.r0_11) (ld2 Cert.MlpIdeal.Gen.r0_12))))

theorem pieces_eq (c : Dev nD) (i : grid0.Coords) (arg1 : Memref sig .tc .vmem S256x1024 .f32) (harg1 : arg1.IsWhole) (arg2 : Memref sig .tc .vmem S1x1x1x1x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1x1x1x1024 .f32) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S256x1024 .bf16) (harg10 : arg10.IsWhole) (arg11 : Memref sig .tc .vmem S1024x1024 .bf16) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S256x1024 .f32) (harg14 : arg14.IsWhole) (hc0 : cond0_0 i)
    (x0 : Vec F S256x1024 .f32) (x1 x2 x3 x4 x5 x6 x7 x8 : Vec F S1x1x1x1x1024 .f32)
    (x9 : Vec F S256x1024 .bf16) (x10 : Vec F S1024x1024 .bf16) (x11 : Vec F S1024x4096 .bf16) (x12 : Vec F S4096x1024 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12).1
      = [⟨rX, stored (isCtx9 i) (View.readAt (Elt F) arg1.view rX.toLoadRect (harg1.unread x0)) (View.readAt (Elt F) arg2.view rM.toLoadRect (harg2.unread x1)) (View.readAt (Elt F) arg3.view rM.toLoadRect (harg3.unread x2)) (View.readAt (Elt F) arg4.view rM.toLoadRect (harg4.unread x3)) (View.readAt (Elt F) arg5.view rM.toLoadRect (harg5.unread x4)) (View.readAt (Elt F) arg6.view rM.toLoadRect (harg6.unread x5)) (View.readAt (Elt F) arg7.view rM.toLoadRect (harg7.unread x6)) (View.readAt (Elt F) arg8.view rM.toLoadRect (harg8.unread x7)) (View.readAt (Elt F) arg9.view rM.toLoadRect (harg9.unread x8)) (View.readAt (Elt F) arg10.view rX.toLoadRect (harg10.unread x9)) (View.readAt (Elt F) arg11.view rW.toLoadRect (harg11.unread x10))
          (fun r => View.readAt (Elt F) arg12.view r.toLoadRect (harg12.unread x11))
          (fun r => View.readAt (Elt F) arg13.view r.toLoadRect (harg13.unread x12))⟩] := by
  unfold kernelRun0_B
  rfl

theorem readAt_eq_ld {s : Shape} {e : EltTy} {m : Memref sig .tc .vmem s e} (h : m.IsWhole) (X : Vec F s e) (r : Rect s) :
    View.readAt (Elt F) m.view r.toLoadRect (h.unread X) = View.ld X r := by
  funext j
  rw [h.readAt_unread]

/-- What a grid point leaves, from its blocks. -/
def block (s : BitVec 1) (x0 : Vec F S256x1024 .f32) (x1 x2 x3 x4 x5 x6 x7 x8 : Vec F S1x1x1x1x1024 .f32)
    (x9 : Vec F S256x1024 .bf16) (x10 : Vec F S1024x1024 .bf16) (x11 : Vec F S1024x4096 .bf16) (x12 : Vec F S4096x1024 .bf16) : FVec F S256x1024 .f32 :=
  rows1V x0 x9 x10 (Scalar.select s (modV (View.ld x1 rM)) (modV (View.ld x2 rM))) (Scalar.select s (modV (View.ld x3 rM)) (modV (View.ld x4 rM)))
    (Scalar.select s (modV (View.ld x5 rM)) (modV (View.ld x6 rM))) (Scalar.select s (modV (View.ld x7 rM)) (modV (View.ld x8 rM))) x11 x12

theorem out_eq (c : Dev nD) (i : grid0.Coords) (arg1 : Memref sig .tc .vmem S256x1024 .f32) (harg1 : arg1.IsWhole) (arg2 : Memref sig .tc .vmem S1x1x1x1x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1x1x1x1x1024 .f32) (harg5 : arg5.IsWhole) (arg6 : Memref sig .tc .vmem S1x1x1x1x1024 .f32) (harg6 : arg6.IsWhole) (arg7 : Memref sig .tc .vmem S1x1x1x1x1024 .f32) (harg7 : arg7.IsWhole) (arg8 : Memref sig .tc .vmem S1x1x1x1x1024 .f32) (harg8 : arg8.IsWhole) (arg9 : Memref sig .tc .vmem S1x1x1x1x1024 .f32) (harg9 : arg9.IsWhole) (arg10 : Memref sig .tc .vmem S256x1024 .bf16) (harg10 : arg10.IsWhole) (arg11 : Memref sig .tc .vmem S1024x1024 .bf16) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S256x1024 .f32) (harg14 : arg14.IsWhole) (hc0 : cond0_0 i)
    (x0 : Vec F S256x1024 .f32) (x1 x2 x3 x4 x5 x6 x7 x8 : Vec F S1x1x1x1x1024 .f32)
    (x9 : Vec F S256x1024 .bf16) (x10 : Vec F S1024x1024 .bf16) (x11 : Vec F S1024x4096 .bf16) (x12 : Vec F S4096x1024 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 x12
      = block (isCtx9 i) x0 x1 x2 x3 x4 x5 x6 x7 x8 x9 x10 x11 x12 := by
  have z : (![0, 0] : Fin 2 → ℕ) = fun _ => 0 := by funext a; match a with | ⟨0, _⟩ => rfl | ⟨1, _⟩ => rfl
  unfold out0_B_13
  rw [View.read_writes_junk_eq_canon, pieces_eq]
  simp only [readAt_eq_ld]
  rw [View.canon_unit_zero z, View.ld_unit_zero (S := S256x1024) z, View.ld_unit_zero (S := S256x1024) z, View.ld_unit_zero (S := S1024x1024) z]
  rfl

end Cert.LastIdeal.Hand

end
-- ==== Proof.Last.Final.lean ====
/-
  The array the last layer's mixing and feed-forward kernel ends with: every one of its 32768 rows is the row formula of
  `Mlp/Rows.lean` of the latent row's operands. The context's rows are neither computed nor written.
-/
module

public import proofs.«01_k».proof.Proof.Gen.LastIdeal.Value
public import proofs.«01_k».proof.Proof.Last.Block

@[expose] public section

set_option maxRecDepth 16384

noncomputable section

namespace Cert.LastIdeal.Hand

open Cert.LastIdeal Cert.LastIdeal.Gen Cert.MlpIdeal.Hand Idealize.ShloMosaic Idealize.ShloMosaic.TcCoe Idealize.SL.Sem
open Idealize.ShloMosaic.Pipeline (Dat)

/-- The row, among all rows, of a row of the result: the latent rows stand behind each batch's 256 context rows. -/
def latRow (r : Fin 32768) : Fin 36864 := ⟨r.val / 2048 * 2304 + (256 + r.val % 2048), by omega⟩

variable (m : (ℓ : Loc nD τ sig) → Buf (Elt Ideal) ℓ) (ρ : Dev nD → PrngReg)

theorem t_lt (t : Fin cfg0.N) : t.val < 144 := Nat.lt_of_lt_of_eq t.isLt N_0

/-! ## The blocks a grid point reads -/

theorem at0 : ∀ t : Fin grid0.N, win0_0.index t 0 = t.val ∧ win0_0.index t 1 = 0 := by decide +kernel
theorem at9 : ∀ t : Fin grid0.N, win0_9.index t 0 = t.val ∧ win0_9.index t 1 = 0 := by decide +kernel
theorem at10 : ∀ t : Fin grid0.N, win0_10.index t 0 = 0 ∧ win0_10.index t 1 = 0 := by decide +kernel
theorem at11 : ∀ t : Fin grid0.N, win0_11.index t 0 = 0 ∧ win0_11.index t 1 = 0 := by decide +kernel
theorem at12 : ∀ t : Fin grid0.N, win0_12.index t 0 = 0 ∧ win0_12.index t 1 = 0 := by decide +kernel
theorem at13 : ∀ t : Fin grid0.N, ¬(t.val % 9 = 0) → win0_13.index t 0 = t.val - t.val / 9 - 1 ∧ win0_13.index t 1 = 0 := by decide +kernel
theorem at1 : ∀ t : Fin grid0.N, win0_1.index t 0 = 3 ∧ win0_1.index t 1 = 16 ∧ win0_1.index t 2 = 2 ∧ win0_1.index t 3 = 0 ∧ win0_1.index t 4 = 0 := by decide +kernel
theorem at2 : ∀ t : Fin grid0.N, win0_2.index t 0 = 3 ∧ win0_2.index t 1 = t.val / 9 ∧ win0_2.index t 2 = 2 ∧ win0_2.index t 3 = 0 ∧ win0_2.index t 4 = 0 := by decide +kernel
theorem at3 : ∀ t : Fin grid0.N, win0_3.index t 0 = 3 ∧ win0_3.index t 1 = 16 ∧ win0_3.index t 2 = 3 ∧ win0_3.index t 3 = 0 ∧ win0_3.index t 4 = 0 := by decide +kernel
theorem at4 : ∀ t : Fin grid0.N, win0_4.index t 0 = 3 ∧ win0_4.index t 1 = t.val / 9 ∧ win0_4.index t 2 = 3 ∧ win0_4.index t 3 = 0 ∧ win0_4.index t 4 = 0 := by decide +kernel
theorem at5 : ∀ t : Fin grid0.N, win0_5.index t 0 = 3 ∧ win0_5.index t 1 = 16 ∧ win0_5.index t 2 = 4 ∧ win0_5.index t 3 = 0 ∧ win0_5.index t 4 = 0 := by decide +kernel
theorem at6 : ∀ t : Fin grid0.N, win0_6.index t 0 = 3 ∧ win0_6.index t 1 = t.val / 9 ∧ win0_6.index t 2 = 4 ∧ win0_6.index t 3 = 0 ∧ win0_6.index t 4 = 0 := by decide +kernel
theorem at7 : ∀ t : Fin grid0.N, win0_7.index t 0 = 3 ∧ win0_7.index t 1 = 16 ∧ win0_7.index t 2 = 5 ∧ win0_7.index t 3 = 0 ∧ win0_7.index t 4 = 0 := by decide +kernel
theorem at8 : ∀ t : Fin grid0.N, win0_8.index t 0 = 3 ∧ win0_8.index t 1 = t.val / 9 ∧ win0_8.index t 2 = 5 ∧ win0_8.index t 3 = 0 ∧ win0_8.index t 4 = 0 := by decide +kernel

/-- A grid point's rows are not context rows unless its number is a multiple of nine. -/
theorem isCtx_at : ∀ t : Fin grid0.N, ¬(t.val % 9 = 0) → isCtx9 (grid0.coords t) = 0#1 := by decide +kernel

/-- A grid point writes its block back unless its rows are context rows. -/
theorem flush_at : ∀ t : Fin grid0.N, win0_13.flush t = true ↔ ¬(t.val % 9 = 0) := by decide +kernel

theorem blk0 (c : Dev nD) (t : Fin cfg0.N) (p : Fin 256) (k : Fin 1024) :
    iblk m c 0 t (ix2 p k) = m ((c : Thread nD τ).loc main_arg0) (ix2 ⟨256 * t.val + p.val, by have := t_lt t; omega⟩ k) := by
  unfold iblk
  rw [View.read_apply]
  show V m c main_arg0 _ = _
  rw [V_main_arg0]
  refine congrArg _ (Cert.MlpMath.ix2_of _ _ _ ?_ ?_)
  · show win0_0.index t 0 * 256 + 1 * p.val = 256 * t.val + p.val; rw [(at0 t).1]; omega
  · show win0_0.index t 1 * 1024 + 1 * k.val = k.val; rw [(at0 t).2]; omega

theorem blk9 (c : Dev nD) (t : Fin cfg0.N) (p : Fin 256) (k : Fin 1024) :
    iblk m c 9 t (ix2 p k) = m ((c : Thread nD τ).loc main_arg2) (ix2 ⟨256 * t.val + p.val, by have := t_lt t; omega⟩ k) := by
  unfold iblk
  rw [View.read_apply]
  show V m c main_arg2 _ = _
  rw [V_main_arg2]
  refine congrArg _ (Cert.MlpMath.ix2_of _ _ _ ?_ ?_)
  · show win0_9.index t 0 * 256 + 1 * p.val = 256 * t.val + p.val; rw [(at9 t).1]; omega
  · show win0_9.index t 1 * 1024 + 1 * k.val = k.val; rw [(at9 t).2]; omega

theorem blk10 (c : Dev nD) (t : Fin cfg0.N) (p : Fin 1024) (k : Fin 1024) :
    iblk m c 10 t (ix2 p k) = m ((c : Thread nD τ).loc main_arg3) (ix2 p k) := by
  unfold iblk
  rw [View.read_apply]
  show m ((c : Thread nD τ).loc main_arg3) _ = _
  refine congrArg _ (Cert.MlpMath.ix2_of _ _ _ ?_ ?_)
  · show win0_10.index t 0 * 1024 + 1 * p.val = p.val; rw [(at10 t).1]; omega
  · show win0_10.index t 1 * 1024 + 1 * k.val = k.val; rw [(at10 t).2]; omega

theorem blk11 (c : Dev nD) (t : Fin cfg0.N) (p : Fin 1024) (k : Fin 4096) :
    iblk m c 11 t (ix2 p k) = m ((c : Thread nD τ).loc main_arg4) (ix2 p k) := by
  unfold iblk
  rw [View.read_apply]
  show m ((c : Thread nD τ).loc main_arg4) _ = _
  refine congrArg _ (Cert.MlpMath.ix2_of _ _ _ ?_ ?_)
  · show win0_11.index t 0 * 1024 + 1 * p.val = p.val; rw [(at11 t).1]; omega
  · show win0_11.index t 1 * 4096 + 1 * k.val = k.val; rw [(at11 t).2]; omega

theorem blk12 (c : Dev nD) (t : Fin cfg0.N) (p : Fin 4096) (k : Fin 1024) :
    iblk m c 12 t (ix2 p k) = m ((c : Thread nD τ).loc main_arg5) (ix2 p k) := by
  unfold iblk
  rw [View.read_apply]
  show m ((c : Thread nD τ).loc main_arg5) _ = _
  refine congrArg _ (Cert.MlpMath.ix2_of _ _ _ ?_ ?_)
  · show win0_12.index t 0 * 4096 + 1 * p.val = p.val; rw [(at12 t).1]; omega
  · show win0_12.index t 1 * 1024 + 1 * k.val = k.val; rw [(at12 t).2]; omega

/-- The modulations at an index which stands in a block of one vector. -/
theorem mod_at (c : Dev nD) (e : S4x24x6x1x1024.Idx) (i : Fin 5 → ℕ) (b : Fin 24) (w : Fin 6) (k : Fin 1024)
    (he : ∀ a, (e a).val = i a * (![1, 1, 1, 1, 1024] : Fin 5 → ℕ) a + 1 * ((ix5 0 0 0 0 k : S1x1x1x1x1024.Idx) a).val)
    (hi : i 0 = 3 ∧ i 1 = b.val ∧ i 2 = w.val ∧ i 3 = 0 ∧ i 4 = 0) :
    V m c main_arg1 e = m ((c : Thread nD τ).loc main_arg1) (ix5 3 b w 0 k) := by
  rw [V_main_arg1, Cert.MlpMath.ix5_of e i 3 b w k he hi]

theorem blk1 (c : Dev nD) (t : Fin cfg0.N) (k : Fin 1024) :
    iblk m c 1 t (ix5 0 0 0 0 k) = m ((c : Thread nD τ).loc main_arg1) (ix5 3 16 2 0 k) :=
  mod_at m c _ _ _ _ _ (fun _ => rfl) (at1 t)

theorem blk2 (c : Dev nD) (t : Fin cfg0.N) (k : Fin 1024) :
    iblk m c 2 t (ix5 0 0 0 0 k) = m ((c : Thread nD τ).loc main_arg1) (ix5 3 ⟨t.val / 9, by have := t_lt t; omega⟩ 2 0 k) :=
  mod_at m c _ _ _ _ _ (fun _ => rfl) (at2 t)

theorem blk3 (c : Dev nD) (t : Fin cfg0.N) (k : Fin 1024) :
    iblk m c 3 t (ix5 0 0 0 0 k) = m ((c : Thread nD τ).loc main_arg1) (ix5 3 16 3 0 k) :=
  mod_at m c _ _ _ _ _ (fun _ => rfl) (at3 t)

theorem blk4 (c : Dev nD) (t : Fin cfg0.N) (k : Fin 1024) :
    iblk m c 4 t (ix5 0 0 0 0 k) = m ((c : Thread nD τ).loc main_arg1) (ix5 3 ⟨t.val / 9, by have := t_lt t; omega⟩ 3 0 k) :=
  mod_at m c _ _ _ _ _ (fun _ => rfl) (at4 t)

theorem blk5 (c : Dev nD) (t : Fin cfg0.N) (k : Fin 1024) :
    iblk m c 5 t (ix5 0 0 0 0 k) = m ((c : Thread nD τ).loc main_arg1) (ix5 3 16 4 0 k) :=
  mod_at m c _ _ _ _ _ (fun _ => rfl) (at5 t)

theorem blk6 (c : Dev nD) (t : Fin cfg0.N) (k : Fin 1024) :
    iblk m c 6 t (ix5 0 0 0 0 k) = m ((c : Thread nD τ).loc main_arg1) (ix5 3 ⟨t.val / 9, by have := t_lt t; omega⟩ 4 0 k) :=
  mod_at m c _ _ _ _ _ (fun _ => rfl) (at6 t)

theorem blk7 (c : Dev nD) (t : Fin cfg0.N) (k : Fin 1024) :
    iblk m c 7 t (ix5 0 0 0 0 k) = m ((c : Thread nD τ).loc main_arg1) (ix5 3 16 5 0 k) :=
  mod_at m c _ _ _ _ _ (fun _ => rfl) (at7 t)

theorem blk8 (c : Dev nD) (t : Fin cfg0.N) (k : Fin 1024) :
    iblk m c 8 t (ix5 0 0 0 0 k) = m ((c : Thread nD τ).loc main_arg1) (ix5 3 ⟨t.val / 9, by have := t_lt t; omega⟩ 5 0 k) :=
  mod_at m c _ _ _ _ _ (fun _ => rfl) (at8 t)

/-! ## The result -/

/-- The result as contents of the result array. -/
def result (c : Dev nD) : Buf (Elt Ideal) ((c : Thread nD τ).loc main_v3) := fun i : S32768x1024.Idx =>
  Cert.MlpMath.whole1 3 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (latRow (i 0)) (i 1)

/-- A latent row takes its batch's modulations. -/
theorem modOf_row (t : ℕ) (p : Fin 256) (ht : t < 144) (h0 : ¬(t % 9 = 0)) (hR : 256 * t + p.val < 36864) :
    Cert.MlpMath.modOf ⟨256 * t + p.val, hR⟩ = ⟨t / 9, by omega⟩ := by
  have hp := p.isLt
  unfold Cert.MlpMath.modOf
  rw [if_neg (by show ¬((256 * t + p.val) % 2304 < 256); omega)]
  apply Fin.ext
  show (256 * t + p.val) / 2304 = t / 9
  omega

/-- What a grid point leaves at a row and a column of its block. -/
theorem block_apply (c : Dev nD) (t : Fin cfg0.N) (h0 : ¬(t.val % 9 = 0)) (p : Fin 256) (q : Fin 1024) :
    block (isCtx9 (grid0.coords t)) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 p q)
      = result m c (ix2 ⟨256 * (t.val - t.val / 9 - 1) + p.val, by have := t_lt t; omega⟩ q) := by
  have ht := t_lt t
  have hp := p.isLt
  have hm := modOf_row t.val p ht h0 (by omega)
  have hr : latRow ⟨256 * (t.val - t.val / 9 - 1) + p.val, by omega⟩ = ⟨256 * t.val + p.val, by omega⟩ := by
    apply Fin.ext
    show (256 * (t.val - t.val / 9 - 1) + p.val) / 2048 * 2304 + (256 + (256 * (t.val - t.val / 9 - 1) + p.val) % 2048) = 256 * t.val + p.val
    omega
  unfold result block
  show _ = Cert.MlpMath.whole1 3 _ _ _ _ _ _ (latRow ⟨256 * (t.val - t.val / 9 - 1) + p.val, _⟩) q
  rw [hr, isCtx_at t h0]
  refine group1_apply 3 _ _ _ _ _ _ ⟨256 * t.val + p.val, by omega⟩ _ _ _ _ _ _ _ _ _ p q (fun k => blk0 m c t p k) (fun k => blk9 m c t p k)
    (fun k j => blk10 m c t k j) (fun k j => blk11 m c t k j) (fun k j => blk12 m c t k j) ?_ ?_ ?_ ?_
  · intro k; rw [hm]; exact (ld_mod _ k).trans (blk2 m c t k)
  · intro k; rw [hm]; exact (ld_mod _ k).trans (blk4 m c t k)
  · intro k; rw [hm]; exact (ld_mod _ k).trans (blk6 m c t k)
  · intro k; rw [hm]; exact (ld_mod _ k).trans (blk8 m c t k)

/-- What a grid point writes back is its block of the result. -/
theorem flushed_eq (c : Dev nD) (t : Fin cfg0.N) (h0 : ¬(t.val % 9 = 0)) :
    (dats m 0 c).flushed 13 t = ((cfg0.win 13).blk t).view.read (Elt Ideal) (result m c) := by
  rw [Value.flushed13_B m c t h0, out_eq]
  funext j
  have hj : j = (ix2 (⟨(j 0).val, (j 0).isLt⟩ : Fin 256) (⟨(j 1).val, (j 1).isLt⟩ : Fin 1024) : S256x1024.Idx) := by
    funext a; match a with | ⟨0, _⟩ => rfl | ⟨1, _⟩ => rfl
  refine Eq.trans (b := block (isCtx9 (grid0.coords t)) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (ix2 (⟨(j 0).val, (j 0).isLt⟩ : Fin 256) (⟨(j 1).val, (j 1).isLt⟩ : Fin 1024))) (congrArg _ hj) ?_
  rw [block_apply m c t h0, View.read_apply]
  show result m c _ = result m c _
  congr 1
  funext a
  apply Fin.ext
  match a with
  | ⟨0, _⟩ => show 256 * (t.val - t.val / 9 - 1) + (j 0).val = win0_13.index t 0 * 256 + 1 * (j 0).val; rw [(at13 t h0).1]; omega
  | ⟨1, _⟩ => show (j 1).val = win0_13.index t 1 * 1024 + 1 * (j 1).val; rw [(at13 t h0).2]; omega

/-- The blocks cover the array. -/
theorem cover (i : S32768x1024.Idx) :
    ∃ t : Fin cfg0.N, (cfg0.win 13).flush t = true ∧ i ∈ ((cfg0.win 13).blk t).view.set := by
  have h0 : (i 0).val < 32768 := (i 0).isLt
  have h1 : (i 1).val < 1024 := (i 1).isLt
  have hN : cfg0.N = 144 := N_0
  obtain ⟨t, ht⟩ : ∃ t : Fin cfg0.N, t.val = (i 0).val / 2048 * 9 + (i 0).val % 2048 / 256 + 1 := ⟨⟨_, by omega⟩, rfl⟩
  have h9 : ¬(t.val % 9 = 0) := by omega
  refine ⟨t, (flush_at t).mpr h9, ?_⟩
  show i ∈ ((View.whole main_v3).slice (win0_13.rect t)).set
  rw [View.set_slice_whole, Rect.mem_set_unit]
  intro a
  match a with
  | ⟨0, _⟩ => show win0_13.index t 0 * 256 ≤ (i 0).val ∧ (i 0).val < win0_13.index t 0 * 256 + 256; rw [(at13 t h9).1]; omega
  | ⟨1, _⟩ => show win0_13.index t 1 * 1024 ≤ (i 1).val ∧ (i 1).val < win0_13.index t 1 * 1024 + 1024; rw [(at13 t h9).2]; omega

/-- The array the program ends with. -/
theorem final (c : Dev nD) : (dats m 0 c).arrAt 13 cfg0.N = result m c :=
  (dats m 0 c).arrAt_eq_of_cover 13 (result m c) (fun t hf => flushed_eq m c t ((flush_at t).mp hf)) cover

end Cert.LastIdeal.Hand

end
-- ==== Proof.Last.Ref.lean ====
/-
  The reference's second half of the last layer, read at a row and a column: it is the row formula of `Mlp/Rows.lean` of the
  latent rows.
-/
module

public import proofs.«01_k».proof.Proof.Gen.LastRefIdeal.Read
public import proofs.«01_k».proof.Proof.Last.Final

@[expose] public section

set_option maxRecDepth 16384

noncomputable section

namespace Cert.LastRefIdeal.Hand

open Cert.LastIdeal.Hand (latRow)
open Cert.LastRefIdeal Cert.LastRefIdeal.Read Idealize.ShloMosaic Idealize.ShloMosaic.TcCoe

variable (x0 : (⟨S36864x1024, .f32⟩ : BufTy).Contents (Elt Ideal)) (x1 : (⟨S4x24x6x1x1024, .f32⟩ : BufTy).Contents (Elt Ideal))
  (x2 : (⟨S36864x1024, .bf16⟩ : BufTy).Contents (Elt Ideal)) (x3 : (⟨S1024x1024, .f32⟩ : BufTy).Contents (Elt Ideal))
  (x4 : (⟨S1024x4096, .f32⟩ : BufTy).Contents (Elt Ideal)) (x5 : (⟨S4096x1024, .f32⟩ : BufTy).Contents (Elt Ideal))

/-- The row, among all rows, of a batch's latent. -/
abbrev lat2 (b : Fin 16) (p : Fin 2048) : Fin 36864 := ⟨b.val * 2304 + (256 + p.val), by omega⟩

/-- The row of the result of a batch's latent. -/
abbrev out2 (b : Fin 16) (p : Fin 2048) : Fin 32768 := ⟨b.val * 2048 + p.val, by omega⟩

/-- The batch's modulations. -/
abbrev bat (b : Fin 16) : Fin 24 := ⟨b.val, by omega⟩

theorem modOf_lat2 (b : Fin 16) (p : Fin 2048) : Cert.MlpMath.modOf (lat2 b p) = bat b := by
  have hp := p.isLt
  have hb := b.isLt
  unfold Cert.MlpMath.modOf
  rw [if_neg (by show ¬((b.val * 2304 + (256 + p.val)) % 2304 < 256); omega)]
  exact Fin.ext (by show (b.val * 2304 + (256 + p.val)) / 2304 = b.val; omega)

theorem v1_at (b : Fin 16) (k : Fin 1024) : val_main_v1 (F := Ideal) x1 (ix3 b 0 k) = x1 (ix5 3 (bat b) 2 0 k) := by
  pointwise [val_main_v1, val_main_v0]

theorem v3_at (b : Fin 16) (k : Fin 1024) : val_main_v3 (F := Ideal) x1 (ix3 b 0 k) = x1 (ix5 3 (bat b) 3 0 k) := by
  pointwise [val_main_v3, val_main_v2]

theorem v5_at (b : Fin 16) (k : Fin 1024) : val_main_v5 (F := Ideal) x1 (ix3 b 0 k) = x1 (ix5 3 (bat b) 4 0 k) := by
  pointwise [val_main_v5, val_main_v4]

theorem v7_at (b : Fin 16) (k : Fin 1024) : val_main_v7 (F := Ideal) x1 (ix3 b 0 k) = x1 (ix5 3 (bat b) 5 0 k) := by
  pointwise [val_main_v7, val_main_v6]

theorem v9_at (b : Fin 16) (p : Fin 2048) (k : Fin 1024) : val_main_v9 (F := Ideal) x0 (ix3 b p k) = x0 (ix2 (lat2 b p) k) := by
  pointwise [val_main_v9, val_main_v8]

theorem v12_at (b : Fin 16) (p : Fin 2048) (k : Fin 1024) : val_main_v12 (F := Ideal) x2 (ix3 b p k) = x2 (ix2 (lat2 b p) k) := by
  pointwise [val_main_v12, val_main_v11, val_main_v10]

theorem v16_at (b : Fin 16) (p : Fin 2048) (j : Fin 1024) :
    val_main_v16 (F := Ideal) x0 x1 x2 x3 (ix3 b p j) = Cert.MlpMath.mixed1 (fun k => x0 (ix2 (lat2 b p) k))
      (fun k => x2 (ix2 (lat2 b p) k)) (fun k j => x3 (ix2 k j)) (fun k => x1 (ix5 3 (bat b) 2 0 k)) j := by
  unfold Cert.MlpMath.mixed1 val_main_v16 val_main_v15 val_main_v14 val_main_v13
  simp only [← v1_at x1, ← v9_at x0, ← v12_at x2]
  generalize val_main_v1 (F := Ideal) x1 = g
  generalize val_main_v9 (F := Ideal) x0 = x
  generalize val_main_v12 (F := Ideal) x2 = a
  pointwise []

theorem v32_at (b : Fin 16) (p : Fin 2048) (j : Fin 1024) :
    val_main_v32 (F := Ideal) x0 x1 x2 x3 (ix3 b p j) = Cert.MlpMath.normed (fun k => val_main_v16 (F := Ideal) x0 x1 x2 x3 (ix3 b p k))
      (fun k => val_main_v5 (F := Ideal) x1 (ix3 b 0 k)) (fun k => val_main_v3 (F := Ideal) x1 (ix3 b 0 k)) j := by
  unfold val_main_v32 val_main_v31 val_main_v30 val_main_v29 val_main_v28 val_main_v26 val_main_v25 val_main_v24 val_main_v23 val_main_v21
    val_main_v19 val_main_v18 val_main_v17
  generalize val_main_v16 (F := Ideal) x0 x1 x2 x3 = r
  generalize val_main_v5 (F := Ideal) x1 = sc
  generalize val_main_v3 (F := Ideal) x1 = sh
  pointwise [val_main_v20, val_main_v22, val_main_v27, val_main_cst, val_main_cst_0, val_main_cst_1, val_main_cst_2, Cert.MlpMath.normed]

theorem v40_at (b : Fin 16) (p : Fin 2048) (j : Fin 1024) :
    val_main_v40 (F := Ideal) x0 x1 x2 x3 x4 x5 (ix3 b p j) = val_main_v16 (F := Ideal) x0 x1 x2 x3 (ix3 b p j)
      + val_main_v7 (F := Ideal) x1 (ix3 b 0 j) * ∑ n : Fin 4096, Cert.MlpMath.unit (fun k => val_main_v32 (F := Ideal) x0 x1 x2 x3 (ix3 b p k))
          (fun k => x4 (ix2 k n)) * x5 (ix2 n j) := by
  unfold val_main_v40 val_main_v39 val_main_v38 val_main_v37 val_main_v36 val_main_v35 val_main_v33
  generalize val_main_v16 (F := Ideal) x0 x1 x2 x3 = r
  generalize val_main_v7 (F := Ideal) x1 = g
  generalize val_main_v32 (F := Ideal) x0 x1 x2 x3 = h
  pointwise [val_main_v34, val_main_cst_3, Cert.MlpMath.unit]

/-- The reference's result, index by index. -/
theorem value_at (i : S32768x1024.Idx) :
    val_main_v41 (F := Ideal) x0 x1 x2 x3 x4 x5 i = Cert.MlpMath.whole1 3 x0 x1 x2 x3 x4 x5 (latRow (i 0)) (i 1) := by
  obtain ⟨r, q, rfl⟩ : ∃ (r : Fin 32768) (q : Fin 1024), i = ix2 r q := ⟨i 0, i 1, eq_ix2 i⟩
  have hr := r.isLt
  obtain ⟨b, p, rfl⟩ : ∃ (b : Fin 16) (p : Fin 2048), r = out2 b p :=
    ⟨⟨r.val / 2048, by omega⟩, ⟨r.val % 2048, by omega⟩, Fin.ext (by show r.val = r.val / 2048 * 2048 + r.val % 2048; omega)⟩
  have hb := b.isLt
  have hp := p.isLt
  have e : val_main_v41 (F := Ideal) x0 x1 x2 x3 x4 x5 (ix2 (out2 b p) q)
      = val_main_v40 (F := Ideal) x0 x1 x2 x3 x4 x5 (ix3 b p q) := by
    unfold val_main_v41
    generalize val_main_v40 (F := Ideal) x0 x1 x2 x3 x4 x5 = y
    pointwise []
    refine congrArg₂ (fun (u : Fin 16) (v : Fin 2048) => y (ix3 u v q)) (Fin.ext ?_) (Fin.ext ?_)
    · show (b.val * 2048 + p.val) / 2048 = b.val; omega
    · show (b.val * 2048 + p.val) % 2048 = p.val; omega
  have hl : latRow (out2 b p) = lat2 b p := by
    apply Fin.ext
    show (b.val * 2048 + p.val) / 2048 * 2304 + (256 + (b.val * 2048 + p.val) % 2048) = b.val * 2304 + (256 + p.val)
    omega
  show _ = Cert.MlpMath.whole1 3 x0 x1 x2 x3 x4 x5 (latRow (out2 b p)) q
  rw [e, v40_at, v16_at, v7_at, hl]
  unfold Cert.MlpMath.whole1 Cert.MlpMath.row1 Cert.MlpMath.rest
  simp only [v32_at, v16_at, v5_at, v3_at, modOf_lat2]

end Cert.LastRefIdeal.Hand

end
-- ==== Proof.Last.Claim.lean ====
/-
  The last layer's mixing and feed-forward kernel and its reference compute the same array.
-/
module

public import proofs.«01_k».proof.Defs
public import proofs.«01_k».proof.Proof.Gen.LastRefIdeal.Run
public import proofs.«01_k».proof.Proof.Last.Ref
public import proofs.«01_k».proof.Proof.Last.Final
public import Idealize.ShloMosaic.Lib.Claim

@[expose] public section

noncomputable section

namespace Cert.LastIdeal.Hand

open Idealize.ShloMosaic Idealize.ShloMosaic.TcCoe Idealize.SL.Sem

/-- The reference's result is the kernel's, its arguments being the kernel's. -/
theorem result_eq (m : (ℓ : Loc Cert.LastIdeal.nD Cert.LastIdeal.τ Cert.LastIdeal.sig) → Buf (Elt Ideal) ℓ)
    (m' : (ℓ : Loc Cert.LastRefIdeal.nD Cert.LastRefIdeal.τ Cert.LastRefIdeal.sig) → Buf (Elt Ideal) ℓ) (c : Dev Cert.LastIdeal.nD)
    (h0 : m' ((c.tc : Thread Cert.LastRefIdeal.nD Cert.LastRefIdeal.τ).loc Cert.LastRefIdeal.main_arg0) = m ((c.tc : Thread Cert.LastIdeal.nD Cert.LastIdeal.τ).loc Cert.LastIdeal.main_arg0))
    (h1 : m' ((c.tc : Thread Cert.LastRefIdeal.nD Cert.LastRefIdeal.τ).loc Cert.LastRefIdeal.main_arg1) = m ((c.tc : Thread Cert.LastIdeal.nD Cert.LastIdeal.τ).loc Cert.LastIdeal.main_arg1))
    (h2 : m' ((c.tc : Thread Cert.LastRefIdeal.nD Cert.LastRefIdeal.τ).loc Cert.LastRefIdeal.main_arg2) = m ((c.tc : Thread Cert.LastIdeal.nD Cert.LastIdeal.τ).loc Cert.LastIdeal.main_arg2))
    (h3 : m' ((c.tc : Thread Cert.LastRefIdeal.nD Cert.LastRefIdeal.τ).loc Cert.LastRefIdeal.main_arg3) = m ((c.tc : Thread Cert.LastIdeal.nD Cert.LastIdeal.τ).loc Cert.LastIdeal.main_arg3))
    (h4 : m' ((c.tc : Thread Cert.LastRefIdeal.nD Cert.LastRefIdeal.τ).loc Cert.LastRefIdeal.main_arg4) = m ((c.tc : Thread Cert.LastIdeal.nD Cert.LastIdeal.τ).loc Cert.LastIdeal.main_arg4))
    (h5 : m' ((c.tc : Thread Cert.LastRefIdeal.nD Cert.LastRefIdeal.τ).loc Cert.LastRefIdeal.main_arg5) = m ((c.tc : Thread Cert.LastIdeal.nD Cert.LastIdeal.τ).loc Cert.LastIdeal.main_arg5)) :
    (Cert.LastRefIdeal.Value.res_main_v41 m' c : Cert.LastIdeal.S32768x1024.Idx → EReal) = result m c := by
  rw [Cert.LastRefIdeal.Read.val_main_v41_eq, h0, h1, h2, h3, h4, h5]
  funext i
  exact Cert.LastRefIdeal.Hand.value_at _ _ _ _ _ _ i

theorem algebraic : Cert.algebraic_LastIdeal_LastRefIdeal := by
  intro m ρ m' ρ' _ hagree
  refine ⟨fun c => result m c, ?_, ?_⟩
  · exact (θ_run Cert.LastIdeal.defs _ _).mono (fun _ h c => ⟨(h c).1.trans (final m c), (h c).2⟩)
      (Cert.LastIdeal.Value.run_blocks (F := Ideal) m ρ)
  · refine (θ_run Cert.LastRefIdeal.defs _ _).mono (fun _ h c => ⟨(h c).1.trans ?_, (h c).2⟩) (Cert.LastRefIdeal.Value.run (F := Ideal) m' ρ')
    obtain ⟨h0, h1, h2, h3, h4, h5⟩ := hagree c
    exact result_eq m m' c h0 h1 h2 h3 h4 h5

end Cert.LastIdeal.Hand

end
-- ==== Proof.Mlp.Final.lean ====
/-
  The array the mixing and feed-forward kernel ends with: every one of its 36864 rows is the row formula of `Mlp/Rows.lean`
  of that row's operands, with the modulations of the row's batch, or of the context for a batch's first 256 rows.
-/
module

public import proofs.«01_k».proof.Proof.Gen.MlpIdeal.Value
public import proofs.«01_k».proof.Proof.Mlp.Block
public import Idealize.ShloMosaic.Lib.Pipeline.Value

@[expose] public section

set_option maxRecDepth 16384

noncomputable section

namespace Cert.MlpMath

open Idealize.ShloMosaic

/-- The whole result, index by index. -/
def whole (x0 : (⟨2, ![36864, 1024]⟩ : Shape).Idx → EReal) (x1 : (⟨5, ![4, 24, 6, 1, 1024]⟩ : Shape).Idx → EReal)
    (x2 x3 : (⟨2, ![36864, 512]⟩ : Shape).Idx → EReal) (x4 : (⟨2, ![1024, 1024]⟩ : Shape).Idx → EReal)
    (x5 : (⟨2, ![1024, 4096]⟩ : Shape).Idx → EReal) (x6 : (⟨2, ![4096, 1024]⟩ : Shape).Idx → EReal)
    (r : Fin 36864) (q : Fin 1024) : EReal :=
  row (fun k => x0 (ix2 r k)) (fun k => x2 (ix2 r k)) (fun k => x3 (ix2 r k)) (fun k j => x4 (ix2 k j))
    (fun k => x1 (ix5 0 (modOf r) 2 0 k)) (fun k => x1 (ix5 0 (modOf r) 3 0 k)) (fun k => x1 (ix5 0 (modOf r) 4 0 k))
    (fun k => x1 (ix5 0 (modOf r) 5 0 k)) (fun k n => x5 (ix2 k n)) (fun n k => x6 (ix2 n k)) q

end Cert.MlpMath

namespace Cert.MlpIdeal.Hand

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 48 := Nat.lt_of_lt_of_eq t.isLt N_0

/-! ## The blocks a grid point reads -/

theorem at0 : ∀ t : Fin grid0.N, win0_0.index t 0 = t.val ∧ win0_0.index t 1 = 0 := by decide +kernel
theorem at9 : ∀ t : Fin grid0.N, win0_9.index t 0 = t.val ∧ win0_9.index t 1 = 0 := by decide +kernel
theorem at10 : ∀ t : Fin grid0.N, win0_10.index t 0 = t.val ∧ win0_10.index t 1 = 0 := by decide +kernel
theorem at11 : ∀ t : Fin grid0.N, win0_11.index t 0 = 0 ∧ win0_11.index t 1 = 0 := by decide +kernel
theorem at12 : ∀ t : Fin grid0.N, win0_12.index t 0 = 0 ∧ win0_12.index t 1 = 0 := by decide +kernel
theorem at13 : ∀ t : Fin grid0.N, win0_13.index t 0 = 0 ∧ win0_13.index t 1 = 0 := by decide +kernel
theorem at14 : ∀ t : Fin grid0.N, win0_14.index t 0 = t.val ∧ win0_14.index t 1 = 0 := by decide +kernel
theorem at1 : ∀ t : Fin grid0.N, win0_1.index t 0 = 0 ∧ win0_1.index t 1 = 16 ∧ win0_1.index t 2 = 2 ∧ win0_1.index t 3 = 0 ∧ win0_1.index t 4 = 0 := by decide +kernel
theorem at2 : ∀ t : Fin grid0.N, win0_2.index t 0 = 0 ∧ win0_2.index t 1 = t.val / 3 ∧ win0_2.index t 2 = 2 ∧ win0_2.index t 3 = 0 ∧ win0_2.index t 4 = 0 := by decide +kernel
theorem at3 : ∀ t : Fin grid0.N, win0_3.index t 0 = 0 ∧ win0_3.index t 1 = 16 ∧ win0_3.index t 2 = 3 ∧ win0_3.index t 3 = 0 ∧ win0_3.index t 4 = 0 := by decide +kernel
theorem at4 : ∀ t : Fin grid0.N, win0_4.index t 0 = 0 ∧ win0_4.index t 1 = t.val / 3 ∧ win0_4.index t 2 = 3 ∧ win0_4.index t 3 = 0 ∧ win0_4.index t 4 = 0 := by decide +kernel
theorem at5 : ∀ t : Fin grid0.N, win0_5.index t 0 = 0 ∧ win0_5.index t 1 = 16 ∧ win0_5.index t 2 = 4 ∧ win0_5.index t 3 = 0 ∧ win0_5.index t 4 = 0 := by decide +kernel
theorem at6 : ∀ t : Fin grid0.N, win0_6.index t 0 = 0 ∧ win0_6.index t 1 = t.val / 3 ∧ win0_6.index t 2 = 4 ∧ win0_6.index t 3 = 0 ∧ win0_6.index t 4 = 0 := by decide +kernel
theorem at7 : ∀ t : Fin grid0.N, win0_7.index t 0 = 0 ∧ win0_7.index t 1 = 16 ∧ win0_7.index t 2 = 5 ∧ win0_7.index t 3 = 0 ∧ win0_7.index t 4 = 0 := by decide +kernel
theorem at8 : ∀ t : Fin grid0.N, win0_8.index t 0 = 0 ∧ win0_8.index t 1 = t.val / 3 ∧ win0_8.index t 2 = 5 ∧ win0_8.index t 3 = 0 ∧ win0_8.index t 4 = 0 := by decide +kernel

/-- A grid point's first 256 rows are context rows iff its number is a multiple of three. -/
theorem isCtx_at : ∀ t : Fin grid0.N, isCtx (grid0.coords t) = BitVec.ofBool (decide (t.val % 3 = 0)) := by decide +kernel

theorem blk0 (c : Dev nD) (t : Fin cfg0.N) (p : Fin 768) (k : Fin 1024) :
    iblk m c 0 t (ix2 p k) = m ((c : Thread nD τ).loc main_arg0) (ix2 ⟨768 * t.val + p.val, by have := t_lt t; omega⟩ k) := by
  unfold iblk
  rw [View.read_apply]
  show V m c main_arg0 _ = _
  rw [V_main_arg0]
  refine congrArg _ (Cert.MlpMath.ix2_of _ _ _ ?_ ?_)
  · show win0_0.index t 0 * 768 + 1 * p.val = 768 * t.val + p.val; rw [(at0 t).1]; omega
  · show win0_0.index t 1 * 1024 + 1 * k.val = k.val; rw [(at0 t).2]; omega

theorem blk9 (c : Dev nD) (t : Fin cfg0.N) (p : Fin 768) (k : Fin 512) :
    iblk m c 9 t (ix2 p k) = m ((c : Thread nD τ).loc main_arg2) (ix2 ⟨768 * t.val + p.val, by have := t_lt t; omega⟩ k) := by
  unfold iblk
  rw [View.read_apply]
  show V m c main_arg2 _ = _
  rw [V_main_arg2]
  refine congrArg _ (Cert.MlpMath.ix2_of _ _ _ ?_ ?_)
  · show win0_9.index t 0 * 768 + 1 * p.val = 768 * t.val + p.val; rw [(at9 t).1]; omega
  · show win0_9.index t 1 * 512 + 1 * k.val = k.val; rw [(at9 t).2]; omega

theorem blk10 (c : Dev nD) (t : Fin cfg0.N) (p : Fin 768) (k : Fin 512) :
    iblk m c 10 t (ix2 p k) = m ((c : Thread nD τ).loc main_arg3) (ix2 ⟨768 * t.val + p.val, by have := t_lt t; omega⟩ k) := by
  unfold iblk
  rw [View.read_apply]
  show V m c main_arg3 _ = _
  rw [V_main_arg3]
  refine congrArg _ (Cert.MlpMath.ix2_of _ _ _ ?_ ?_)
  · show win0_10.index t 0 * 768 + 1 * p.val = 768 * t.val + p.val; rw [(at10 t).1]; omega
  · show win0_10.index t 1 * 512 + 1 * k.val = k.val; rw [(at10 t).2]; omega

theorem blk11 (c : Dev nD) (t : Fin cfg0.N) (p : Fin 1024) (k : Fin 1024) :
    iblk m c 11 t (ix2 p k) = m ((c : Thread nD τ).loc main_arg4) (ix2 p k) := by
  unfold iblk
  rw [View.read_apply]
  show m ((c : Thread nD τ).loc main_arg4) _ = _
  refine congrArg _ (Cert.MlpMath.ix2_of _ _ _ ?_ ?_)
  · show win0_11.index t 0 * 1024 + 1 * p.val = p.val; rw [(at11 t).1]; omega
  · show win0_11.index t 1 * 1024 + 1 * k.val = k.val; rw [(at11 t).2]; omega

theorem blk12 (c : Dev nD) (t : Fin cfg0.N) (p : Fin 1024) (k : Fin 4096) :
    iblk m c 12 t (ix2 p k) = m ((c : Thread nD τ).loc main_arg5) (ix2 p k) := by
  unfold iblk
  rw [View.read_apply]
  show m ((c : Thread nD τ).loc main_arg5) _ = _
  refine congrArg _ (Cert.MlpMath.ix2_of _ _ _ ?_ ?_)
  · show win0_12.index t 0 * 1024 + 1 * p.val = p.val; rw [(at12 t).1]; omega
  · show win0_12.index t 1 * 4096 + 1 * k.val = k.val; rw [(at12 t).2]; omega

theorem blk13 (c : Dev nD) (t : Fin cfg0.N) (p : Fin 4096) (k : Fin 1024) :
    iblk m c 13 t (ix2 p k) = m ((c : Thread nD τ).loc main_arg6) (ix2 p k) := by
  unfold iblk
  rw [View.read_apply]
  show m ((c : Thread nD τ).loc main_arg6) _ = _
  refine congrArg _ (Cert.MlpMath.ix2_of _ _ _ ?_ ?_)
  · show win0_13.index t 0 * 4096 + 1 * p.val = p.val; rw [(at13 t).1]; omega
  · show win0_13.index t 1 * 1024 + 1 * k.val = k.val; rw [(at13 t).2]; omega

/-- The modulations at an index which stands in a block of one vector. -/
theorem mod_at (c : Dev nD) (e : S4x24x6x1x1024.Idx) (i : Fin 5 → ℕ) (b : Fin 24) (w : Fin 6) (k : Fin 1024)
    (he : ∀ a, (e a).val = i a * (![1, 1, 1, 1, 1024] : Fin 5 → ℕ) a + 1 * ((ix5 0 0 0 0 k : S1x1x1x1x1024.Idx) a).val)
    (hi : i 0 = 0 ∧ i 1 = b.val ∧ i 2 = w.val ∧ i 3 = 0 ∧ i 4 = 0) :
    V m c main_arg1 e = m ((c : Thread nD τ).loc main_arg1) (ix5 0 b w 0 k) := by
  rw [V_main_arg1, Cert.MlpMath.ix5_of e i 0 b w k he hi]

theorem blk1 (c : Dev nD) (t : Fin cfg0.N) (k : Fin 1024) :
    iblk m c 1 t (ix5 0 0 0 0 k) = m ((c : Thread nD τ).loc main_arg1) (ix5 0 16 2 0 k) :=
  mod_at m c _ _ _ _ _ (fun _ => rfl) (at1 t)

theorem blk2 (c : Dev nD) (t : Fin cfg0.N) (k : Fin 1024) :
    iblk m c 2 t (ix5 0 0 0 0 k) = m ((c : Thread nD τ).loc main_arg1) (ix5 0 ⟨t.val / 3, by have := t_lt t; omega⟩ 2 0 k) :=
  mod_at m c _ _ _ _ _ (fun _ => rfl) (at2 t)

theorem blk3 (c : Dev nD) (t : Fin cfg0.N) (k : Fin 1024) :
    iblk m c 3 t (ix5 0 0 0 0 k) = m ((c : Thread nD τ).loc main_arg1) (ix5 0 16 3 0 k) :=
  mod_at m c _ _ _ _ _ (fun _ => rfl) (at3 t)

theorem blk4 (c : Dev nD) (t : Fin cfg0.N) (k : Fin 1024) :
    iblk m c 4 t (ix5 0 0 0 0 k) = m ((c : Thread nD τ).loc main_arg1) (ix5 0 ⟨t.val / 3, by have := t_lt t; omega⟩ 3 0 k) :=
  mod_at m c _ _ _ _ _ (fun _ => rfl) (at4 t)

theorem blk5 (c : Dev nD) (t : Fin cfg0.N) (k : Fin 1024) :
    iblk m c 5 t (ix5 0 0 0 0 k) = m ((c : Thread nD τ).loc main_arg1) (ix5 0 16 4 0 k) :=
  mod_at m c _ _ _ _ _ (fun _ => rfl) (at5 t)

theorem blk6 (c : Dev nD) (t : Fin cfg0.N) (k : Fin 1024) :
    iblk m c 6 t (ix5 0 0 0 0 k) = m ((c : Thread nD τ).loc main_arg1) (ix5 0 ⟨t.val / 3, by have := t_lt t; omega⟩ 4 0 k) :=
  mod_at m c _ _ _ _ _ (fun _ => rfl) (at6 t)

theorem blk7 (c : Dev nD) (t : Fin cfg0.N) (k : Fin 1024) :
    iblk m c 7 t (ix5 0 0 0 0 k) = m ((c : Thread nD τ).loc main_arg1) (ix5 0 16 5 0 k) :=
  mod_at m c _ _ _ _ _ (fun _ => rfl) (at7 t)

theorem blk8 (c : Dev nD) (t : Fin cfg0.N) (k : Fin 1024) :
    iblk m c 8 t (ix5 0 0 0 0 k) = m ((c : Thread nD τ).loc main_arg1) (ix5 0 ⟨t.val / 3, by have := t_lt t; omega⟩ 5 0 k) :=
  mod_at m c _ _ _ _ _ (fun _ => rfl) (at8 t)

/-! ## The result -/

/-- The result as contents of the result array. -/
def result (c : Dev nD) : Buf (Elt Ideal) ((c : Thread nD τ).loc main_v3) := fun i : S36864x1024.Idx =>
  Cert.MlpMath.whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- A group of 256 rows which starts at row `o` of the block and takes the modulations of `μ`. -/
theorem group_apply (c : Dev nD) (t : Fin cfg0.N) (o : ℕ) (p : Fin 256) (q : Fin 1024) (hR : 768 * t.val + (o + p.val) < 36864)
    (x : Vec Ideal S256x1024 .f32) (a : Vec Ideal S256x512 .bf16) (z : Vec Ideal S256x512 .f32) (g1 sh sc g2 : FVec Ideal S1x1024 .f32)
    (ho : o + 256 ≤ 768)
    (hx : ∀ k, x (ix2 p k) = iblk m c 0 t (ix2 ⟨o + p.val, by omega⟩ k))
    (ha : ∀ k, a (ix2 p k) = iblk m c 9 t (ix2 ⟨o + p.val, by omega⟩ k))
    (hz : ∀ k, z (ix2 p k) = iblk m c 10 t (ix2 ⟨o + p.val, by omega⟩ k))
    (h1 : ∀ k, g1 (ix2 0 k) = m ((c : Thread nD τ).loc main_arg1) (ix5 0 (Cert.MlpMath.modOf ⟨768 * t.val + (o + p.val), hR⟩) 2 0 k))
    (h2 : ∀ k, sh (ix2 0 k) = m ((c : Thread nD τ).loc main_arg1) (ix5 0 (Cert.MlpMath.modOf ⟨768 * t.val + (o + p.val), hR⟩) 3 0 k))
    (h3 : ∀ k, sc (ix2 0 k) = m ((c : Thread nD τ).loc main_arg1) (ix5 0 (Cert.MlpMath.modOf ⟨768 * t.val + (o + p.val), hR⟩) 4 0 k))
    (h4 : ∀ k, g2 (ix2 0 k) = m ((c : Thread nD τ).loc main_arg1) (ix5 0 (Cert.MlpMath.modOf ⟨768 * t.val + (o + p.val), hR⟩) 5 0 k)) :
    rowsV x a z (iblk m c 11 t) g1 sh sc g2 (iblk m c 12 t) (iblk m c 13 t) (ix2 p q)
      = result m c (ix2 ⟨768 * t.val + (o + p.val), hR⟩ q) := by
  rw [rowsV_apply]
  unfold result Cert.MlpMath.whole
  congr 1
  · funext k; exact (hx k).trans (blk0 m c t _ k)
  · funext k; exact (ha k).trans (blk9 m c t _ k)
  · funext k; exact (hz k).trans (blk10 m c t _ k)
  · funext k j; exact blk11 m c t k j
  · funext k; exact h1 k
  · funext k; exact h2 k
  · funext k; exact h3 k
  · funext k; exact h4 k
  · funext k n; exact blk12 m c t k n
  · funext n k; exact blk13 m c t n k

/-- What a grid point leaves at a row and a column of its block. -/
theorem block_apply (c : Dev nD) (t : Fin cfg0.N) (p : Fin 768) (q : Fin 1024) :
    out0_14 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 p q)
      = result m c (ix2 ⟨768 * t.val + p.val, by have := t_lt t; omega⟩ q) := by
  have ht := t_lt t
  rw [out_eq]
  refine thirds _ _ _ (fun p q => result m c (ix2 ⟨768 * t.val + p.val, by omega⟩ q)) (fun p q => ?_) (fun p q => ?_) (fun p q => ?_) p q
  · have hm := Cert.MlpMath.modOf_lat t.val 512 p ht (by omega) (by omega) (by omega) (by omega)
    refine group_apply m c t 512 p q (by omega) _ _ _ _ _ _ _ (by omega) ?_ ?_ ?_ ?_ ?_ ?_ ?_
    · intro k; pointwise []
    · intro k; pointwise []
    · intro k; pointwise []
    · intro k; rw [hm, ld_mod]; exact blk2 m c t k
    · intro k; rw [hm, ld_mod]; exact blk4 m c t k
    · intro k; rw [hm, ld_mod]; exact blk6 m c t k
    · intro k; rw [hm, ld_mod]; exact blk8 m c t k
  · have hm := Cert.MlpMath.modOf_lat t.val 256 p ht (by omega) (by omega) (by omega) (by omega)
    refine group_apply m c t 256 p q (by omega) _ _ _ _ _ _ _ (by omega) ?_ ?_ ?_ ?_ ?_ ?_ ?_
    · intro k; pointwise []
    · intro k; pointwise []
    · intro k; pointwise []
    · intro k; rw [hm, ld_mod]; exact blk2 m c t k
    · intro k; rw [hm, ld_mod]; exact blk4 m c t k
    · intro k; rw [hm, ld_mod]; exact blk6 m c t k
    · intro k; rw [hm, ld_mod]; exact blk8 m c t k
  have hc := isCtx_at t
  by_cases h0 : t.val % 3 = 0
  · have hm := Cert.MlpMath.modOf_ctx t.val p (by omega) h0
    rw [hc, decide_eq_true h0]
    refine group_apply m c t 0 p q (by omega) _ _ _ _ _ _ _ (by omega) ?_ ?_ ?_ ?_ ?_ ?_ ?_
    · intro k; pointwise []
    · intro k; pointwise []
    · intro k; pointwise []
    · intro k; rw [hm]; exact (ld_mod _ k).trans (blk1 m c t k)
    · intro k; rw [hm]; exact (ld_mod _ k).trans (blk3 m c t k)
    · intro k; rw [hm]; exact (ld_mod _ k).trans (blk5 m c t k)
    · intro k; rw [hm]; exact (ld_mod _ k).trans (blk7 m c t k)
  · have hm := Cert.MlpMath.modOf_lat t.val 0 p ht (by omega) (by omega) (by omega) (by omega)
    rw [hc, decide_eq_false h0]
    refine group_apply m c t 0 p q (by omega) _ _ _ _ _ _ _ (by omega) ?_ ?_ ?_ ?_ ?_ ?_ ?_
    · intro k; pointwise []
    · intro k; pointwise []
    · intro k; pointwise []
    · intro k; rw [hm]; exact (ld_mod _ k).trans (blk2 m c t k)
    · intro k; rw [hm]; exact (ld_mod _ k).trans (blk4 m c t k)
    · intro k; rw [hm]; exact (ld_mod _ k).trans (blk6 m c t k)
    · intro k; rw [hm]; exact (ld_mod _ k).trans (blk8 m c t k)

/-- What a grid point writes back is its block of the result. -/
theorem flushed_eq (c : Dev nD) (t : Fin cfg0.N) :
    (dats m 0 c).flushed 14 t = ((cfg0.win 14).blk t).view.read (Elt Ideal) (result m c) := by
  rw [Value.flushed14]
  funext j
  have hj : j = (ix2 (⟨(j 0).val, (j 0).isLt⟩ : Fin 768) (⟨(j 1).val, (j 1).isLt⟩ : Fin 1024) : S768x1024.Idx) := by
    funext a; match a with | ⟨0, _⟩ => rfl | ⟨1, _⟩ => rfl
  refine Eq.trans (b := out0_14 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (ix2 (⟨(j 0).val, (j 0).isLt⟩ : Fin 768) (⟨(j 1).val, (j 1).isLt⟩ : Fin 1024))) (congrArg _ hj) ?_
  rw [block_apply, View.read_apply]
  show result m c _ = result m c _
  congr 1
  funext a
  apply Fin.ext
  match a with
  | ⟨0, _⟩ => show 768 * t.val + (j 0).val = win0_14.index t 0 * 768 + 1 * (j 0).val; rw [(at14 t).1]; omega
  | ⟨1, _⟩ => show (j 1).val = win0_14.index t 1 * 1024 + 1 * (j 1).val; rw [(at14 t).2]; omega

/-- The blocks cover the array. -/
theorem cover (i : S36864x1024.Idx) :
    ∃ t : Fin cfg0.N, (cfg0.win 14).flush t = true ∧ i ∈ ((cfg0.win 14).blk t).view.set := by
  have h0 : (i 0).val < 36864 := (i 0).isLt
  have h1 : (i 1).val < 1024 := (i 1).isLt
  have hN : cfg0.N = 48 := N_0
  refine ⟨⟨(i 0).val / 768, by omega⟩, flush0_14 _, ?_⟩
  generalize ht : (⟨(i 0).val / 768, by omega⟩ : Fin cfg0.N) = t
  have ht' : t.val = (i 0).val / 768 := by rw [← ht]
  show i ∈ ((View.whole main_v3).slice (win0_14.rect t)).set
  rw [View.set_slice_whole, Rect.mem_set_unit]
  intro a
  match a with
  | ⟨0, _⟩ => show win0_14.index t 0 * 768 ≤ (i 0).val ∧ (i 0).val < win0_14.index t 0 * 768 + 768; rw [(at14 t).1]; omega
  | ⟨1, _⟩ => show win0_14.index t 1 * 1024 ≤ (i 1).val ∧ (i 1).val < win0_14.index t 1 * 1024 + 1024; rw [(at14 t).2]; omega

/-- The array the program ends with. -/
theorem final (c : Dev nD) : (dats m 0 c).arrAt 14 cfg0.N = result m c :=
  (dats m 0 c).arrAt_eq_of_cover 14 (result m c) (fun t _ => flushed_eq m c t) cover

end Cert.MlpIdeal.Hand

end
-- ==== Proof.Mlp.Ref.lean ====
/-
  The reference's mixing and feed-forward block, read at a row and a column: it is the row formula of `Mlp/Rows.lean`.
-/
module

public import proofs.«01_k».proof.Proof.Gen.MlpRefIdeal.Read
public import proofs.«01_k».proof.Proof.Mlp.Final

@[expose] public section

set_option maxRecDepth 16384

noncomputable section

namespace Cert.MlpRefIdeal.Hand

open Cert.MlpMath (at2 modOf_at2)
open Cert.MlpRefIdeal Cert.MlpRefIdeal.Read Idealize.ShloMosaic Idealize.ShloMosaic.TcCoe

variable (x0 : (⟨S36864x1024, .f32⟩ : BufTy).Contents (Elt Ideal)) (x1 : (⟨S4x24x6x1x1024, .f32⟩ : BufTy).Contents (Elt Ideal))
  (x2 : (⟨S36864x512, .bf16⟩ : BufTy).Contents (Elt Ideal)) (x3 : (⟨S36864x512, .f32⟩ : BufTy).Contents (Elt Ideal))
  (x4 : (⟨S1024x1024, .f32⟩ : BufTy).Contents (Elt Ideal)) (x5 : (⟨S1024x4096, .f32⟩ : BufTy).Contents (Elt Ideal))
  (x6 : (⟨S4096x1024, .f32⟩ : BufTy).Contents (Elt Ideal))

theorem v6_at (b : Fin 16) (p : Fin 2304) (k : Fin 1024) :
    val_main_v6 (F := Ideal) x1 (ix3 b p k) = x1 (ix5 0 (Cert.MlpMath.modOf (at2 b p)) 2 0 k) := by
  rw [modOf_at2]
  pointwise [val_main_v6, val_main_v5, val_main_v4, val_main_v3, val_main_v2, val_main_v1, val_main_v0]
  split <;> rfl

theorem v13_at (b : Fin 16) (p : Fin 2304) (k : Fin 1024) :
    val_main_v13 (F := Ideal) x1 (ix3 b p k) = x1 (ix5 0 (Cert.MlpMath.modOf (at2 b p)) 3 0 k) := by
  rw [modOf_at2]
  pointwise [val_main_v13, val_main_v12, val_main_v11, val_main_v10, val_main_v9, val_main_v8, val_main_v7]
  split <;> rfl

theorem v20_at (b : Fin 16) (p : Fin 2304) (k : Fin 1024) :
    val_main_v20 (F := Ideal) x1 (ix3 b p k) = x1 (ix5 0 (Cert.MlpMath.modOf (at2 b p)) 4 0 k) := by
  rw [modOf_at2]
  pointwise [val_main_v20, val_main_v19, val_main_v18, val_main_v17, val_main_v16, val_main_v15, val_main_v14]
  split <;> rfl

theorem v27_at (b : Fin 16) (p : Fin 2304) (k : Fin 1024) :
    val_main_v27 (F := Ideal) x1 (ix3 b p k) = x1 (ix5 0 (Cert.MlpMath.modOf (at2 b p)) 5 0 k) := by
  rw [modOf_at2]
  pointwise [val_main_v27, val_main_v26, val_main_v25, val_main_v24, val_main_v23, val_main_v22, val_main_v21]
  split <;> rfl

/-- The joined halves, read at a row and a column. -/
theorem v31_at (b : Fin 16) (p : Fin 2304) (k : Fin 1024) :
    val_main_v31 (F := Ideal) x2 x3 (ix3 b p k) = if h : k.val < 512 then x2 (ix2 (at2 b p) ⟨k.val, h⟩)
      else x3 (ix2 (at2 b p) ⟨k.val - 512, by omega⟩) := by
  pointwise [val_main_v31, val_main_v30, val_main_v29]

theorem v34_at (b : Fin 16) (p : Fin 2304) (j : Fin 1024) :
    val_main_v34 (F := Ideal) x0 x1 x2 x3 x4 (ix3 b p j) = Cert.MlpMath.mixed (fun k => x0 (ix2 (at2 b p) k))
      (fun k => x2 (ix2 (at2 b p) k)) (fun k => x3 (ix2 (at2 b p) k)) (fun k j => x4 (ix2 k j))
      (fun k => x1 (ix5 0 (Cert.MlpMath.modOf (at2 b p)) 2 0 k)) j := by
  unfold Cert.MlpMath.mixed
  rw [val_main_v34_apply, val_main_v33_apply, val_main_v32_apply, v6_at]
  have e0 : val_main_v28 (F := Ideal) x0 (ix3 b p j) = x0 (ix2 (at2 b p) j) := by pointwise [val_main_v28]
  rw [e0, Cert.MlpMath.sum_halves]
  congr 3
  · refine Finset.sum_congr rfl fun k _ => ?_
    refine congrArg₂ (· * ·) ((v31_at x2 x3 b p ⟨k.val, by omega⟩).trans (dif_pos k.isLt)) ?_
    exact congrArg x4 (eq_ix2 _)
  · refine Finset.sum_congr rfl fun k _ => ?_
    refine congrArg₂ (· * ·) (((v31_at x2 x3 b p ⟨512 + k.val, by omega⟩).trans (dif_neg (by show ¬(512 + k.val < 512); omega))).trans ?_) ?_
    · exact congrArg (fun q => x3 (ix2 (at2 b p) q)) (Fin.ext (by show 512 + k.val - 512 = k.val; omega))
    · exact congrArg x4 (eq_ix2 _)

theorem v48_at (b : Fin 16) (p : Fin 2304) (j : Fin 1024) :
    val_main_v48 (F := Ideal) x0 x1 x2 x3 x4 (ix3 b p j) = Cert.MlpMath.normed (fun k => val_main_v34 (F := Ideal) x0 x1 x2 x3 x4 (ix3 b p k))
      (fun k => val_main_v20 (F := Ideal) x1 (ix3 b p k)) (fun k => val_main_v13 (F := Ideal) x1 (ix3 b p k)) j := by
  unfold val_main_v48 val_main_v47 val_main_v46 val_main_v44 val_main_v43 val_main_v42 val_main_v41 val_main_v39 val_main_v37 val_main_v36
    val_main_v35
  generalize val_main_v34 (F := Ideal) x0 x1 x2 x3 x4 = r
  generalize val_main_v20 (F := Ideal) x1 = sc
  generalize val_main_v13 (F := Ideal) x1 = sh
  pointwise [val_main_v38, val_main_v40, val_main_v45, val_main_cst, val_main_cst_0, val_main_cst_1, val_main_cst_2, Cert.MlpMath.normed]

theorem v55_at (b : Fin 16) (p : Fin 2304) (j : Fin 1024) :
    val_main_v55 (F := Ideal) x0 x1 x2 x3 x4 x5 x6 (ix3 b p j) = val_main_v34 (F := Ideal) x0 x1 x2 x3 x4 (ix3 b p j)
      + val_main_v27 (F := Ideal) x1 (ix3 b p j) * ∑ n : Fin 4096, Cert.MlpMath.unit (fun k => val_main_v48 (F := Ideal) x0 x1 x2 x3 x4 (ix3 b p k))
          (fun k => x5 (ix2 k n)) * x6 (ix2 n j) := by
  unfold val_main_v55 val_main_v54 val_main_v53 val_main_v52 val_main_v51 val_main_v49
  generalize val_main_v34 (F := Ideal) x0 x1 x2 x3 x4 = r
  generalize val_main_v27 (F := Ideal) x1 = g
  generalize val_main_v48 (F := Ideal) x0 x1 x2 x3 x4 = h
  pointwise [val_main_v50, val_main_cst_3, Cert.MlpMath.unit]

/-- The reference's result, index by index. -/
theorem value_at (i : S36864x1024.Idx) :
    val_main_v56 (F := Ideal) x0 x1 x2 x3 x4 x5 x6 i = Cert.MlpMath.whole x0 x1 x2 x3 x4 x5 x6 (i 0) (i 1) := by
  obtain ⟨r, q, rfl⟩ : ∃ (r : Fin 36864) (q : Fin 1024), i = ix2 r q := ⟨i 0, i 1, eq_ix2 i⟩
  have hr := r.isLt
  obtain ⟨b, p, rfl⟩ : ∃ (b : Fin 16) (p : Fin 2304), r = at2 b p :=
    ⟨⟨r.val / 2304, by omega⟩, ⟨r.val % 2304, by omega⟩, Fin.ext (by show r.val = r.val / 2304 * 2304 + r.val % 2304; omega)⟩
  have e : val_main_v56 (F := Ideal) x0 x1 x2 x3 x4 x5 x6 (ix2 (at2 b p) q) = val_main_v55 (F := Ideal) x0 x1 x2 x3 x4 x5 x6 (ix3 b p q) := by
    unfold val_main_v56
    generalize val_main_v55 (F := Ideal) x0 x1 x2 x3 x4 x5 x6 = y
    have hb := b.isLt
    have hp := p.isLt
    pointwise []
    refine congrArg₂ (fun (u : Fin 16) (v : Fin 2304) => y (ix3 u v q)) (Fin.ext ?_) (Fin.ext ?_)
    · show (b.val * 2304 + p.val) / 2304 = b.val; omega
    · show (b.val * 2304 + p.val) % 2304 = p.val; omega
  rw [e, v55_at, v34_at, v27_at]
  unfold Cert.MlpMath.whole Cert.MlpMath.row Cert.MlpMath.rest
  simp only [v48_at, v34_at, v20_at, v13_at]
  rfl

end Cert.MlpRefIdeal.Hand

end
-- ==== Proof.Mlp.Claim.lean ====
/-
  The mixing and feed-forward kernel and its reference compute the same array.
-/
module

public import proofs.«01_k».proof.Defs
public import proofs.«01_k».proof.Proof.Gen.MlpRefIdeal.Run
public import proofs.«01_k».proof.Proof.Mlp.Ref
public import Idealize.ShloMosaic.Lib.Claim

@[expose] public section

noncomputable section

namespace Cert.MlpIdeal.Hand

open Idealize.ShloMosaic Idealize.ShloMosaic.TcCoe Idealize.SL.Sem

/-- The reference's result is the kernel's, its arguments being the kernel's. -/
theorem result_eq (m : (ℓ : Loc Cert.MlpIdeal.nD Cert.MlpIdeal.τ Cert.MlpIdeal.sig) → Buf (Elt Ideal) ℓ)
    (m' : (ℓ : Loc Cert.MlpRefIdeal.nD Cert.MlpRefIdeal.τ Cert.MlpRefIdeal.sig) → Buf (Elt Ideal) ℓ) (c : Dev Cert.MlpIdeal.nD)
    (h0 : m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0))
    (h1 : m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1))
    (h2 : m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2))
    (h3 : m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3))
    (h4 : m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4))
    (h5 : m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5))
    (h6 : m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) :
    (Cert.MlpRefIdeal.Value.res_main_v56 m' c : Cert.MlpIdeal.S36864x1024.Idx → EReal) = result m c := by
  rw [Cert.MlpRefIdeal.Read.val_main_v56_eq, h0, h1, h2, h3, h4, h5, h6]
  funext i
  exact Cert.MlpRefIdeal.Hand.value_at _ _ _ _ _ _ _ i

theorem algebraic : Cert.algebraic_MlpIdeal_MlpRefIdeal := by
  intro m ρ m' ρ' _ hagree
  refine ⟨fun c => result m c, ?_, ?_⟩
  · exact (θ_run Cert.MlpIdeal.defs _ _).mono (fun _ h c => ⟨(h c).1.trans (final m c), (h c).2⟩)
      (Cert.MlpIdeal.Value.run_blocks (F := Ideal) m ρ)
  · refine (θ_run Cert.MlpRefIdeal.defs _ _).mono (fun _ h c => ⟨(h c).1.trans ?_, (h c).2⟩) (Cert.MlpRefIdeal.Value.run (F := Ideal) m' ρ')
    obtain ⟨h0, h1, h2, h3, h4, h5, h6⟩ := hagree c
    exact result_eq m m' c h0 h1 h2 h3 h4 h5 h6

end Cert.MlpIdeal.Hand

end
-- ==== Proof.Natten.Table.lean ====
/-
  What the attention kernel finds in its operands: the queries scaled by the binary logarithm of e, the keys and the values
  as they are, and the table of the biases, which holds for each head, row distance, query column and key column the scaled
  bias, or minus infinity where the key column is outside the query's window.
-/
module

public import proofs.«01_k».proof.Proof.Natten.Group
public import Idealize.ShloMosaic.Lib.StableHlo.RunRead

@[expose] public section

set_option maxRecDepth 16384

noncomputable section

namespace Cert.KernelIdeal.Hand

open Cert.Soft Cert.KernelIdeal Cert.KernelIdeal.Gen Idealize.ShloMosaic Idealize.ShloMosaic.TcCoe Idealize.SL.Sem

/-! ## The host's operations, in stages -/

/-- The first key column of each query column's window. -/
def hStart : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Whether a key column is in a query column's window. -/
def hMask : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 hStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 hStart)
        (broadcastInDim S64x1 ![] bcast_S_S64x1 (constantI S_ 32 16#32)))))

/-- The bias table's column of a query column and a key column. -/
def hDc : IVec S64x64 32 :=
  minsi (broadcastInDim S64x64 ![] bcast_S_S64x64 (constantI S_ 32 30#32))
    (maxsi (broadcastInDim S64x64 ![] bcast_S_S64x64 (constantI S_ 32 0#32))
      (subi (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 16#32)))
        (broadcastInDim S64x64 ![] bcast_S_S64x64 (constantI S_ 32 1#32))))

/-- The table that picks a bias for a query column and a key column. -/
def hHot : FVec Ideal S31x64x64 .f32 :=
  uitofp .f32 (andi
    (cmpi .eq (broadcastInDim S31x64x64 ![0, 1, 2] bcast_S1x64x64_S31x64x64_0_1_2 (broadcastInDim S1x64x64 ![1, 2] bcast_S64x64_S1x64x64_1_2 hDc))
      (broadcastInDim S31x64x64 ![0, 1, 2] bcast_S31x1x1_S31x64x64_0_1_2 (broadcastInDim S31x1x1 ![0] bcast_S31_S31x1x1_0 (iotaInDim S31 32 0))))
    (broadcastInDim S31x64x64 ![0, 1, 2] bcast_S1x64x64_S31x64x64_0_1_2 (broadcastInDim S1x64x64 ![1, 2] bcast_S64x64_S1x64x64_1_2 hMask)))

/-- The binary logarithm of e. -/
def hLog : FVec Ideal S_ .f32 := Host.divf (constant S_ .f32 0x3F800000#32) (Host.log (constant S_ .f32 0x40000000#32))

/-- The biases by head, row distance, query column and key column. -/
def hBias (hot : FVec Ideal S31x64x64 .f32) (x : FVec Ideal S16x15x31 .f32) : FVec Ideal S16x15x64x64 .f32 :=
  addf (mulf (Host.dotGeneral dot_S16x15x31_S31x64x64_S16x15x64x64_2_0_01_12_n_n (some .fp32) x hot)
      (broadcastInDim S16x15x64x64 ![] bcast_S_S16x15x64x64 hLog))
    (broadcastInDim S16x15x64x64 ![0, 1, 2, 3] bcast_S1x1x64x64_S16x15x64x64_0_1_2_3 (broadcastInDim S1x1x64x64 ![2, 3] bcast_S64x64_S1x1x64x64_2_3
      (select hMask (broadcastInDim S64x64 ![] bcast_S_S64x64 (constant S_ .f32 0x00000000#32))
        (broadcastInDim S64x64 ![] bcast_S_S64x64 (constant S_ .f32 0xFF800000#32)))))

/-- The biases of two heads, one above the other, the row distances side by side. -/
def hPair (b : FVec Ideal S16x15x64x64 .f32) : FVec Ideal S8x128x960 .f32 :=
  shapeCast S8x128x960 (transpose S8x2x64x15x64 [0, 1, 3, 2, 4] (shapeCast S8x2x15x64x64 b shapeCasts_S16x15x64x64_S8x2x15x64x64)
    transposes_S8x2x15x64x64_S8x2x64x15x64_0_1_3_2_4) shapeCasts_S8x2x64x15x64_S8x128x960

/-- The same with 128 columns of padding. -/
def hPad (b : FVec Ideal S8x128x960 .f32) : FVec Ideal S8x128x1088 .f32 :=
  pad S8x128x1088 ![0, 0, 0] ![0, 0, 128] ![0, 0, 0] b (sitofp .f32 (constantI S_ 32 0#32)) pads_S8x128x960_S8x128x1088_000_000_01280 h_S_

/-- The two copies of the table, one a row distance further than the other. -/
def hTwo (b : FVec Ideal S8x128x1088 .f32) : FVec Ideal S8x2x128x1024 .f32 :=
  concatenate S8x2x128x1024 1 [⟨S8x1x128x1024, broadcastInDim S8x1x128x1024 ![0, 2, 3] bcast_S8x128x1024_S8x1x128x1024_0_2_3
      (extractStridedSlice S8x128x1024 ![0, 0, 0] b slices_S8x128x1088_S8x128x1024_0_0_0)⟩,
    ⟨S8x1x128x1024, broadcastInDim S8x1x128x1024 ![0, 2, 3] bcast_S8x128x1024_S8x1x128x1024_0_2_3
      (extractStridedSlice S8x128x1024 ![0, 0, 64] b slices_S8x128x1088_S8x128x1024_0_0_64)⟩]
    concatenates_S8x1x128x1024_S8x1x128x1024_S8x2x128x1024_d1

/-! ## The operands -/

variable (m : (ℓ : Loc nD τ sig) → Buf (Elt Ideal) ℓ)

theorem V_q (c : Dev nD) : V m c main_v60 = truncf .bf16 (mulf (m ((c : Thread nD τ).loc main_arg0))
    (broadcastInDim S16x2304x1024 ![] bcast_S_S16x2304x1024 hLog)) bitsLt_bf16_f32 := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

theorem V_k (c : Dev nD) : V m c main_v61 = (truncf (F := Ideal) .bf16 (m ((c : Thread nD τ).loc main_arg1) : FVec Ideal S16x2304x1024 .f32) bitsLt_bf16_f32 : FVec Ideal S16x2304x1024 .bf16) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp

theorem V_v (c : Dev nD) : V m c main_v62 = (truncf (F := Ideal) .bf16 (m ((c : Thread nD τ).loc main_arg2) : FVec Ideal S16x2304x1024 .f32) bitsLt_bf16_f32 : FVec Ideal S16x2304x1024 .bf16) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp

set_option maxHeartbeats 4000000 in
theorem V_t (c : Dev nD) : V m c main_v55 = hTwo (hPad (hPair (hBias hHot (m ((c : Thread nD τ).loc main_arg3))))) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  unfold hTwo
  refine congrArg₂ (fun a b : FVec Ideal S8x1x128x1024 .f32 => concatenate S8x2x128x1024 1 [⟨S8x1x128x1024, a⟩, ⟨S8x1x128x1024, b⟩] concatenates_S8x1x128x1024_S8x1x128x1024_S8x2x128x1024_d1) ?_ ?_
  · after_reads_simp
    rfl
  · after_reads_simp
    rfl

/-! ## The stages read at an index -/

theorem start_at : ∀ a : Fin 64, IntOp.minsi (48#32) (IntOp.maxsi (0#32) (IntOp.subi (BitVec.ofNat 32 a.val) 8#32))
    = BitVec.ofNat 32 (colStart a.val) := by decide +kernel

theorem small_sge : ∀ a b : Fin 64, IntOp.cmpi .sge (BitVec.ofNat 32 a.val) (BitVec.ofNat 32 b.val) = BitVec.ofBool (decide (b.val ≤ a.val)) := by
  decide +kernel

theorem small_slt : ∀ a b : Fin 64, IntOp.cmpi .slt (BitVec.ofNat 32 a.val) (IntOp.addi (BitVec.ofNat 32 b.val) 16#32)
    = BitVec.ofBool (decide (a.val < b.val + 16)) := by
  decide +kernel

theorem small_dist : ∀ a k : Fin 64, IntOp.minsi (30#32) (IntOp.maxsi (0#32) (IntOp.subi (IntOp.addi (IntOp.subi (BitVec.ofNat 32 k.val) (BitVec.ofNat 32 a.val)) 16#32) 1#32))
    = BitVec.ofNat 32 (colDist a k).val := by
  decide +kernel

theorem small_eq : ∀ a b : Fin 31, IntOp.cmpi .eq (BitVec.ofNat 32 a.val) (BitVec.ofNat 32 b.val) = BitVec.ofBool (decide (a = b)) := by
  decide +kernel

theorem and_bits (a b : Bool) : IntOp.andi (BitVec.ofBool a) (BitVec.ofBool b) = BitVec.ofBool (a && b) := by
  revert a b; decide

theorem select_bit {α : Type} (p : Prop) [Decidable p] (a b : α) : Scalar.select (BitVec.ofBool (decide p)) a b = if p then a else b := by
  by_cases h : p
  · rw [decide_eq_true h, if_pos h]; rfl
  · rw [decide_eq_false h, if_neg h]; rfl

/-- The bits that say whether a key column is in a query column's window. -/
theorem near_bits (a k : Fin 64) : IntOp.andi
      (IntOp.cmpi .sge (BitVec.ofNat 32 k.val) (IntOp.minsi (48#32) (IntOp.maxsi (0#32) (IntOp.subi (BitVec.ofNat 32 a.val) 8#32))))
      (IntOp.cmpi .slt (BitVec.ofNat 32 k.val) (IntOp.addi (IntOp.minsi (48#32) (IntOp.maxsi (0#32) (IntOp.subi (BitVec.ofNat 32 a.val) 8#32))) 16#32))
    = BitVec.ofBool (decide (near a k)) := by
  have h : colStart a.val < 64 := by unfold colStart; omega
  rw [start_at, small_sge k ⟨colStart a.val, h⟩, small_slt k ⟨colStart a.val, h⟩, and_bits]
  congr 1
  unfold near
  exact (Bool.decide_and _ _).symm

theorem hMask_apply (a k : Fin 64) : hMask (ix2 a k) = BitVec.ofBool (decide (near a k)) := by
  pointwise [hMask, hStart]
  exact near_bits a k

theorem hDc_apply (a k : Fin 64) : hDc (ix2 a k) = BitVec.ofNat 32 (colDist a k).val := by
  pointwise [hDc]
  exact small_dist a k

theorem hHot_apply (c : Fin 31) (a k : Fin 64) : hHot (ix3 c a k) = if near a k ∧ colDist a k = c then 1 else 0 := by
  pointwise [hHot]
  rw [hMask_apply, hDc_apply, small_eq, and_bits, ← Bool.decide_and]
  by_cases h : near a k ∧ colDist a k = c
  · rw [if_pos h, decide_eq_true h.symm]
    show ((((1 : ℕ) : ℝ)) : EReal) = 1
    norm_num
  · rw [if_neg h, decide_eq_false (fun h' => h h'.symm)]
    show ((((0 : ℕ) : ℝ)) : EReal) = 0
    norm_num

theorem hLog_apply (i : S_.Idx) : hLog i = (log2e : EReal) := by
  pointwise [hLog]
  rw [word_two, one_div_log]

/-- The bias of a head, a row distance, a query column and a key column. -/
theorem hBias_apply (x : FVec Ideal S16x15x31 .f32) (h : Fin 16) (r : Fin 15) (a k : Fin 64) :
    hBias hHot x (ix4 h r a k) = (if near a k then x (ix3 h r (colDist a k)) else 0) * (log2e : EReal) + (if near a k then 0 else ⊥) := by
  generalize e : hHot = hot
  pointwise [hBias]
  rw [hMask_apply, select_bit, hLog_apply, word_bot, ← e]
  simp only [hHot_apply]
  congr 2
  by_cases hn : near a k
  · simp [hn]
  · simp [hn]

theorem hPair_apply (b : FVec Ideal S16x15x64x64 .f32) (p : Fin 8) (h : Fin 2) (a : Fin 64) (x : Fin 960) (hh : Fin 16) (r : Fin 15) (k : Fin 64)
    (ehh : hh.val = 2 * p.val + h.val) (ex : x.val = 64 * r.val + k.val) : hPair b (ix3 p (lane h a) x) = b (ix4 hh r a k) := by
  pointwise [hPair]
  have e1 : (⟨p.val * 2 + (lane h a).val / 64, by have := (lane h a).isLt; omega⟩ : Fin 16) = hh := by
    apply Fin.ext; show p.val * 2 + (64 * h.val + a.val) / 64 = hh.val; omega
  have e2 : (⟨x.val / 64, by omega⟩ : Fin 15) = r := by apply Fin.ext; show x.val / 64 = r.val; omega
  have e3 : (⟨(lane h a).val % 64, by omega⟩ : Fin 64) = a := by apply Fin.ext; show (64 * h.val + a.val) % 64 = a.val; omega
  have e4 : (⟨x.val % 64, by omega⟩ : Fin 64) = k := by apply Fin.ext; show x.val % 64 = k.val; omega
  rw [e1, e2, e3, e4]

theorem hPad_apply (b : FVec Ideal S8x128x960 .f32) (p : Fin 8) (h : Fin 128) (x : Fin 1088) (hx : x.val < 960) : hPad b (ix3 p h x) = b (ix3 p h ⟨x.val, hx⟩) := by
  pointwise [hPad]
  rw [dif_pos hx]

theorem hTwo_apply (b : FVec Ideal S8x128x1088 .f32) (p : Fin 8) (e : Fin 2) (h : Fin 128) (x : Fin 1024) :
    hTwo b (ix4 p e h x) = b (ix3 p h ⟨64 * e.val + x.val, by omega⟩) := by
  pointwise [hTwo]
  match e with
  | ⟨0, _⟩ => rw [dif_pos Nat.zero_lt_one]; congr 2; apply Fin.ext; show x.val = 64 * 0 + x.val; omega
  | ⟨1, _⟩ => rw [dif_neg (Nat.lt_irrefl 1)]; rfl

/-- The table as the kernel reads it. -/
theorem table_apply (x : FVec Ideal S16x15x31 .f32) (p : Fin 8) (e : Fin 2) (h : Fin 2) (a : Fin 64) (j : Fin 1024) (hh : Fin 16) (r : Fin 15) (k : Fin 64)
    (ehh : hh.val = 2 * p.val + h.val) (ej : 64 * e.val + j.val = 64 * r.val + k.val) :
    hTwo (hPad (hPair (hBias hHot x))) (ix4 p e (lane h a) j)
      = (if near a k then x (ix3 hh r (colDist a k)) else 0) * (log2e : EReal) + (if near a k then 0 else ⊥) := by
  rw [hTwo_apply, hPad_apply _ _ _ _ (by show 64 * e.val + j.val < 960; omega), hPair_apply _ p h a _ hh r k ehh ej, hBias_apply]

end Cert.KernelIdeal.Hand
end
-- ==== Proof.Natten.Final.lean ====
/-
  The array the attention kernel ends with: the formula of `Natten/Whole.lean`, for queries, keys and biases that are finite.
-/
module

public import proofs.«01_k».proof.Proof.Gen.KernelIdeal.Value
public import proofs.«01_k».proof.Proof.Natten.Table

@[expose] public section

set_option maxRecDepth 16384

noncomputable section

namespace Cert.KernelIdeal.Hand

open Cert.Soft Cert.KernelIdeal Cert.KernelIdeal.Gen Idealize.ShloMosaic Idealize.ShloMosaic.TcCoe Idealize.SL.Sem
open Idealize.ShloMosaic.Pipeline (Dat)

/-! ## The stores of a block, read back -/

theorem mem_group (r : Fin 32) (y : S1x2304x128.Idx) : y ∈ (rectQ r).set → (y 1).val / 64 = r.val + 4 := by
  rw [Rect.mem_set_unit]
  intro h
  have h1 : 256 + 64 * r.val ≤ (y 1).val := (h 1).1
  have h2 : (y 1).val < 256 + 64 * r.val + 64 := (h 1).2
  omega

/-- A row of a group holds what the group stored, the other groups' rows being others. -/
theorem canon_group (f : (r : Fin 32) → (rectQ r).shape.Idx → EReal) (rest : List (View.Piece (Elt Ideal) S1x2304x128 .bf16)) (r : Fin 32)
    (j : (rectQ r).shape.Idx) (l : List (Fin 32)) (hl : r ∈ l) :
    View.canon (l.map (fun r => (⟨rectQ r, f r⟩ : View.Piece (Elt Ideal) S1x2304x128 .bf16)) ++ rest) ((rectQ r).emb j) = f r j := by
  induction l with
  | nil => exact absurd hl List.not_mem_nil
  | cons r' l ih =>
    rw [List.map_cons, List.cons_append]
    by_cases e : r = r'
    · subst e
      exact View.canon_cons_emb ..
    · rw [View.canon_cons_of_not_mem _ _ (by
        intro h
        have h1 := mem_group r' _ h
        have h2 : (((rectQ r).emb j) 1).val = 256 + 64 * r.val + 1 * (j 1).val := rfl
        have h3 : (j 1).val < 64 := (j 1).isLt
        exact e (Fin.ext (by omega)))]
      exact ih ((List.mem_cons.mp hl).resolve_left e)

/-- A row below the groups' holds what was stored before them. -/
theorem canon_below (f : (r : Fin 32) → (rectQ r).shape.Idx → EReal) (rest : List (View.Piece (Elt Ideal) S1x2304x128 .bf16))
    (y : S1x2304x128.Idx) (hy : (y 1).val < 256) (l : List (Fin 32)) :
    View.canon (l.map (fun r => (⟨rectQ r, f r⟩ : View.Piece (Elt Ideal) S1x2304x128 .bf16)) ++ rest) y = View.canon rest y := by
  induction l with
  | nil => rfl
  | cons r' l ih =>
    rw [List.map_cons, List.cons_append, View.canon_cons_of_not_mem _ _ (by intro h; have h1 := mem_group r' _ h; omega)]
    exact ih

/-- The values beside ones: the first 128 columns. -/
theorem wide_value (v : Vec Ideal S1x2304x128 .bf16) (i : Fin 2304) (l : Fin 128) :
    View.canon (widePieces v) (ix2 i ⟨l.val, by omega⟩) = v (ix3 0 i l) := by
  unfold widePieces
  rw [View.canon_cons_of_not_mem _ _ (by
    show _ ∉ (Rect.unit (s := S2304x256) ![0, 128] S2304x128.size inb_S2304x256_S2304x128_0_128).set
    rw [Rect.mem_set_unit]; intro h; have h' : 128 ≤ l.val := (h 1).1; omega)]
  have e : (ix2 i ⟨l.val, by omega⟩ : S2304x256.Idx) = (Rect.unit (s := S2304x256) ![0, 0] S2304x128.size inb_S2304x256_S2304x128_0_0).emb (ix2 i l) := by
    funext a; apply Fin.ext
    match a with
    | ⟨0, _⟩ => show i.val = 0 + 1 * i.val; omega
    | ⟨1, _⟩ => show l.val = 0 + 1 * l.val; omega
  rw [e, View.canon_cons_emb]
  pointwise [k0_pay2]

/-- The last 128 columns. -/
theorem wide_one (v : Vec Ideal S1x2304x128 .bf16) (i : Fin 2304) (l : Fin 128) :
    View.canon (widePieces v) (ix2 i ⟨128 + l.val, by omega⟩) = (1 : EReal) := by
  unfold widePieces
  have e : (ix2 i ⟨128 + l.val, by omega⟩ : S2304x256.Idx) = (Rect.unit (s := S2304x256) ![0, 128] S2304x128.size inb_S2304x256_S2304x128_0_128).emb (ix2 i l) := by
    funext a; apply Fin.ext
    match a with
    | ⟨0, _⟩ => show i.val = 0 + 1 * i.val; omega
    | ⟨1, _⟩ => show 128 + l.val = 128 + 1 * l.val; omega
  rw [e, View.canon_cons_emb]
  pointwise [k0_pay3]

/-! ## What the groups read -/

theorem ld_q (x : Vec Ideal S1x2304x128 .bf16) (r : Fin 32) (a : Fin 64) (l : Fin 128) : View.ld x (rectQ r) (ix3 0 a l) = x (ix3 0 (latRow r a) l) := by
  show x _ = x _
  congr 1; funext i; apply Fin.ext
  match i with
  | ⟨0, _⟩ => rfl
  | ⟨1, _⟩ => show 256 + 64 * r.val + 1 * a.val = 256 + 64 * r.val + a.val; omega
  | ⟨2, _⟩ => show 0 + 1 * l.val = l.val; omega

theorem ld_k (x : Vec Ideal S1x2304x128 .bf16) (r : Fin 32) (n : Fin 512) (l : Fin 128) : View.ld x (rectK r) (ix3 0 n l) = x (ix3 0 (keyRow r n) l) := by
  show x _ = x _
  congr 1; funext i; apply Fin.ext
  match i with
  | ⟨0, _⟩ => rfl
  | ⟨1, _⟩ => show 256 + 64 * rowStart r.val + 1 * n.val = 256 + 64 * rowStart r.val + n.val; omega
  | ⟨2, _⟩ => show 0 + 1 * l.val = l.val; omega

theorem ld_c (x : Vec Ideal S1x2304x128 .bf16) (n : Fin 256) (l : Fin 128) : View.ld x rectC (ix3 0 n l) = x (ix3 0 (ctxRow n) l) := by
  show x _ = x _
  congr 1; funext i; apply Fin.ext
  match i with
  | ⟨0, _⟩ => rfl
  | ⟨1, _⟩ => show 0 + 1 * n.val = n.val; omega
  | ⟨2, _⟩ => show 0 + 1 * l.val = l.val; omega

theorem ld_v (x : Vec Ideal S2304x256 .bf16) (r : Fin 32) (n : Fin 512) (l : Fin 256) : View.ld x (rectV r) (ix2 n l) = x (ix2 (keyRow r n) l) := by
  show x _ = x _
  congr 1; funext i; apply Fin.ext
  match i with
  | ⟨0, _⟩ => show 256 + 64 * rowStart r.val + 1 * n.val = 256 + 64 * rowStart r.val + n.val; omega
  | ⟨1, _⟩ => show 0 + 1 * l.val = l.val; omega

theorem ld_vc (x : Vec Ideal S2304x256 .bf16) (n : Fin 256) (l : Fin 256) : View.ld x rectVC (ix2 n l) = x (ix2 (ctxRow n) l) := by
  show x _ = x _
  congr 1; funext i; apply Fin.ext
  match i with
  | ⟨0, _⟩ => show 0 + 1 * n.val = n.val; omega
  | ⟨1, _⟩ => show 0 + 1 * l.val = l.val; omega

theorem ld_b (x : Vec Ideal S1x2x128x1024 .f32) (r : Fin 32) (l : Fin 128) (n : Fin 512) :
    View.ld x (rectB r) (ix4 0 0 l n) = x (ix4 0 ⟨rowDist r.val % 2, by omega⟩ l ⟨128 * (rowDist r.val / 2) + n.val, by have := rowDist_le r; omega⟩) := by
  show x _ = x _
  congr 1; funext i; apply Fin.ext
  match i with
  | ⟨0, _⟩ => rfl
  | ⟨1, _⟩ => show rowDist r.val % 2 + 1 * 0 = rowDist r.val % 2; omega
  | ⟨2, _⟩ => show 0 + 1 * l.val = l.val; omega
  | ⟨3, _⟩ => show 128 * (rowDist r.val / 2) + 1 * n.val = 128 * (rowDist r.val / 2) + n.val; omega

/-! ## A block -/

/-- Head `h` of pair `p`. -/
def head (p : Fin 8) (h : Fin 2) : Fin 16 := ⟨2 * p.val + h.val, by omega⟩

section
variable {q k v : Rows} {x : Biases} (hq : Finite q) (hk : Finite k) (hx : Finite x) (b : Fin 16) (p : Fin 8)
  {Q K W : Vec Ideal S1x2304x128 .bf16} {T : Vec Ideal S1x2x128x1024 .f32}
  (hQ : ∀ i h e, Q (ix3 0 i (lane h e)) = q (ix3 b i (hcol (head p h) e)) * (log2e : EReal))
  (hK : ∀ i h e, K (ix3 0 i (lane h e)) = k (ix3 b i (hcol (head p h) e)))
  (hW : ∀ i h e, W (ix3 0 i (lane h e)) = v (ix3 b i (hcol (head p h) e)))
  (hT : ∀ (e : Fin 2) h a (j : Fin 1024) (r : Fin 15) (c : Fin 64), 64 * e.val + j.val = 64 * r.val + c.val → T (ix4 0 e (lane h a) j)
    = (if near a c then x (ix3 (head p h) r (colDist a c)) else 0) * (log2e : EReal) + (if near a c then 0 else ⊥))
include hq hk hQ hK hW

theorem block_ctx (h : Fin 2) (i : Fin 256) (d : Fin 64) : block Q K W T (ix3 0 (ctxRow i) (lane h d)) = whole q k v x b (ctxRow i) (hcol (head p h) d) := by
  have e : (ix3 0 (ctxRow i) (lane h d) : S1x2304x128.Idx) = rectC.emb (ix3 0 i (lane h d)) := by
    funext a; apply Fin.ext
    match a with
    | ⟨0, _⟩ => rfl
    | ⟨1, _⟩ => show i.val = 0 + 1 * i.val; omega
    | ⟨2, _⟩ => show (lane h d).val = 0 + 1 * (lane h d).val; omega
  rw [whole_ctx, ← ctxOut_late v hq hk]
  unfold block storesOf
  rw [canon_below _ _ _ (by show i.val < 256; exact i.isLt), e, View.canon_cons_emb]
  refine (ctxV_apply _ _ _ i h d (fun n => (log2e : EReal) * (Fin.elim0 : Fin 0 → EReal) n) Fin.elim0
    (fun n => (log2e : EReal) * ctxScore q k b (head p h) (ctxRow i) n) (fun n => ?_) (fun n l => ?_)).trans ?_
  · rw [← ctxScore_scaled hq hk]
    refine Finset.sum_congr rfl fun e _ => ?_
    rw [ld_c, ld_c, hQ, hK]
  · rw [ld_vc, wide_one]
  · congr 1
    funext n
    rw [ld_vc, wide_value, hW]

include hx hT

theorem block_lat (h : Fin 2) (r : Fin 32) (a : Fin 64) (d : Fin 64) : block Q K W T (ix3 0 (latRow r a) (lane h d)) = whole q k v x b (latRow r a) (hcol (head p h) d) := by
  have e : (ix3 0 (latRow r a) (lane h d) : S1x2304x128.Idx) = (rectQ r).emb (ix3 0 a (lane h d)) := by
    funext i; apply Fin.ext
    match i with
    | ⟨0, _⟩ => rfl
    | ⟨1, _⟩ => show 256 + 64 * r.val + a.val = 256 + 64 * r.val + 1 * a.val; omega
    | ⟨2, _⟩ => show (lane h d).val = 0 + 1 * (lane h d).val; omega
  rw [whole_lat, ← latOut_late v hq hk hx]
  unfold block storesOf
  rw [e, canon_group _ _ r _ _ (List.mem_reverse.mpr (List.mem_finRange r))]
  refine (latV_apply _ _ _ _ _ _ a h d (fun n => (log2e : EReal) * latScore q k x b (head p h) r a n)
    (fun n => (log2e : EReal) * ctxScore q k b (head p h) (latRow r a) n) (fun n => ?_) (fun n => ?_) (fun n l => ?_) (fun n l => ?_)).trans ?_
  · rw [← latScore_scaled hq hk hx]
    congr 1
    · refine Finset.sum_congr rfl fun e _ => ?_
      rw [ld_q, ld_k, hQ, hK]
    · rw [ld_b]
      exact (hT _ h a _ (keyDist r n) (keyCol n) (by
        show 64 * (rowDist r.val % 2) + (128 * (rowDist r.val / 2) + n.val) = 64 * (rowDist r.val + n.val / 64) + n.val % 64; omega)).symm
  · rw [← ctxScore_scaled hq hk]
    refine Finset.sum_congr rfl fun e _ => ?_
    rw [ld_q, ld_c, hQ, hK]
  · rw [ld_v, wide_one]
  · rw [ld_vc, wide_one]
  · congr 1
    · funext n
      rw [ld_v, wide_value, hW]
    · funext n
      rw [ld_vc, wide_value, hW]

end

/-! ## The grid -/

variable (m : (ℓ : Loc nD τ sig) → Buf (Elt Ideal) ℓ)

theorem t_lt (t : Fin cfg0.N) : t.val < 128 := Nat.lt_of_lt_of_eq t.isLt N_0

/-- The batch a grid point works on. -/
def bat (t : Fin cfg0.N) : Fin 16 := ⟨t.val % 16, by omega⟩
/-- Its pair of heads. -/
def pr (t : Fin cfg0.N) : Fin 8 := ⟨t.val / 16, by have := t_lt t; omega⟩

theorem at0 : ∀ t : Fin grid0.N, win0_0.index t 0 = t.val % 16 ∧ win0_0.index t 1 = 0 ∧ win0_0.index t 2 = t.val / 16 := by decide +kernel
theorem at1 : ∀ t : Fin grid0.N, win0_1.index t 0 = t.val % 16 ∧ win0_1.index t 1 = 0 ∧ win0_1.index t 2 = t.val / 16 := by decide +kernel
theorem at2 : ∀ t : Fin grid0.N, win0_2.index t 0 = t.val % 16 ∧ win0_2.index t 1 = 0 ∧ win0_2.index t 2 = t.val / 16 := by decide +kernel
theorem at3 : ∀ t : Fin grid0.N, win0_3.index t 0 = t.val / 16 ∧ win0_3.index t 1 = 0 ∧ win0_3.index t 2 = 0 ∧ win0_3.index t 3 = 0 := by decide +kernel
theorem at4 : ∀ t : Fin grid0.N, win0_4.index t 0 = t.val % 16 ∧ win0_4.index t 1 = 0 ∧ win0_4.index t 2 = t.val / 16 := by decide +kernel

abbrev qOf (c : Dev nD) : Rows := m ((c : Thread nD τ).loc main_arg0)
abbrev kOf (c : Dev nD) : Rows := m ((c : Thread nD τ).loc main_arg1)
abbrev vOf (c : Dev nD) : Rows := m ((c : Thread nD τ).loc main_arg2)
abbrev bOf (c : Dev nD) : Biases := m ((c : Thread nD τ).loc main_arg3)

theorem blk0 (c : Dev nD) (t : Fin cfg0.N) (i : Fin 2304) (h : Fin 2) (e : Fin 64) :
    iblk m c 0 t (ix3 0 i (lane h e)) = qOf m c (ix3 (bat t) i (hcol (head (pr t) h) e)) * (log2e : EReal) := by
  unfold iblk
  rw [View.read_apply]
  show V m c main_v60 _ = _
  rw [V_q]
  refine Eq.trans (b := qOf m c (ix3 (bat t) i (hcol (head (pr t) h) e)) * hLog ix0) ?_ (by rw [hLog_apply])
  rw [show ((cfg0.win 0).blk t).view.emb (ix3 0 i (lane h e)) = (ix3 (bat t) i (hcol (head (pr t) h) e) : S16x2304x1024.Idx) from ?_]
  · pointwise []
  · funext a
    apply Fin.ext
    match a with
    | ⟨0, _⟩ => show win0_0.index t 0 * 1 + 1 * 0 = t.val % 16; rw [(at0 t).1]; omega
    | ⟨1, _⟩ => show win0_0.index t 1 * 2304 + 1 * i.val = i.val; rw [(at0 t).2.1]; omega
    | ⟨2, _⟩ => show win0_0.index t 2 * 128 + 1 * (64 * h.val + e.val) = 64 * (2 * (t.val / 16) + h.val) + e.val; rw [(at0 t).2.2]; omega

theorem blk1 (c : Dev nD) (t : Fin cfg0.N) (i : Fin 2304) (h : Fin 2) (e : Fin 64) :
    iblk m c 1 t (ix3 0 i (lane h e)) = kOf m c (ix3 (bat t) i (hcol (head (pr t) h) e)) := by
  unfold iblk
  rw [View.read_apply]
  show V m c main_v61 _ = _
  rw [V_k]
  show kOf m c _ = kOf m c _
  congr 1
  funext a
  apply Fin.ext
  match a with
  | ⟨0, _⟩ => show win0_1.index t 0 * 1 + 1 * 0 = t.val % 16; rw [(at1 t).1]; omega
  | ⟨1, _⟩ => show win0_1.index t 1 * 2304 + 1 * i.val = i.val; rw [(at1 t).2.1]; omega
  | ⟨2, _⟩ => show win0_1.index t 2 * 128 + 1 * (64 * h.val + e.val) = 64 * (2 * (t.val / 16) + h.val) + e.val; rw [(at1 t).2.2]; omega

theorem blk2 (c : Dev nD) (t : Fin cfg0.N) (i : Fin 2304) (h : Fin 2) (e : Fin 64) :
    iblk m c 2 t (ix3 0 i (lane h e)) = vOf m c (ix3 (bat t) i (hcol (head (pr t) h) e)) := by
  unfold iblk
  rw [View.read_apply]
  show V m c main_v62 _ = _
  rw [V_v]
  show vOf m c _ = vOf m c _
  congr 1
  funext a
  apply Fin.ext
  match a with
  | ⟨0, _⟩ => show win0_2.index t 0 * 1 + 1 * 0 = t.val % 16; rw [(at2 t).1]; omega
  | ⟨1, _⟩ => show win0_2.index t 1 * 2304 + 1 * i.val = i.val; rw [(at2 t).2.1]; omega
  | ⟨2, _⟩ => show win0_2.index t 2 * 128 + 1 * (64 * h.val + e.val) = 64 * (2 * (t.val / 16) + h.val) + e.val; rw [(at2 t).2.2]; omega

theorem blk3 (c : Dev nD) (t : Fin cfg0.N) (e : Fin 2) (h : Fin 2) (a : Fin 64) (j : Fin 1024) (r : Fin 15) (k : Fin 64)
    (ej : 64 * e.val + j.val = 64 * r.val + k.val) :
    iblk m c 3 t (ix4 0 e (lane h a) j)
      = (if near a k then bOf m c (ix3 (head (pr t) h) r (colDist a k)) else 0) * (log2e : EReal) + (if near a k then 0 else ⊥) := by
  unfold iblk
  rw [View.read_apply]
  show V m c main_v55 _ = _
  rw [V_t]
  rw [show ((cfg0.win 3).blk t).view.emb (ix4 0 e (lane h a) j) = (ix4 (pr t) e (lane h a) j : S8x2x128x1024.Idx) from ?_]
  · exact table_apply _ (pr t) e h a j (head (pr t) h) r k rfl ej
  · funext i
    apply Fin.ext
    match i with
    | ⟨0, _⟩ => show win0_3.index t 0 * 1 + 1 * 0 = t.val / 16; rw [(at3 t).1]; omega
    | ⟨1, _⟩ => show win0_3.index t 1 * 2 + 1 * e.val = e.val; rw [(at3 t).2.1]; omega
    | ⟨2, _⟩ => show win0_3.index t 2 * 128 + 1 * (64 * h.val + a.val) = 64 * h.val + a.val; rw [(at3 t).2.2.1]; omega
    | ⟨3, _⟩ => show win0_3.index t 3 * 1024 + 1 * j.val = j.val; rw [(at3 t).2.2.2]; omega

/-- The array the program ends with. -/
def result (c : Dev nD) : S16x2304x1024.Idx → EReal := fun y => whole (qOf m c) (kOf m c) (vOf m c) (bOf m c) (y 0) (y 1) (y 2)

theorem row_cases (y : Fin 2304) : (∃ i, y = ctxRow i) ∨ ∃ r a, y = latRow r a := by
  by_cases h : y.val < 256
  · exact Or.inl ⟨⟨y.val, h⟩, rfl⟩
  · refine Or.inr ⟨⟨(y.val - 256) / 64, by omega⟩, ⟨(y.val - 256) % 64, by omega⟩, Fin.ext ?_⟩
    show y.val = 256 + 64 * ((y.val - 256) / 64) + (y.val - 256) % 64
    omega

/-- What a grid point writes back is its block of the result. -/
theorem flushed_eq (c : Dev nD) (hq : Finite (qOf m c)) (hk : Finite (kOf m c)) (hx : Finite (bOf m c)) (t : Fin cfg0.N) :
    (dats m 0 c).flushed 4 t = ((cfg0.win 4).blk t).view.read (Elt Ideal) (result m c) := by
  rw [Value.flushed4_A, out_eq]
  funext j
  obtain ⟨h, d, hd⟩ := lane_cases ⟨(j 2).val, (j 2).isLt⟩
  have hj : j = (ix3 0 (⟨(j 1).val, (j 1).isLt⟩ : Fin 2304) (lane h d) : S1x2304x128.Idx) := by
    funext a
    match a with
    | ⟨0, _⟩ => apply Fin.ext; have : (j 0).val < 1 := (j 0).isLt; show (j 0).val = 0; omega
    | ⟨1, _⟩ => rfl
    | ⟨2, _⟩ => rw [← hd]; rfl
  have hy : ((cfg0.win 4).blk t).view.emb j = (ix3 (bat t) (⟨(j 1).val, (j 1).isLt⟩ : Fin 2304) (hcol (head (pr t) h) d) : S16x2304x1024.Idx) := by
    have h0 : (j 0).val < 1 := (j 0).isLt
    have h2 : (j 2).val = 64 * h.val + d.val := congrArg Fin.val hd
    funext a
    apply Fin.ext
    match a with
    | ⟨0, _⟩ => show win0_4.index t 0 * 1 + 1 * (j 0).val = t.val % 16; rw [(at4 t).1]; omega
    | ⟨1, _⟩ => show win0_4.index t 1 * 2304 + 1 * (j 1).val = (j 1).val; rw [(at4 t).2.1]; omega
    | ⟨2, _⟩ => show win0_4.index t 2 * 128 + 1 * (j 2).val = 64 * (2 * (t.val / 16) + h.val) + d.val; rw [(at4 t).2.2]; omega
  rw [View.read_apply, hy]
  refine Eq.trans (b := block (iblk m c 0 t) (iblk m c 1 t) (iblk m c 2 t) (iblk m c 3 t) (ix3 0 (⟨(j 1).val, (j 1).isLt⟩ : Fin 2304) (lane h d))) (congrArg _ hj) ?_
  show _ = whole (qOf m c) (kOf m c) (vOf m c) (bOf m c) (bat t) (⟨(j 1).val, (j 1).isLt⟩ : Fin 2304) (hcol (head (pr t) h) d)
  obtain ⟨i, e⟩ | ⟨r, a, e⟩ := row_cases ⟨(j 1).val, (j 1).isLt⟩
  · rw [e]
    exact block_ctx hq hk (bat t) (pr t) (blk0 m c t) (blk1 m c t) (blk2 m c t) h i d
  · rw [e]
    exact block_lat hq hk hx (bat t) (pr t) (blk0 m c t) (blk1 m c t) (blk2 m c t) (blk3 m c t) h r a d

/-- The blocks cover the array. -/
theorem cover (i : S16x2304x1024.Idx) : ∃ t : Fin cfg0.N, (cfg0.win 4).flush t = true ∧ i ∈ ((cfg0.win 4).blk t).view.set := by
  have h0 : (i 0).val < 16 := (i 0).isLt
  have h1 : (i 1).val < 2304 := (i 1).isLt
  have h2 : (i 2).val < 1024 := (i 2).isLt
  have hN : cfg0.N = 128 := N_0
  refine ⟨⟨16 * ((i 2).val / 128) + (i 0).val, by omega⟩, flush0_4 _, ?_⟩
  generalize ht : (⟨16 * ((i 2).val / 128) + (i 0).val, by omega⟩ : Fin cfg0.N) = t
  have ht' : t.val = 16 * ((i 2).val / 128) + (i 0).val := by rw [← ht]
  show i ∈ ((View.whole main_v63).slice (win0_4.rect t)).set
  rw [View.set_slice_whole, Rect.mem_set_unit]
  intro a
  match a with
  | ⟨0, _⟩ => show win0_4.index t 0 * 1 ≤ (i 0).val ∧ (i 0).val < win0_4.index t 0 * 1 + 1; rw [(at4 t).1]; omega
  | ⟨1, _⟩ => show win0_4.index t 1 * 2304 ≤ (i 1).val ∧ (i 1).val < win0_4.index t 1 * 2304 + 2304; rw [(at4 t).2.1]; omega
  | ⟨2, _⟩ => show win0_4.index t 2 * 128 ≤ (i 2).val ∧ (i 2).val < win0_4.index t 2 * 128 + 128; rw [(at4 t).2.2]; omega

/-- The array the program ends with, queries, keys and biases being finite. -/
theorem final (c : Dev nD) (hq : Finite (qOf m c)) (hk : Finite (kOf m c)) (hx : Finite (bOf m c)) : (dats m 0 c).arrAt 4 cfg0.N = result m c :=
  (dats m 0 c).arrAt_eq_of_cover 4 (result m c) (fun t _ => flushed_eq m c hq hk hx t) cover

end Cert.KernelIdeal.Hand
end
-- ==== Proof.Natten.RefIndex.lean ====
/-
  The reference's integer tables: which keys a grid point's window holds, the column windows, the bias table's rows and columns.
-/
module

public import proofs.«01_k».proof.Proof.Gen.ReferenceIdeal.Read
public import proofs.«01_k».proof.Proof.Natten.Whole

@[expose] public section

set_option maxRecDepth 16384

noncomputable section

namespace Cert.ReferenceIdeal.Hand

open Cert.Soft Cert.ReferenceIdeal Cert.ReferenceIdeal.Read Idealize.ShloMosaic

/-- The key rows of a grid row's window. -/
theorem win_at : ∀ (r : Fin 32) (w : Fin 8), (val_main_v66 (F := Ideal) (ix3 r w 0)).toInt.toNat = rowStart r.val + w.val := by decide +kernel

theorem winv_at : ∀ (r : Fin 32) (w : Fin 8), (val_main_v74 (F := Ideal) (ix3 r w 0)).toInt.toNat = rowStart r.val + w.val := by decide +kernel

/-- The bias table's rows. -/
theorem dr_at : ∀ (r : Fin 32) (w : Fin 8), (val_main_v90 (F := Ideal) (ix4 r 0 w 0)).toInt.toNat = rowDist r.val + w.val := by decide +kernel

/-- Its columns. -/
theorem dc_at : ∀ a k : Fin 64, (val_main_v95 (F := Ideal) (ix4 0 a 0 k)).toInt.toNat = (colDist a k).val := by decide +kernel

/-- The column windows. -/
theorem mask_at : ∀ a k : Fin 64, val_main_v37 (F := Ideal) (ix2 a k) = BitVec.ofBool (decide (near a k)) := by decide +kernel

end Cert.ReferenceIdeal.Hand
end
-- ==== Proof.Natten.RefHeads.lean ====
/-
  The reference's heads, windows and biases, read at an index of the arrays they are cut out of.
-/
module

public import proofs.«01_k».proof.Proof.Natten.RefIndex

@[expose] public section

set_option maxRecDepth 16384

noncomputable section

namespace Cert.ReferenceIdeal.Hand

open Cert.Soft Cert.ReferenceIdeal Cert.ReferenceIdeal.Gen Cert.ReferenceIdeal.Read Idealize.ShloMosaic

variable (x : S16x2304x1024.Idx → EReal) (y : S16x15x31.Idx → EReal)

/-! ## Heads -/

/-- A context row of a head. -/
theorem v2_apply (b h : Fin 16) (i : Fin 256) (e : Fin 64) : val_main_v2 (F := Ideal) x (ix4 b h i e) = x (ix3 b (ctxRow i) (hcol h e)) := by
  unfold val_main_v2
  refine (transpose_apply [0, 2, 1, 3] _ _ (ix4 b h i e) (ix4 b i h e : S16x256x16x64.Idx) (fun a => match a with
    | ⟨0, _⟩ => rfl | ⟨1, _⟩ => rfl | ⟨2, _⟩ => rfl | ⟨3, _⟩ => rfl)).trans ?_
  unfold val_main_v1
  refine (shapeCast_apply _ _ (ix4 b i h e) (ix3 b i (hcol h e) : S16x256x1024.Idx) ?_).trans ?_
  · rewrite [Shape.rowMajor_val_three, Shape.rowMajor_val_four]
    show (b.val * 256 + i.val) * 1024 + (64 * h.val + e.val) = ((b.val * 256 + i.val) * 16 + h.val) * 64 + e.val
    omega
  rw [val_main_v0_apply]
  congr 1
  funext a
  match a with
  | ⟨0, _⟩ => rfl
  | ⟨1, _⟩ => rfl
  | ⟨2, _⟩ => rfl

theorem v5_apply (b h : Fin 16) (i : Fin 256) (e : Fin 64) : val_main_v5 (F := Ideal) x (ix4 b h i e) = x (ix3 b (ctxRow i) (hcol h e)) :=
  v2_apply x b h i e

theorem v8_apply (b h : Fin 16) (i : Fin 256) (e : Fin 64) : val_main_v8 (F := Ideal) x (ix4 b h i e) = x (ix3 b (ctxRow i) (hcol h e)) :=
  v2_apply x b h i e

/-- A grid point's row of a head. -/
theorem v18_apply (b h : Fin 16) (r : Fin 32) (a e : Fin 64) : val_main_v18 (F := Ideal) x (ix5 b h r a e) = x (ix3 b (latRow r a) (hcol h e)) := by
  unfold val_main_v18
  refine (shapeCast_apply _ _ (ix5 b h r a e) (ix4 b h (⟨64 * r.val + a.val, by omega⟩ : Fin 2048) e : S16x16x2048x64.Idx) ?_).trans ?_
  · rewrite [Shape.rowMajor_val_four, Shape.rowMajor_val_five]
    show ((b.val * 16 + h.val) * 2048 + (64 * r.val + a.val)) * 64 + e.val = (((b.val * 16 + h.val) * 32 + r.val) * 64 + a.val) * 64 + e.val
    omega
  generalize hi : (⟨64 * r.val + a.val, by omega⟩ : Fin 2048) = i
  unfold val_main_v11
  refine (transpose_apply [0, 2, 1, 3] _ _ (ix4 b h i e) (ix4 b i h e : S16x2048x16x64.Idx) (fun a => match a with
    | ⟨0, _⟩ => rfl | ⟨1, _⟩ => rfl | ⟨2, _⟩ => rfl | ⟨3, _⟩ => rfl)).trans ?_
  unfold val_main_v10
  refine (shapeCast_apply _ _ (ix4 b i h e) (ix3 b i (hcol h e) : S16x2048x1024.Idx) ?_).trans ?_
  · rewrite [Shape.rowMajor_val_three, Shape.rowMajor_val_four]
    show (b.val * 2048 + i.val) * 1024 + (64 * h.val + e.val) = ((b.val * 2048 + i.val) * 16 + h.val) * 64 + e.val
    omega
  rw [val_main_v9_apply, ← hi]
  congr 1
  funext c
  match c with
  | ⟨0, _⟩ => rfl
  | ⟨1, _⟩ => apply Fin.ext; show 256 + (64 * r.val + a.val) = 256 + 64 * r.val + a.val; omega
  | ⟨2, _⟩ => rfl

theorem v19_apply (b h : Fin 16) (r : Fin 32) (a e : Fin 64) : val_main_v19 (F := Ideal) x (ix5 b h r a e) = x (ix3 b (latRow r a) (hcol h e)) :=
  v18_apply x b h r a e

/-! ## Windows -/

/-- How the windows' rows are gathered. -/
abbrev rowDims : GatherDims S16x16x32x64x64 S32x8x1 S16x16x32x8x64x64 :=
  gather_S16x16x32x64x64_S32x8x1_S16x16x32x8x64x64_0145_2_n_n_2_2_161616464

/-- The windows' rows, gathered. -/
theorem gather_rows (g : S16x16x32x64x64.Idx → EReal) (idx : IVec S32x8x1 32) (b h : Fin 16) (r : Fin 32) (w : Fin 8) (a e : Fin 64)
    (n : Fin 32) (hn : (idx (ix3 r w 0)).toInt.toNat = n.val) : Host.gather rowDims g idx (ix6 b h r w a e) = g (ix5 b h n a e) := by
  unfold Host.gather
  congr 1
  funext c
  apply Fin.ext
  match c with
  | ⟨0, _⟩ => exact (Nat.zero_add _).trans rfl
  | ⟨1, _⟩ => exact (Nat.zero_add _).trans rfl
  | ⟨2, _⟩ =>
    show rowDims.start (ix6 b h r w a e) idx (2 : Fin 5) + 0 + 0 = n.val
    have hm : (2 : Fin 5) ∈ ([2] : List (Fin 5)) := List.mem_singleton.mpr rfl
    have hs : rowDims.siIdx (ix6 b h r w a e) ⟨List.idxOf (2 : Fin 5) [2], List.idxOf_lt_length_iff.2 hm⟩ = ix3 r w 0 := by
      funext d
      match d with
      | ⟨0, _⟩ => rfl
      | ⟨1, _⟩ => rfl
      | ⟨2, _⟩ => rfl
    unfold GatherDims.start
    rw [dif_pos (show (2 : Fin 5) ∈ rowDims.startIndexMap from hm)]
    show min (idx (rowDims.siIdx (ix6 b h r w a e) ⟨List.idxOf (2 : Fin 5) [2], List.idxOf_lt_length_iff.2 hm⟩)).toInt.toNat 31 + 0 + 0 = n.val
    rw [hs, hn]
    omega
  | ⟨3, _⟩ => exact (Nat.zero_add _).trans rfl
  | ⟨4, _⟩ => exact (Nat.zero_add _).trans rfl

/-- An entry of a window, the gathered rows laid side by side. -/
theorem window_apply (g : S16x16x32x64x64.Idx → EReal) (idx : IVec S32x8x1 32)
    (hi : ∀ (r : Fin 32) (w : Fin 8), (idx (ix3 r w 0)).toInt.toNat = rowStart r.val + w.val)
    (hg : ∀ b h r a e, g (ix5 b h r a e) = x (ix3 b (latRow r a) (hcol h e)))
    (b h : Fin 16) (r : Fin 32) (n : Fin 512) (e : Fin 64) :
    shapeCast S16x16x32x512x64 (Host.gather rowDims g idx)
      shapeCasts_S16x16x32x8x64x64_S16x16x32x512x64 (ix5 b h r n e) = x (ix3 b (keyRow r n) (hcol h e)) := by
  refine (shapeCast_apply _ _ (ix5 b h r n e) (ix6 b h r (⟨n.val / 64, by omega⟩ : Fin 8) (keyCol n) e : S16x16x32x8x64x64.Idx) ?_).trans ?_
  · rewrite [Shape.rowMajor_val_five, Shape.rowMajor_val_six]
    show ((((b.val * 16 + h.val) * 32 + r.val) * 8 + n.val / 64) * 64 + n.val % 64) * 64 + e.val = (((b.val * 16 + h.val) * 32 + r.val) * 512 + n.val) * 64 + e.val
    omega
  have hr := rowStart_le r.val
  rw [gather_rows g idx b h r ⟨n.val / 64, by omega⟩ (keyCol n) e ⟨rowStart r.val + n.val / 64, by omega⟩ (hi r ⟨n.val / 64, by omega⟩), hg]
  congr 1
  funext c
  match c with
  | ⟨0, _⟩ => rfl
  | ⟨1, _⟩ => apply Fin.ext; show 256 + 64 * (rowStart r.val + n.val / 64) + n.val % 64 = 256 + 64 * rowStart r.val + n.val; omega
  | ⟨2, _⟩ => rfl

theorem v68_apply (b h : Fin 16) (r : Fin 32) (n : Fin 512) (e : Fin 64) :
    val_main_v68 (F := Ideal) x (ix5 b h r n e) = x (ix3 b (keyRow r n) (hcol h e)) :=
  window_apply x _ _ win_at (v19_apply x) b h r n e

theorem v76_apply (b h : Fin 16) (r : Fin 32) (n : Fin 512) (e : Fin 64) :
    val_main_v76 (F := Ideal) x (ix5 b h r n e) = x (ix3 b (keyRow r n) (hcol h e)) :=
  window_apply x _ _ winv_at (v19_apply x) b h r n e

/-! ## Biases -/

/-- How the biases are gathered. -/
abbrev biasDims : GatherDims S16x15x31 S32x64x8x64x2 S16x32x64x8x64 := gather_S16x15x31_S32x64x8x64x2_S16x32x64x8x64_0_12_n_n_12_4_1611

theorem bias_index (c : Fin 2) (h : Fin 16) (r : Fin 32) (a : Fin 64) (w : Fin 8) (k : Fin 64) :
    biasDims.siIdx (ix5 h r a w k) c = ix5 r a w k c := by
  funext d
  match d with
  | ⟨0, _⟩ => rfl
  | ⟨1, _⟩ => rfl
  | ⟨2, _⟩ => rfl
  | ⟨3, _⟩ => rfl
  | ⟨4, _⟩ => rfl

/-- The biases, gathered. -/
theorem gather_bias (idx : IVec S32x64x8x64x2 32) (h : Fin 16) (r : Fin 32) (a : Fin 64) (w : Fin 8) (k : Fin 64) (n : Fin 15) (l : Fin 31)
    (hn : (idx (ix5 r a w k 0)).toInt.toNat = n.val) (hl : (idx (ix5 r a w k 1)).toInt.toNat = l.val) :
    Host.gather biasDims y idx (ix5 h r a w k) = y (ix3 h n l) := by
  unfold Host.gather
  congr 1
  funext c
  apply Fin.ext
  match c with
  | ⟨0, _⟩ => exact (Nat.zero_add _).trans rfl
  | ⟨1, _⟩ =>
    show biasDims.start (ix5 h r a w k) idx (1 : Fin 3) + 0 + 0 = n.val
    unfold GatherDims.start
    rw [dif_pos (show (1 : Fin 3) ∈ biasDims.startIndexMap from List.mem_cons_self)]
    refine Eq.trans (b := min (idx (biasDims.siIdx (ix5 h r a w k) (0 : Fin 2))).toInt.toNat 14 + 0 + 0) rfl ?_
    rw [bias_index, hn]
    omega
  | ⟨2, _⟩ =>
    show biasDims.start (ix5 h r a w k) idx (2 : Fin 3) + 0 + 0 = l.val
    unfold GatherDims.start
    rw [dif_pos (show (2 : Fin 3) ∈ biasDims.startIndexMap from List.mem_cons_of_mem _ List.mem_cons_self)]
    refine Eq.trans (b := min (idx (biasDims.siIdx (ix5 h r a w k) (1 : Fin 2))).toInt.toNat 30 + 0 + 0) rfl ?_
    rw [bias_index, hl]
    omega

theorem pair_left (u v : IVec S32x64x8x64x1 32) (r : Fin 32) (a : Fin 64) (w : Fin 8) (k : Fin 64) :
    concatenate S32x64x8x64x2 4 [⟨S32x64x8x64x1, u⟩, ⟨S32x64x8x64x1, v⟩] concatenates_S32x64x8x64x1_S32x64x8x64x1_S32x64x8x64x2_d4 (ix5 r a w k 0)
      = u (ix5 r a w k 0) :=
  concatenate_pair_apply_left _ u v _ (ix5 r a w k 0 : S32x64x8x64x2.Idx) rfl (ix5 r a w k 0 : S32x64x8x64x1.Idx) (fun c => match c with
    | ⟨0, _⟩ => rfl | ⟨1, _⟩ => rfl | ⟨2, _⟩ => rfl | ⟨3, _⟩ => rfl | ⟨4, _⟩ => rfl)

theorem pair_right (u v : IVec S32x64x8x64x1 32) (r : Fin 32) (a : Fin 64) (w : Fin 8) (k : Fin 64) :
    concatenate S32x64x8x64x2 4 [⟨S32x64x8x64x1, u⟩, ⟨S32x64x8x64x1, v⟩] concatenates_S32x64x8x64x1_S32x64x8x64x1_S32x64x8x64x2_d4 (ix5 r a w k 1)
      = v (ix5 r a w k 0) :=
  concatenate_pair_apply_right _ u v _ (ix5 r a w k 1 : S32x64x8x64x2.Idx) rfl rfl (ix5 r a w k 0 : S32x64x8x64x1.Idx) (fun c => match c with
    | ⟨0, _⟩ => fun _ => rfl | ⟨1, _⟩ => fun _ => rfl | ⟨2, _⟩ => fun _ => rfl | ⟨3, _⟩ => fun _ => rfl | ⟨4, _⟩ => fun h => absurd rfl h) rfl

theorem v98_apply (r : Fin 32) (a : Fin 64) (w : Fin 8) (k : Fin 64) : val_main_v98 (F := Ideal) (ix5 r a w k 0) = val_main_v90 (F := Ideal) (ix4 r 0 w 0) := by
  rw [val_main_v98_apply, val_main_v96_apply]
  refine congrArg _ (funext fun c => ?_)
  match c with
  | ⟨0, _⟩ => rfl
  | ⟨1, _⟩ => rfl
  | ⟨2, _⟩ => rfl
  | ⟨3, _⟩ => rfl

theorem v99_apply (r : Fin 32) (a : Fin 64) (w : Fin 8) (k : Fin 64) : val_main_v99 (F := Ideal) (ix5 r a w k 0) = val_main_v95 (F := Ideal) (ix4 0 a 0 k) := by
  rw [val_main_v99_apply, val_main_v97_apply]
  refine congrArg _ (funext fun c => ?_)
  match c with
  | ⟨0, _⟩ => rfl
  | ⟨1, _⟩ => rfl
  | ⟨2, _⟩ => rfl
  | ⟨3, _⟩ => rfl

/-- The bias of a head, a grid row, a column, and a window's row and column. -/
theorem v101_apply (h : Fin 16) (r : Fin 32) (a : Fin 64) (w : Fin 8) (k : Fin 64) (n : Fin 15) (hn : rowDist r.val + w.val = n.val) :
    val_main_v101 (F := Ideal) y (ix5 h r a w k) = y (ix3 h n (colDist a k)) := by
  unfold val_main_v101 val_main_v100
  refine gather_bias y _ h r a w k n (colDist a k) ?_ ?_
  · rw [pair_left, v98_apply, dr_at, hn]
  · rw [pair_right, v99_apply, dc_at]

theorem v102_apply (h : Fin 16) (r : Fin 32) (a : Fin 64) (n : Fin 512) :
    val_main_v102 (F := Ideal) y (ix4 h r a n) = y (ix3 h (keyDist r n) (colDist a (keyCol n))) := by
  unfold val_main_v102
  refine (shapeCast_apply _ _ (ix4 h r a n) (ix5 h r a (⟨n.val / 64, by omega⟩ : Fin 8) (keyCol n) : S16x32x64x8x64.Idx) ?_).trans ?_
  · rewrite [Shape.rowMajor_val_five, Shape.rowMajor_val_four]
    show (((h.val * 32 + r.val) * 64 + a.val) * 8 + n.val / 64) * 64 + n.val % 64 = ((h.val * 32 + r.val) * 64 + a.val) * 512 + n.val
    omega
  exact v101_apply y h r a _ _ (keyDist r n) rfl

/-! ## The mask -/

theorem v40_apply (a : Fin 64) (n : Fin 512) : val_main_v40 (F := Ideal) (ix2 a n) = BitVec.ofBool (decide (near a (keyCol n))) := by
  unfold val_main_v40
  refine (shapeCast_apply _ _ (ix2 a n) (ix3 a (⟨n.val / 64, by omega⟩ : Fin 8) (keyCol n) : S64x8x64.Idx) ?_).trans ?_
  · rewrite [Shape.rowMajor_val_three, Shape.rowMajor_val_two]
    show (a.val * 8 + n.val / 64) * 64 + n.val % 64 = a.val * 512 + n.val
    omega
  rw [val_main_v39_apply, val_main_v38_apply, ← mask_at]
  congr 1
  funext c
  match c with
  | ⟨0, _⟩ => rfl
  | ⟨1, _⟩ => rfl

end Cert.ReferenceIdeal.Hand
end
-- ==== Proof.Natten.Ref.lean ====
/-
  The attention's reference, read index by index: the formula of `Natten/Whole.lean`.
-/
module

public import proofs.«01_k».proof.Proof.Natten.RefHeads

@[expose] public section

set_option maxRecDepth 16384

noncomputable section

namespace Cert.ReferenceIdeal.Hand

open Cert.Soft Cert.ReferenceIdeal Cert.ReferenceIdeal.Gen Cert.ReferenceIdeal.Read Idealize.ShloMosaic

variable (q k v : S16x2304x1024.Idx → EReal) (x : S16x15x31.Idx → EReal)

/-! ## The context rows -/

theorem v128_apply (b h : Fin 16) (i n : Fin 256) : val_main_v128 (F := Ideal) q k (ix4 b h i n) = ctxScore q k b h (ctxRow i) n := by
  rw [val_main_v128_apply]
  unfold ctxScore score
  refine Finset.sum_congr rfl fun e _ => ?_
  rw [show lidx_main_v128 (ix4 b h i n) e = ix4 b h i e from funext fun c => match c with
      | ⟨0, _⟩ => rfl | ⟨1, _⟩ => rfl | ⟨2, _⟩ => rfl | ⟨3, _⟩ => rfl,
    show ridx_main_v128 (ix4 b h i n) e = ix4 b h n e from funext fun c => match c with
      | ⟨0, _⟩ => rfl | ⟨1, _⟩ => rfl | ⟨2, _⟩ => rfl | ⟨3, _⟩ => rfl, v2_apply, v5_apply]

/-- The largest score of a row. -/
theorem ctx_max (b h : Fin 16) (i : Fin 256) :
    val_main_v129 (F := Ideal) q k (ix3 b h i) = Finset.univ.sup fun n => val_main_v128 (F := Ideal) q k (ix4 b h i n) := by
  unfold val_main_v129 val_main_cst_23
  generalize val_main_v128 (F := Ideal) q k = y
  pointwise []
  rw [word_bot]
  rfl

theorem v133_apply (b h : Fin 16) (i n : Fin 256) :
    val_main_v133 (F := Ideal) q k (ix4 b h i n) = Finset.univ.sup fun n => ctxScore q k b h (ctxRow i) n := by
  have hw : val_main_v130 (F := Ideal) (ix3 b h i) = ⊥ := (val_main_v130_apply _).trans word_bot
  have e : val_main_v133 (F := Ideal) q k (ix4 b h i n) = val_main_v131 (F := Ideal) q k (ix3 b h i) := by
    rw [val_main_v133_apply, val_main_v132_apply]
    exact congrArg _ (funext fun c => match c with | ⟨0, _⟩ => rfl | ⟨1, _⟩ => rfl | ⟨2, _⟩ => rfl)
  rw [e, val_main_v131_apply, hw, ctx_max]
  simp only [v128_apply]
  exact bot_sup_eq _

/-- The weights of a row, and their sum. -/
theorem v135_apply (b h : Fin 16) (i n : Fin 256) :
    val_main_v135 (F := Ideal) q k (ix4 b h i n)
      = Ideal.exp (ctxScore q k b h (ctxRow i) n - Finset.univ.sup fun n => ctxScore q k b h (ctxRow i) n) := by
  rw [val_main_v135_apply, val_main_v134_apply, v128_apply, v133_apply]
  rfl

theorem v138_apply (b h : Fin 16) (i n : Fin 256) :
    val_main_v138 (F := Ideal) q k (ix4 b h i n)
      = ∑ n, Ideal.exp (ctxScore q k b h (ctxRow i) n - Finset.univ.sup fun n => ctxScore q k b h (ctxRow i) n) := by
  have e : val_main_v138 (F := Ideal) q k (ix4 b h i n) = val_main_v136 (F := Ideal) q k (ix3 b h i) := by
    rw [val_main_v138_apply, val_main_v137_apply]
    exact congrArg _ (funext fun c => match c with | ⟨0, _⟩ => rfl | ⟨1, _⟩ => rfl | ⟨2, _⟩ => rfl)
  rw [e, val_main_v136_apply, show val_main_cst_25 (F := Ideal) (Shape.Idx.first h_S_) = 0 from Ideal.ofBits_zero_f32, zero_add]
  refine Finset.sum_congr rfl fun n _ => ?_
  rw [show idx_main_v136 (ix3 b h i) n = ix4 b h i n from funext fun c => match c with
    | ⟨0, _⟩ => rfl | ⟨1, _⟩ => rfl | ⟨2, _⟩ => rfl | ⟨3, _⟩ => rfl, v135_apply]

theorem v140_apply (b h : Fin 16) (i : Fin 256) (d : Fin 64) :
    val_main_v140 (F := Ideal) q k v (ix4 b h i d) = ctxOut q k v b h i d := by
  rw [val_main_v140_apply]
  unfold ctxOut early total peak
  rw [show (Finset.univ : Finset (Fin 0)).sup (Fin.elim0 : Fin 0 → EReal) = ⊥ from rfl, bot_sup_eq]
  simp only [Finset.univ_eq_empty, Finset.sum_empty, zero_add]
  refine Finset.sum_congr rfl fun n _ => ?_
  rw [show lidx_main_v140 (ix4 b h i d) n = ix4 b h i n from funext fun c => match c with
      | ⟨0, _⟩ => rfl | ⟨1, _⟩ => rfl | ⟨2, _⟩ => rfl | ⟨3, _⟩ => rfl,
    show ridx_main_v140 (ix4 b h i d) n = ix4 b h n d from funext fun c => match c with
      | ⟨0, _⟩ => rfl | ⟨1, _⟩ => rfl | ⟨2, _⟩ => rfl | ⟨3, _⟩ => rfl, v8_apply, val_main_v139_apply, v135_apply, v138_apply]
  rfl

theorem v142_apply (b h : Fin 16) (i : Fin 256) (d : Fin 64) :
    val_main_v142 (F := Ideal) q k v (ix3 b i (hcol h d)) = ctxOut q k v b h i d := by
  unfold val_main_v142
  refine (shapeCast_apply _ _ (ix3 b i (hcol h d)) (ix4 b i h d : S16x256x16x64.Idx) ?_).trans ?_
  · rewrite [Shape.rowMajor_val_three, Shape.rowMajor_val_four]
    show ((b.val * 256 + i.val) * 16 + h.val) * 64 + d.val = (b.val * 256 + i.val) * 1024 + (64 * h.val + d.val)
    omega
  rw [val_main_v141_apply, ← v140_apply]
  exact congrArg _ (funext fun c => match c with | ⟨0, _⟩ => rfl | ⟨1, _⟩ => rfl | ⟨2, _⟩ => rfl | ⟨3, _⟩ => rfl)

/-! ## The grid -/

theorem v103_apply (b h : Fin 16) (r : Fin 32) (a : Fin 64) (n : Fin 512) :
    val_main_v103 (F := Ideal) q k (ix5 b h r a n) = score q k b h (latRow r a) (keyRow r n) := by
  rw [val_main_v103_apply]
  unfold score
  refine Finset.sum_congr rfl fun e _ => ?_
  rw [show lidx_main_v103 (ix5 b h r a n) e = ix5 b h r a e from funext fun c => match c with
      | ⟨0, _⟩ => rfl | ⟨1, _⟩ => rfl | ⟨2, _⟩ => rfl | ⟨3, _⟩ => rfl | ⟨4, _⟩ => rfl,
    show ridx_main_v103 (ix5 b h r a n) e = ix5 b h r n e from funext fun c => match c with
      | ⟨0, _⟩ => rfl | ⟨1, _⟩ => rfl | ⟨2, _⟩ => rfl | ⟨3, _⟩ => rfl | ⟨4, _⟩ => rfl, v18_apply, v68_apply]

theorem v105_apply (b h : Fin 16) (r : Fin 32) (a : Fin 64) (n : Fin 512) :
    val_main_v105 (F := Ideal) x (ix5 b h r a n) = x (ix3 h (keyDist r n) (colDist a (keyCol n))) := by
  rw [val_main_v105_apply, val_main_v104_apply, ← v102_apply x]
  exact congrArg _ (funext fun c => match c with | ⟨0, _⟩ => rfl | ⟨1, _⟩ => rfl | ⟨2, _⟩ => rfl | ⟨3, _⟩ => rfl)

/-- A choice by a decided bit. -/
theorem choose_bit (p : Prop) [Decidable p] (y z : EReal) : (if BitVec.ofBool (decide p) = 1#1 then y else z) = if p then y else z := by
  by_cases h : p
  · rw [decide_eq_true h, if_pos h]; rfl
  · rw [decide_eq_false h, if_neg h]; rfl

theorem v107_apply (b h : Fin 16) (r : Fin 32) (a : Fin 64) (n : Fin 512) :
    val_main_v107 (F := Ideal) q k x (ix5 b h r a n) = latScore q k x b h r a n := by
  have hm : val_main_call3_v1 (F := Ideal) (ix5 b h r a n) = BitVec.ofBool (decide (near a (keyCol n))) := by
    rw [val_main_call3_v1_apply, ← v40_apply]
    exact congrArg _ (funext fun c => match c with | ⟨0, _⟩ => rfl | ⟨1, _⟩ => rfl)
  have hb : val_main_call3_v2 (F := Ideal) (ix5 b h r a n) = ⊥ := (val_main_call3_v2_apply _).trans word_bot
  rw [val_main_v107_apply, hm, hb, val_main_v106_apply, v103_apply, v105_apply]
  exact choose_bit _ _ _

theorem v108_apply (b h : Fin 16) (r : Fin 32) (a : Fin 64) (n : Fin 256) :
    val_main_v108 (F := Ideal) q k (ix5 b h r a n) = ctxScore q k b h (latRow r a) n := by
  rw [val_main_v108_apply]
  unfold ctxScore score
  refine Finset.sum_congr rfl fun e _ => ?_
  rw [show lidx_main_v108 (ix5 b h r a n) e = ix5 b h r a e from funext fun c => match c with
      | ⟨0, _⟩ => rfl | ⟨1, _⟩ => rfl | ⟨2, _⟩ => rfl | ⟨3, _⟩ => rfl | ⟨4, _⟩ => rfl,
    show ridx_main_v108 (ix5 b h r a n) e = ix4 b h n e from funext fun c => match c with
      | ⟨0, _⟩ => rfl | ⟨1, _⟩ => rfl | ⟨2, _⟩ => rfl | ⟨3, _⟩ => rfl, v18_apply, v5_apply]

/-- Entry `n` of a window among a row's scores; the window's come first. -/
def winAt (n : Fin 512) : Fin 768 := Fin.castAdd 256 n
/-- Context row `n` among them. -/
def ctxAt (n : Fin 256) : Fin 768 := Fin.natAdd 512 n

theorem v109_win (b h : Fin 16) (r : Fin 32) (a : Fin 64) (n : Fin 512) :
    val_main_v109 (F := Ideal) q k x (ix5 b h r a (winAt n)) = latScore q k x b h r a n := by
  unfold val_main_v109
  rw [← v107_apply]
  exact concatenate_pair_apply_left _ (val_main_v107 (F := Ideal) q k x) (val_main_v108 (F := Ideal) q k) _ (ix5 b h r a (winAt n) : S16x16x32x64x768.Idx) rfl (ix5 b h r a n : S16x16x32x64x512.Idx) (fun c => match c with
    | ⟨0, _⟩ => rfl | ⟨1, _⟩ => rfl | ⟨2, _⟩ => rfl | ⟨3, _⟩ => rfl | ⟨4, _⟩ => rfl)

theorem v109_ctx (b h : Fin 16) (r : Fin 32) (a : Fin 64) (n : Fin 256) :
    val_main_v109 (F := Ideal) q k x (ix5 b h r a (ctxAt n)) = ctxScore q k b h (latRow r a) n := by
  unfold val_main_v109
  rw [← v108_apply]
  exact concatenate_pair_apply_right _ (val_main_v107 (F := Ideal) q k x) (val_main_v108 (F := Ideal) q k) _ (ix5 b h r a (ctxAt n) : S16x16x32x64x768.Idx) rfl rfl (ix5 b h r a n : S16x16x32x64x256.Idx) (fun c => match c with
    | ⟨0, _⟩ => fun _ => rfl | ⟨1, _⟩ => fun _ => rfl | ⟨2, _⟩ => fun _ => rfl | ⟨3, _⟩ => fun _ => rfl | ⟨4, _⟩ => fun h => absurd rfl h)
    (Nat.add_comm n.val 512)

theorem sum_row (f : Fin 768 → EReal) : ∑ n, f n = (∑ n, f (winAt n)) + ∑ n, f (ctxAt n) := Fin.sum_univ_add (a := 512) (b := 256) f

theorem sup_row (f : Fin 768 → EReal) :
    Finset.univ.sup f = max (Finset.univ.sup fun n => f (winAt n)) (Finset.univ.sup fun n => f (ctxAt n)) := by
  refine le_antisymm (Finset.sup_le fun n _ => ?_) (max_le (Finset.sup_le fun n _ => Finset.le_sup (Finset.mem_univ _)) (Finset.sup_le fun n _ => Finset.le_sup (Finset.mem_univ _)))
  by_cases hn : n.val < 512
  · exact le_max_of_le_left (le_trans (le_of_eq rfl) (Finset.le_sup (f := fun n => f (winAt n)) (Finset.mem_univ (⟨n.val, hn⟩ : Fin 512))))
  · refine le_max_of_le_right (le_trans (le_of_eq ?_) (Finset.le_sup (f := fun n => f (ctxAt n)) (Finset.mem_univ ⟨n.val - 512, by omega⟩)))
    exact congrArg f (Fin.ext (by show n.val = 512 + (n.val - 512); omega))

/-- The largest score of a row. -/
theorem lat_max (b h : Fin 16) (r : Fin 32) (a : Fin 64) :
    val_main_v110 (F := Ideal) q k x (ix4 b h r a) = Finset.univ.sup fun n => val_main_v109 (F := Ideal) q k x (ix5 b h r a n) := by
  unfold val_main_v110 val_main_cst_20
  generalize val_main_v109 (F := Ideal) q k x = y
  pointwise []
  rw [word_bot]
  rfl

theorem v114_apply (b h : Fin 16) (r : Fin 32) (a : Fin 64) (n : Fin 768) :
    val_main_v114 (F := Ideal) q k x (ix5 b h r a n) = peak (latScore q k x b h r a) (ctxScore q k b h (latRow r a)) := by
  have hw : val_main_v111 (F := Ideal) (ix4 b h r a) = ⊥ := (val_main_v111_apply _).trans word_bot
  have e : val_main_v114 (F := Ideal) q k x (ix5 b h r a n) = val_main_v112 (F := Ideal) q k x (ix4 b h r a) := by
    rw [val_main_v114_apply, val_main_v113_apply]
    exact congrArg _ (funext fun c => match c with | ⟨0, _⟩ => rfl | ⟨1, _⟩ => rfl | ⟨2, _⟩ => rfl | ⟨3, _⟩ => rfl)
  rw [e, val_main_v112_apply, hw, lat_max, sup_row]
  simp only [v109_win, v109_ctx]
  exact bot_sup_eq _

/-- The weights of a row, and their sum. -/
theorem v116_win (b h : Fin 16) (r : Fin 32) (a : Fin 64) (n : Fin 512) :
    val_main_v116 (F := Ideal) q k x (ix5 b h r a (winAt n))
      = Ideal.exp (latScore q k x b h r a n - peak (latScore q k x b h r a) (ctxScore q k b h (latRow r a))) := by
  rw [val_main_v116_apply, val_main_v115_apply, v109_win, v114_apply]
  rfl

theorem v116_ctx (b h : Fin 16) (r : Fin 32) (a : Fin 64) (n : Fin 256) :
    val_main_v116 (F := Ideal) q k x (ix5 b h r a (ctxAt n))
      = Ideal.exp (ctxScore q k b h (latRow r a) n - peak (latScore q k x b h r a) (ctxScore q k b h (latRow r a))) := by
  rw [val_main_v116_apply, val_main_v115_apply, v109_ctx, v114_apply]
  rfl

theorem v119_apply (b h : Fin 16) (r : Fin 32) (a : Fin 64) (n : Fin 768) :
    val_main_v119 (F := Ideal) q k x (ix5 b h r a n) = total (latScore q k x b h r a) (ctxScore q k b h (latRow r a)) := by
  have e : val_main_v119 (F := Ideal) q k x (ix5 b h r a n) = val_main_v117 (F := Ideal) q k x (ix4 b h r a) := by
    rw [val_main_v119_apply, val_main_v118_apply]
    exact congrArg _ (funext fun c => match c with | ⟨0, _⟩ => rfl | ⟨1, _⟩ => rfl | ⟨2, _⟩ => rfl | ⟨3, _⟩ => rfl)
  have ei : ∀ n, idx_main_v117 (ix4 b h r a) n = ix5 b h r a n := fun n => funext fun c => match c with
    | ⟨0, _⟩ => rfl | ⟨1, _⟩ => rfl | ⟨2, _⟩ => rfl | ⟨3, _⟩ => rfl | ⟨4, _⟩ => rfl
  rw [e, val_main_v117_apply, show val_main_cst_22 (F := Ideal) (Shape.Idx.first h_S_) = 0 from Ideal.ofBits_zero_f32, zero_add, sum_row]
  simp only [ei, v116_win, v116_ctx]
  rfl

theorem v122_apply (b h : Fin 16) (r : Fin 32) (a d : Fin 64) :
    val_main_v122 (F := Ideal) q k v x (ix5 b h r a d)
      = ∑ n, Ideal.div (Ideal.exp (latScore q k x b h r a n - peak (latScore q k x b h r a) (ctxScore q k b h (latRow r a))))
          (total (latScore q k x b h r a) (ctxScore q k b h (latRow r a))) * v (ix3 b (keyRow r n) (hcol h d)) := by
  rw [val_main_v122_apply]
  refine Finset.sum_congr rfl fun n _ => ?_
  rw [show ridx_main_v122 (ix5 b h r a d) n = ix5 b h r n d from funext fun c => match c with
      | ⟨0, _⟩ => rfl | ⟨1, _⟩ => rfl | ⟨2, _⟩ => rfl | ⟨3, _⟩ => rfl | ⟨4, _⟩ => rfl, v76_apply, val_main_v121_apply,
    show idx_main_v121 (lidx_main_v122 (ix5 b h r a d) n) = ix5 b h r a (winAt n) from funext fun c => match c with
      | ⟨0, _⟩ => rfl | ⟨1, _⟩ => rfl | ⟨2, _⟩ => rfl | ⟨3, _⟩ => rfl | ⟨4, _⟩ => rfl, val_main_v120_apply, v116_win, v119_apply]
  rfl

theorem v124_apply (b h : Fin 16) (r : Fin 32) (a d : Fin 64) :
    val_main_v124 (F := Ideal) q k v x (ix5 b h r a d)
      = ∑ n, Ideal.div (Ideal.exp (ctxScore q k b h (latRow r a) n - peak (latScore q k x b h r a) (ctxScore q k b h (latRow r a))))
          (total (latScore q k x b h r a) (ctxScore q k b h (latRow r a))) * v (ix3 b (ctxRow n) (hcol h d)) := by
  rw [val_main_v124_apply]
  refine Finset.sum_congr rfl fun n _ => ?_
  rw [show ridx_main_v124 (ix5 b h r a d) n = ix4 b h n d from funext fun c => match c with
      | ⟨0, _⟩ => rfl | ⟨1, _⟩ => rfl | ⟨2, _⟩ => rfl | ⟨3, _⟩ => rfl, v8_apply, val_main_v123_apply,
    show idx_main_v123 (lidx_main_v124 (ix5 b h r a d) n) = ix5 b h r a (ctxAt n) from funext fun c => match c with
      | ⟨0, _⟩ => rfl | ⟨1, _⟩ => rfl | ⟨2, _⟩ => rfl | ⟨3, _⟩ => rfl | ⟨4, _⟩ => rfl, val_main_v120_apply, v116_ctx, v119_apply]
  rfl

theorem v127_apply (b h : Fin 16) (r : Fin 32) (a d : Fin 64) (i : Fin 2048) (hi : i.val = 64 * r.val + a.val) :
    val_main_v127 (F := Ideal) q k v x (ix3 b i (hcol h d)) = latOut q k v x b h r a d := by
  unfold val_main_v127
  refine (shapeCast_apply _ _ (ix3 b i (hcol h d)) (ix5 b r a h d : S16x32x64x16x64.Idx) ?_).trans ?_
  · rewrite [Shape.rowMajor_val_three, Shape.rowMajor_val_five]
    show (((b.val * 32 + r.val) * 64 + a.val) * 16 + h.val) * 64 + d.val = (b.val * 2048 + i.val) * 1024 + (64 * h.val + d.val)
    omega
  rw [val_main_v126_apply, show idx_main_v126 (ix5 b r a h d) = ix5 b h r a d from funext fun c => match c with
      | ⟨0, _⟩ => rfl | ⟨1, _⟩ => rfl | ⟨2, _⟩ => rfl | ⟨3, _⟩ => rfl | ⟨4, _⟩ => rfl, val_main_v125_apply, v122_apply, v124_apply]
  rfl

/-! ## Both -/

theorem value_at (y : S16x2304x1024.Idx) : val_main_v144 (F := Ideal) q k v x y = whole q k v x (y 0) (y 1) (y 2) := by
  obtain ⟨b, i, j, rfl⟩ : ∃ (b : Fin 16) (i : Fin 2304) (j : Fin 1024), y = ix3 b i j := ⟨y 0, y 1, y 2, funext fun c => match c with
    | ⟨0, _⟩ => rfl | ⟨1, _⟩ => rfl | ⟨2, _⟩ => rfl⟩
  obtain ⟨h, d, rfl⟩ : ∃ h d, j = hcol h d := ⟨⟨j.val / 64, by omega⟩, ⟨j.val % 64, by omega⟩, Fin.ext (by show j.val = 64 * (j.val / 64) + j.val % 64; omega)⟩
  show val_main_v143 (F := Ideal) q k v x (ix3 b i (hcol h d)) = whole q k v x b i (hcol h d)
  unfold val_main_v143
  by_cases hi : i.val < 256
  · obtain ⟨n, rfl⟩ : ∃ n, i = ctxRow n := ⟨⟨i.val, hi⟩, rfl⟩
    rw [whole_ctx, ← v142_apply]
    exact concatenate_pair_apply_left _ (val_main_v142 (F := Ideal) q k v) (val_main_v127 (F := Ideal) q k v x) _ (ix3 b (ctxRow n) (hcol h d) : S16x2304x1024.Idx) rfl (ix3 b n (hcol h d) : S16x256x1024.Idx) (fun c => match c with
      | ⟨0, _⟩ => rfl | ⟨1, _⟩ => rfl | ⟨2, _⟩ => rfl)
  · obtain ⟨r, a, rfl⟩ : ∃ r a, i = latRow r a := ⟨⟨(i.val - 256) / 64, by omega⟩, ⟨(i.val - 256) % 64, by omega⟩, Fin.ext (by
      show i.val = 256 + 64 * ((i.val - 256) / 64) + (i.val - 256) % 64; omega)⟩
    rw [whole_lat, ← v127_apply q k v x b h r a d ⟨64 * r.val + a.val, by omega⟩ rfl]
    exact concatenate_pair_apply_right _ (val_main_v142 (F := Ideal) q k v) (val_main_v127 (F := Ideal) q k v x) _ (ix3 b (latRow r a) (hcol h d) : S16x2304x1024.Idx) rfl rfl (ix3 b ⟨64 * r.val + a.val, by omega⟩ (hcol h d) : S16x2048x1024.Idx) (fun c => match c with
      | ⟨0, _⟩ => fun _ => rfl | ⟨1, _⟩ => fun h => absurd rfl h | ⟨2, _⟩ => fun _ => rfl) (by show 64 * r.val + a.val + 256 = 256 + 64 * r.val + a.val; omega)

end Cert.ReferenceIdeal.Hand
end
-- ==== Proof.Natten.Claim.lean ====
/-
  The attention kernel and its reference compute the same array from queries, keys and biases that are finite.
-/
module

public import proofs.«01_k».proof.Defs
public import proofs.«01_k».proof.Proof.Gen.ReferenceIdeal.Run
public import proofs.«01_k».proof.Proof.Natten.Final
public import proofs.«01_k».proof.Proof.Natten.Ref
public import Idealize.ShloMosaic.Lib.Claim

@[expose] public section

noncomputable section

namespace Cert.KernelIdeal.Hand

open Cert.Soft Idealize.ShloMosaic Idealize.ShloMosaic.TcCoe Idealize.SL.Sem

/-- The side conditions of the precondition's operations. -/
theorem preFacts : Cert.Pre_scores_finite.Facts := ⟨by decide, by decide⟩

/-! ## What the precondition says -/

/-- A number whose absolute value is below infinity is finite. -/
theorem finite_of_bit (a : EReal) (h : Ideal.cmp .olt (max a (-a)) (Ideal.ofBits .f32 0x7F800000#32) = 1#1) : a ≠ ⊤ ∧ a ≠ ⊥ := by
  rw [word_top] at h
  have hl : max a (-a) < ⊤ := by
    by_contra hn
    have : Ideal.cmp .olt (max a (-a)) (⊤ : EReal) = BitVec.ofBool false := congrArg BitVec.ofBool (decide_eq_false hn)
    rw [this] at h
    exact absurd h (by decide)
  refine ⟨fun e => ?_, fun e => ?_⟩
  · rw [e] at hl
    exact absurd (lt_of_le_of_lt (le_max_left _ _) hl) (lt_irrefl _)
  · rw [e, EReal.neg_bot] at hl
    exact absurd (lt_of_le_of_lt (le_max_right _ _) hl) (lt_irrefl _)

theorem and_one : ∀ a b : BitVec 1, a &&& b = 1#1 → a = 1#1 ∧ b = 1#1 := by decide

variable (m : (ℓ : Loc Cert.KernelIdeal.nD Cert.KernelIdeal.τ Cert.KernelIdeal.sig) → Buf (Elt Ideal) ℓ)

theorem finite_of_pre (h : Cert.Pre_KernelIdeal_scores_finite (hPre_scores_finite := preFacts) m) (c : Dev Cert.KernelIdeal.nD) :
    Finite (qOf m c) ∧ Finite (kOf m c) ∧ Finite (bOf m c) := by
  obtain ⟨h1, h2⟩ := h c
  refine ⟨fun i => ?_, fun i => ?_, fun i => ?_⟩
  · exact finite_of_bit _ (and_one _ _ (congrFun h1 i)).1
  · exact finite_of_bit _ (and_one _ _ (congrFun h1 i)).2
  · exact finite_of_bit _ (congrFun h2 i)

/-! ## The claim -/

/-- The reference's result is the kernel's, its arguments being the kernel's. -/
theorem result_eq (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Read.val_main_v144 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) : Cert.KernelIdeal.S16x2304x1024.Idx → EReal) = result m c := by
  rw [h0, h1, h2, h3]
  funext y
  exact Cert.ReferenceIdeal.Hand.value_at _ _ _ _ y

theorem algebraic : Cert.algebraic_KernelIdeal_ReferenceIdeal_pre_scores_finite (hPre_scores_finite := preFacts) := by
  intro m ρ m' ρ' hpre hagree
  refine ⟨fun c => result m c, ?_, ?_⟩
  · refine (θ_run Cert.KernelIdeal.defs _ _).mono (fun _ h c => ⟨(h c).1.trans ?_, (h c).2⟩) (Cert.KernelIdeal.Value.run_blocks (F := Ideal) m ρ)
    obtain ⟨hq, hk, hx⟩ := finite_of_pre m hpre c
    exact final m c hq hk hx
  · refine (θ_run Cert.ReferenceIdeal.defs _ _).mono (fun _ h c => ⟨(h c).1.trans ?_, (h c).2⟩) (Cert.ReferenceIdeal.Value.run (F := Ideal) m' ρ')
    obtain ⟨h0, h1, h2, h3⟩ := hagree c
    exact (Cert.ReferenceIdeal.Read.val_main_v144_eq (F := Ideal) _).trans (result_eq m m' c h0 h1 h2 h3)

end Cert.KernelIdeal.Hand

end
-- ==== Proof.Odd.Ref.lean ====
/-
  The reference's second half of an odd layer, read at a row and a column: it is the row formula of `Mlp/Rows.lean`.
-/
module

public import proofs.«01_k».proof.Proof.Gen.OddRefIdeal.Read
public import proofs.«01_k».proof.Proof.Odd.Block

@[expose] public section

set_option maxRecDepth 16384

noncomputable section

namespace Cert.OddRefIdeal.Hand

open Cert.MlpMath (at2 modOf_at2)
open Cert.OddRefIdeal Cert.OddRefIdeal.Read Idealize.ShloMosaic Idealize.ShloMosaic.TcCoe

variable (x0 : (⟨S36864x1024, .f32⟩ : BufTy).Contents (Elt Ideal)) (x1 : (⟨S4x24x6x1x1024, .f32⟩ : BufTy).Contents (Elt Ideal))
  (x2 : (⟨S36864x1024, .bf16⟩ : BufTy).Contents (Elt Ideal)) (x3 : (⟨S1024x1024, .f32⟩ : BufTy).Contents (Elt Ideal))
  (x4 : (⟨S1024x4096, .f32⟩ : BufTy).Contents (Elt Ideal)) (x5 : (⟨S4096x1024, .f32⟩ : BufTy).Contents (Elt Ideal))

theorem v6_at (b : Fin 16) (p : Fin 2304) (k : Fin 1024) :
    val_main_v6 (F := Ideal) x1 (ix3 b p k) = x1 (ix5 1 (Cert.MlpMath.modOf (at2 b p)) 2 0 k) := by
  rw [modOf_at2]
  pointwise [val_main_v6, val_main_v5, val_main_v4, val_main_v3, val_main_v2, val_main_v1, val_main_v0]
  split <;> rfl

theorem v13_at (b : Fin 16) (p : Fin 2304) (k : Fin 1024) :
    val_main_v13 (F := Ideal) x1 (ix3 b p k) = x1 (ix5 1 (Cert.MlpMath.modOf (at2 b p)) 3 0 k) := by
  rw [modOf_at2]
  pointwise [val_main_v13, val_main_v12, val_main_v11, val_main_v10, val_main_v9, val_main_v8, val_main_v7]
  split <;> rfl

theorem v20_at (b : Fin 16) (p : Fin 2304) (k : Fin 1024) :
    val_main_v20 (F := Ideal) x1 (ix3 b p k) = x1 (ix5 1 (Cert.MlpMath.modOf (at2 b p)) 4 0 k) := by
  rw [modOf_at2]
  pointwise [val_main_v20, val_main_v19, val_main_v18, val_main_v17, val_main_v16, val_main_v15, val_main_v14]
  split <;> rfl

theorem v27_at (b : Fin 16) (p : Fin 2304) (k : Fin 1024) :
    val_main_v27 (F := Ideal) x1 (ix3 b p k) = x1 (ix5 1 (Cert.MlpMath.modOf (at2 b p)) 5 0 k) := by
  rw [modOf_at2]
  pointwise [val_main_v27, val_main_v26, val_main_v25, val_main_v24, val_main_v23, val_main_v22, val_main_v21]
  split <;> rfl

theorem v33_at (b : Fin 16) (p : Fin 2304) (j : Fin 1024) :
    val_main_v33 (F := Ideal) x0 x1 x2 x3 (ix3 b p j) = Cert.MlpMath.mixed1 (fun k => x0 (ix2 (at2 b p) k))
      (fun k => x2 (ix2 (at2 b p) k)) (fun k j => x3 (ix2 k j)) (fun k => x1 (ix5 1 (Cert.MlpMath.modOf (at2 b p)) 2 0 k)) j := by
  unfold Cert.MlpMath.mixed1 val_main_v33 val_main_v32
  simp only [← v6_at]
  generalize val_main_v6 (F := Ideal) x1 = g
  pointwise [val_main_v31, val_main_v30, val_main_v29, val_main_v28]

theorem v47_at (b : Fin 16) (p : Fin 2304) (j : Fin 1024) :
    val_main_v47 (F := Ideal) x0 x1 x2 x3 (ix3 b p j) = Cert.MlpMath.normed (fun k => val_main_v33 (F := Ideal) x0 x1 x2 x3 (ix3 b p k))
      (fun k => val_main_v20 (F := Ideal) x1 (ix3 b p k)) (fun k => val_main_v13 (F := Ideal) x1 (ix3 b p k)) j := by
  unfold val_main_v47 val_main_v46 val_main_v45 val_main_v43 val_main_v42 val_main_v41 val_main_v40 val_main_v38 val_main_v36 val_main_v35
    val_main_v34
  generalize val_main_v33 (F := Ideal) x0 x1 x2 x3 = r
  generalize val_main_v20 (F := Ideal) x1 = sc
  generalize val_main_v13 (F := Ideal) x1 = sh
  pointwise [val_main_v37, val_main_v39, val_main_v44, val_main_cst, val_main_cst_0, val_main_cst_1, val_main_cst_2, Cert.MlpMath.normed]

theorem v54_at (b : Fin 16) (p : Fin 2304) (j : Fin 1024) :
    val_main_v54 (F := Ideal) x0 x1 x2 x3 x4 x5 (ix3 b p j) = val_main_v33 (F := Ideal) x0 x1 x2 x3 (ix3 b p j)
      + val_main_v27 (F := Ideal) x1 (ix3 b p j) * ∑ n : Fin 4096, Cert.MlpMath.unit (fun k => val_main_v47 (F := Ideal) x0 x1 x2 x3 (ix3 b p k))
          (fun k => x4 (ix2 k n)) * x5 (ix2 n j) := by
  unfold val_main_v54 val_main_v53 val_main_v52 val_main_v51 val_main_v50 val_main_v48
  generalize val_main_v33 (F := Ideal) x0 x1 x2 x3 = r
  generalize val_main_v27 (F := Ideal) x1 = g
  generalize val_main_v47 (F := Ideal) x0 x1 x2 x3 = h
  pointwise [val_main_v49, val_main_cst_3, Cert.MlpMath.unit]

/-- The reference's result, index by index. -/
theorem value_at (i : S36864x1024.Idx) :
    val_main_v55 (F := Ideal) x0 x1 x2 x3 x4 x5 i = Cert.MlpMath.whole1 1 x0 x1 x2 x3 x4 x5 (i 0) (i 1) := by
  obtain ⟨r, q, rfl⟩ : ∃ (r : Fin 36864) (q : Fin 1024), i = ix2 r q := ⟨i 0, i 1, eq_ix2 i⟩
  have hr := r.isLt
  obtain ⟨b, p, rfl⟩ : ∃ (b : Fin 16) (p : Fin 2304), r = at2 b p :=
    ⟨⟨r.val / 2304, by omega⟩, ⟨r.val % 2304, by omega⟩, Fin.ext (by show r.val = r.val / 2304 * 2304 + r.val % 2304; omega)⟩
  have e : val_main_v55 (F := Ideal) x0 x1 x2 x3 x4 x5 (ix2 (at2 b p) q) = val_main_v54 (F := Ideal) x0 x1 x2 x3 x4 x5 (ix3 b p q) := by
    unfold val_main_v55
    generalize val_main_v54 (F := Ideal) x0 x1 x2 x3 x4 x5 = y
    have hb := b.isLt
    have hp := p.isLt
    pointwise []
    refine congrArg₂ (fun (u : Fin 16) (v : Fin 2304) => y (ix3 u v q)) (Fin.ext ?_) (Fin.ext ?_)
    · show (b.val * 2304 + p.val) / 2304 = b.val; omega
    · show (b.val * 2304 + p.val) % 2304 = p.val; omega
  rw [e, v54_at, v33_at, v27_at]
  unfold Cert.MlpMath.whole1 Cert.MlpMath.row1 Cert.MlpMath.rest
  simp only [v47_at, v33_at, v20_at, v13_at]
  rfl

end Cert.OddRefIdeal.Hand

end
-- ==== Proof.Odd.Final.lean ====
/-
  The array an odd layer's mixing and feed-forward kernel ends with: every one of its 36864 rows is the row formula of
  `Mlp/Rows.lean` of that row's operands.
-/
module

public import proofs.«01_k».proof.Proof.Gen.OddIdeal.Value
public import proofs.«01_k».proof.Proof.Odd.Block
public import Idealize.ShloMosaic.Lib.Pipeline.Value

@[expose] public section

set_option maxRecDepth 16384

noncomputable section

namespace Cert.OddIdeal.Hand

open Cert.OddIdeal Cert.OddIdeal.Gen Cert.MlpIdeal.Hand Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem t_lt (t : Fin cfg0.N) : t.val < 48 := Nat.lt_of_lt_of_eq t.isLt N_0

/-! ## The blocks a grid point reads -/

theorem at0 : ∀ t : Fin grid0.N, win0_0.index t 0 = t.val ∧ win0_0.index t 1 = 0 := by decide +kernel
theorem at9 : ∀ t : Fin grid0.N, win0_9.index t 0 = t.val ∧ win0_9.index t 1 = 0 := by decide +kernel
theorem at10 : ∀ t : Fin grid0.N, win0_10.index t 0 = 0 ∧ win0_10.index t 1 = 0 := by decide +kernel
theorem at11 : ∀ t : Fin grid0.N, win0_11.index t 0 = 0 ∧ win0_11.index t 1 = 0 := by decide +kernel
theorem at12 : ∀ t : Fin grid0.N, win0_12.index t 0 = 0 ∧ win0_12.index t 1 = 0 := by decide +kernel
theorem at13 : ∀ t : Fin grid0.N, win0_13.index t 0 = t.val ∧ win0_13.index t 1 = 0 := by decide +kernel
theorem at1 : ∀ t : Fin grid0.N, win0_1.index t 0 = 1 ∧ win0_1.index t 1 = 16 ∧ win0_1.index t 2 = 2 ∧ win0_1.index t 3 = 0 ∧ win0_1.index t 4 = 0 := by decide +kernel
theorem at2 : ∀ t : Fin grid0.N, win0_2.index t 0 = 1 ∧ win0_2.index t 1 = t.val / 3 ∧ win0_2.index t 2 = 2 ∧ win0_2.index t 3 = 0 ∧ win0_2.index t 4 = 0 := by decide +kernel
theorem at3 : ∀ t : Fin grid0.N, win0_3.index t 0 = 1 ∧ win0_3.index t 1 = 16 ∧ win0_3.index t 2 = 3 ∧ win0_3.index t 3 = 0 ∧ win0_3.index t 4 = 0 := by decide +kernel
theorem at4 : ∀ t : Fin grid0.N, win0_4.index t 0 = 1 ∧ win0_4.index t 1 = t.val / 3 ∧ win0_4.index t 2 = 3 ∧ win0_4.index t 3 = 0 ∧ win0_4.index t 4 = 0 := by decide +kernel
theorem at5 : ∀ t : Fin grid0.N, win0_5.index t 0 = 1 ∧ win0_5.index t 1 = 16 ∧ win0_5.index t 2 = 4 ∧ win0_5.index t 3 = 0 ∧ win0_5.index t 4 = 0 := by decide +kernel
theorem at6 : ∀ t : Fin grid0.N, win0_6.index t 0 = 1 ∧ win0_6.index t 1 = t.val / 3 ∧ win0_6.index t 2 = 4 ∧ win0_6.index t 3 = 0 ∧ win0_6.index t 4 = 0 := by decide +kernel
theorem at7 : ∀ t : Fin grid0.N, win0_7.index t 0 = 1 ∧ win0_7.index t 1 = 16 ∧ win0_7.index t 2 = 5 ∧ win0_7.index t 3 = 0 ∧ win0_7.index t 4 = 0 := by decide +kernel
theorem at8 : ∀ t : Fin grid0.N, win0_8.index t 0 = 1 ∧ win0_8.index t 1 = t.val / 3 ∧ win0_8.index t 2 = 5 ∧ win0_8.index t 3 = 0 ∧ win0_8.index t 4 = 0 := by decide +kernel

/-- A grid point's first 256 rows are context rows iff its number is a multiple of three. -/
theorem isCtx_at : ∀ t : Fin grid0.N, isCtx (grid0.coords t) = BitVec.ofBool (decide (t.val % 3 = 0)) := by decide +kernel

theorem blk0 (c : Dev nD) (t : Fin cfg0.N) (p : Fin 768) (k : Fin 1024) :
    iblk m c 0 t (ix2 p k) = m ((c : Thread nD τ).loc main_arg0) (ix2 ⟨768 * t.val + p.val, by have := t_lt t; omega⟩ k) := by
  unfold iblk
  rw [View.read_apply]
  show V m c main_arg0 _ = _
  rw [V_main_arg0]
  refine congrArg _ (Cert.MlpMath.ix2_of _ _ _ ?_ ?_)
  · show win0_0.index t 0 * 768 + 1 * p.val = 768 * t.val + p.val; rw [(at0 t).1]; omega
  · show win0_0.index t 1 * 1024 + 1 * k.val = k.val; rw [(at0 t).2]; omega

theorem blk9 (c : Dev nD) (t : Fin cfg0.N) (p : Fin 768) (k : Fin 1024) :
    iblk m c 9 t (ix2 p k) = m ((c : Thread nD τ).loc main_arg2) (ix2 ⟨768 * t.val + p.val, by have := t_lt t; omega⟩ k) := by
  unfold iblk
  rw [View.read_apply]
  show V m c main_arg2 _ = _
  rw [V_main_arg2]
  refine congrArg _ (Cert.MlpMath.ix2_of _ _ _ ?_ ?_)
  · show win0_9.index t 0 * 768 + 1 * p.val = 768 * t.val + p.val; rw [(at9 t).1]; omega
  · show win0_9.index t 1 * 1024 + 1 * k.val = k.val; rw [(at9 t).2]; omega

theorem blk10 (c : Dev nD) (t : Fin cfg0.N) (p : Fin 1024) (k : Fin 1024) :
    iblk m c 10 t (ix2 p k) = m ((c : Thread nD τ).loc main_arg3) (ix2 p k) := by
  unfold iblk
  rw [View.read_apply]
  show m ((c : Thread nD τ).loc main_arg3) _ = _
  refine congrArg _ (Cert.MlpMath.ix2_of _ _ _ ?_ ?_)
  · show win0_10.index t 0 * 1024 + 1 * p.val = p.val; rw [(at10 t).1]; omega
  · show win0_10.index t 1 * 1024 + 1 * k.val = k.val; rw [(at10 t).2]; omega

theorem blk11 (c : Dev nD) (t : Fin cfg0.N) (p : Fin 1024) (k : Fin 4096) :
    iblk m c 11 t (ix2 p k) = m ((c : Thread nD τ).loc main_arg4) (ix2 p k) := by
  unfold iblk
  rw [View.read_apply]
  show m ((c : Thread nD τ).loc main_arg4) _ = _
  refine congrArg _ (Cert.MlpMath.ix2_of _ _ _ ?_ ?_)
  · show win0_11.index t 0 * 1024 + 1 * p.val = p.val; rw [(at11 t).1]; omega
  · show win0_11.index t 1 * 4096 + 1 * k.val = k.val; rw [(at11 t).2]; omega

theorem blk12 (c : Dev nD) (t : Fin cfg0.N) (p : Fin 4096) (k : Fin 1024) :
    iblk m c 12 t (ix2 p k) = m ((c : Thread nD τ).loc main_arg5) (ix2 p k) := by
  unfold iblk
  rw [View.read_apply]
  show m ((c : Thread nD τ).loc main_arg5) _ = _
  refine congrArg _ (Cert.MlpMath.ix2_of _ _ _ ?_ ?_)
  · show win0_12.index t 0 * 4096 + 1 * p.val = p.val; rw [(at12 t).1]; omega
  · show win0_12.index t 1 * 1024 + 1 * k.val = k.val; rw [(at12 t).2]; omega

/-- The modulations at an index which stands in a block of one vector. -/
theorem mod_at (c : Dev nD) (e : S4x24x6x1x1024.Idx) (i : Fin 5 → ℕ) (b : Fin 24) (w : Fin 6) (k : Fin 1024)
    (he : ∀ a, (e a).val = i a * (![1, 1, 1, 1, 1024] : Fin 5 → ℕ) a + 1 * ((ix5 0 0 0 0 k : S1x1x1x1x1024.Idx) a).val)
    (hi : i 0 = 1 ∧ i 1 = b.val ∧ i 2 = w.val ∧ i 3 = 0 ∧ i 4 = 0) :
    V m c main_arg1 e = m ((c : Thread nD τ).loc main_arg1) (ix5 1 b w 0 k) := by
  rw [V_main_arg1, Cert.MlpMath.ix5_of e i 1 b w k he hi]

theorem blk1 (c : Dev nD) (t : Fin cfg0.N) (k : Fin 1024) :
    iblk m c 1 t (ix5 0 0 0 0 k) = m ((c : Thread nD τ).loc main_arg1) (ix5 1 16 2 0 k) :=
  mod_at m c _ _ _ _ _ (fun _ => rfl) (at1 t)

theorem blk2 (c : Dev nD) (t : Fin cfg0.N) (k : Fin 1024) :
    iblk m c 2 t (ix5 0 0 0 0 k) = m ((c : Thread nD τ).loc main_arg1) (ix5 1 ⟨t.val / 3, by have := t_lt t; omega⟩ 2 0 k) :=
  mod_at m c _ _ _ _ _ (fun _ => rfl) (at2 t)

theorem blk3 (c : Dev nD) (t : Fin cfg0.N) (k : Fin 1024) :
    iblk m c 3 t (ix5 0 0 0 0 k) = m ((c : Thread nD τ).loc main_arg1) (ix5 1 16 3 0 k) :=
  mod_at m c _ _ _ _ _ (fun _ => rfl) (at3 t)

theorem blk4 (c : Dev nD) (t : Fin cfg0.N) (k : Fin 1024) :
    iblk m c 4 t (ix5 0 0 0 0 k) = m ((c : Thread nD τ).loc main_arg1) (ix5 1 ⟨t.val / 3, by have := t_lt t; omega⟩ 3 0 k) :=
  mod_at m c _ _ _ _ _ (fun _ => rfl) (at4 t)

theorem blk5 (c : Dev nD) (t : Fin cfg0.N) (k : Fin 1024) :
    iblk m c 5 t (ix5 0 0 0 0 k) = m ((c : Thread nD τ).loc main_arg1) (ix5 1 16 4 0 k) :=
  mod_at m c _ _ _ _ _ (fun _ => rfl) (at5 t)

theorem blk6 (c : Dev nD) (t : Fin cfg0.N) (k : Fin 1024) :
    iblk m c 6 t (ix5 0 0 0 0 k) = m ((c : Thread nD τ).loc main_arg1) (ix5 1 ⟨t.val / 3, by have := t_lt t; omega⟩ 4 0 k) :=
  mod_at m c _ _ _ _ _ (fun _ => rfl) (at6 t)

theorem blk7 (c : Dev nD) (t : Fin cfg0.N) (k : Fin 1024) :
    iblk m c 7 t (ix5 0 0 0 0 k) = m ((c : Thread nD τ).loc main_arg1) (ix5 1 16 5 0 k) :=
  mod_at m c _ _ _ _ _ (fun _ => rfl) (at7 t)

theorem blk8 (c : Dev nD) (t : Fin cfg0.N) (k : Fin 1024) :
    iblk m c 8 t (ix5 0 0 0 0 k) = m ((c : Thread nD τ).loc main_arg1) (ix5 1 ⟨t.val / 3, by have := t_lt t; omega⟩ 5 0 k) :=
  mod_at m c _ _ _ _ _ (fun _ => rfl) (at8 t)

/-! ## The result -/

/-- The result as contents of the result array. -/
def result (c : Dev nD) : Buf (Elt Ideal) ((c : Thread nD τ).loc main_v3) := fun i : S36864x1024.Idx =>
  Cert.MlpMath.whole1 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- A group of 256 rows which starts at row `o` of the block. -/
theorem group_apply (c : Dev nD) (t : Fin cfg0.N) (o : ℕ) (p : Fin 256) (q : Fin 1024) (hR : 768 * t.val + (o + p.val) < 36864)
    (x : Vec Ideal S256x1024 .f32) (a : Vec Ideal S256x1024 .bf16) (wo : Vec Ideal S1024x1024 .bf16) (g1 sh sc g2 : FVec Ideal S1x1024 .f32)
    (ho : o + 256 ≤ 768)
    (hx : ∀ k, x (ix2 p k) = iblk m c 0 t (ix2 ⟨o + p.val, by omega⟩ k))
    (ha : ∀ k, a (ix2 p k) = iblk m c 9 t (ix2 ⟨o + p.val, by omega⟩ k))
    (hw : ∀ k j, wo (ix2 k j) = iblk m c 10 t (ix2 k j))
    (h1 : ∀ k, g1 (ix2 0 k) = m ((c : Thread nD τ).loc main_arg1) (ix5 1 (Cert.MlpMath.modOf ⟨768 * t.val + (o + p.val), hR⟩) 2 0 k))
    (h2 : ∀ k, sh (ix2 0 k) = m ((c : Thread nD τ).loc main_arg1) (ix5 1 (Cert.MlpMath.modOf ⟨768 * t.val + (o + p.val), hR⟩) 3 0 k))
    (h3 : ∀ k, sc (ix2 0 k) = m ((c : Thread nD τ).loc main_arg1) (ix5 1 (Cert.MlpMath.modOf ⟨768 * t.val + (o + p.val), hR⟩) 4 0 k))
    (h4 : ∀ k, g2 (ix2 0 k) = m ((c : Thread nD τ).loc main_arg1) (ix5 1 (Cert.MlpMath.modOf ⟨768 * t.val + (o + p.val), hR⟩) 5 0 k)) :
    rows1V x a wo g1 sh sc g2 (iblk m c 11 t) (iblk m c 12 t) (ix2 p q)
      = result m c (ix2 ⟨768 * t.val + (o + p.val), hR⟩ q) :=
  group1_apply 1 _ _ _ _ _ _ _ x a wo g1 sh sc g2 _ _ p q (fun k => (hx k).trans (blk0 m c t _ k)) (fun k => (ha k).trans (blk9 m c t _ k))
    (fun k j => (hw k j).trans (blk10 m c t k j)) (fun k j => blk11 m c t k j) (fun k j => blk12 m c t k j) h1 h2 h3 h4

theorem ld_wo (x : Vec Ideal S1024x1024 .bf16) (k j : Fin 1024) : View.ld x r0_1 (ix2 k j) = x (ix2 k j) := by pointwise []

/-- What a grid point leaves at a row and a column of its block. -/
theorem block_apply (c : Dev nD) (t : Fin cfg0.N) (p : Fin 768) (q : Fin 1024) :
    out0_13 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 p q)
      = result m c (ix2 ⟨768 * t.val + p.val, by have := t_lt t; omega⟩ q) := by
  have ht := t_lt t
  rw [out_eq]
  refine thirds _ _ _ (fun p q => result m c (ix2 ⟨768 * t.val + p.val, by omega⟩ q)) (fun p q => ?_) (fun p q => ?_) (fun p q => ?_) p q
  · have hm := Cert.MlpMath.modOf_lat t.val 512 p ht (by omega) (by omega) (by omega) (by omega)
    refine group_apply m c t 512 p q (by omega) _ _ _ _ _ _ _ (by omega) ?_ ?_ ?_ ?_ ?_ ?_ ?_
    · intro k; pointwise []
    · intro k; pointwise []
    · exact ld_wo _
    · intro k; rw [hm, ld_mod]; exact blk2 m c t k
    · intro k; rw [hm, ld_mod]; exact blk4 m c t k
    · intro k; rw [hm, ld_mod]; exact blk6 m c t k
    · intro k; rw [hm, ld_mod]; exact blk8 m c t k
  · have hm := Cert.MlpMath.modOf_lat t.val 256 p ht (by omega) (by omega) (by omega) (by omega)
    refine group_apply m c t 256 p q (by omega) _ _ _ _ _ _ _ (by omega) ?_ ?_ ?_ ?_ ?_ ?_ ?_
    · intro k; pointwise []
    · intro k; pointwise []
    · exact ld_wo _
    · intro k; rw [hm, ld_mod]; exact blk2 m c t k
    · intro k; rw [hm, ld_mod]; exact blk4 m c t k
    · intro k; rw [hm, ld_mod]; exact blk6 m c t k
    · intro k; rw [hm, ld_mod]; exact blk8 m c t k
  have hc := isCtx_at t
  by_cases h0 : t.val % 3 = 0
  · have hm := Cert.MlpMath.modOf_ctx t.val p (by omega) h0
    rw [hc, decide_eq_true h0]
    refine group_apply m c t 0 p q (by omega) _ _ _ _ _ _ _ (by omega) ?_ ?_ ?_ ?_ ?_ ?_ ?_
    · intro k; pointwise []
    · intro k; pointwise []
    · exact ld_wo _
    · intro k; rw [hm]; exact (ld_mod _ k).trans (blk1 m c t k)
    · intro k; rw [hm]; exact (ld_mod _ k).trans (blk3 m c t k)
    · intro k; rw [hm]; exact (ld_mod _ k).trans (blk5 m c t k)
    · intro k; rw [hm]; exact (ld_mod _ k).trans (blk7 m c t k)
  · have hm := Cert.MlpMath.modOf_lat t.val 0 p ht (by omega) (by omega) (by omega) (by omega)
    rw [hc, decide_eq_false h0]
    refine group_apply m c t 0 p q (by omega) _ _ _ _ _ _ _ (by omega) ?_ ?_ ?_ ?_ ?_ ?_ ?_
    · intro k; pointwise []
    · intro k; pointwise []
    · exact ld_wo _
    · intro k; rw [hm]; exact (ld_mod _ k).trans (blk2 m c t k)
    · intro k; rw [hm]; exact (ld_mod _ k).trans (blk4 m c t k)
    · intro k; rw [hm]; exact (ld_mod _ k).trans (blk6 m c t k)
    · intro k; rw [hm]; exact (ld_mod _ k).trans (blk8 m c t k)

/-- What a grid point writes back is its block of the result. -/
theorem flushed_eq (c : Dev nD) (t : Fin cfg0.N) :
    (dats m 0 c).flushed 13 t = ((cfg0.win 13).blk t).view.read (Elt Ideal) (result m c) := by
  rw [Value.flushed13]
  funext j
  have hj : j = (ix2 (⟨(j 0).val, (j 0).isLt⟩ : Fin 768) (⟨(j 1).val, (j 1).isLt⟩ : Fin 1024) : S768x1024.Idx) := by
    funext a; match a with | ⟨0, _⟩ => rfl | ⟨1, _⟩ => rfl
  refine Eq.trans (b := out0_13 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)
      (ix2 (⟨(j 0).val, (j 0).isLt⟩ : Fin 768) (⟨(j 1).val, (j 1).isLt⟩ : Fin 1024))) (congrArg _ hj) ?_
  rw [block_apply, View.read_apply]
  show result m c _ = result m c _
  congr 1
  funext a
  apply Fin.ext
  match a with
  | ⟨0, _⟩ => show 768 * t.val + (j 0).val = win0_13.index t 0 * 768 + 1 * (j 0).val; rw [(at13 t).1]; omega
  | ⟨1, _⟩ => show (j 1).val = win0_13.index t 1 * 1024 + 1 * (j 1).val; rw [(at13 t).2]; omega

/-- The blocks cover the array. -/
theorem cover (i : S36864x1024.Idx) :
    ∃ t : Fin cfg0.N, (cfg0.win 13).flush t = true ∧ i ∈ ((cfg0.win 13).blk t).view.set := by
  have h0 : (i 0).val < 36864 := (i 0).isLt
  have h1 : (i 1).val < 1024 := (i 1).isLt
  have hN : cfg0.N = 48 := N_0
  refine ⟨⟨(i 0).val / 768, by omega⟩, flush0_13 _, ?_⟩
  generalize ht : (⟨(i 0).val / 768, by omega⟩ : Fin cfg0.N) = t
  have ht' : t.val = (i 0).val / 768 := by rw [← ht]
  show i ∈ ((View.whole main_v3).slice (win0_13.rect t)).set
  rw [View.set_slice_whole, Rect.mem_set_unit]
  intro a
  match a with
  | ⟨0, _⟩ => show win0_13.index t 0 * 768 ≤ (i 0).val ∧ (i 0).val < win0_13.index t 0 * 768 + 768; rw [(at13 t).1]; omega
  | ⟨1, _⟩ => show win0_13.index t 1 * 1024 ≤ (i 1).val ∧ (i 1).val < win0_13.index t 1 * 1024 + 1024; rw [(at13 t).2]; omega

/-- The array the program ends with. -/
theorem final (c : Dev nD) : (dats m 0 c).arrAt 13 cfg0.N = result m c :=
  (dats m 0 c).arrAt_eq_of_cover 13 (result m c) (fun t _ => flushed_eq m c t) cover

end Cert.OddIdeal.Hand

end
-- ==== Proof.Odd.Claim.lean ====
/-
  An odd layer's mixing and feed-forward kernel and its reference compute the same array.
-/
module

public import proofs.«01_k».proof.Defs
public import proofs.«01_k».proof.Proof.Gen.OddRefIdeal.Run
public import proofs.«01_k».proof.Proof.Odd.Ref
public import proofs.«01_k».proof.Proof.Odd.Final
public import Idealize.ShloMosaic.Lib.Claim

@[expose] public section

noncomputable section

namespace Cert.OddIdeal.Hand

open Idealize.ShloMosaic Idealize.ShloMosaic.TcCoe Idealize.SL.Sem

/-- The reference's result is the kernel's, its arguments being the kernel's. -/
theorem result_eq (m : (ℓ : Loc Cert.OddIdeal.nD Cert.OddIdeal.τ Cert.OddIdeal.sig) → Buf (Elt Ideal) ℓ)
    (m' : (ℓ : Loc Cert.OddRefIdeal.nD Cert.OddRefIdeal.τ Cert.OddRefIdeal.sig) → Buf (Elt Ideal) ℓ) (c : Dev Cert.OddIdeal.nD)
    (h0 : m' ((c.tc : Thread Cert.OddRefIdeal.nD Cert.OddRefIdeal.τ).loc Cert.OddRefIdeal.main_arg0) = m ((c.tc : Thread Cert.OddIdeal.nD Cert.OddIdeal.τ).loc Cert.OddIdeal.main_arg0))
    (h1 : m' ((c.tc : Thread Cert.OddRefIdeal.nD Cert.OddRefIdeal.τ).loc Cert.OddRefIdeal.main_arg1) = m ((c.tc : Thread Cert.OddIdeal.nD Cert.OddIdeal.τ).loc Cert.OddIdeal.main_arg1))
    (h2 : m' ((c.tc : Thread Cert.OddRefIdeal.nD Cert.OddRefIdeal.τ).loc Cert.OddRefIdeal.main_arg2) = m ((c.tc : Thread Cert.OddIdeal.nD Cert.OddIdeal.τ).loc Cert.OddIdeal.main_arg2))
    (h3 : m' ((c.tc : Thread Cert.OddRefIdeal.nD Cert.OddRefIdeal.τ).loc Cert.OddRefIdeal.main_arg3) = m ((c.tc : Thread Cert.OddIdeal.nD Cert.OddIdeal.τ).loc Cert.OddIdeal.main_arg3))
    (h4 : m' ((c.tc : Thread Cert.OddRefIdeal.nD Cert.OddRefIdeal.τ).loc Cert.OddRefIdeal.main_arg4) = m ((c.tc : Thread Cert.OddIdeal.nD Cert.OddIdeal.τ).loc Cert.OddIdeal.main_arg4))
    (h5 : m' ((c.tc : Thread Cert.OddRefIdeal.nD Cert.OddRefIdeal.τ).loc Cert.OddRefIdeal.main_arg5) = m ((c.tc : Thread Cert.OddIdeal.nD Cert.OddIdeal.τ).loc Cert.OddIdeal.main_arg5)) :
    (Cert.OddRefIdeal.Value.res_main_v55 m' c : Cert.OddIdeal.S36864x1024.Idx → EReal) = result m c := by
  rw [Cert.OddRefIdeal.Read.val_main_v55_eq, h0, h1, h2, h3, h4, h5]
  funext i
  exact Cert.OddRefIdeal.Hand.value_at _ _ _ _ _ _ i

theorem algebraic : Cert.algebraic_OddIdeal_OddRefIdeal := by
  intro m ρ m' ρ' _ hagree
  refine ⟨fun c => result m c, ?_, ?_⟩
  · exact (θ_run Cert.OddIdeal.defs _ _).mono (fun _ h c => ⟨(h c).1.trans (final m c), (h c).2⟩)
      (Cert.OddIdeal.Value.run_blocks (F := Ideal) m ρ)
  · refine (θ_run Cert.OddRefIdeal.defs _ _).mono (fun _ h c => ⟨(h c).1.trans ?_, (h c).2⟩) (Cert.OddRefIdeal.Value.run (F := Ideal) m' ρ')
    obtain ⟨h0, h1, h2, h3, h4, h5⟩ := hagree c
    exact result_eq m m' c h0 h1 h2 h3 h4 h5

end Cert.OddIdeal.Hand

end
-- ==== Proof.Qkv.Ref.lean ====
/-
  The reference's query, key and value projection, read at a row and a column: it is the row formula of `Qkv/Rows.lean`.
-/
module

public import proofs.«01_k».proof.Proof.Gen.QkvRefIdeal.Read
public import proofs.«01_k».proof.Proof.Qkv.Rows

@[expose] public section

set_option maxRecDepth 16384

noncomputable section

namespace Cert.QkvRefIdeal.Hand

open Cert.MlpMath (at2 modOf_at2)
open Cert.ProjMath (proj headed hrow headCol partCol headAt)
open Cert.QkvRefIdeal Cert.QkvRefIdeal.Read Idealize.ShloMosaic Idealize.ShloMosaic.TcCoe

variable (x0 : (⟨S36864x1024, .f32⟩ : BufTy).Contents (Elt Ideal)) (x1 : (⟨S4x24x6x1x1024, .f32⟩ : BufTy).Contents (Elt Ideal))
  (x2 : (⟨S1024x3072, .f32⟩ : BufTy).Contents (Elt Ideal)) (x3 x4 : (⟨S64, .f32⟩ : BufTy).Contents (Elt Ideal))

theorem v17_at (b : Fin 16) (p : Fin 2304) (k : Fin 1024) :
    val_main_v17 (F := Ideal) x1 (ix3 b p k) = x1 (ix5 1 (Cert.MlpMath.modOf (at2 b p)) 1 0 k) := by
  rw [modOf_at2]
  pointwise [val_main_v17, val_main_v16, val_main_v15, val_main_v14, val_main_v13, val_main_v12, val_main_v11]
  split <;> rfl

theorem v27_at (b : Fin 16) (p : Fin 2304) (k : Fin 1024) :
    val_main_v27 (F := Ideal) x1 (ix3 b p k) = x1 (ix5 1 (Cert.MlpMath.modOf (at2 b p)) 0 0 k) := by
  rw [modOf_at2]
  pointwise [val_main_v27, val_main_v26, val_main_v25, val_main_v24, val_main_v23, val_main_v22, val_main_v21]
  split <;> rfl

theorem v0_at (b : Fin 16) (p : Fin 2304) (k : Fin 1024) : val_main_v0 (F := Ideal) x0 (ix3 b p k) = x0 (ix2 (at2 b p) k) := by
  pointwise [val_main_v0]

theorem v28_at (b : Fin 16) (p : Fin 2304) (j : Fin 1024) :
    val_main_v28 (F := Ideal) x0 x1 (ix3 b p j) = hrow 1 x0 x1 (at2 b p) j := by
  unfold hrow
  simp only [← v17_at, ← v27_at, ← v0_at]
  unfold val_main_v28 val_main_v20 val_main_v19 val_main_v10 val_main_v9 val_main_v8 val_main_v7 val_main_v5 val_main_v3 val_main_v2 val_main_v1
  generalize val_main_v0 (F := Ideal) x0 = r
  generalize val_main_v17 (F := Ideal) x1 = sc
  generalize val_main_v27 (F := Ideal) x1 = sh
  pointwise [val_main_v4, val_main_v6, val_main_v18, val_main_cst, val_main_cst_0, val_main_cst_1, val_main_cst_2, Cert.MlpMath.normed]

theorem v29_at (b : Fin 16) (p : Fin 2304) (n : Fin 3072) :
    val_main_v29 (F := Ideal) x0 x1 x2 (ix3 b p n) = proj (hrow 1 x0 x1 (at2 b p)) (fun k => x2 (ix2 k n)) := by
  unfold proj
  simp only [← v28_at]
  unfold val_main_v29
  generalize val_main_v28 (F := Ideal) x0 x1 = h
  pointwise []

theorem v30_at (b : Fin 16) (p : Fin 2304) (a : Fin 3) (g : Fin 16) (d : Fin 64) :
    val_main_v30 (F := Ideal) x0 x1 x2 (ix5 b p a g d)
      = proj (hrow 1 x0 x1 (at2 b p)) (fun k => x2 (ix2 k (partCol a (headCol g d)))) := by
  rw [← v29_at]
  unfold val_main_v30
  generalize val_main_v29 (F := Ideal) x0 x1 x2 = y
  have hb := b.isLt
  have hp := p.isLt
  have ha := a.isLt
  have hg := g.isLt
  have hd := d.isLt
  pointwise []
  refine congrArg (fun v : Fin 3072 => y (ix3 b p v)) (Fin.ext ?_)
  show a.val * 1024 + g.val * 64 + d.val = 1024 * a.val + (64 * g.val + d.val)
  omega

/-- The 64 numbers of a head, normalized: the queries'. -/
theorem v47_at (b : Fin 16) (p : Fin 2304) (g : Fin 16) (d : Fin 64) :
    val_main_v47 (F := Ideal) x0 x1 x2 x3 (ix4 b p g d) = headAt (hrow 1 x0 x1 (at2 b p)) x2 x3 0 g d * Ideal.ofBits .f32 0x3E000000#32 := by
  have hy : ∀ e, val_main_v32 (F := Ideal) x0 x1 x2 (ix4 b p g e)
      = proj (hrow 1 x0 x1 (at2 b p)) (fun k => x2 (ix2 k (partCol 0 (headCol g e)))) := by
    intro e
    rw [← v30_at x0 x1 x2 b p 0 g e]
    unfold val_main_v32 val_main_v31
    generalize val_main_v30 (F := Ideal) x0 x1 x2 = y
    pointwise []
  unfold headAt
  rw [← funext hy]
  unfold val_main_v47 val_main_v45 val_main_v42 val_main_v41 val_main_v40 val_main_v39 val_main_v37 val_main_v35 val_main_v34 val_main_v33
  generalize val_main_v32 (F := Ideal) x0 x1 x2 = y
  pointwise [val_main_v46, val_main_v44, val_main_v43, val_main_v36, val_main_v38, val_main_cst_3, val_main_cst_4, val_main_cst_5, val_main_cst_6, headed]

/-- The keys'. -/
theorem v62_at (b : Fin 16) (p : Fin 2304) (g : Fin 16) (d : Fin 64) :
    val_main_v62 (F := Ideal) x0 x1 x2 x4 (ix4 b p g d) = headAt (hrow 1 x0 x1 (at2 b p)) x2 x4 1 g d := by
  have hy : ∀ e, val_main_v49 (F := Ideal) x0 x1 x2 (ix4 b p g e)
      = proj (hrow 1 x0 x1 (at2 b p)) (fun k => x2 (ix2 k (partCol 1 (headCol g e)))) := by
    intro e
    rw [← v30_at x0 x1 x2 b p 1 g e]
    unfold val_main_v49 val_main_v48
    generalize val_main_v30 (F := Ideal) x0 x1 x2 = y
    pointwise []
  unfold headAt
  rw [← funext hy]
  unfold val_main_v62 val_main_v59 val_main_v58 val_main_v57 val_main_v56 val_main_v54 val_main_v52 val_main_v51 val_main_v50
  generalize val_main_v49 (F := Ideal) x0 x1 x2 = y
  pointwise [val_main_v61, val_main_v60, val_main_v53, val_main_v55, val_main_cst_7, val_main_cst_8, val_main_cst_9, headed]

theorem v64_at (b : Fin 16) (p : Fin 2304) (g : Fin 16) (d : Fin 64) :
    val_main_v64 (F := Ideal) x0 x1 x2 (ix4 b p g d)
      = proj (hrow 1 x0 x1 (at2 b p)) (fun k => x2 (ix2 k (partCol 2 (headCol g d)))) := by
  rw [← v30_at x0 x1 x2 b p 2 g d]
  unfold val_main_v64 val_main_v63
  generalize val_main_v30 (F := Ideal) x0 x1 x2 = y
  pointwise []

/-- A row and a column of the whole array, by batch, position, head and lane. -/
theorem parts (i : S36864x1024.Idx) : ∃ (b : Fin 16) (p : Fin 2304) (g : Fin 16) (d : Fin 64), i = ix2 (at2 b p) (headCol g d) := by
  obtain ⟨r, q, rfl⟩ : ∃ (r : Fin 36864) (q : Fin 1024), i = ix2 r q := ⟨i 0, i 1, eq_ix2 i⟩
  obtain ⟨g, d, rfl⟩ := Cert.ProjMath.headCol_cases q
  have hr := r.isLt
  exact ⟨⟨r.val / 2304, by omega⟩, ⟨r.val % 2304, by omega⟩, g, d, congrArg (fun v : Fin 36864 => ix2 v (headCol g d))
    (Fin.ext (by show r.val = r.val / 2304 * 2304 + r.val % 2304; omega))⟩

/-- Heads beside each other in a row. -/
theorem flat_at (h : Shape.ShapeCasts S16x2304x16x64 S36864x1024) (y : FVec Ideal S16x2304x16x64 .f32) (b : Fin 16) (p : Fin 2304) (g : Fin 16) (d : Fin 64) :
    shapeCast S36864x1024 y h (ix2 (at2 b p) (headCol g d)) = y (ix4 b p g d) := by
  have hb := b.isLt
  have hp := p.isLt
  have hg := g.isLt
  have hd := d.isLt
  pointwise []
  have e : ∀ (u : Fin 16) (v : Fin 2304) (w : Fin 16) (z : Fin 64), u = b → v = p → w = g → z = d → y (ix4 u v w z) = y (ix4 b p g d) := by
    rintro _ _ _ _ rfl rfl rfl rfl; rfl
  refine e _ _ _ _ (Fin.ext ?_) (Fin.ext ?_) (Fin.ext ?_) (Fin.ext ?_)
  · show (b.val * 2304 + p.val) / 2304 = b.val; omega
  · show (b.val * 2304 + p.val) % 2304 = p.val; omega
  · show (64 * g.val + d.val) / 64 = g.val; omega
  · show (64 * g.val + d.val) % 64 = d.val; omega

/-- The three results, index by index. -/
theorem q_at (b : Fin 16) (p : Fin 2304) (g : Fin 16) (d : Fin 64) :
    val_main_v66 (F := Ideal) x0 x1 x2 x3 (ix2 (at2 b p) (headCol g d))
      = headAt (hrow 1 x0 x1 (at2 b p)) x2 x3 0 g d * Ideal.ofBits .f32 0x3E000000#32 :=
  (flat_at _ _ b p g d).trans (v47_at x0 x1 x2 x3 b p g d)

theorem k_at (b : Fin 16) (p : Fin 2304) (g : Fin 16) (d : Fin 64) :
    val_main_v68 (F := Ideal) x0 x1 x2 x4 (ix2 (at2 b p) (headCol g d)) = headAt (hrow 1 x0 x1 (at2 b p)) x2 x4 1 g d :=
  (flat_at _ _ b p g d).trans (v62_at x0 x1 x2 x4 b p g d)

theorem v_at (b : Fin 16) (p : Fin 2304) (g : Fin 16) (d : Fin 64) :
    val_main_v70 (F := Ideal) x0 x1 x2 (ix2 (at2 b p) (headCol g d))
      = proj (hrow 1 x0 x1 (at2 b p)) (fun k => x2 (ix2 k (partCol 2 (headCol g d)))) :=
  (flat_at _ _ b p g d).trans (v64_at x0 x1 x2 b p g d)

end Cert.QkvRefIdeal.Hand

end
-- ==== Proof.Qkv.Final.lean ====
/-
  The three arrays the query, key and value projection ends with: every row is the row formula of `Qkv/Rows.lean`.
-/
module

public import proofs.«01_k».proof.Proof.Gen.QkvIdeal.Value
public import proofs.«01_k».proof.Proof.Qkv.Block
public import Idealize.ShloMosaic.Lib.Pipeline.Value
public import Idealize.ShloMosaic.Lib.Pipeline.ValueKit.Tiles
public import Idealize.ShloMosaic.Lib.StableHlo.RunRead

@[expose] public section

set_option maxRecDepth 16384

noncomputable section

namespace Cert.QkvIdeal.Hand

open Cert.QkvIdeal Cert.QkvIdeal.Gen Cert.MlpIdeal.Hand Idealize.ShloMosaic Idealize.ShloMosaic.TcCoe Idealize.SL.Sem
open Idealize.ShloMosaic.Pipeline (Dat)
open Cert.KernelIdeal.Hand (lane lane_cases)
open Cert.ProjMath (proj headed hrow headCol partCol headAt)

variable (m : (ℓ : Loc nD τ sig) → Buf (Elt Ideal) ℓ) (ρ : Dev nD → PrngReg)

theorem t_lt (t : Fin cfg0.N) : t.val < 48 := Nat.lt_of_lt_of_eq t.isLt N_0

/-! ## The blocks a grid point reads -/

theorem at0 : ∀ t : Fin grid0.N, win0_0.index t 0 = t.val ∧ win0_0.index t 1 = 0 := by decide +kernel
theorem at1 : ∀ t : Fin grid0.N, win0_1.index t 0 = 1 ∧ win0_1.index t 1 = 16 ∧ win0_1.index t 2 = 0 ∧ win0_1.index t 3 = 0 ∧ win0_1.index t 4 = 0 := by decide +kernel
theorem at2 : ∀ t : Fin grid0.N, win0_2.index t 0 = 1 ∧ win0_2.index t 1 = t.val / 3 ∧ win0_2.index t 2 = 0 ∧ win0_2.index t 3 = 0 ∧ win0_2.index t 4 = 0 := by decide +kernel
theorem at3 : ∀ t : Fin grid0.N, win0_3.index t 0 = 1 ∧ win0_3.index t 1 = 16 ∧ win0_3.index t 2 = 1 ∧ win0_3.index t 3 = 0 ∧ win0_3.index t 4 = 0 := by decide +kernel
theorem at4 : ∀ t : Fin grid0.N, win0_4.index t 0 = 1 ∧ win0_4.index t 1 = t.val / 3 ∧ win0_4.index t 2 = 1 ∧ win0_4.index t 3 = 0 ∧ win0_4.index t 4 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel
theorem at8 : ∀ t : Fin grid0.N, win0_8.index t 0 = t.val ∧ win0_8.index t 1 = 0 := by decide +kernel
theorem at9 : ∀ t : Fin grid0.N, win0_9.index t 0 = t.val ∧ win0_9.index t 1 = 0 := by decide +kernel
theorem at10 : ∀ t : Fin grid0.N, win0_10.index t 0 = t.val ∧ win0_10.index t 1 = 0 := by decide +kernel

/-- A grid point's first 256 rows are context rows iff its number is a multiple of three. -/
theorem isCtx_at : ∀ t : Fin grid0.N, isCtx (grid0.coords t) = BitVec.ofBool (decide (t.val % 3 = 0)) := by decide +kernel

theorem V_w (c : Dev nD) : V m c main_v0 = (truncf (F := Ideal) .bf16 (m ((c : Thread nD τ).loc main_arg2) : FVec Ideal S1024x3072 .f32) bitsLt_bf16_f32 : FVec Ideal S1024x3072 .bf16) := by
  show StableHlo.after _ _ _ = _
  simp only [hostOps0]
  after_reads_simp

/-- The gains of one head, twice side by side. -/
def twice (x : FVec Ideal S64 .f32) : FVec Ideal S1x128 .f32 :=
  broadcastInDim S1x128 ![1] bcast_S128_S1x128_1 (shapeCast S128 (broadcastInDim S2x64 ![0, 1] bcast_S1x64_S2x64_0_1
    (shapeCast S1x64 x shapeCasts_S64_S1x64)) shapeCasts_S2x64_S128)

theorem V_qn (c : Dev nD) : V m c main_v4 = twice (m ((c : Thread nD τ).loc main_arg3)) := by
  show StableHlo.after _ _ _ = _
  simp only [hostOps0]
  after_reads_simp
  rfl

theorem V_kn (c : Dev nD) : V m c main_v8 = twice (m ((c : Thread nD τ).loc main_arg4)) := by
  show StableHlo.after _ _ _ = _
  simp only [hostOps0]
  after_reads_simp
  rfl

theorem twice_apply (x : FVec Ideal S64 .f32) (h : Fin 2) (d : Fin 64) : twice x (ix2 0 (lane h d)) = x (ix1 d) := by
  have hd := d.isLt
  pointwise [twice]
  refine congrArg (fun v => x (ix1 v)) (Fin.ext ?_)
  show (64 * h.val + d.val) % 64 = d.val; omega

theorem blk0 (c : Dev nD) (t : Fin cfg0.N) (p : Fin 768) (k : Fin 1024) :
    iblk m c 0 t (ix2 p k) = m ((c : Thread nD τ).loc main_arg0) (ix2 ⟨768 * t.val + p.val, by have := t_lt t; omega⟩ k) := by
  unfold iblk
  rw [View.read_apply]
  show V m c main_arg0 _ = _
  rw [V_main_arg0]
  refine congrArg _ (Cert.MlpMath.ix2_of _ _ _ ?_ ?_)
  · show win0_0.index t 0 * 768 + 1 * p.val = 768 * t.val + p.val; rw [(at0 t).1]; omega
  · show win0_0.index t 1 * 1024 + 1 * k.val = k.val; rw [(at0 t).2]; omega

theorem blk5 (c : Dev nD) (t : Fin cfg0.N) (p : Fin 1024) (k : Fin 3072) :
    iblk m c 5 t (ix2 p k) = m ((c : Thread nD τ).loc main_arg2) (ix2 p k) := by
  unfold iblk
  rw [View.read_apply]
  show V m c main_v0 _ = _
  rw [V_w]
  show m ((c : Thread nD τ).loc main_arg2) _ = _
  refine congrArg _ (Cert.MlpMath.ix2_of _ _ _ ?_ ?_)
  · show win0_5.index t 0 * 1024 + 1 * p.val = p.val; rw [(at5 t).1]; omega
  · show win0_5.index t 1 * 3072 + 1 * k.val = k.val; rw [(at5 t).2]; omega

theorem blk6 (c : Dev nD) (t : Fin cfg0.N) (h : Fin 2) (d : Fin 64) :
    iblk m c 6 t (ix2 0 (lane h d)) = m ((c : Thread nD τ).loc main_arg3) (ix1 d) := by
  unfold iblk
  rw [View.read_apply]
  show V m c main_v4 _ = _
  rw [V_qn]
  refine (congrArg (twice _) (Cert.MlpMath.ix2_of _ _ _ ?_ ?_)).trans (twice_apply _ h d)
  · show win0_6.index t 0 * 1 + 1 * 0 = 0; rw [(at6 t).1]
  · show win0_6.index t 1 * 128 + 1 * (lane h d).val = (lane h d).val; rw [(at6 t).2]; omega

theorem blk7 (c : Dev nD) (t : Fin cfg0.N) (h : Fin 2) (d : Fin 64) :
    iblk m c 7 t (ix2 0 (lane h d)) = m ((c : Thread nD τ).loc main_arg4) (ix1 d) := by
  unfold iblk
  rw [View.read_apply]
  show V m c main_v8 _ = _
  rw [V_kn]
  refine (congrArg (twice _) (Cert.MlpMath.ix2_of _ _ _ ?_ ?_)).trans (twice_apply _ h d)
  · show win0_7.index t 0 * 1 + 1 * 0 = 0; rw [(at7 t).1]
  · show win0_7.index t 1 * 128 + 1 * (lane h d).val = (lane h d).val; rw [(at7 t).2]; omega

/-- The modulations at an index which stands in a block of one vector. -/
theorem mod_at (c : Dev nD) (e : S4x24x6x1x1024.Idx) (i : Fin 5 → ℕ) (b : Fin 24) (w : Fin 6) (k : Fin 1024)
    (he : ∀ a, (e a).val = i a * (![1, 1, 1, 1, 1024] : Fin 5 → ℕ) a + 1 * ((ix5 0 0 0 0 k : S1x1x1x1x1024.Idx) a).val)
    (hi : i 0 = 1 ∧ i 1 = b.val ∧ i 2 = w.val ∧ i 3 = 0 ∧ i 4 = 0) :
    V m c main_arg1 e = m ((c : Thread nD τ).loc main_arg1) (ix5 1 b w 0 k) := by
  rw [V_main_arg1, Cert.MlpMath.ix5_of e i 1 b w k he hi]

theorem blk1 (c : Dev nD) (t : Fin cfg0.N) (k : Fin 1024) :
    iblk m c 1 t (ix5 0 0 0 0 k) = m ((c : Thread nD τ).loc main_arg1) (ix5 1 16 0 0 k) :=
  mod_at m c _ _ _ _ _ (fun _ => rfl) (at1 t)

theorem blk2 (c : Dev nD) (t : Fin cfg0.N) (k : Fin 1024) :
    iblk m c 2 t (ix5 0 0 0 0 k) = m ((c : Thread nD τ).loc main_arg1) (ix5 1 ⟨t.val / 3, by have := t_lt t; omega⟩ 0 0 k) :=
  mod_at m c _ _ _ _ _ (fun _ => rfl) (at2 t)

theorem blk3 (c : Dev nD) (t : Fin cfg0.N) (k : Fin 1024) :
    iblk m c 3 t (ix5 0 0 0 0 k) = m ((c : Thread nD τ).loc main_arg1) (ix5 1 16 1 0 k) :=
  mod_at m c _ _ _ _ _ (fun _ => rfl) (at3 t)

theorem blk4 (c : Dev nD) (t : Fin cfg0.N) (k : Fin 1024) :
    iblk m c 4 t (ix5 0 0 0 0 k) = m ((c : Thread nD τ).loc main_arg1) (ix5 1 ⟨t.val / 3, by have := t_lt t; omega⟩ 1 0 k) :=
  mod_at m c _ _ _ _ _ (fun _ => rfl) (at4 t)

/-! ## A group's rows, normalized -/

/-- The array's row `p` of group `s` of a grid point's block. -/
abbrev rowAt (t : Fin cfg0.N) (s : Fin 3) (p : Fin 256) : Fin 36864 := ⟨768 * t.val + (256 * s.val + p.val), by have := t_lt t; omega⟩

theorem hV_apply (c : Dev nD) (t : Fin cfg0.N) (s : Fin 3) (p : Fin 256) (k : Fin 1024) :
    hV (grid0.coords t) (iblk m c 0 t) (iblk m c 1 t) (iblk m c 2 t) (iblk m c 3 t) (iblk m c 4 t) s (ix2 p k)
      = hrow 1 (m ((c : Thread nD τ).loc main_arg0)) (m ((c : Thread nD τ).loc main_arg1)) (rowAt t s p) k :=
  hV_of 1 _ t.val (t_lt t) (isCtx_at t) _ _ _ _ _ _ _ (blk0 m c t) (blk1 m c t) (blk2 m c t) (blk3 m c t) (blk4 m c t) s p k

theorem ld_cols (w : Vec Ideal S1024x3072 .bf16) (o : ℕ) (ho : o + 512 ≤ 3072) (k : Fin 1024) (j : Fin 512) :
    View.ld w (colsR o ho) (ix2 k j) = w (ix2 k ⟨o + j.val, by omega⟩) := by
  refine congrArg w (Cert.MlpMath.ix2_of _ _ _ ?_ ?_)
  · show 0 + 1 * k.val = k.val; omega
  · show o + 1 * j.val = o + j.val; omega

/-- The head's number in its pair and of the pair. -/
abbrev headOf (g : Fin 8) (h : Fin 2) : Fin 16 := ⟨2 * g.val + h.val, by omega⟩

theorem pairV_apply (h : FVec Ideal S256x1024 .bf16) (w : Vec Ideal S1024x3072 .bf16) (b : Fin 2) (g : Fin 8) (p : Fin 256) (hh : Fin 2)
    (d : Fin 64) : pairV h w b g (ix2 p (lane hh d))
      = proj (fun k => h (ix2 p k)) (fun k => w (ix2 k (partCol ⟨b.val, by omega⟩ (headCol (headOf g hh) d)))) := by
  unfold pairV
  rw [pickV_apply, accV_apply]
  refine congrArg (proj _) (funext fun k => ?_)
  rw [ld_cols]
  refine congrArg (fun v => w (ix2 k v)) (Fin.ext ?_)
  show 1024 * b.val + 512 * (g.val / 4) + (128 * (g.val % 4) + (64 * hh.val + d.val)) = 1024 * b.val + (64 * (2 * g.val + hh.val) + d.val)
  omega

/-! ## The results -/

/-- Head and lane of a column. -/
abbrev hd (q : Fin 1024) : Fin 16 := ⟨q.val / 64, by omega⟩
abbrev ln (q : Fin 1024) : Fin 64 := ⟨q.val % 64, by omega⟩

/-- The queries, the keys and the values at a row and a column. -/
def qAt (x0 : S36864x1024.Idx → EReal) (x1 : S4x24x6x1x1024.Idx → EReal) (w : S1024x3072.Idx → EReal) (gain : S64.Idx → EReal)
    (r : Fin 36864) (q : Fin 1024) : EReal :=
  headAt (hrow 1 x0 x1 r) w gain 0 (hd q) (ln q) * Ideal.ofBits .f32 0x3E000000#32
def kAt (x0 : S36864x1024.Idx → EReal) (x1 : S4x24x6x1x1024.Idx → EReal) (w : S1024x3072.Idx → EReal) (gain : S64.Idx → EReal)
    (r : Fin 36864) (q : Fin 1024) : EReal :=
  headAt (hrow 1 x0 x1 r) w gain 1 (hd q) (ln q)
def vAt (x0 : S36864x1024.Idx → EReal) (x1 : S4x24x6x1x1024.Idx → EReal) (w : S1024x3072.Idx → EReal)
    (r : Fin 36864) (q : Fin 1024) : EReal :=
  proj (hrow 1 x0 x1 r) (fun k => w (ix2 k (partCol 2 q)))

/-- The queries as contents of their array. -/
def resultQ (c : Dev nD) : Buf (Elt Ideal) ((c : Thread nD τ).loc main_v9_0) := fun i : S36864x1024.Idx =>
  qAt (m ((c : Thread nD τ).loc main_arg0)) (m ((c : Thread nD τ).loc main_arg1)) (m ((c : Thread nD τ).loc main_arg2))
    (m ((c : Thread nD τ).loc main_arg3)) (i 0) (i 1)
/-- The keys as contents of their array. -/
def resultK (c : Dev nD) : Buf (Elt Ideal) ((c : Thread nD τ).loc main_v9_1) := fun i : S36864x1024.Idx =>
  kAt (m ((c : Thread nD τ).loc main_arg0)) (m ((c : Thread nD τ).loc main_arg1)) (m ((c : Thread nD τ).loc main_arg2))
    (m ((c : Thread nD τ).loc main_arg4)) (i 0) (i 1)
/-- The values as contents of their array. -/
def resultV (c : Dev nD) : Buf (Elt Ideal) ((c : Thread nD τ).loc main_v9_2) := fun i : S36864x1024.Idx =>
  vAt (m ((c : Thread nD τ).loc main_arg0)) (m ((c : Thread nD τ).loc main_arg1)) (m ((c : Thread nD τ).loc main_arg2)) (i 0) (i 1)

/-- Two heads of a group, normalized. -/
theorem heads_at (c : Dev nD) (t : Fin cfg0.N) (s : Fin 3) (g : Fin 8) (b : Fin 2) (gain : Vec Ideal S1x128 .f32) (G : S64.Idx → EReal)
    (hG : ∀ h d, gain (ix2 0 (lane h d)) = G (ix1 d)) (p : Fin 256) (hh : Fin 2) (d : Fin 64) :
    headsV (pairV (hV (grid0.coords t) (iblk m c 0 t) (iblk m c 1 t) (iblk m c 2 t) (iblk m c 3 t) (iblk m c 4 t) s) (iblk m c 5 t) b g)
      (shapeCast S1x128 (View.ld gain r0_2) shapeCasts_S1x128_S1x128) (ix2 p (lane hh d))
      = headAt (hrow 1 (m ((c : Thread nD τ).loc main_arg0)) (m ((c : Thread nD τ).loc main_arg1)) (rowAt t s p))
          (m ((c : Thread nD τ).loc main_arg2)) G ⟨b.val, by omega⟩ (headOf g hh) d := by
  rw [headsV_apply]
  unfold headAt
  have hg : ∀ e, shapeCast S1x128 (View.ld gain r0_2) shapeCasts_S1x128_S1x128 (ix2 0 (lane hh e)) = G (ix1 e) := by
    intro e; rw [← hG hh e]; generalize lane hh e = l; pointwise []
  have hy : ∀ e, pairV (hV (grid0.coords t) (iblk m c 0 t) (iblk m c 1 t) (iblk m c 2 t) (iblk m c 3 t) (iblk m c 4 t) s) (iblk m c 5 t) b g
      (ix2 p (lane hh e)) = proj (hrow 1 (m ((c : Thread nD τ).loc main_arg0)) (m ((c : Thread nD τ).loc main_arg1)) (rowAt t s p))
        (fun k => m ((c : Thread nD τ).loc main_arg2) (ix2 k (partCol ⟨b.val, by omega⟩ (headCol (headOf g hh) e)))) := by
    intro e
    rw [pairV_apply, funext (hV_apply m c t s p)]
    exact congrArg (proj _) (funext fun k => blk5 m c t k _)
  rw [funext hg, funext hy]

/-- A block of 768 rows that is stored in groups of 256 rows and 128 columns. -/
theorem tiles24 (P : Fin 24 → S256x128.Idx → EReal) (f : Fin 768 → Fin 1024 → EReal)
    (h : ∀ n (p : Fin 256) (hh : Fin 2) (d : Fin 64), P n (ix2 p (lane hh d))
      = f ⟨256 * (grp n).val + p.val, by omega⟩ (headCol (headOf (prs n) hh) d)) (p : Fin 768) (q : Fin 1024) :
    View.canon (Val := Elt Ideal) (s := S768x1024) (e := .bf16) (List.ofFn fun n : Fin 24 =>
      ⟨Rect.unit (s := S768x1024) ![256 * (grp n).val, 128 * (prs n).val] S256x128.size (inb24 n), P n⟩) (ix2 p q) = f p q := by
  have h1 : ∃ n : Fin 24, ∀ a : Fin 2, (![256 * (grp n).val, 128 * (prs n).val] : Fin 2 → ℕ) a ≤ ((ix2 p q : S768x1024.Idx) a).val
      ∧ ((ix2 p q : S768x1024.Idx) a).val < (![256 * (grp n).val, 128 * (prs n).val] : Fin 2 → ℕ) a + S256x128.size a := by
    refine ⟨⟨8 * (2 - p.val / 256) + (7 - q.val / 128), by omega⟩, fun a => ?_⟩
    match a with
    | ⟨0, _⟩ =>
      show 256 * (2 - (8 * (2 - p.val / 256) + (7 - q.val / 128)) / 8) ≤ p.val ∧ p.val < 256 * (2 - (8 * (2 - p.val / 256) + (7 - q.val / 128)) / 8) + 256
      omega
    | ⟨1, _⟩ =>
      show 128 * (7 - (8 * (2 - p.val / 256) + (7 - q.val / 128)) % 8) ≤ q.val ∧ q.val < 128 * (7 - (8 * (2 - p.val / 256) + (7 - q.val / 128)) % 8) + 128
      omega
  have h2 : ∀ n : Fin 24, View.TileAt (Val := Elt Ideal) (S := S768x1024) (e := .bf16) (ix2 p q) ![256 * (grp n).val, 128 * (prs n).val]
      S256x128.size (P n) (f p q) := by
    intro n x hx
    obtain ⟨x0, l, rfl⟩ : ∃ (a : Fin 256) (b : Fin 128), x = ix2 a b := ⟨x 0, x 1, eq_ix2 x⟩
    obtain ⟨hh, d, rfl⟩ := lane_cases l
    have e0 : p.val = 256 * (grp n).val + x0.val := hx 0
    have e1 : q.val = 128 * (prs n).val + (64 * hh.val + d.val) := hx 1
    refine (h n x0 hh d).trans ?_
    refine congrArg₂ f (Fin.ext e0.symm) (Fin.ext ?_)
    show 64 * (2 * (prs n).val + hh.val) + d.val = q.val
    omega
  have key := View.canon_ofFn_unit_eq_of_forall (Val := Elt Ideal) (S := S768x1024) (e := .bf16) (fun n : Fin 24 => ![256 * (grp n).val, 128 * (prs n).val])
    S256x128.size inb24 P (ix2 p q) (f p q) h1 h2
  exact key

/-- The same in groups of 256 rows and 512 columns. -/
theorem tiles6 (P : Fin 6 → S256x512.Idx → EReal) (f : Fin 768 → Fin 1024 → EReal)
    (h : ∀ n (p : Fin 256) (j : Fin 512), P n (ix2 p j) = f ⟨256 * (grp6 n).val + p.val, by omega⟩ ⟨512 * (hlf6 n).val + j.val, by omega⟩)
    (p : Fin 768) (q : Fin 1024) :
    View.canon (Val := Elt Ideal) (s := S768x1024) (e := .bf16) (List.ofFn fun n : Fin 6 =>
      ⟨Rect.unit (s := S768x1024) ![256 * (grp6 n).val, 512 * (hlf6 n).val] S256x512.size (inb6 n), P n⟩) (ix2 p q) = f p q := by
  have h1 : ∃ n : Fin 6, ∀ a : Fin 2, (![256 * (grp6 n).val, 512 * (hlf6 n).val] : Fin 2 → ℕ) a ≤ ((ix2 p q : S768x1024.Idx) a).val
      ∧ ((ix2 p q : S768x1024.Idx) a).val < (![256 * (grp6 n).val, 512 * (hlf6 n).val] : Fin 2 → ℕ) a + S256x512.size a := by
    refine ⟨⟨2 * (2 - p.val / 256) + (1 - q.val / 512), by omega⟩, fun a => ?_⟩
    match a with
    | ⟨0, _⟩ =>
      show 256 * (2 - (2 * (2 - p.val / 256) + (1 - q.val / 512)) / 2) ≤ p.val ∧ p.val < 256 * (2 - (2 * (2 - p.val / 256) + (1 - q.val / 512)) / 2) + 256
      omega
    | ⟨1, _⟩ =>
      show 512 * (1 - (2 * (2 - p.val / 256) + (1 - q.val / 512)) % 2) ≤ q.val ∧ q.val < 512 * (1 - (2 * (2 - p.val / 256) + (1 - q.val / 512)) % 2) + 512
      omega
  have h2 : ∀ n : Fin 6, View.TileAt (Val := Elt Ideal) (S := S768x1024) (e := .bf16) (ix2 p q) ![256 * (grp6 n).val, 512 * (hlf6 n).val]
      S256x512.size (P n) (f p q) := by
    intro n x hx
    obtain ⟨x0, l, rfl⟩ : ∃ (a : Fin 256) (b : Fin 512), x = ix2 a b := ⟨x 0, x 1, eq_ix2 x⟩
    have e0 : p.val = 256 * (grp6 n).val + x0.val := hx 0
    have e1 : q.val = 512 * (hlf6 n).val + l.val := hx 1
    exact (h n x0 l).trans (congrArg₂ f (Fin.ext e0.symm) (Fin.ext e1.symm))
  have key := View.canon_ofFn_unit_eq_of_forall (Val := Elt Ideal) (S := S768x1024) (e := .bf16) (fun n : Fin 6 => ![256 * (grp6 n).val, 512 * (hlf6 n).val])
    S256x512.size inb6 P (ix2 p q) (f p q) h1 h2
  exact key

/-- The array's row of a row of the block. -/
abbrev rowB (t : Fin cfg0.N) (p : Fin 768) : Fin 36864 := ⟨768 * t.val + p.val, by have := t_lt t; omega⟩

theorem hd_head (g : Fin 16) (d : Fin 64) : hd (headCol g d) = g := Fin.ext (by show (64 * g.val + d.val) / 64 = g.val; omega)
theorem ln_head (g : Fin 16) (d : Fin 64) : ln (headCol g d) = d := Fin.ext (by show (64 * g.val + d.val) % 64 = d.val; omega)

theorem block8 (c : Dev nD) (t : Fin cfg0.N) (p : Fin 768) (q : Fin 1024) :
    out0_8 (grid0.coords t) (iblk m c 0 t) (iblk m c 1 t) (iblk m c 2 t) (iblk m c 3 t) (iblk m c 4 t) (iblk m c 5 t) (iblk m c 6 t)
      (iblk m c 7 t) (ix2 p q) = resultQ m c (ix2 (rowB t p) q) := by
  rw [out8_eq]
  refine tiles24 _ (fun p q => resultQ m c (ix2 (rowB t p) q)) (fun n p hh d => ?_) p q
  show (headsV _ _ : FVec Ideal S256x128 .f32) _ * Ideal.ofBits .f32 0x3E000000#32 = headAt _ _ _ 0 (hd (headCol _ d)) (ln (headCol _ d)) * _
  rw [heads_at m c t _ _ 0 _ _ (blk6 m c t), hd_head, ln_head]
  rfl

theorem block9 (c : Dev nD) (t : Fin cfg0.N) (p : Fin 768) (q : Fin 1024) :
    out0_9 (grid0.coords t) (iblk m c 0 t) (iblk m c 1 t) (iblk m c 2 t) (iblk m c 3 t) (iblk m c 4 t) (iblk m c 5 t) (iblk m c 6 t)
      (iblk m c 7 t) (ix2 p q) = resultK m c (ix2 (rowB t p) q) := by
  rw [out9_eq]
  refine tiles24 _ (fun p q => resultK m c (ix2 (rowB t p) q)) (fun n p hh d => ?_) p q
  show (headsV _ _ : FVec Ideal S256x128 .f32) _ = headAt _ _ _ 1 (hd (headCol _ d)) (ln (headCol _ d))
  rw [heads_at m c t _ _ 1 _ _ (blk7 m c t), hd_head, ln_head]
  rfl

theorem block10 (c : Dev nD) (t : Fin cfg0.N) (p : Fin 768) (q : Fin 1024) :
    out0_10 (grid0.coords t) (iblk m c 0 t) (iblk m c 1 t) (iblk m c 2 t) (iblk m c 3 t) (iblk m c 4 t) (iblk m c 5 t) (iblk m c 6 t)
      (iblk m c 7 t) (ix2 p q) = resultV m c (ix2 (rowB t p) q) := by
  rw [out10_eq]
  refine tiles6 _ (fun p q => resultV m c (ix2 (rowB t p) q)) (fun n p j => ?_) p q
  have hid : ∀ (a : FVec Ideal S256x512 .f32) i, truncf .bf16 a bitsLt_bf16_f32 i = a i := fun _ _ => rfl
  refine Eq.trans (hid _ _) ?_
  show _ = vAt _ _ _ (rowAt t (grp6 n) p) ⟨512 * (hlf6 n).val + j.val, by omega⟩
  unfold vAt
  rw [accV_apply, funext (hV_apply m c t (grp6 n) p)]
  refine congrArg (proj _) (funext fun k => ?_)
  rw [ld_cols]
  refine (blk5 m c t k _).trans (congrArg (fun v => m ((c : Thread nD τ).loc main_arg2) (ix2 k v)) (Fin.ext ?_))
  show 2048 + 512 * (hlf6 n).val + j.val = 1024 * 2 + (512 * (hlf6 n).val + j.val)
  omega

/-! ## The arrays at the end -/

/-- A block's index, as a row and a column. -/
theorem eq_row (j : S768x1024.Idx) : j = ix2 (⟨(j 0).val, (j 0).isLt⟩ : Fin 768) (⟨(j 1).val, (j 1).isLt⟩ : Fin 1024) := by
  funext a; match a with | ⟨0, _⟩ => rfl | ⟨1, _⟩ => rfl

/-- The index of the array at which an index of a block stands. -/
theorem row_of (t : Fin cfg0.N) (i : S36864x1024.Idx) (j : S768x1024.Idx) (n : Fin 2 → ℕ) (hn : n 0 = t.val ∧ n 1 = 0)
    (h : ∀ a, (i a).val = n a * (![768, 1024] : Fin 2 → ℕ) a + 1 * (j a).val) :
    ix2 (rowB t ⟨(j 0).val, (j 0).isLt⟩) (⟨(j 1).val, (j 1).isLt⟩ : Fin 1024) = i := by
  refine (Cert.MlpMath.ix2_of i _ _ ?_ ?_).symm
  · have := h 0; rw [hn.1] at this; show (i 0).val = 768 * t.val + (j 0).val; rw [this]; show t.val * 768 + 1 * (j 0).val = _; omega
  · have := h 1; rw [hn.2] at this; show (i 1).val = (j 1).val; rw [this]; show 0 * 1024 + 1 * (j 1).val = _; omega

theorem flushed8 (c : Dev nD) (t : Fin cfg0.N) :
    (dats m 0 c).flushed 8 t = ((cfg0.win 8).blk t).view.read (Elt Ideal) (resultQ m c) := by
  rw [Value.flushed8]
  funext j
  refine Eq.trans (congrArg (out0_8 (grid0.coords t) (iblk m c 0 t) (iblk m c 1 t) (iblk m c 2 t) (iblk m c 3 t) (iblk m c 4 t) (iblk m c 5 t)
    (iblk m c 6 t) (iblk m c 7 t)) (eq_row j)) ?_
  rw [block8, View.read_apply]
  exact congrArg (resultQ m c) (row_of t _ j _ (at8 t) fun a => match a with | ⟨0, _⟩ => rfl | ⟨1, _⟩ => rfl)

theorem flushed9 (c : Dev nD) (t : Fin cfg0.N) :
    (dats m 0 c).flushed 9 t = ((cfg0.win 9).blk t).view.read (Elt Ideal) (resultK m c) := by
  rw [Value.flushed9]
  funext j
  refine Eq.trans (congrArg (out0_9 (grid0.coords t) (iblk m c 0 t) (iblk m c 1 t) (iblk m c 2 t) (iblk m c 3 t) (iblk m c 4 t) (iblk m c 5 t)
    (iblk m c 6 t) (iblk m c 7 t)) (eq_row j)) ?_
  rw [block9, View.read_apply]
  exact congrArg (resultK m c) (row_of t _ j _ (at9 t) fun a => match a with | ⟨0, _⟩ => rfl | ⟨1, _⟩ => rfl)

theorem flushed10 (c : Dev nD) (t : Fin cfg0.N) :
    (dats m 0 c).flushed 10 t = ((cfg0.win 10).blk t).view.read (Elt Ideal) (resultV m c) := by
  rw [Value.flushed10]
  funext j
  refine Eq.trans (congrArg (out0_10 (grid0.coords t) (iblk m c 0 t) (iblk m c 1 t) (iblk m c 2 t) (iblk m c 3 t) (iblk m c 4 t) (iblk m c 5 t)
    (iblk m c 6 t) (iblk m c 7 t)) (eq_row j)) ?_
  rw [block10, View.read_apply]
  exact congrArg (resultV m c) (row_of t _ j _ (at10 t) fun a => match a with | ⟨0, _⟩ => rfl | ⟨1, _⟩ => rfl)

/-- The point whose block holds a row. -/
theorem point_of (i : S36864x1024.Idx) : ∃ t : Fin cfg0.N, ∀ n : Fin 2 → ℕ, n 0 = t.val ∧ n 1 = 0 →
    ∀ a : Fin 2, n a * (![768, 1024] : Fin 2 → ℕ) a ≤ (i a).val ∧ (i a).val < n a * (![768, 1024] : Fin 2 → ℕ) a + (![768, 1024] : Fin 2 → ℕ) a := by
  have h0 : (i 0).val < 36864 := (i 0).isLt
  have h1 : (i 1).val < 1024 := (i 1).isLt
  have hN : cfg0.N = 48 := N_0
  refine ⟨⟨(i 0).val / 768, by omega⟩, fun n hn a => ?_⟩
  match a with
  | ⟨0, _⟩ => show n 0 * 768 ≤ (i 0).val ∧ (i 0).val < n 0 * 768 + 768; rw [hn.1]; show (i 0).val / 768 * 768 ≤ _ ∧ _ < (i 0).val / 768 * 768 + 768; omega
  | ⟨1, _⟩ => show n 1 * 1024 ≤ (i 1).val ∧ (i 1).val < n 1 * 1024 + 1024; rw [hn.2]; omega

theorem cover8 (i : S36864x1024.Idx) : ∃ t : Fin cfg0.N, (cfg0.win 8).flush t = true ∧ i ∈ ((cfg0.win 8).blk t).view.set := by
  obtain ⟨t, ht⟩ := point_of i
  refine ⟨t, flush0_8 _, ?_⟩
  show i ∈ ((View.whole main_v9_0).slice (win0_8.rect t)).set
  rw [View.set_slice_whole, Rect.mem_set_unit]
  exact fun a => ht _ (at8 t) a

theorem cover9 (i : S36864x1024.Idx) : ∃ t : Fin cfg0.N, (cfg0.win 9).flush t = true ∧ i ∈ ((cfg0.win 9).blk t).view.set := by
  obtain ⟨t, ht⟩ := point_of i
  refine ⟨t, flush0_9 _, ?_⟩
  show i ∈ ((View.whole main_v9_1).slice (win0_9.rect t)).set
  rw [View.set_slice_whole, Rect.mem_set_unit]
  exact fun a => ht _ (at9 t) a

theorem cover10 (i : S36864x1024.Idx) : ∃ t : Fin cfg0.N, (cfg0.win 10).flush t = true ∧ i ∈ ((cfg0.win 10).blk t).view.set := by
  obtain ⟨t, ht⟩ := point_of i
  refine ⟨t, flush0_10 _, ?_⟩
  show i ∈ ((View.whole main_v9_2).slice (win0_10.rect t)).set
  rw [View.set_slice_whole, Rect.mem_set_unit]
  exact fun a => ht _ (at10 t) a

/-- The arrays the program ends with. -/
theorem final8 (c : Dev nD) : (dats m 0 c).arrAt 8 cfg0.N = resultQ m c :=
  (dats m 0 c).arrAt_eq_of_cover 8 (resultQ m c) (fun t _ => flushed8 m c t) cover8
theorem final9 (c : Dev nD) : (dats m 0 c).arrAt 9 cfg0.N = resultK m c :=
  (dats m 0 c).arrAt_eq_of_cover 9 (resultK m c) (fun t _ => flushed9 m c t) cover9
theorem final10 (c : Dev nD) : (dats m 0 c).arrAt 10 cfg0.N = resultV m c :=
  (dats m 0 c).arrAt_eq_of_cover 10 (resultV m c) (fun t _ => flushed10 m c t) cover10

end Cert.QkvIdeal.Hand

end
-- ==== Proof.Qkv.Claim.lean ====
/-
  The query, key and value projection of an odd layer and its reference compute the same three arrays.
-/
module

public import proofs.«01_k».proof.Defs
public import proofs.«01_k».proof.Proof.Gen.QkvRefIdeal.Run
public import proofs.«01_k».proof.Proof.Qkv.Ref
public import proofs.«01_k».proof.Proof.Qkv.Final
public import Idealize.ShloMosaic.Lib.Claim

@[expose] public section

noncomputable section

namespace Cert.QkvIdeal.Hand

open Idealize.ShloMosaic Idealize.ShloMosaic.TcCoe Idealize.SL.Sem Cert.QkvRefIdeal.Hand Cert.QkvRefIdeal.Read

/-- The queries agree. -/
theorem q_eq (x0 : S36864x1024.Idx → EReal) (x1 : S4x24x6x1x1024.Idx → EReal) (w : S1024x3072.Idx → EReal) (g : S64.Idx → EReal) :
    (val_main_v66 (F := Ideal) x0 x1 w g : S36864x1024.Idx → EReal) = fun i => qAt x0 x1 w g (i 0) (i 1) := by
  funext i
  obtain ⟨b, p, h, d, rfl⟩ := parts i
  refine (q_at x0 x1 w g b p h d).trans ?_
  show _ = qAt x0 x1 w g (Cert.MlpMath.at2 b p) (Cert.ProjMath.headCol h d)
  unfold qAt
  rw [hd_head, ln_head]

/-- The keys agree. -/
theorem k_eq (x0 : S36864x1024.Idx → EReal) (x1 : S4x24x6x1x1024.Idx → EReal) (w : S1024x3072.Idx → EReal) (g : S64.Idx → EReal) :
    (val_main_v68 (F := Ideal) x0 x1 w g : S36864x1024.Idx → EReal) = fun i => kAt x0 x1 w g (i 0) (i 1) := by
  funext i
  obtain ⟨b, p, h, d, rfl⟩ := parts i
  refine (k_at x0 x1 w g b p h d).trans ?_
  show _ = kAt x0 x1 w g (Cert.MlpMath.at2 b p) (Cert.ProjMath.headCol h d)
  unfold kAt
  rw [hd_head, ln_head]

/-- The values agree. -/
theorem v_eq (x0 : S36864x1024.Idx → EReal) (x1 : S4x24x6x1x1024.Idx → EReal) (w : S1024x3072.Idx → EReal) :
    (val_main_v70 (F := Ideal) x0 x1 w : S36864x1024.Idx → EReal) = fun i => vAt x0 x1 w (i 0) (i 1) := by
  funext i
  obtain ⟨b, p, h, d, rfl⟩ := parts i
  exact v_at x0 x1 w b p h d

theorem algebraic : Cert.algebraic_QkvIdeal_QkvRefIdeal := by
  intro m ρ m' ρ' _ hagree
  refine ⟨fun c => resultQ m c, fun c => resultK m c, fun c => resultV m c, ?_, ?_⟩
  · exact (θ_run Cert.QkvIdeal.defs _ _).mono (fun _ h c => ⟨(h c).1.trans (final8 m c), (h c).2.1.trans (final9 m c),
      (h c).2.2.1.trans (final10 m c), (h c).2.2.2⟩) (Cert.QkvIdeal.Value.run_blocks (F := Ideal) m ρ)
  · refine (θ_run Cert.QkvRefIdeal.defs _ _).mono (fun _ h c => ⟨(h c).1.trans ?_, (h c).2.1.trans ?_, (h c).2.2.1.trans ?_, (h c).2.2.2⟩)
      (Cert.QkvRefIdeal.Value.run (F := Ideal) m' ρ')
    · obtain ⟨h0, h1, h2, h3, h4⟩ := hagree c
      rw [val_main_v66_eq, h0, h1, h2, h3]
      exact q_eq _ _ _ _
    · obtain ⟨h0, h1, h2, h3, h4⟩ := hagree c
      rw [val_main_v68_eq, h0, h1, h2, h4]
      exact k_eq _ _ _ _
    · obtain ⟨h0, h1, h2, h3, h4⟩ := hagree c
      rw [val_main_v70_eq, h0, h1, h2]
      exact v_eq _ _ _

end Cert.QkvIdeal.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Read
public import proofs.«01_k».proof.Proof.Gen.MlpRefIdeal.Run
public import proofs.«01_k».proof.Proof.Gen.Odd
public import proofs.«01_k».proof.Proof.Gen.Odd.Frame
public import proofs.«01_k».proof.Proof.Gen.OddIdeal
public import proofs.«01_k».proof.Proof.Gen.OddIdeal.Frame
public import proofs.«01_k».proof.Proof.Gen.OddIdeal.Value
public import proofs.«01_k».proof.Proof.Gen.OddRefIdeal
public import proofs.«01_k».proof.Proof.Gen.OddRefIdeal.Read
public import proofs.«01_k».proof.Proof.Gen.OddRefIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Read
public import proofs.«01_k».proof.Proof.Gen.LastRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Read
public import proofs.«01_k».proof.Proof.Gen.QkvRefIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Read
public import proofs.«01_k».proof.Proof.Gen.EvenInRefIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Read
public import proofs.«01_k».proof.Proof.Gen.FirstRefIdeal.Run
public import proofs.«01_k».proof.Proof.EvenIn.Claim
public import proofs.«01_k».proof.Proof.First.Claim
public import proofs.«01_k».proof.Proof.Last.Claim
public import proofs.«01_k».proof.Proof.Mlp.Claim
public import proofs.«01_k».proof.Proof.Natten.Claim
public import proofs.«01_k».proof.Proof.Odd.Claim
public import proofs.«01_k».proof.Proof.Qkv.Claim
public import Idealize.ShloMosaic.Adequacy
public import Idealize.ShloMosaic.Init
public import Idealize.ShloMosaic.Lib.Quiescent

@[expose] public section

noncomputable section

namespace Cert.Proof

open Idealize.ShloMosaic Idealize.SL.Sem

/-- The attention's reference runs, its arguments unchanged; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mixing and feed-forward block's reference runs, its arguments unchanged; it has no semaphore. -/
theorem frame_mlp_ref : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The last layer's second half's reference runs, its arguments unchanged; it has no semaphore. -/
theorem frame_last_ref : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The odd layer's second half's reference runs, its arguments unchanged; it has no semaphore. -/
theorem frame_odd_ref : Cert.quiescent_OddRefIdeal := fun m ρ _ =>
  (θ_run Cert.OddRefIdeal.defs _ _).mono (fun r h => ⟨fun c => (h c).2, sem_eq_zero_of_no_sems (by decide) r.2⟩)
    (Cert.OddRefIdeal.Value.run (F := Ideal) m ρ)

/-- The query, key and value projection's reference runs, its arguments unchanged; it has no semaphore. -/
theorem frame_qkv_ref : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- An even layer's first projection's reference runs, its arguments unchanged; it has no semaphore. -/
theorem frame_even_ref : Cert.quiescent_EvenInRefIdeal := fun m ρ _ =>
  (θ_run Cert.EvenInRefIdeal.defs _ _).mono (fun r h => ⟨fun c => (h c).2.2.2.2.2.2, sem_eq_zero_of_no_sems (by decide) r.2⟩)
    (Cert.EvenInRefIdeal.Value.run (F := Ideal) m ρ)

/-- The first layer's first projection's reference runs, its arguments unchanged; it has no semaphore. -/
theorem frame_first_ref : Cert.quiescent_FirstRefIdeal := fun m ρ _ =>
  (θ_run Cert.FirstRefIdeal.defs _ _).mono (fun r h => ⟨fun c => (h c).2.2.2.2.2.2.2, sem_eq_zero_of_no_sems (by decide) r.2⟩)
    (Cert.FirstRefIdeal.Value.run (F := Ideal) m ρ)

theorem claim : Cert.Claim := ⟨Cert.Kernel.Gen.facts, Cert.KernelIdeal.Gen.facts, Cert.ReferenceIdeal.Gen.facts,
  Cert.Mlp.Gen.facts, Cert.MlpIdeal.Gen.facts, Cert.MlpRefIdeal.Gen.facts,
  Cert.Odd.Gen.facts, Cert.OddIdeal.Gen.facts, Cert.OddRefIdeal.Gen.facts,
  Cert.Last.Gen.facts, Cert.LastIdeal.Gen.facts, Cert.LastRefIdeal.Gen.facts,
  Cert.Qkv.Gen.facts, Cert.QkvIdeal.Gen.facts, Cert.QkvRefIdeal.Gen.facts,
  Cert.EvenIn.Gen.facts, Cert.EvenInIdeal.Gen.facts, Cert.EvenInRefIdeal.Gen.facts,
  Cert.First.Gen.facts, Cert.FirstIdeal.Gen.facts, Cert.FirstRefIdeal.Gen.facts, Cert.KernelIdeal.Hand.preFacts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Mlp.Gen.frame m ρ, fun m ρ _ => Cert.MlpIdeal.Gen.frame m ρ, frame_mlp_ref,
  fun m ρ _ => Cert.Odd.Gen.frame m ρ, fun m ρ _ => Cert.OddIdeal.Gen.frame m ρ, frame_odd_ref,
  fun m ρ _ => Cert.Last.Gen.frame m ρ, fun m ρ _ => Cert.LastIdeal.Gen.frame m ρ, frame_last_ref,
  fun m ρ _ => Cert.Qkv.Gen.frame m ρ, fun m ρ _ => Cert.QkvIdeal.Gen.frame m ρ, frame_qkv_ref,
  fun m ρ _ => Cert.EvenIn.Gen.frame m ρ, fun m ρ _ => Cert.EvenInIdeal.Gen.frame m ρ, frame_even_ref,
  fun m ρ _ => Cert.First.Gen.frame m ρ, fun m ρ _ => Cert.FirstIdeal.Gen.frame m ρ, frame_first_ref,
  trivial, Cert.KernelIdeal.Hand.algebraic, trivial, Cert.MlpIdeal.Hand.algebraic, trivial, Cert.OddIdeal.Hand.algebraic,
  trivial, Cert.LastIdeal.Hand.algebraic, trivial, Cert.QkvIdeal.Hand.algebraic, trivial, Cert.EvenInIdeal.Hand.algebraic, trivial, Cert.FirstIdeal.Hand.algebraic⟩

end Cert.Proof

end
